-- ==== Defs.lean ====
def Pre_KernelInproj (m : (ℓ : Loc Cert.KernelInproj.nD Cert.KernelInproj.τ Cert.KernelInproj.sig) → Buf (Elt Bits) ℓ) : Prop :=
  True

def Pre_KernelInprojIdeal (m : (ℓ : Loc Cert.KernelInprojIdeal.nD Cert.KernelInprojIdeal.τ Cert.KernelInprojIdeal.sig) → Buf (Elt Ideal) ℓ) : Prop :=
  True

def Pre_ReferenceInprojIdeal (m : (ℓ : Loc Cert.ReferenceInprojIdeal.nD Cert.ReferenceInprojIdeal.τ Cert.ReferenceInprojIdeal.sig) → Buf (Elt Ideal) ℓ) : Prop :=
  True

def Pre_KernelSsd (m : (ℓ : Loc Cert.KernelSsd.nD Cert.KernelSsd.τ Cert.KernelSsd.sig) → Buf (Elt Bits) ℓ) : Prop :=
  True

def Pre_KernelSsdIdeal (m : (ℓ : Loc Cert.KernelSsdIdeal.nD Cert.KernelSsdIdeal.τ Cert.KernelSsdIdeal.sig) → Buf (Elt Ideal) ℓ) : Prop :=
  True

def Pre_ReferenceSsdIdeal (m : (ℓ : Loc Cert.ReferenceSsdIdeal.nD Cert.ReferenceSsdIdeal.τ Cert.ReferenceSsdIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelOutproj (m : (ℓ : Loc Cert.KernelOutproj.nD Cert.KernelOutproj.τ Cert.KernelOutproj.sig) → Buf (Elt Bits) ℓ) : Prop :=
  True

def Pre_KernelOutprojIdeal (m : (ℓ : Loc Cert.KernelOutprojIdeal.nD Cert.KernelOutprojIdeal.τ Cert.KernelOutprojIdeal.sig) → Buf (Elt Ideal) ℓ) : Prop :=
  True

def Pre_ReferenceOutprojIdeal (m : (ℓ : Loc Cert.ReferenceOutprojIdeal.nD Cert.ReferenceOutprojIdeal.τ Cert.ReferenceOutprojIdeal.sig) → Buf (Elt Ideal) ℓ) : Prop :=
  True

def Pre_KernelFinal (m : (ℓ : Loc Cert.KernelFinal.nD Cert.KernelFinal.τ Cert.KernelFinal.sig) → Buf (Elt Bits) ℓ) : Prop :=
  True

def Pre_KernelFinalIdeal (m : (ℓ : Loc Cert.KernelFinalIdeal.nD Cert.KernelFinalIdeal.τ Cert.KernelFinalIdeal.sig) → Buf (Elt Ideal) ℓ) : Prop :=
  True

def Pre_ReferenceFinalIdeal (m : (ℓ : Loc Cert.ReferenceFinalIdeal.nD Cert.ReferenceFinalIdeal.τ Cert.ReferenceFinalIdeal.sig) → Buf (Elt Ideal) ℓ) : Prop :=
  True

def quiescent_KernelInproj [hKernelInproj : Cert.KernelInproj.Facts] : Prop :=
  ∀ (m : (ℓ : Loc Cert.KernelInproj.nD Cert.KernelInproj.τ Cert.KernelInproj.sig) → Buf (Elt Bits) ℓ) (g : Dev Cert.KernelInproj.nD → PrngReg), Pre_KernelInproj m →
    θ_run (Cert.KernelInproj.defs (F := Bits)) (onTc (τ := Cert.KernelInproj.τ) (Cert.KernelInproj.main (F := Bits))) ⟨m, fun _ => 0, g⟩ (fun r => (∀ c : Dev Cert.KernelInproj.nD,
      r.2.mem ((c.tc : Thread Cert.KernelInproj.nD Cert.KernelInproj.τ).loc Cert.KernelInproj.main_arg0) = m ((c.tc : Thread Cert.KernelInproj.nD Cert.KernelInproj.τ).loc Cert.KernelInproj.main_arg0)
      ∧ r.2.mem ((c.tc : Thread Cert.KernelInproj.nD Cert.KernelInproj.τ).loc Cert.KernelInproj.main_arg1) = m ((c.tc : Thread Cert.KernelInproj.nD Cert.KernelInproj.τ).loc Cert.KernelInproj.main_arg1)
      ∧ r.2.mem ((c.tc : Thread Cert.KernelInproj.nD Cert.KernelInproj.τ).loc Cert.KernelInproj.main_arg2) = m ((c.tc : Thread Cert.KernelInproj.nD Cert.KernelInproj.τ).loc Cert.KernelInproj.main_arg2))
      ∧ r.2.sem = fun _ => 0)

def quiescent_KernelInprojIdeal [hKernelInprojIdeal : Cert.KernelInprojIdeal.Facts] : Prop :=
  ∀ (m : (ℓ : Loc Cert.KernelInprojIdeal.nD Cert.KernelInprojIdeal.τ Cert.KernelInprojIdeal.sig) → Buf (Elt Ideal) ℓ) (g : Dev Cert.KernelInprojIdeal.nD → PrngReg), Pre_KernelInprojIdeal m →
    θ_run (Cert.KernelInprojIdeal.defs (F := Ideal)) (onTc (τ := Cert.KernelInprojIdeal.τ) (Cert.KernelInprojIdeal.main (F := Ideal))) ⟨m, fun _ => 0, g⟩ (fun r => (∀ c : Dev Cert.KernelInprojIdeal.nD,
      r.2.mem ((c.tc : Thread Cert.KernelInprojIdeal.nD Cert.KernelInprojIdeal.τ).loc Cert.KernelInprojIdeal.main_arg0) = m ((c.tc : Thread Cert.KernelInprojIdeal.nD Cert.KernelInprojIdeal.τ).loc Cert.KernelInprojIdeal.main_arg0)
      ∧ r.2.mem ((c.tc : Thread Cert.KernelInprojIdeal.nD Cert.KernelInprojIdeal.τ).loc Cert.KernelInprojIdeal.main_arg1) = m ((c.tc : Thread Cert.KernelInprojIdeal.nD Cert.KernelInprojIdeal.τ).loc Cert.KernelInprojIdeal.main_arg1)
      ∧ r.2.mem ((c.tc : Thread Cert.KernelInprojIdeal.nD Cert.KernelInprojIdeal.τ).loc Cert.KernelInprojIdeal.main_arg2) = m ((c.tc : Thread Cert.KernelInprojIdeal.nD Cert.KernelInprojIdeal.τ).loc Cert.KernelInprojIdeal.main_arg2))
      ∧ r.2.sem = fun _ => 0)

def quiescent_ReferenceInprojIdeal [hReferenceInprojIdeal : Cert.ReferenceInprojIdeal.Facts] : Prop :=
  ∀ (m : (ℓ : Loc Cert.ReferenceInprojIdeal.nD Cert.ReferenceInprojIdeal.τ Cert.ReferenceInprojIdeal.sig) → Buf (Elt Ideal) ℓ) (g : Dev Cert.ReferenceInprojIdeal.nD → PrngReg), Pre_ReferenceInprojIdeal m →
    θ_run (Cert.ReferenceInprojIdeal.defs (F := Ideal)) (onTc (τ := Cert.ReferenceInprojIdeal.τ) (Cert.ReferenceInprojIdeal.main (F := Ideal))) ⟨m, fun _ => 0, g⟩ (fun r => (∀ c : Dev Cert.ReferenceInprojIdeal.nD,
      r.2.mem ((c.tc : Thread Cert.ReferenceInprojIdeal.nD Cert.ReferenceInprojIdeal.τ).loc Cert.ReferenceInprojIdeal.main_arg0) = m ((c.tc : Thread Cert.ReferenceInprojIdeal.nD Cert.ReferenceInprojIdeal.τ).loc Cert.ReferenceInprojIdeal.main_arg0)
      ∧ r.2.mem ((c.tc : Thread Cert.ReferenceInprojIdeal.nD Cert.ReferenceInprojIdeal.τ).loc Cert.ReferenceInprojIdeal.main_arg1) = m ((c.tc : Thread Cert.ReferenceInprojIdeal.nD Cert.ReferenceInprojIdeal.τ).loc Cert.ReferenceInprojIdeal.main_arg1)
      ∧ r.2.mem ((c.tc : Thread Cert.ReferenceInprojIdeal.nD Cert.ReferenceInprojIdeal.τ).loc Cert.ReferenceInprojIdeal.main_arg2) = m ((c.tc : Thread Cert.ReferenceInprojIdeal.nD Cert.ReferenceInprojIdeal.τ).loc Cert.ReferenceInprojIdeal.main_arg2))
      ∧ r.2.sem = fun _ => 0)

def quiescent_KernelSsd [hKernelSsd : Cert.KernelSsd.Facts] : Prop :=
  ∀ (m : (ℓ : Loc Cert.KernelSsd.nD Cert.KernelSsd.τ Cert.KernelSsd.sig) → Buf (Elt Bits) ℓ) (g : Dev Cert.KernelSsd.nD → PrngReg), Pre_KernelSsd m →
    θ_run (Cert.KernelSsd.defs (F := Bits)) (onTc (τ := Cert.KernelSsd.τ) (Cert.KernelSsd.main (F := Bits))) ⟨m, fun _ => 0, g⟩ (fun r => (∀ c : Dev Cert.KernelSsd.nD,
      r.2.mem ((c.tc : Thread Cert.KernelSsd.nD Cert.KernelSsd.τ).loc Cert.KernelSsd.main_arg0) = m ((c.tc : Thread Cert.KernelSsd.nD Cert.KernelSsd.τ).loc Cert.KernelSsd.main_arg0)
      ∧ r.2.mem ((c.tc : Thread Cert.KernelSsd.nD Cert.KernelSsd.τ).loc Cert.KernelSsd.main_arg1) = m ((c.tc : Thread Cert.KernelSsd.nD Cert.KernelSsd.τ).loc Cert.KernelSsd.main_arg1)
      ∧ r.2.mem ((c.tc : Thread Cert.KernelSsd.nD Cert.KernelSsd.τ).loc Cert.KernelSsd.main_arg2) = m ((c.tc : Thread Cert.KernelSsd.nD Cert.KernelSsd.τ).loc Cert.KernelSsd.main_arg2)
      ∧ r.2.mem ((c.tc : Thread Cert.KernelSsd.nD Cert.KernelSsd.τ).loc Cert.KernelSsd.main_arg3) = m ((c.tc : Thread Cert.KernelSsd.nD Cert.KernelSsd.τ).loc Cert.KernelSsd.main_arg3)
      ∧ r.2.mem ((c.tc : Thread Cert.KernelSsd.nD Cert.KernelSsd.τ).loc Cert.KernelSsd.main_arg4) = m ((c.tc : Thread Cert.KernelSsd.nD Cert.KernelSsd.τ).loc Cert.KernelSsd.main_arg4)
      ∧ r.2.mem ((c.tc : Thread Cert.KernelSsd.nD Cert.KernelSsd.τ).loc Cert.KernelSsd.main_arg5) = m ((c.tc : Thread Cert.KernelSsd.nD Cert.KernelSsd.τ).loc Cert.KernelSsd.main_arg5)
      ∧ r.2.mem ((c.tc : Thread Cert.KernelSsd.nD Cert.KernelSsd.τ).loc Cert.KernelSsd.main_arg6) = m ((c.tc : Thread Cert.KernelSsd.nD Cert.KernelSsd.τ).loc Cert.KernelSsd.main_arg6)
      ∧ r.2.mem ((c.tc : Thread Cert.KernelSsd.nD Cert.KernelSsd.τ).loc Cert.KernelSsd.main_arg7) = m ((c.tc : Thread Cert.KernelSsd.nD Cert.KernelSsd.τ).loc Cert.KernelSsd.main_arg7))
      ∧ r.2.sem = fun _ => 0)

def quiescent_KernelSsdIdeal [hKernelSsdIdeal : Cert.KernelSsdIdeal.Facts] : Prop :=
  ∀ (m : (ℓ : Loc Cert.KernelSsdIdeal.nD Cert.KernelSsdIdeal.τ Cert.KernelSsdIdeal.sig) → Buf (Elt Ideal) ℓ) (g : Dev Cert.KernelSsdIdeal.nD → PrngReg), Pre_KernelSsdIdeal m →
    θ_run (Cert.KernelSsdIdeal.defs (F := Ideal)) (onTc (τ := Cert.KernelSsdIdeal.τ) (Cert.KernelSsdIdeal.main (F := Ideal))) ⟨m, fun _ => 0, g⟩ (fun r => (∀ c : Dev Cert.KernelSsdIdeal.nD,
      r.2.mem ((c.tc : Thread Cert.KernelSsdIdeal.nD Cert.KernelSsdIdeal.τ).loc Cert.KernelSsdIdeal.main_arg0) = m ((c.tc : Thread Cert.KernelSsdIdeal.nD Cert.KernelSsdIdeal.τ).loc Cert.KernelSsdIdeal.main_arg0)
      ∧ r.2.mem ((c.tc : Thread Cert.KernelSsdIdeal.nD Cert.KernelSsdIdeal.τ).loc Cert.KernelSsdIdeal.main_arg1) = m ((c.tc : Thread Cert.KernelSsdIdeal.nD Cert.KernelSsdIdeal.τ).loc Cert.KernelSsdIdeal.main_arg1)
      ∧ r.2.mem ((c.tc : Thread Cert.KernelSsdIdeal.nD Cert.KernelSsdIdeal.τ).loc Cert.KernelSsdIdeal.main_arg2) = m ((c.tc : Thread Cert.KernelSsdIdeal.nD Cert.KernelSsdIdeal.τ).loc Cert.KernelSsdIdeal.main_arg2)
      ∧ r.2.mem ((c.tc : Thread Cert.KernelSsdIdeal.nD Cert.KernelSsdIdeal.τ).loc Cert.KernelSsdIdeal.main_arg3) = m ((c.tc : Thread Cert.KernelSsdIdeal.nD Cert.KernelSsdIdeal.τ).loc Cert.KernelSsdIdeal.main_arg3)
      ∧ r.2.mem ((c.tc : Thread Cert.KernelSsdIdeal.nD Cert.KernelSsdIdeal.τ).loc Cert.KernelSsdIdeal.main_arg4) = m ((c.tc : Thread Cert.KernelSsdIdeal.nD Cert.KernelSsdIdeal.τ).loc Cert.KernelSsdIdeal.main_arg4)
      ∧ r.2.mem ((c.tc : Thread Cert.KernelSsdIdeal.nD Cert.KernelSsdIdeal.τ).loc Cert.KernelSsdIdeal.main_arg5) = m ((c.tc : Thread Cert.KernelSsdIdeal.nD Cert.KernelSsdIdeal.τ).loc Cert.KernelSsdIdeal.main_arg5)
      ∧ r.2.mem ((c.tc : Thread Cert.KernelSsdIdeal.nD Cert.KernelSsdIdeal.τ).loc Cert.KernelSsdIdeal.main_arg6) = m ((c.tc : Thread Cert.KernelSsdIdeal.nD Cert.KernelSsdIdeal.τ).loc Cert.KernelSsdIdeal.main_arg6)
      ∧ r.2.mem ((c.tc : Thread Cert.KernelSsdIdeal.nD Cert.KernelSsdIdeal.τ).loc Cert.KernelSsdIdeal.main_arg7) = m ((c.tc : Thread Cert.KernelSsdIdeal.nD Cert.KernelSsdIdeal.τ).loc Cert.KernelSsdIdeal.main_arg7))
      ∧ r.2.sem = fun _ => 0)

def quiescent_ReferenceSsdIdeal [hReferenceSsdIdeal : Cert.ReferenceSsdIdeal.Facts] : Prop :=
  ∀ (m : (ℓ : Loc Cert.ReferenceSsdIdeal.nD Cert.ReferenceSsdIdeal.τ Cert.ReferenceSsdIdeal.sig) → Buf (Elt Ideal) ℓ) (g : Dev Cert.ReferenceSsdIdeal.nD → PrngReg), Pre_ReferenceSsdIdeal m →
    θ_run (Cert.ReferenceSsdIdeal.defs (F := Ideal)) (onTc (τ := Cert.ReferenceSsdIdeal.τ) (Cert.ReferenceSsdIdeal.main (F := Ideal))) ⟨m, fun _ => 0, g⟩ (fun r => (∀ c : Dev Cert.ReferenceSsdIdeal.nD,
      r.2.mem ((c.tc : Thread Cert.ReferenceSsdIdeal.nD Cert.ReferenceSsdIdeal.τ).loc Cert.ReferenceSsdIdeal.main_arg0) = m ((c.tc : Thread Cert.ReferenceSsdIdeal.nD Cert.ReferenceSsdIdeal.τ).loc Cert.ReferenceSsdIdeal.main_arg0)
      ∧ r.2.mem ((c.tc : Thread Cert.ReferenceSsdIdeal.nD Cert.ReferenceSsdIdeal.τ).loc Cert.ReferenceSsdIdeal.main_arg1) = m ((c.tc : Thread Cert.ReferenceSsdIdeal.nD Cert.ReferenceSsdIdeal.τ).loc Cert.ReferenceSsdIdeal.main_arg1)
      ∧ r.2.mem ((c.tc : Thread Cert.ReferenceSsdIdeal.nD Cert.ReferenceSsdIdeal.τ).loc Cert.ReferenceSsdIdeal.main_arg2) = m ((c.tc : Thread Cert.ReferenceSsdIdeal.nD Cert.ReferenceSsdIdeal.τ).loc Cert.ReferenceSsdIdeal.main_arg2)
      ∧ r.2.mem ((c.tc : Thread Cert.ReferenceSsdIdeal.nD Cert.ReferenceSsdIdeal.τ).loc Cert.ReferenceSsdIdeal.main_arg3) = m ((c.tc : Thread Cert.ReferenceSsdIdeal.nD Cert.ReferenceSsdIdeal.τ).loc Cert.ReferenceSsdIdeal.main_arg3)
      ∧ r.2.mem ((c.tc : Thread Cert.ReferenceSsdIdeal.nD Cert.ReferenceSsdIdeal.τ).loc Cert.ReferenceSsdIdeal.main_arg4) = m ((c.tc : Thread Cert.ReferenceSsdIdeal.nD Cert.ReferenceSsdIdeal.τ).loc Cert.ReferenceSsdIdeal.main_arg4)
      ∧ r.2.mem ((c.tc : Thread Cert.ReferenceSsdIdeal.nD Cert.ReferenceSsdIdeal.τ).loc Cert.ReferenceSsdIdeal.main_arg5) = m ((c.tc : Thread Cert.ReferenceSsdIdeal.nD Cert.ReferenceSsdIdeal.τ).loc Cert.ReferenceSsdIdeal.main_arg5)
      ∧ r.2.mem ((c.tc : Thread Cert.ReferenceSsdIdeal.nD Cert.ReferenceSsdIdeal.τ).loc Cert.ReferenceSsdIdeal.main_arg6) = m ((c.tc : Thread Cert.ReferenceSsdIdeal.nD Cert.ReferenceSsdIdeal.τ).loc Cert.ReferenceSsdIdeal.main_arg6)
      ∧ r.2.mem ((c.tc : Thread Cert.ReferenceSsdIdeal.nD Cert.ReferenceSsdIdeal.τ).loc Cert.ReferenceSsdIdeal.main_arg7) = m ((c.tc : Thread Cert.ReferenceSsdIdeal.nD Cert.ReferenceSsdIdeal.τ).loc Cert.ReferenceSsdIdeal.main_arg7))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4))
      ∧ r.2.sem = fun _ => 0)

def quiescent_KernelOutproj [hKernelOutproj : Cert.KernelOutproj.Facts] : Prop :=
  ∀ (m : (ℓ : Loc Cert.KernelOutproj.nD Cert.KernelOutproj.τ Cert.KernelOutproj.sig) → Buf (Elt Bits) ℓ) (g : Dev Cert.KernelOutproj.nD → PrngReg), Pre_KernelOutproj m →
    θ_run (Cert.KernelOutproj.defs (F := Bits)) (onTc (τ := Cert.KernelOutproj.τ) (Cert.KernelOutproj.main (F := Bits))) ⟨m, fun _ => 0, g⟩ (fun r => (∀ c : Dev Cert.KernelOutproj.nD,
      r.2.mem ((c.tc : Thread Cert.KernelOutproj.nD Cert.KernelOutproj.τ).loc Cert.KernelOutproj.main_arg0) = m ((c.tc : Thread Cert.KernelOutproj.nD Cert.KernelOutproj.τ).loc Cert.KernelOutproj.main_arg0)
      ∧ r.2.mem ((c.tc : Thread Cert.KernelOutproj.nD Cert.KernelOutproj.τ).loc Cert.KernelOutproj.main_arg1) = m ((c.tc : Thread Cert.KernelOutproj.nD Cert.KernelOutproj.τ).loc Cert.KernelOutproj.main_arg1)
      ∧ r.2.mem ((c.tc : Thread Cert.KernelOutproj.nD Cert.KernelOutproj.τ).loc Cert.KernelOutproj.main_arg2) = m ((c.tc : Thread Cert.KernelOutproj.nD Cert.KernelOutproj.τ).loc Cert.KernelOutproj.main_arg2)
      ∧ r.2.mem ((c.tc : Thread Cert.KernelOutproj.nD Cert.KernelOutproj.τ).loc Cert.KernelOutproj.main_arg3) = m ((c.tc : Thread Cert.KernelOutproj.nD Cert.KernelOutproj.τ).loc Cert.KernelOutproj.main_arg3))
      ∧ r.2.sem = fun _ => 0)

def quiescent_KernelOutprojIdeal [hKernelOutprojIdeal : Cert.KernelOutprojIdeal.Facts] : Prop :=
  ∀ (m : (ℓ : Loc Cert.KernelOutprojIdeal.nD Cert.KernelOutprojIdeal.τ Cert.KernelOutprojIdeal.sig) → Buf (Elt Ideal) ℓ) (g : Dev Cert.KernelOutprojIdeal.nD → PrngReg), Pre_KernelOutprojIdeal m →
    θ_run (Cert.KernelOutprojIdeal.defs (F := Ideal)) (onTc (τ := Cert.KernelOutprojIdeal.τ) (Cert.KernelOutprojIdeal.main (F := Ideal))) ⟨m, fun _ => 0, g⟩ (fun r => (∀ c : Dev Cert.KernelOutprojIdeal.nD,
      r.2.mem ((c.tc : Thread Cert.KernelOutprojIdeal.nD Cert.KernelOutprojIdeal.τ).loc Cert.KernelOutprojIdeal.main_arg0) = m ((c.tc : Thread Cert.KernelOutprojIdeal.nD Cert.KernelOutprojIdeal.τ).loc Cert.KernelOutprojIdeal.main_arg0)
      ∧ r.2.mem ((c.tc : Thread Cert.KernelOutprojIdeal.nD Cert.KernelOutprojIdeal.τ).loc Cert.KernelOutprojIdeal.main_arg1) = m ((c.tc : Thread Cert.KernelOutprojIdeal.nD Cert.KernelOutprojIdeal.τ).loc Cert.KernelOutprojIdeal.main_arg1)
      ∧ r.2.mem ((c.tc : Thread Cert.KernelOutprojIdeal.nD Cert.KernelOutprojIdeal.τ).loc Cert.KernelOutprojIdeal.main_arg2) = m ((c.tc : Thread Cert.KernelOutprojIdeal.nD Cert.KernelOutprojIdeal.τ).loc Cert.KernelOutprojIdeal.main_arg2)
      ∧ r.2.mem ((c.tc : Thread Cert.KernelOutprojIdeal.nD Cert.KernelOutprojIdeal.τ).loc Cert.KernelOutprojIdeal.main_arg3) = m ((c.tc : Thread Cert.KernelOutprojIdeal.nD Cert.KernelOutprojIdeal.τ).loc Cert.KernelOutprojIdeal.main_arg3))
      ∧ r.2.sem = fun _ => 0)

def quiescent_ReferenceOutprojIdeal [hReferenceOutprojIdeal : Cert.ReferenceOutprojIdeal.Facts] : Prop :=
  ∀ (m : (ℓ : Loc Cert.ReferenceOutprojIdeal.nD Cert.ReferenceOutprojIdeal.τ Cert.ReferenceOutprojIdeal.sig) → Buf (Elt Ideal) ℓ) (g : Dev Cert.ReferenceOutprojIdeal.nD → PrngReg), Pre_ReferenceOutprojIdeal m →
    θ_run (Cert.ReferenceOutprojIdeal.defs (F := Ideal)) (onTc (τ := Cert.ReferenceOutprojIdeal.τ) (Cert.ReferenceOutprojIdeal.main (F := Ideal))) ⟨m, fun _ => 0, g⟩ (fun r => (∀ c : Dev Cert.ReferenceOutprojIdeal.nD,
      r.2.mem ((c.tc : Thread Cert.ReferenceOutprojIdeal.nD Cert.ReferenceOutprojIdeal.τ).loc Cert.ReferenceOutprojIdeal.main_arg0) = m ((c.tc : Thread Cert.ReferenceOutprojIdeal.nD Cert.ReferenceOutprojIdeal.τ).loc Cert.ReferenceOutprojIdeal.main_arg0)
      ∧ r.2.mem ((c.tc : Thread Cert.ReferenceOutprojIdeal.nD Cert.ReferenceOutprojIdeal.τ).loc Cert.ReferenceOutprojIdeal.main_arg1) = m ((c.tc : Thread Cert.ReferenceOutprojIdeal.nD Cert.ReferenceOutprojIdeal.τ).loc Cert.ReferenceOutprojIdeal.main_arg1)
      ∧ r.2.mem ((c.tc : Thread Cert.ReferenceOutprojIdeal.nD Cert.ReferenceOutprojIdeal.τ).loc Cert.ReferenceOutprojIdeal.main_arg2) = m ((c.tc : Thread Cert.ReferenceOutprojIdeal.nD Cert.ReferenceOutprojIdeal.τ).loc Cert.ReferenceOutprojIdeal.main_arg2)
      ∧ r.2.mem ((c.tc : Thread Cert.ReferenceOutprojIdeal.nD Cert.ReferenceOutprojIdeal.τ).loc Cert.ReferenceOutprojIdeal.main_arg3) = m ((c.tc : Thread Cert.ReferenceOutprojIdeal.nD Cert.ReferenceOutprojIdeal.τ).loc Cert.ReferenceOutprojIdeal.main_arg3))
      ∧ r.2.sem = fun _ => 0)

def quiescent_KernelFinal [hKernelFinal : Cert.KernelFinal.Facts] : Prop :=
  ∀ (m : (ℓ : Loc Cert.KernelFinal.nD Cert.KernelFinal.τ Cert.KernelFinal.sig) → Buf (Elt Bits) ℓ) (g : Dev Cert.KernelFinal.nD → PrngReg), Pre_KernelFinal m →
    θ_run (Cert.KernelFinal.defs (F := Bits)) (onTc (τ := Cert.KernelFinal.τ) (Cert.KernelFinal.main (F := Bits))) ⟨m, fun _ => 0, g⟩ (fun r => (∀ c : Dev Cert.KernelFinal.nD,
      r.2.mem ((c.tc : Thread Cert.KernelFinal.nD Cert.KernelFinal.τ).loc Cert.KernelFinal.main_arg0) = m ((c.tc : Thread Cert.KernelFinal.nD Cert.KernelFinal.τ).loc Cert.KernelFinal.main_arg0)
      ∧ r.2.mem ((c.tc : Thread Cert.KernelFinal.nD Cert.KernelFinal.τ).loc Cert.KernelFinal.main_arg1) = m ((c.tc : Thread Cert.KernelFinal.nD Cert.KernelFinal.τ).loc Cert.KernelFinal.main_arg1)
      ∧ r.2.mem ((c.tc : Thread Cert.KernelFinal.nD Cert.KernelFinal.τ).loc Cert.KernelFinal.main_arg2) = m ((c.tc : Thread Cert.KernelFinal.nD Cert.KernelFinal.τ).loc Cert.KernelFinal.main_arg2))
      ∧ r.2.sem = fun _ => 0)

def quiescent_KernelFinalIdeal [hKernelFinalIdeal : Cert.KernelFinalIdeal.Facts] : Prop :=
  ∀ (m : (ℓ : Loc Cert.KernelFinalIdeal.nD Cert.KernelFinalIdeal.τ Cert.KernelFinalIdeal.sig) → Buf (Elt Ideal) ℓ) (g : Dev Cert.KernelFinalIdeal.nD → PrngReg), Pre_KernelFinalIdeal m →
    θ_run (Cert.KernelFinalIdeal.defs (F := Ideal)) (onTc (τ := Cert.KernelFinalIdeal.τ) (Cert.KernelFinalIdeal.main (F := Ideal))) ⟨m, fun _ => 0, g⟩ (fun r => (∀ c : Dev Cert.KernelFinalIdeal.nD,
      r.2.mem ((c.tc : Thread Cert.KernelFinalIdeal.nD Cert.KernelFinalIdeal.τ).loc Cert.KernelFinalIdeal.main_arg0) = m ((c.tc : Thread Cert.KernelFinalIdeal.nD Cert.KernelFinalIdeal.τ).loc Cert.KernelFinalIdeal.main_arg0)
      ∧ r.2.mem ((c.tc : Thread Cert.KernelFinalIdeal.nD Cert.KernelFinalIdeal.τ).loc Cert.KernelFinalIdeal.main_arg1) = m ((c.tc : Thread Cert.KernelFinalIdeal.nD Cert.KernelFinalIdeal.τ).loc Cert.KernelFinalIdeal.main_arg1)
      ∧ r.2.mem ((c.tc : Thread Cert.KernelFinalIdeal.nD Cert.KernelFinalIdeal.τ).loc Cert.KernelFinalIdeal.main_arg2) = m ((c.tc : Thread Cert.KernelFinalIdeal.nD Cert.KernelFinalIdeal.τ).loc Cert.KernelFinalIdeal.main_arg2))
      ∧ r.2.sem = fun _ => 0)

def quiescent_ReferenceFinalIdeal [hReferenceFinalIdeal : Cert.ReferenceFinalIdeal.Facts] : Prop :=
  ∀ (m : (ℓ : Loc Cert.ReferenceFinalIdeal.nD Cert.ReferenceFinalIdeal.τ Cert.ReferenceFinalIdeal.sig) → Buf (Elt Ideal) ℓ) (g : Dev Cert.ReferenceFinalIdeal.nD → PrngReg), Pre_ReferenceFinalIdeal m →
    θ_run (Cert.ReferenceFinalIdeal.defs (F := Ideal)) (onTc (τ := Cert.ReferenceFinalIdeal.τ) (Cert.ReferenceFinalIdeal.main (F := Ideal))) ⟨m, fun _ => 0, g⟩ (fun r => (∀ c : Dev Cert.ReferenceFinalIdeal.nD,
      r.2.mem ((c.tc : Thread Cert.ReferenceFinalIdeal.nD Cert.ReferenceFinalIdeal.τ).loc Cert.ReferenceFinalIdeal.main_arg0) = m ((c.tc : Thread Cert.ReferenceFinalIdeal.nD Cert.ReferenceFinalIdeal.τ).loc Cert.ReferenceFinalIdeal.main_arg0)
      ∧ r.2.mem ((c.tc : Thread Cert.ReferenceFinalIdeal.nD Cert.ReferenceFinalIdeal.τ).loc Cert.ReferenceFinalIdeal.main_arg1) = m ((c.tc : Thread Cert.ReferenceFinalIdeal.nD Cert.ReferenceFinalIdeal.τ).loc Cert.ReferenceFinalIdeal.main_arg1)
      ∧ r.2.mem ((c.tc : Thread Cert.ReferenceFinalIdeal.nD Cert.ReferenceFinalIdeal.τ).loc Cert.ReferenceFinalIdeal.main_arg2) = m ((c.tc : Thread Cert.ReferenceFinalIdeal.nD Cert.ReferenceFinalIdeal.τ).loc Cert.ReferenceFinalIdeal.main_arg2))
      ∧ r.2.sem = fun _ => 0)

def preserves_KernelInproj_KernelInprojIdeal : Prop :=
  True

def algebraic_KernelInprojIdeal_ReferenceInprojIdeal [hKernelInprojIdeal : Cert.KernelInprojIdeal.Facts] [hReferenceInprojIdeal : Cert.ReferenceInprojIdeal.Facts] : Prop :=
  ∀ (m : (ℓ : Loc Cert.KernelInprojIdeal.nD Cert.KernelInprojIdeal.τ Cert.KernelInprojIdeal.sig) → Buf (Elt Ideal) ℓ) (g : Dev Cert.KernelInprojIdeal.nD → PrngReg)
    (m' : (ℓ : Loc Cert.ReferenceInprojIdeal.nD Cert.ReferenceInprojIdeal.τ Cert.ReferenceInprojIdeal.sig) → Buf (Elt Ideal) ℓ) (g' : Dev Cert.ReferenceInprojIdeal.nD → PrngReg), Pre_KernelInprojIdeal m →
    (∀ c : Dev Cert.KernelInprojIdeal.nD,
      m' ((c.tc : Thread Cert.ReferenceInprojIdeal.nD Cert.ReferenceInprojIdeal.τ).loc Cert.ReferenceInprojIdeal.main_arg0) = m ((c.tc : Thread Cert.KernelInprojIdeal.nD Cert.KernelInprojIdeal.τ).loc Cert.KernelInprojIdeal.main_arg0)
      ∧ m' ((c.tc : Thread Cert.ReferenceInprojIdeal.nD Cert.ReferenceInprojIdeal.τ).loc Cert.ReferenceInprojIdeal.main_arg1) = m ((c.tc : Thread Cert.KernelInprojIdeal.nD Cert.KernelInprojIdeal.τ).loc Cert.KernelInprojIdeal.main_arg1)
      ∧ m' ((c.tc : Thread Cert.ReferenceInprojIdeal.nD Cert.ReferenceInprojIdeal.τ).loc Cert.ReferenceInprojIdeal.main_arg2) = m ((c.tc : Thread Cert.KernelInprojIdeal.nD Cert.KernelInprojIdeal.τ).loc Cert.KernelInprojIdeal.main_arg2)) →
    ∃ (v0 : (c : Dev Cert.KernelInprojIdeal.nD) → Buf (Elt Ideal) ((c.tc : Thread Cert.KernelInprojIdeal.nD Cert.KernelInprojIdeal.τ).loc Cert.KernelInprojIdeal.main_v15_0)) (v1 : (c : Dev Cert.KernelInprojIdeal.nD) → Buf (Elt Ideal) ((c.tc : Thread Cert.KernelInprojIdeal.nD Cert.KernelInprojIdeal.τ).loc Cert.KernelInprojIdeal.main_v15_1)),
      θ_run (Cert.KernelInprojIdeal.defs (F := Ideal)) (onTc (τ := Cert.KernelInprojIdeal.τ) (Cert.KernelInprojIdeal.main (F := Ideal))) ⟨m, fun _ => 0, g⟩ (fun r => ∀ c : Dev Cert.KernelInprojIdeal.nD,
          r.2.mem ((c.tc : Thread Cert.KernelInprojIdeal.nD Cert.KernelInprojIdeal.τ).loc Cert.KernelInprojIdeal.main_v15_0) = v0 c
          ∧ r.2.mem ((c.tc : Thread Cert.KernelInprojIdeal.nD Cert.KernelInprojIdeal.τ).loc Cert.KernelInprojIdeal.main_v15_1) = v1 c
          ∧ r.2.mem ((c.tc : Thread Cert.KernelInprojIdeal.nD Cert.KernelInprojIdeal.τ).loc Cert.KernelInprojIdeal.main_arg0) = m ((c.tc : Thread Cert.KernelInprojIdeal.nD Cert.KernelInprojIdeal.τ).loc Cert.KernelInprojIdeal.main_arg0)
          ∧ r.2.mem ((c.tc : Thread Cert.KernelInprojIdeal.nD Cert.KernelInprojIdeal.τ).loc Cert.KernelInprojIdeal.main_arg1) = m ((c.tc : Thread Cert.KernelInprojIdeal.nD Cert.KernelInprojIdeal.τ).loc Cert.KernelInprojIdeal.main_arg1)
          ∧ r.2.mem ((c.tc : Thread Cert.KernelInprojIdeal.nD Cert.KernelInprojIdeal.τ).loc Cert.KernelInprojIdeal.main_arg2) = m ((c.tc : Thread Cert.KernelInprojIdeal.nD Cert.KernelInprojIdeal.τ).loc Cert.KernelInprojIdeal.main_arg2))
      ∧ θ_run (Cert.ReferenceInprojIdeal.defs (F := Ideal)) (onTc (τ := Cert.ReferenceInprojIdeal.τ) (Cert.ReferenceInprojIdeal.main (F := Ideal))) ⟨m', fun _ => 0, g'⟩ (fun r => ∀ c : Dev Cert.ReferenceInprojIdeal.nD,
          r.2.mem ((c.tc : Thread Cert.ReferenceInprojIdeal.nD Cert.ReferenceInprojIdeal.τ).loc Cert.ReferenceInprojIdeal.main_v26) = v0 c
          ∧ r.2.mem ((c.tc : Thread Cert.ReferenceInprojIdeal.nD Cert.ReferenceInprojIdeal.τ).loc Cert.ReferenceInprojIdeal.main_v25) = v1 c
          ∧ r.2.mem ((c.tc : Thread Cert.ReferenceInprojIdeal.nD Cert.ReferenceInprojIdeal.τ).loc Cert.ReferenceInprojIdeal.main_arg0) = m' ((c.tc : Thread Cert.ReferenceInprojIdeal.nD Cert.ReferenceInprojIdeal.τ).loc Cert.ReferenceInprojIdeal.main_arg0)
          ∧ r.2.mem ((c.tc : Thread Cert.ReferenceInprojIdeal.nD Cert.ReferenceInprojIdeal.τ).loc Cert.ReferenceInprojIdeal.main_arg1) = m' ((c.tc : Thread Cert.ReferenceInprojIdeal.nD Cert.ReferenceInprojIdeal.τ).loc Cert.ReferenceInprojIdeal.main_arg1)
          ∧ r.2.mem ((c.tc : Thread Cert.ReferenceInprojIdeal.nD Cert.ReferenceInprojIdeal.τ).loc Cert.ReferenceInprojIdeal.main_arg2) = m' ((c.tc : Thread Cert.ReferenceInprojIdeal.nD Cert.ReferenceInprojIdeal.τ).loc Cert.ReferenceInprojIdeal.main_arg2))

def preserves_KernelSsd_KernelSsdIdeal : Prop :=
  True

def algebraic_KernelSsdIdeal_ReferenceSsdIdeal [hKernelSsdIdeal : Cert.KernelSsdIdeal.Facts] [hReferenceSsdIdeal : Cert.ReferenceSsdIdeal.Facts] : Prop :=
  ∀ (m : (ℓ : Loc Cert.KernelSsdIdeal.nD Cert.KernelSsdIdeal.τ Cert.KernelSsdIdeal.sig) → Buf (Elt Ideal) ℓ) (g : Dev Cert.KernelSsdIdeal.nD → PrngReg)
    (m' : (ℓ : Loc Cert.ReferenceSsdIdeal.nD Cert.ReferenceSsdIdeal.τ Cert.ReferenceSsdIdeal.sig) → Buf (Elt Ideal) ℓ) (g' : Dev Cert.ReferenceSsdIdeal.nD → PrngReg), Pre_KernelSsdIdeal m →
    (∀ c : Dev Cert.KernelSsdIdeal.nD,
      m' ((c.tc : Thread Cert.ReferenceSsdIdeal.nD Cert.ReferenceSsdIdeal.τ).loc Cert.ReferenceSsdIdeal.main_arg0) = m ((c.tc : Thread Cert.KernelSsdIdeal.nD Cert.KernelSsdIdeal.τ).loc Cert.KernelSsdIdeal.main_arg0)
      ∧ m' ((c.tc : Thread Cert.ReferenceSsdIdeal.nD Cert.ReferenceSsdIdeal.τ).loc Cert.ReferenceSsdIdeal.main_arg1) = m ((c.tc : Thread Cert.KernelSsdIdeal.nD Cert.KernelSsdIdeal.τ).loc Cert.KernelSsdIdeal.main_arg1)
      ∧ m' ((c.tc : Thread Cert.ReferenceSsdIdeal.nD Cert.ReferenceSsdIdeal.τ).loc Cert.ReferenceSsdIdeal.main_arg2) = m ((c.tc : Thread Cert.KernelSsdIdeal.nD Cert.KernelSsdIdeal.τ).loc Cert.KernelSsdIdeal.main_arg2)
      ∧ m' ((c.tc : Thread Cert.ReferenceSsdIdeal.nD Cert.ReferenceSsdIdeal.τ).loc Cert.ReferenceSsdIdeal.main_arg3) = m ((c.tc : Thread Cert.KernelSsdIdeal.nD Cert.KernelSsdIdeal.τ).loc Cert.KernelSsdIdeal.main_arg3)
      ∧ m' ((c.tc : Thread Cert.ReferenceSsdIdeal.nD Cert.ReferenceSsdIdeal.τ).loc Cert.ReferenceSsdIdeal.main_arg4) = m ((c.tc : Thread Cert.KernelSsdIdeal.nD Cert.KernelSsdIdeal.τ).loc Cert.KernelSsdIdeal.main_arg4)
      ∧ m' ((c.tc : Thread Cert.ReferenceSsdIdeal.nD Cert.ReferenceSsdIdeal.τ).loc Cert.ReferenceSsdIdeal.main_arg5) = m ((c.tc : Thread Cert.KernelSsdIdeal.nD Cert.KernelSsdIdeal.τ).loc Cert.KernelSsdIdeal.main_arg5)
      ∧ m' ((c.tc : Thread Cert.ReferenceSsdIdeal.nD Cert.ReferenceSsdIdeal.τ).loc Cert.ReferenceSsdIdeal.main_arg6) = m ((c.tc : Thread Cert.KernelSsdIdeal.nD Cert.KernelSsdIdeal.τ).loc Cert.KernelSsdIdeal.main_arg6)
      ∧ m' ((c.tc : Thread Cert.ReferenceSsdIdeal.nD Cert.ReferenceSsdIdeal.τ).loc Cert.ReferenceSsdIdeal.main_arg7) = m ((c.tc : Thread Cert.KernelSsdIdeal.nD Cert.KernelSsdIdeal.τ).loc Cert.KernelSsdIdeal.main_arg7)) →
    ∃ (v0 : (c : Dev Cert.KernelSsdIdeal.nD) → Buf (Elt Ideal) ((c.tc : Thread Cert.KernelSsdIdeal.nD Cert.KernelSsdIdeal.τ).loc Cert.KernelSsdIdeal.main_v19)),
      θ_run (Cert.KernelSsdIdeal.defs (F := Ideal)) (onTc (τ := Cert.KernelSsdIdeal.τ) (Cert.KernelSsdIdeal.main (F := Ideal))) ⟨m, fun _ => 0, g⟩ (fun r => ∀ c : Dev Cert.KernelSsdIdeal.nD,
          r.2.mem ((c.tc : Thread Cert.KernelSsdIdeal.nD Cert.KernelSsdIdeal.τ).loc Cert.KernelSsdIdeal.main_v19) = v0 c
          ∧ r.2.mem ((c.tc : Thread Cert.KernelSsdIdeal.nD Cert.KernelSsdIdeal.τ).loc Cert.KernelSsdIdeal.main_arg0) = m ((c.tc : Thread Cert.KernelSsdIdeal.nD Cert.KernelSsdIdeal.τ).loc Cert.KernelSsdIdeal.main_arg0)
          ∧ r.2.mem ((c.tc : Thread Cert.KernelSsdIdeal.nD Cert.KernelSsdIdeal.τ).loc Cert.KernelSsdIdeal.main_arg1) = m ((c.tc : Thread Cert.KernelSsdIdeal.nD Cert.KernelSsdIdeal.τ).loc Cert.KernelSsdIdeal.main_arg1)
          ∧ r.2.mem ((c.tc : Thread Cert.KernelSsdIdeal.nD Cert.KernelSsdIdeal.τ).loc Cert.KernelSsdIdeal.main_arg2) = m ((c.tc : Thread Cert.KernelSsdIdeal.nD Cert.KernelSsdIdeal.τ).loc Cert.KernelSsdIdeal.main_arg2)
          ∧ r.2.mem ((c.tc : Thread Cert.KernelSsdIdeal.nD Cert.KernelSsdIdeal.τ).loc Cert.KernelSsdIdeal.main_arg3) = m ((c.tc : Thread Cert.KernelSsdIdeal.nD Cert.KernelSsdIdeal.τ).loc Cert.KernelSsdIdeal.main_arg3)
          ∧ r.2.mem ((c.tc : Thread Cert.KernelSsdIdeal.nD Cert.KernelSsdIdeal.τ).loc Cert.KernelSsdIdeal.main_arg4) = m ((c.tc : Thread Cert.KernelSsdIdeal.nD Cert.KernelSsdIdeal.τ).loc Cert.KernelSsdIdeal.main_arg4)
          ∧ r.2.mem ((c.tc : Thread Cert.KernelSsdIdeal.nD Cert.KernelSsdIdeal.τ).loc Cert.KernelSsdIdeal.main_arg5) = m ((c.tc : Thread Cert.KernelSsdIdeal.nD Cert.KernelSsdIdeal.τ).loc Cert.KernelSsdIdeal.main_arg5)
          ∧ r.2.mem ((c.tc : Thread Cert.KernelSsdIdeal.nD Cert.KernelSsdIdeal.τ).loc Cert.KernelSsdIdeal.main_arg6) = m ((c.tc : Thread Cert.KernelSsdIdeal.nD Cert.KernelSsdIdeal.τ).loc Cert.KernelSsdIdeal.main_arg6)
          ∧ r.2.mem ((c.tc : Thread Cert.KernelSsdIdeal.nD Cert.KernelSsdIdeal.τ).loc Cert.KernelSsdIdeal.main_arg7) = m ((c.tc : Thread Cert.KernelSsdIdeal.nD Cert.KernelSsdIdeal.τ).loc Cert.KernelSsdIdeal.main_arg7))
      ∧ θ_run (Cert.ReferenceSsdIdeal.defs (F := Ideal)) (onTc (τ := Cert.ReferenceSsdIdeal.τ) (Cert.ReferenceSsdIdeal.main (F := Ideal))) ⟨m', fun _ => 0, g'⟩ (fun r => ∀ c : Dev Cert.ReferenceSsdIdeal.nD,
          r.2.mem ((c.tc : Thread Cert.ReferenceSsdIdeal.nD Cert.ReferenceSsdIdeal.τ).loc Cert.ReferenceSsdIdeal.main_v197) = v0 c
          ∧ r.2.mem ((c.tc : Thread Cert.ReferenceSsdIdeal.nD Cert.ReferenceSsdIdeal.τ).loc Cert.ReferenceSsdIdeal.main_arg0) = m' ((c.tc : Thread Cert.ReferenceSsdIdeal.nD Cert.ReferenceSsdIdeal.τ).loc Cert.ReferenceSsdIdeal.main_arg0)
          ∧ r.2.mem ((c.tc : Thread Cert.ReferenceSsdIdeal.nD Cert.ReferenceSsdIdeal.τ).loc Cert.ReferenceSsdIdeal.main_arg1) = m' ((c.tc : Thread Cert.ReferenceSsdIdeal.nD Cert.ReferenceSsdIdeal.τ).loc Cert.ReferenceSsdIdeal.main_arg1)
          ∧ r.2.mem ((c.tc : Thread Cert.ReferenceSsdIdeal.nD Cert.ReferenceSsdIdeal.τ).loc Cert.ReferenceSsdIdeal.main_arg2) = m' ((c.tc : Thread Cert.ReferenceSsdIdeal.nD Cert.ReferenceSsdIdeal.τ).loc Cert.ReferenceSsdIdeal.main_arg2)
          ∧ r.2.mem ((c.tc : Thread Cert.ReferenceSsdIdeal.nD Cert.ReferenceSsdIdeal.τ).loc Cert.ReferenceSsdIdeal.main_arg3) = m' ((c.tc : Thread Cert.ReferenceSsdIdeal.nD Cert.ReferenceSsdIdeal.τ).loc Cert.ReferenceSsdIdeal.main_arg3)
          ∧ r.2.mem ((c.tc : Thread Cert.ReferenceSsdIdeal.nD Cert.ReferenceSsdIdeal.τ).loc Cert.ReferenceSsdIdeal.main_arg4) = m' ((c.tc : Thread Cert.ReferenceSsdIdeal.nD Cert.ReferenceSsdIdeal.τ).loc Cert.ReferenceSsdIdeal.main_arg4)
          ∧ r.2.mem ((c.tc : Thread Cert.ReferenceSsdIdeal.nD Cert.ReferenceSsdIdeal.τ).loc Cert.ReferenceSsdIdeal.main_arg5) = m' ((c.tc : Thread Cert.ReferenceSsdIdeal.nD Cert.ReferenceSsdIdeal.τ).loc Cert.ReferenceSsdIdeal.main_arg5)
          ∧ r.2.mem ((c.tc : Thread Cert.ReferenceSsdIdeal.nD Cert.ReferenceSsdIdeal.τ).loc Cert.ReferenceSsdIdeal.main_arg6) = m' ((c.tc : Thread Cert.ReferenceSsdIdeal.nD Cert.ReferenceSsdIdeal.τ).loc Cert.ReferenceSsdIdeal.main_arg6)
          ∧ r.2.mem ((c.tc : Thread Cert.ReferenceSsdIdeal.nD Cert.ReferenceSsdIdeal.τ).loc Cert.ReferenceSsdIdeal.main_arg7) = m' ((c.tc : Thread Cert.ReferenceSsdIdeal.nD Cert.ReferenceSsdIdeal.τ).loc Cert.ReferenceSsdIdeal.main_arg7))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)) →
    ∃ (v0 : (c : Dev Cert.KernelMergeIdeal.nD) → Buf (Elt Ideal) ((c.tc : Thread Cert.KernelMergeIdeal.nD Cert.KernelMergeIdeal.τ).loc Cert.KernelMergeIdeal.main_v5)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v5) = v0 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v21) = v0 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4))

def preserves_KernelOutproj_KernelOutprojIdeal : Prop :=
  True

def algebraic_KernelOutprojIdeal_ReferenceOutprojIdeal [hKernelOutprojIdeal : Cert.KernelOutprojIdeal.Facts] [hReferenceOutprojIdeal : Cert.ReferenceOutprojIdeal.Facts] : Prop :=
  ∀ (m : (ℓ : Loc Cert.KernelOutprojIdeal.nD Cert.KernelOutprojIdeal.τ Cert.KernelOutprojIdeal.sig) → Buf (Elt Ideal) ℓ) (g : Dev Cert.KernelOutprojIdeal.nD → PrngReg)
    (m' : (ℓ : Loc Cert.ReferenceOutprojIdeal.nD Cert.ReferenceOutprojIdeal.τ Cert.ReferenceOutprojIdeal.sig) → Buf (Elt Ideal) ℓ) (g' : Dev Cert.ReferenceOutprojIdeal.nD → PrngReg), Pre_KernelOutprojIdeal m →
    (∀ c : Dev Cert.KernelOutprojIdeal.nD,
      m' ((c.tc : Thread Cert.ReferenceOutprojIdeal.nD Cert.ReferenceOutprojIdeal.τ).loc Cert.ReferenceOutprojIdeal.main_arg0) = m ((c.tc : Thread Cert.KernelOutprojIdeal.nD Cert.KernelOutprojIdeal.τ).loc Cert.KernelOutprojIdeal.main_arg0)
      ∧ m' ((c.tc : Thread Cert.ReferenceOutprojIdeal.nD Cert.ReferenceOutprojIdeal.τ).loc Cert.ReferenceOutprojIdeal.main_arg1) = m ((c.tc : Thread Cert.KernelOutprojIdeal.nD Cert.KernelOutprojIdeal.τ).loc Cert.KernelOutprojIdeal.main_arg1)
      ∧ m' ((c.tc : Thread Cert.ReferenceOutprojIdeal.nD Cert.ReferenceOutprojIdeal.τ).loc Cert.ReferenceOutprojIdeal.main_arg2) = m ((c.tc : Thread Cert.KernelOutprojIdeal.nD Cert.KernelOutprojIdeal.τ).loc Cert.KernelOutprojIdeal.main_arg2)
      ∧ m' ((c.tc : Thread Cert.ReferenceOutprojIdeal.nD Cert.ReferenceOutprojIdeal.τ).loc Cert.ReferenceOutprojIdeal.main_arg3) = m ((c.tc : Thread Cert.KernelOutprojIdeal.nD Cert.KernelOutprojIdeal.τ).loc Cert.KernelOutprojIdeal.main_arg3)) →
    ∃ (v0 : (c : Dev Cert.KernelOutprojIdeal.nD) → Buf (Elt Ideal) ((c.tc : Thread Cert.KernelOutprojIdeal.nD Cert.KernelOutprojIdeal.τ).loc Cert.KernelOutprojIdeal.main_v4_0)) (v1 : (c : Dev Cert.KernelOutprojIdeal.nD) → Buf (Elt Ideal) ((c.tc : Thread Cert.KernelOutprojIdeal.nD Cert.KernelOutprojIdeal.τ).loc Cert.KernelOutprojIdeal.main_v4_1)),
      θ_run (Cert.KernelOutprojIdeal.defs (F := Ideal)) (onTc (τ := Cert.KernelOutprojIdeal.τ) (Cert.KernelOutprojIdeal.main (F := Ideal))) ⟨m, fun _ => 0, g⟩ (fun r => ∀ c : Dev Cert.KernelOutprojIdeal.nD,
          r.2.mem ((c.tc : Thread Cert.KernelOutprojIdeal.nD Cert.KernelOutprojIdeal.τ).loc Cert.KernelOutprojIdeal.main_v4_0) = v0 c
          ∧ r.2.mem ((c.tc : Thread Cert.KernelOutprojIdeal.nD Cert.KernelOutprojIdeal.τ).loc Cert.KernelOutprojIdeal.main_v4_1) = v1 c
          ∧ r.2.mem ((c.tc : Thread Cert.KernelOutprojIdeal.nD Cert.KernelOutprojIdeal.τ).loc Cert.KernelOutprojIdeal.main_arg0) = m ((c.tc : Thread Cert.KernelOutprojIdeal.nD Cert.KernelOutprojIdeal.τ).loc Cert.KernelOutprojIdeal.main_arg0)
          ∧ r.2.mem ((c.tc : Thread Cert.KernelOutprojIdeal.nD Cert.KernelOutprojIdeal.τ).loc Cert.KernelOutprojIdeal.main_arg1) = m ((c.tc : Thread Cert.KernelOutprojIdeal.nD Cert.KernelOutprojIdeal.τ).loc Cert.KernelOutprojIdeal.main_arg1)
          ∧ r.2.mem ((c.tc : Thread Cert.KernelOutprojIdeal.nD Cert.KernelOutprojIdeal.τ).loc Cert.KernelOutprojIdeal.main_arg2) = m ((c.tc : Thread Cert.KernelOutprojIdeal.nD Cert.KernelOutprojIdeal.τ).loc Cert.KernelOutprojIdeal.main_arg2)
          ∧ r.2.mem ((c.tc : Thread Cert.KernelOutprojIdeal.nD Cert.KernelOutprojIdeal.τ).loc Cert.KernelOutprojIdeal.main_arg3) = m ((c.tc : Thread Cert.KernelOutprojIdeal.nD Cert.KernelOutprojIdeal.τ).loc Cert.KernelOutprojIdeal.main_arg3))
      ∧ θ_run (Cert.ReferenceOutprojIdeal.defs (F := Ideal)) (onTc (τ := Cert.ReferenceOutprojIdeal.τ) (Cert.ReferenceOutprojIdeal.main (F := Ideal))) ⟨m', fun _ => 0, g'⟩ (fun r => ∀ c : Dev Cert.ReferenceOutprojIdeal.nD,
          r.2.mem ((c.tc : Thread Cert.ReferenceOutprojIdeal.nD Cert.ReferenceOutprojIdeal.τ).loc Cert.ReferenceOutprojIdeal.main_v4) = v0 c
          ∧ r.2.mem ((c.tc : Thread Cert.ReferenceOutprojIdeal.nD Cert.ReferenceOutprojIdeal.τ).loc Cert.ReferenceOutprojIdeal.main_v19) = v1 c
          ∧ r.2.mem ((c.tc : Thread Cert.ReferenceOutprojIdeal.nD Cert.ReferenceOutprojIdeal.τ).loc Cert.ReferenceOutprojIdeal.main_arg0) = m' ((c.tc : Thread Cert.ReferenceOutprojIdeal.nD Cert.ReferenceOutprojIdeal.τ).loc Cert.ReferenceOutprojIdeal.main_arg0)
          ∧ r.2.mem ((c.tc : Thread Cert.ReferenceOutprojIdeal.nD Cert.ReferenceOutprojIdeal.τ).loc Cert.ReferenceOutprojIdeal.main_arg1) = m' ((c.tc : Thread Cert.ReferenceOutprojIdeal.nD Cert.ReferenceOutprojIdeal.τ).loc Cert.ReferenceOutprojIdeal.main_arg1)
          ∧ r.2.mem ((c.tc : Thread Cert.ReferenceOutprojIdeal.nD Cert.ReferenceOutprojIdeal.τ).loc Cert.ReferenceOutprojIdeal.main_arg2) = m' ((c.tc : Thread Cert.ReferenceOutprojIdeal.nD Cert.ReferenceOutprojIdeal.τ).loc Cert.ReferenceOutprojIdeal.main_arg2)
          ∧ r.2.mem ((c.tc : Thread Cert.ReferenceOutprojIdeal.nD Cert.ReferenceOutprojIdeal.τ).loc Cert.ReferenceOutprojIdeal.main_arg3) = m' ((c.tc : Thread Cert.ReferenceOutprojIdeal.nD Cert.ReferenceOutprojIdeal.τ).loc Cert.ReferenceOutprojIdeal.main_arg3))

def preserves_KernelFinal_KernelFinalIdeal : Prop :=
  True

def algebraic_KernelFinalIdeal_ReferenceFinalIdeal [hKernelFinalIdeal : Cert.KernelFinalIdeal.Facts] [hReferenceFinalIdeal : Cert.ReferenceFinalIdeal.Facts] : Prop :=
  ∀ (m : (ℓ : Loc Cert.KernelFinalIdeal.nD Cert.KernelFinalIdeal.τ Cert.KernelFinalIdeal.sig) → Buf (Elt Ideal) ℓ) (g : Dev Cert.KernelFinalIdeal.nD → PrngReg)
    (m' : (ℓ : Loc Cert.ReferenceFinalIdeal.nD Cert.ReferenceFinalIdeal.τ Cert.ReferenceFinalIdeal.sig) → Buf (Elt Ideal) ℓ) (g' : Dev Cert.ReferenceFinalIdeal.nD → PrngReg), Pre_KernelFinalIdeal m →
    (∀ c : Dev Cert.KernelFinalIdeal.nD,
      m' ((c.tc : Thread Cert.ReferenceFinalIdeal.nD Cert.ReferenceFinalIdeal.τ).loc Cert.ReferenceFinalIdeal.main_arg0) = m ((c.tc : Thread Cert.KernelFinalIdeal.nD Cert.KernelFinalIdeal.τ).loc Cert.KernelFinalIdeal.main_arg0)
      ∧ m' ((c.tc : Thread Cert.ReferenceFinalIdeal.nD Cert.ReferenceFinalIdeal.τ).loc Cert.ReferenceFinalIdeal.main_arg1) = m ((c.tc : Thread Cert.KernelFinalIdeal.nD Cert.KernelFinalIdeal.τ).loc Cert.KernelFinalIdeal.main_arg1)
      ∧ m' ((c.tc : Thread Cert.ReferenceFinalIdeal.nD Cert.ReferenceFinalIdeal.τ).loc Cert.ReferenceFinalIdeal.main_arg2) = m ((c.tc : Thread Cert.KernelFinalIdeal.nD Cert.KernelFinalIdeal.τ).loc Cert.KernelFinalIdeal.main_arg2)) →
    ∃ (v0 : (c : Dev Cert.KernelFinalIdeal.nD) → Buf (Elt Ideal) ((c.tc : Thread Cert.KernelFinalIdeal.nD Cert.KernelFinalIdeal.τ).loc Cert.KernelFinalIdeal.main_v1)),
      θ_run (Cert.KernelFinalIdeal.defs (F := Ideal)) (onTc (τ := Cert.KernelFinalIdeal.τ) (Cert.KernelFinalIdeal.main (F := Ideal))) ⟨m, fun _ => 0, g⟩ (fun r => ∀ c : Dev Cert.KernelFinalIdeal.nD,
          r.2.mem ((c.tc : Thread Cert.KernelFinalIdeal.nD Cert.KernelFinalIdeal.τ).loc Cert.KernelFinalIdeal.main_v1) = v0 c
          ∧ r.2.mem ((c.tc : Thread Cert.KernelFinalIdeal.nD Cert.KernelFinalIdeal.τ).loc Cert.KernelFinalIdeal.main_arg0) = m ((c.tc : Thread Cert.KernelFinalIdeal.nD Cert.KernelFinalIdeal.τ).loc Cert.KernelFinalIdeal.main_arg0)
          ∧ r.2.mem ((c.tc : Thread Cert.KernelFinalIdeal.nD Cert.KernelFinalIdeal.τ).loc Cert.KernelFinalIdeal.main_arg1) = m ((c.tc : Thread Cert.KernelFinalIdeal.nD Cert.KernelFinalIdeal.τ).loc Cert.KernelFinalIdeal.main_arg1)
          ∧ r.2.mem ((c.tc : Thread Cert.KernelFinalIdeal.nD Cert.KernelFinalIdeal.τ).loc Cert.KernelFinalIdeal.main_arg2) = m ((c.tc : Thread Cert.KernelFinalIdeal.nD Cert.KernelFinalIdeal.τ).loc Cert.KernelFinalIdeal.main_arg2))
      ∧ θ_run (Cert.ReferenceFinalIdeal.defs (F := Ideal)) (onTc (τ := Cert.ReferenceFinalIdeal.τ) (Cert.ReferenceFinalIdeal.main (F := Ideal))) ⟨m', fun _ => 0, g'⟩ (fun r => ∀ c : Dev Cert.ReferenceFinalIdeal.nD,
          r.2.mem ((c.tc : Thread Cert.ReferenceFinalIdeal.nD Cert.ReferenceFinalIdeal.τ).loc Cert.ReferenceFinalIdeal.main_v14) = v0 c
          ∧ r.2.mem ((c.tc : Thread Cert.ReferenceFinalIdeal.nD Cert.ReferenceFinalIdeal.τ).loc Cert.ReferenceFinalIdeal.main_arg0) = m' ((c.tc : Thread Cert.ReferenceFinalIdeal.nD Cert.ReferenceFinalIdeal.τ).loc Cert.ReferenceFinalIdeal.main_arg0)
          ∧ r.2.mem ((c.tc : Thread Cert.ReferenceFinalIdeal.nD Cert.ReferenceFinalIdeal.τ).loc Cert.ReferenceFinalIdeal.main_arg1) = m' ((c.tc : Thread Cert.ReferenceFinalIdeal.nD Cert.ReferenceFinalIdeal.τ).loc Cert.ReferenceFinalIdeal.main_arg1)
          ∧ r.2.mem ((c.tc : Thread Cert.ReferenceFinalIdeal.nD Cert.ReferenceFinalIdeal.τ).loc Cert.ReferenceFinalIdeal.main_arg2) = m' ((c.tc : Thread Cert.ReferenceFinalIdeal.nD Cert.ReferenceFinalIdeal.τ).loc Cert.ReferenceFinalIdeal.main_arg2))

def Claim : Prop :=
  ∃ (hKernelInproj : Cert.KernelInproj.Facts) (hKernelInprojIdeal : Cert.KernelInprojIdeal.Facts) (hReferenceInprojIdeal : Cert.ReferenceInprojIdeal.Facts) (hKernelSsd : Cert.KernelSsd.Facts) (hKernelSsdIdeal : Cert.KernelSsdIdeal.Facts) (hReferenceSsdIdeal : Cert.ReferenceSsdIdeal.Facts) (hKernelMerge : Cert.KernelMerge.Facts) (hKernelMergeIdeal : Cert.KernelMergeIdeal.Facts) (hReferenceMergeIdeal : Cert.ReferenceMergeIdeal.Facts) (hKernelOutproj : Cert.KernelOutproj.Facts) (hKernelOutprojIdeal : Cert.KernelOutprojIdeal.Facts) (hReferenceOutprojIdeal : Cert.ReferenceOutprojIdeal.Facts) (hKernelFinal : Cert.KernelFinal.Facts) (hKernelFinalIdeal : Cert.KernelFinalIdeal.Facts) (hReferenceFinalIdeal : Cert.ReferenceFinalIdeal.Facts),
    quiescent_KernelInproj (hKernelInproj := hKernelInproj)
    ∧ quiescent_KernelInprojIdeal (hKernelInprojIdeal := hKernelInprojIdeal)
    ∧ quiescent_ReferenceInprojIdeal (hReferenceInprojIdeal := hReferenceInprojIdeal)
    ∧ quiescent_KernelSsd (hKernelSsd := hKernelSsd)
    ∧ quiescent_KernelSsdIdeal (hKernelSsdIdeal := hKernelSsdIdeal)
    ∧ quiescent_ReferenceSsdIdeal (hReferenceSsdIdeal := hReferenceSsdIdeal)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelOutproj (hKernelOutproj := hKernelOutproj)
    ∧ quiescent_KernelOutprojIdeal (hKernelOutprojIdeal := hKernelOutprojIdeal)
    ∧ quiescent_ReferenceOutprojIdeal (hReferenceOutprojIdeal := hReferenceOutprojIdeal)
    ∧ quiescent_KernelFinal (hKernelFinal := hKernelFinal)
    ∧ quiescent_KernelFinalIdeal (hKernelFinalIdeal := hKernelFinalIdeal)
    ∧ quiescent_ReferenceFinalIdeal (hReferenceFinalIdeal := hReferenceFinalIdeal)
    ∧ preserves_KernelInproj_KernelInprojIdeal
    ∧ algebraic_KernelInprojIdeal_ReferenceInprojIdeal (hKernelInprojIdeal := hKernelInprojIdeal) (hReferenceInprojIdeal := hReferenceInprojIdeal)
    ∧ preserves_KernelSsd_KernelSsdIdeal
    ∧ algebraic_KernelSsdIdeal_ReferenceSsdIdeal (hKernelSsdIdeal := hKernelSsdIdeal) (hReferenceSsdIdeal := hReferenceSsdIdeal)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelOutproj_KernelOutprojIdeal
    ∧ algebraic_KernelOutprojIdeal_ReferenceOutprojIdeal (hKernelOutprojIdeal := hKernelOutprojIdeal) (hReferenceOutprojIdeal := hReferenceOutprojIdeal)
    ∧ preserves_KernelFinal_KernelFinalIdeal
    ∧ algebraic_KernelFinalIdeal_ReferenceFinalIdeal (hKernelFinalIdeal := hKernelFinalIdeal) (hReferenceFinalIdeal := hReferenceFinalIdeal)
-- ==== KernelInproj.lean ====
abbrev S2x4352x2048 : Shape := ⟨3, ![2, 4352, 2048]⟩
abbrev S1x2048 : Shape := ⟨2, ![1, 2048]⟩
abbrev S1x2048x18576 : Shape := ⟨3, ![1, 2048, 18576]⟩
abbrev S2048x18576 : Shape := ⟨2, ![2048, 18576]⟩
abbrev S2048x4096 : Shape := ⟨2, ![2048, 4096]⟩
abbrev S2048x10240 : Shape := ⟨2, ![2048, 10240]⟩
abbrev S2048x18432 : Shape := ⟨2, ![2048, 18432]⟩
abbrev S2048x80 : Shape := ⟨2, ![2048, 80]⟩
abbrev S_ : Shape := ⟨0, ![]⟩
abbrev S2048x48 : Shape := ⟨2, ![2048, 48]⟩
abbrev S2048x64 : Shape := ⟨2, ![2048, 64]⟩
abbrev S2048x256 : Shape := ⟨2, ![2048, 256]⟩
abbrev S8704x2048 : Shape := ⟨2, ![8704, 2048]⟩
abbrev S2048 : Shape := ⟨1, ![2048]⟩
abbrev S8704x18432 : Shape := ⟨2, ![8704, 18432]⟩
abbrev S8704x256 : Shape := ⟨2, ![8704, 256]⟩
abbrev S512x2048 : Shape := ⟨2, ![512, 2048]⟩
abbrev S2048x1024 : Shape := ⟨2, ![2048, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 22
  | .vmem => 11
  | .smem => 0
  | _ => 0

abbrev bufTy : (tb : Table) → Fin (tcTables nBuf tb) → BufTy
  | .hbm, ⟨0, _⟩ => ⟨S2x4352x2048, .f32⟩
  | .hbm, ⟨1, _⟩ => ⟨S1x2048, .f32⟩
  | .hbm, ⟨2, _⟩ => ⟨S1x2048x18576, .f32⟩
  | .hbm, ⟨3, _⟩ => ⟨S2048x18576, .f32⟩
  | .hbm, ⟨4, _⟩ => ⟨S2048x4096, .f32⟩
  | .hbm, ⟨5, _⟩ => ⟨S2048x10240, .f32⟩
  | .hbm, ⟨6, _⟩ => ⟨S2048x4096, .f32⟩
  | .hbm, ⟨7, _⟩ => ⟨S2048x18432, .f32⟩
  | .hbm, ⟨8, _⟩ => ⟨S2048x18432, .bf16⟩
  | .hbm, ⟨9, _⟩ => ⟨S2048x80, .f32⟩
  | .hbm, ⟨10, _⟩ => ⟨S_, .f32⟩
  | .hbm, ⟨11, _⟩ => ⟨S2048x48, .f32⟩
  | .hbm, ⟨12, _⟩ => ⟨S2048x64, .f32⟩
  | .hbm, ⟨13, _⟩ => ⟨S_, .f32⟩
  | .hbm, ⟨14, _⟩ => ⟨S2048x64, .f32⟩
  | .hbm, ⟨15, _⟩ => ⟨S2048x256, .f32⟩
  | .hbm, ⟨16, _⟩ => ⟨S2048x256, .bf16⟩
  | .hbm, ⟨17, _⟩ => ⟨S8704x2048, .f32⟩
  | .hbm, ⟨18, _⟩ => ⟨S2048, .f32⟩
  | .hbm, ⟨19, _⟩ => ⟨S1x2048, .f32⟩
  | .hbm, ⟨20, _⟩ => ⟨S8704x18432, .bf16⟩
  | .hbm, ⟨21, _⟩ => ⟨S8704x256, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S2048x256, .bf16⟩
  | .local _ .vmem, ⟨6, _⟩ => ⟨S512x1024, .bf16⟩
  | .local _ .vmem, ⟨7, _⟩ => ⟨S512x1024, .bf16⟩
  | .local _ .vmem, ⟨8, _⟩ => ⟨S512x256, .f32⟩
  | .local _ .vmem, ⟨9, _⟩ => ⟨S512x256, .f32⟩
  | .local _ .vmem, ⟨10, _⟩ => ⟨S512x2048, .bf16⟩
  | _, _ => ⟨S2x4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15_0 : Ref sig .tc := ⟨.hbm, 20, rfl⟩
abbrev main_v15_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![17, 18], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceInprojIdeal.lean ====
abbrev S2x4352x2048 : Shape := ⟨3, ![2, 4352, 2048]⟩
abbrev S1x2048 : Shape := ⟨2, ![1, 2048]⟩
abbrev S1x2048x18576 : Shape := ⟨3, ![1, 2048, 18576]⟩
abbrev S2048 : Shape := ⟨1, ![2048]⟩
abbrev S_ : Shape := ⟨0, ![]⟩
abbrev S2x4352 : Shape := ⟨2, ![2, 4352]⟩
abbrev S2x4352x1 : Shape := ⟨3, ![2, 4352, 1]⟩
abbrev S1x1x2048 : Shape := ⟨3, ![1, 1, 2048]⟩
abbrev S2048x18576 : Shape := ⟨2, ![2048, 18576]⟩
abbrev S2x4352x18576 : Shape := ⟨3, ![2, 4352, 18576]⟩
abbrev S8704x18576 : Shape := ⟨2, ![8704, 18576]⟩
abbrev S8704x4096 : Shape := ⟨2, ![8704, 4096]⟩
abbrev S8704x10240 : Shape := ⟨2, ![8704, 10240]⟩
abbrev S8704x18432 : Shape := ⟨2, ![8704, 18432]⟩
abbrev S8704x80 : Shape := ⟨2, ![8704, 80]⟩
abbrev S8704x48 : Shape := ⟨2, ![8704, 48]⟩
abbrev S8704x64 : Shape := ⟨2, ![8704, 64]⟩
abbrev S8704x256 : Shape := ⟨2, ![8704, 256]⟩

abbrev nBuf : Space → Nat
  | .hbm => 35
  | .vmem => 0
  | .smem => 0
  | _ => 0

abbrev bufTy : (tb : Table) → Fin (tcTables nBuf tb) → BufTy
  | .hbm, ⟨0, _⟩ => ⟨S2x4352x2048, .f32⟩
  | .hbm, ⟨1, _⟩ => ⟨S1x2048, .f32⟩
  | .hbm, ⟨2, _⟩ => ⟨S1x2048x18576, .f32⟩
  | .hbm, ⟨3, _⟩ => ⟨S2048, .f32⟩
  | .hbm, ⟨4, _⟩ => ⟨S2x4352x2048, .f32⟩
  | .hbm, ⟨5, _⟩ => ⟨S_, .f32⟩
  | .hbm, ⟨6, _⟩ => ⟨S2x4352, .f32⟩
  | .hbm, ⟨7, _⟩ => ⟨S2x4352x1, .f32⟩
  | .hbm, ⟨8, _⟩ => ⟨S_, .f32⟩
  | .hbm, ⟨9, _⟩ => ⟨S2x4352x1, .f32⟩
  | .hbm, ⟨10, _⟩ => ⟨S2x4352x1, .f32⟩
  | .hbm, ⟨11, _⟩ => ⟨S_, .f32⟩
  | .hbm, ⟨12, _⟩ => ⟨S2x4352x1, .f32⟩
  | .hbm, ⟨13, _⟩ => ⟨S2x4352x1, .f32⟩
  | .hbm, ⟨14, _⟩ => ⟨S2x4352x1, .f32⟩
  | .hbm, ⟨15, _⟩ => ⟨S2x4352x2048, .f32⟩
  | .hbm, ⟨16, _⟩ => ⟨S2x4352x2048, .f32⟩
  | .hbm, ⟨17, _⟩ => ⟨S1x1x2048, .f32⟩
  | .hbm, ⟨18, _⟩ => ⟨S2x4352x2048, .f32⟩
  | .hbm, ⟨19, _⟩ => ⟨S2x4352x2048, .f32⟩
  | .hbm, ⟨20, _⟩ => ⟨S2048x18576, .f32⟩
  | .hbm, ⟨21, _⟩ => ⟨S2x4352x18576, .f32⟩
  | .hbm, ⟨22, _⟩ => ⟨S8704x18576, .f32⟩
  | .hbm, ⟨23, _⟩ => ⟨S8704x4096, .f32⟩
  | .hbm, ⟨24, _⟩ => ⟨S8704x10240, .f32⟩
  | .hbm, ⟨25, _⟩ => ⟨S8704x4096, .f32⟩
  | .hbm, ⟨26, _⟩ => ⟨S8704x18432, .f32⟩
  | .hbm, ⟨27, _⟩ => ⟨S8704x80, .f32⟩
  | .hbm, ⟨28, _⟩ => ⟨S_, .f32⟩
  | .hbm, ⟨29, _⟩ => ⟨S8704x48, .f32⟩
  | .hbm, ⟨30, _⟩ => ⟨S8704x64, .f32⟩
  | .hbm, ⟨31, _⟩ => ⟨S_, .f32⟩
  | .hbm, ⟨32, _⟩ => ⟨S8704x64, .f32⟩
  | .hbm, ⟨33, _⟩ => ⟨S8704x256, .f32⟩
  | .hbm, ⟨34, _⟩ => ⟨S8704x18432, .bf16⟩
  | _, _ => ⟨S2x4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== KernelSsd.lean ====
abbrev S8704x18432 : Shape := ⟨2, ![8704, 18432]⟩
abbrev S2x4352x64 : Shape := ⟨3, ![2, 4352, 64]⟩
abbrev S4x6144 : Shape := ⟨2, ![4, 6144]⟩
abbrev S6144 : Shape := ⟨1, ![6144]⟩
abbrev S64 : Shape := ⟨1, ![64]⟩
abbrev S4096 : Shape := ⟨1, ![4096]⟩
abbrev S2x4352x18432 : Shape := ⟨3, ![2, 4352, 18432]⟩
abbrev S2x4352x8x8 : Shape := ⟨4, ![2, 4352, 8, 8]⟩
abbrev S2x8x4352x8 : Shape := ⟨4, ![2, 8, 4352, 8]⟩
abbrev S2x64x4352 : Shape := ⟨3, ![2, 64, 4352]⟩
abbrev S4x4096 : Shape := ⟨2, ![4, 4096]⟩
abbrev S4x1024 : Shape := ⟨2, ![4, 1024]⟩
abbrev S1x6144 : Shape := ⟨2, ![1, 6144]⟩
abbrev S1x4096 : Shape := ⟨2, ![1, 4096]⟩
abbrev S1x1024 : Shape := ⟨2, ![1, 1024]⟩
abbrev S8x1x8 : Shape := ⟨3, ![8, 1, 8]⟩
abbrev S8x8x1 : Shape := ⟨3, ![8, 8, 1]⟩
abbrev S64x64 : Shape := ⟨2, ![64, 64]⟩
abbrev S2x4352x4096 : Shape := ⟨3, ![2, 4352, 4096]⟩
abbrev S1x256x512 : Shape := ⟨3, ![1, 256, 512]⟩
abbrev S1x256x128 : Shape := ⟨3, ![1, 256, 128]⟩
abbrev S1x1x256x8 : Shape := ⟨4, ![1, 1, 256, 8]⟩
abbrev S1x8x256 : Shape := ⟨3, ![1, 8, 256]⟩
abbrev S4x512 : Shape := ⟨2, ![4, 512]⟩
abbrev S4x128 : Shape := ⟨2, ![4, 128]⟩
abbrev S1x512 : Shape := ⟨2, ![1, 512]⟩
abbrev S1x128 : Shape := ⟨2, ![1, 128]⟩
abbrev S1x1x8 : Shape := ⟨3, ![1, 1, 8]⟩
abbrev S1x8x1 : Shape := ⟨3, ![1, 8, 1]⟩
abbrev S8x128x512 : Shape := ⟨3, ![8, 128, 512]⟩
abbrev S8x8x768 : Shape := ⟨3, ![8, 8, 768]⟩
abbrev S264x768 : Shape := ⟨2, ![264, 768]⟩
abbrev S128x512 : Shape := ⟨2, ![128, 512]⟩
abbrev S1x128x512 : Shape := ⟨3, ![1, 128, 512]⟩
abbrev S8x768 : Shape := ⟨2, ![8, 768]⟩
abbrev S1x8x768 : Shape := ⟨3, ![1, 8, 768]⟩
abbrev S256x512 : Shape := ⟨2, ![256, 512]⟩
abbrev S256x128 : Shape := ⟨2, ![256, 128]⟩
abbrev S256x8 : Shape := ⟨2, ![256, 8]⟩
abbrev S8x256 : Shape := ⟨2, ![8, 256]⟩
abbrev S1x8 : Shape := ⟨2, ![1, 8]⟩
abbrev S8x1 : Shape := ⟨2, ![8, 1]⟩
abbrev S256x256 : Shape := ⟨2, ![256, 256]⟩
abbrev S128x256 : Shape := ⟨2, ![128, 256]⟩
abbrev S128x128 : Shape := ⟨2, ![128, 128]⟩
abbrev S256x1 : Shape := ⟨2, ![256, 1]⟩
abbrev S1x256 : Shape := ⟨2, ![1, 256]⟩
abbrev S1x1 : Shape := ⟨2, ![1, 1]⟩
abbrev S256 : Shape := ⟨1, ![256]⟩

abbrev nBuf : Space → Nat
  | .hbm => 28
  | .vmem => 41
  | .smem => 0
  | _ => 0

abbrev bufTy : (tb : Table) → Fin (tcTables nBuf tb) → BufTy
  | .hbm, ⟨0, _⟩ => ⟨S8704x18432, .bf16⟩
  | .hbm, ⟨1, _⟩ => ⟨S2x4352x64, .f32⟩
  | .hbm, ⟨2, _⟩ => ⟨S4x6144, .f32⟩
  | .hbm, ⟨3, _⟩ => ⟨S6144, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S4096, .f32⟩
  | .hbm, ⟨8, _⟩ => ⟨S2x4352x18432, .bf16⟩
  | .hbm, ⟨9, _⟩ => ⟨S2x4352x8x8, .f32⟩
  | .hbm, ⟨10, _⟩ => ⟨S2x8x4352x8, .f32⟩
  | .hbm, ⟨11, _⟩ => ⟨S2x64x4352, .f32⟩
  | .hbm, ⟨12, _⟩ => ⟨S4x4096, .f32⟩
  | .hbm, ⟨13, _⟩ => ⟨S4x1024, .f32⟩
  | .hbm, ⟨14, _⟩ => ⟨S4x1024, .f32⟩
  | .hbm, ⟨15, _⟩ => ⟨S1x6144, .f32⟩
  | .hbm, ⟨16, _⟩ => ⟨S1x4096, .f32⟩
  | .hbm, ⟨17, _⟩ => ⟨S1x1024, .f32⟩
  | .hbm, ⟨18, _⟩ => ⟨S1x1024, .f32⟩
  | .hbm, ⟨19, _⟩ => ⟨S8x1x8, .f32⟩
  | .hbm, ⟨20, _⟩ => ⟨S8x8x1, .f32⟩
  | .hbm, ⟨21, _⟩ => ⟨S8x1x8, .f32⟩
  | .hbm, ⟨22, _⟩ => ⟨S8x8x1, .f32⟩
  | .hbm, ⟨23, _⟩ => ⟨S64x64, .f32⟩
  | .hbm, ⟨24, _⟩ => ⟨S4096, .f32⟩
  | .hbm, ⟨25, _⟩ => ⟨S1x4096, .f32⟩
  | .hbm, ⟨26, _⟩ => ⟨S1x4096, .f32⟩
  | .hbm, ⟨27, _⟩ => ⟨S2x4352x4096, .bf16⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x128, .bf16⟩
  | .local _ .vmem, ⟨5, _⟩ => ⟨S1x256x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x1x256x8, .f32⟩
  | .local _ .vmem, ⟨9, _⟩ => ⟨S1x1x256x8, .f32⟩
  | .local _ .vmem, ⟨10, _⟩ => ⟨S1x8x256, .f32⟩
  | .local _ .vmem, ⟨11, _⟩ => ⟨S1x8x256, .f32⟩
  | .local _ .vmem, ⟨12, _⟩ => ⟨S4x512, .f32⟩
  | .local _ .vmem, ⟨13, _⟩ => ⟨S4x512, .f32⟩
  | .local _ .vmem, ⟨14, _⟩ => ⟨S4x128, .f32⟩
  | .local _ .vmem, ⟨15, _⟩ => ⟨S4x128, .f32⟩
  | .local _ .vmem, ⟨16, _⟩ => ⟨S4x128, .f32⟩
  | .local _ .vmem, ⟨17, _⟩ => ⟨S4x128, .f32⟩
  | .local _ .vmem, ⟨18, _⟩ => ⟨S1x512, .f32⟩
  | .local _ .vmem, ⟨19, _⟩ => ⟨S1x512, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x1x8, .f32⟩
  | .local _ .vmem, ⟨25, _⟩ => ⟨S1x1x8, .f32⟩
  | .local _ .vmem, ⟨26, _⟩ => ⟨S1x8x1, .f32⟩
  | .local _ .vmem, ⟨27, _⟩ => ⟨S1x8x1, .f32⟩
  | .local _ .vmem, ⟨28, _⟩ => ⟨S1x1x8, .f32⟩
  | .local _ .vmem, ⟨29, _⟩ => ⟨S1x1x8, .f32⟩
  | .local _ .vmem, ⟨30, _⟩ => ⟨S1x8x1, .f32⟩
  | .local _ .vmem, ⟨31, _⟩ => ⟨S1x8x1, .f32⟩
  | .local _ .vmem, ⟨32, _⟩ => ⟨S1x512, .f32⟩
  | .local _ .vmem, ⟨33, _⟩ => ⟨S1x512, .f32⟩
  | .local _ .vmem, ⟨34, _⟩ => ⟨S1x512, .f32⟩
  | .local _ .vmem, ⟨35, _⟩ => ⟨S1x512, .f32⟩
  | .local _ .vmem, ⟨36, _⟩ => ⟨S1x256x512, .bf16⟩
  | .local _ .vmem, ⟨37, _⟩ => ⟨S1x256x512, .bf16⟩
  | .local _ .vmem, ⟨38, _⟩ => ⟨S8x128x512, .f32⟩
  | .local _ .vmem, ⟨39, _⟩ => ⟨S8x8x768, .f32⟩
  | .local _ .vmem, ⟨40, _⟩ => ⟨S264x768, .f32⟩
  | _, _ => ⟨S8704x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_scratch0 : Ref sig .tc := ⟨.vmem, 38, rfl⟩
abbrev cc0_scratch1 : Ref sig .tc := ⟨.vmem, 39, rfl⟩
abbrev cc0_scratch2 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37

abbrev nD : Nat := 1
abbrev τ : Topo := Topo.v7x

variable {F : FTy → Type} [FloatOps F]

abbrev grid0 : Pipeline.Grid := ⟨3, ![2, 17, 8], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg2 : BitVec 32 := BitVec.ofNat 32 (i 2).val
  let v620 : Index := Scalar.indexCast arg2
  let c0_186 : Index := 0#32
  let c0_187 : Index := 0#32
  ![v620.toNat, 0, 0]
def k0_off2 (i : grid0.Coords) : Fin 3 → Nat :=
  let arg2 : BitVec 32 := BitVec.ofNat 32 (i 2).val
  let v625 : Index := Scalar.indexCast arg2
  let c0_189 : Index := 0#32
  let c0_190 : Index := 0#32
  ![v625.toNat, 0, 0]
def k0_off3 (i : grid0.Coords) : Fin 3 → Nat :=
  let arg2 : BitVec 32 := BitVec.ofNat 32 (i 2).val
  let v3 : Index := Scalar.indexCast arg2
  let c0 : Index := 0#32
  let c0_1 : Index := 0#32
  ![v3.toNat, 0, 0]
def k0_off4 (i : grid0.Coords) : Fin 3 → Nat :=
  let arg2 : BitVec 32 := BitVec.ofNat 32 (i 2).val
  let v245 : Index := Scalar.indexCast arg2
  let c0_112 : Index := 0#32
  let c0_113 : Index := 0#32
  ![v245.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg2
  let c0_i32 : BitVec 32 := 0#32
  ![arg0.toNat, arg1.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg2
  let c0_i32 : BitVec 32 := 0#32
  ![arg0.toNat, arg1.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c96_i32 : BitVec 32 := 96#32
  let v0 : BitVec 32 := Scalar.addi c96_i32 arg2
  let c0_i32 : BitVec 32 := 0#32
  ![arg0.toNat, arg1.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c104_i32 : BitVec 32 := 104#32
  let v0 : BitVec 32 := Scalar.addi c104_i32 arg2
  let c0_i32 : BitVec 32 := 0#32
  ![arg0.toNat, arg1.toNat, v0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_17 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_18 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x256x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S4x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S4x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S4x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, false, true]

abbrev stage0_10 : Fin 2 → Memref sig .tc .vmem S1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, false, true]

abbrev stage0_11 : Fin 2 → Memref sig .tc .vmem S1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, false, true]

abbrev stage0_12 : Fin 2 → Memref sig .tc .vmem S1x1x8 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, false, true]

abbrev stage0_13 : Fin 2 → Memref sig .tc .vmem S1x8x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, false, true]

abbrev stage0_14 : Fin 2 → Memref sig .tc .vmem S1x1x8 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, false, true]

abbrev stage0_15 : Fin 2 → Memref sig .tc .vmem S1x8x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, false, true]

abbrev stage0_16 : Fin 2 → Memref sig .tc .vmem S1x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, false, true]

abbrev stage0_17 : Fin 2 → Memref sig .tc .vmem S1x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![false, false, true]

abbrev stage0_18 : Fin 2 → Memref sig .tc .vmem S1x256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true, true]
-- ==== ReferenceSsdIdeal.lean ====
abbrev S8704x18432 : Shape := ⟨2, ![8704, 18432]⟩
abbrev S2x4352x64 : Shape := ⟨3, ![2, 4352, 64]⟩
abbrev S4x6144 : Shape := ⟨2, ![4, 6144]⟩
abbrev S6144 : Shape := ⟨1, ![6144]⟩
abbrev S64 : Shape := ⟨1, ![64]⟩
abbrev S4096 : Shape := ⟨1, ![4096]⟩
abbrev S2x4352x18432 : Shape := ⟨3, ![2, 4352, 18432]⟩
abbrev S2x4352x4096 : Shape := ⟨3, ![2, 4352, 4096]⟩
abbrev S2x4352x6144 : Shape := ⟨3, ![2, 4352, 6144]⟩
abbrev S_ : Shape := ⟨0, ![]⟩
abbrev S2x4355x6144 : Shape := ⟨3, ![2, 4355, 6144]⟩
abbrev S1x6144 : Shape := ⟨2, ![1, 6144]⟩
abbrev S1x1x6144 : Shape := ⟨3, ![1, 1, 6144]⟩
abbrev S1x1x64 : Shape := ⟨3, ![1, 1, 64]⟩
abbrev S4352 : Shape := ⟨1, ![4352]⟩
abbrev S1x4352x1 : Shape := ⟨3, ![1, 4352, 1]⟩
abbrev S2x17x256x8x8x64 : Shape := ⟨6, ![2, 17, 256, 8, 8, 64]⟩
abbrev S2x4352x1024 : Shape := ⟨3, ![2, 4352, 1024]⟩
abbrev S2x17x256x8x128 : Shape := ⟨5, ![2, 17, 256, 8, 128]⟩
abbrev S2x17x256x8x8 : Shape := ⟨5, ![2, 17, 256, 8, 8]⟩
abbrev S8x8 : Shape := ⟨2, ![8, 8]⟩
abbrev S1x1x1x8x8 : Shape := ⟨5, ![1, 1, 1, 8, 8]⟩
abbrev S2x17x8x8x256 : Shape := ⟨5, ![2, 17, 8, 8, 256]⟩
abbrev S2x17x256x8x8x1 : Shape := ⟨6, ![2, 17, 256, 8, 8, 1]⟩
abbrev S2x17x8x8x256x1 : Shape := ⟨6, ![2, 17, 8, 8, 256, 1]⟩
abbrev S2x17x8x8x1x256 : Shape := ⟨6, ![2, 17, 8, 8, 1, 256]⟩
abbrev S2x17x8x8x256x256 : Shape := ⟨6, ![2, 17, 8, 8, 256, 256]⟩
abbrev S256x256 : Shape := ⟨2, ![256, 256]⟩
abbrev S2x17x8x256x256 : Shape := ⟨5, ![2, 17, 8, 256, 256]⟩
abbrev S2x17x8x1x256x256 : Shape := ⟨6, ![2, 17, 8, 1, 256, 256]⟩
abbrev S2x17x8x8x64x256 : Shape := ⟨6, ![2, 17, 8, 8, 64, 256]⟩
abbrev S2x17x8x8x1 : Shape := ⟨5, ![2, 17, 8, 8, 1]⟩
abbrev S2x17x8x256x128 : Shape := ⟨5, ![2, 17, 8, 256, 128]⟩
abbrev S2x17x8x1x256x128 : Shape := ⟨6, ![2, 17, 8, 1, 256, 128]⟩
abbrev S2x17x8x8x256x128 : Shape := ⟨6, ![2, 17, 8, 8, 256, 128]⟩
abbrev S2x17x8x8x64x128 : Shape := ⟨6, ![2, 17, 8, 8, 64, 128]⟩
abbrev S2x17x8x8x1x1 : Shape := ⟨6, ![2, 17, 8, 8, 1, 1]⟩
abbrev S2x1x8x8x64x128 : Shape := ⟨6, ![2, 1, 8, 8, 64, 128]⟩
abbrev S2x8x8x8x64x128 : Shape := ⟨6, ![2, 8, 8, 8, 64, 128]⟩
abbrev S2x9x8x8x64x128 : Shape := ⟨6, ![2, 9, 8, 8, 64, 128]⟩
abbrev S8x8x1 : Shape := ⟨3, ![8, 8, 1]⟩
abbrev S1x1x1x8x8x1 : Shape := ⟨6, ![1, 1, 1, 8, 8, 1]⟩
abbrev S2x4352x8x512 : Shape := ⟨4, ![2, 4352, 8, 512]⟩
abbrev S2x4352x8 : Shape := ⟨3, ![2, 4352, 8]⟩
abbrev S2x4352x8x1 : Shape := ⟨4, ![2, 4352, 8, 1]⟩
abbrev S1x1x4096 : Shape := ⟨3, ![1, 1, 4096]⟩

abbrev nBuf : Space → Nat
  | .hbm => 262
  | .vmem => 0
  | .smem => 0
  | _ => 0

abbrev hbmTy0_0 (i : Nat) : BufTy := match i % 128 with
  | 0 => ⟨S8704x18432, .bf16⟩
  | 1 => ⟨S2x4352x64, .f32⟩
  | 2 => ⟨S4x6144, .f32⟩
  | 3 => ⟨S6144, .f32⟩
  | 4 => ⟨S64, .f32⟩
  | 5 => ⟨S64, .f32⟩
  | 6 => ⟨S64, .f32⟩
  | 7 => ⟨S4096, .f32⟩
  | 8 => ⟨S8704x18432, .f32⟩
  | 9 => ⟨S2x4352x18432, .f32⟩
  | 10 => ⟨S2x4352x4096, .f32⟩
  | 11 => ⟨S2x4352x6144, .f32⟩
  | 12 => ⟨S_, .i32⟩
  | 13 => ⟨S_, .f32⟩
  | 14 => ⟨S2x4355x6144, .f32⟩
  | 15 => ⟨S2x4352x6144, .f32⟩
  | 16 => ⟨S1x6144, .f32⟩
  | 17 => ⟨S6144, .f32⟩
  | 18 => ⟨S1x1x6144, .f32⟩
  | 19 => ⟨S2x4352x6144, .f32⟩
  | 20 => ⟨S2x4352x6144, .f32⟩
  | 21 => ⟨S_, .f32⟩
  | 22 => ⟨S2x4352x6144, .f32⟩
  | 23 => ⟨S2x4352x6144, .f32⟩
  | 24 => ⟨S2x4352x6144, .f32⟩
  | 25 => ⟨S1x6144, .f32⟩
  | 26 => ⟨S6144, .f32⟩
  | 27 => ⟨S1x1x6144, .f32⟩
  | 28 => ⟨S2x4352x6144, .f32⟩
  | 29 => ⟨S2x4352x6144, .f32⟩
  | 30 => ⟨S2x4352x6144, .f32⟩
  | 31 => ⟨S2x4352x6144, .f32⟩
  | 32 => ⟨S1x6144, .f32⟩
  | 33 => ⟨S6144, .f32⟩
  | 34 => ⟨S1x1x6144, .f32⟩
  | 35 => ⟨S2x4352x6144, .f32⟩
  | 36 => ⟨S2x4352x6144, .f32⟩
  | 37 => ⟨S2x4352x6144, .f32⟩
  | 38 => ⟨S2x4352x6144, .f32⟩
  | 39 => ⟨S1x6144, .f32⟩
  | 40 => ⟨S6144, .f32⟩
  | 41 => ⟨S1x1x6144, .f32⟩
  | 42 => ⟨S2x4352x6144, .f32⟩
  | 43 => ⟨S2x4352x6144, .f32⟩
  | 44 => ⟨S2x4352x6144, .f32⟩
  | 45 => ⟨S1x1x6144, .f32⟩
  | 46 => ⟨S2x4352x6144, .f32⟩
  | 47 => ⟨S2x4352x6144, .f32⟩
  | 48 => ⟨S2x4352x6144, .f32⟩
  | 49 => ⟨S2x4352x6144, .f32⟩
  | 50 => ⟨S_, .f32⟩
  | 51 => ⟨S2x4352x6144, .f32⟩
  | 52 => ⟨S2x4352x6144, .f32⟩
  | 53 => ⟨S_, .f32⟩
  | 54 => ⟨S2x4352x6144, .f32⟩
  | 55 => ⟨S2x4352x6144, .f32⟩
  | 56 => ⟨S2x4352x6144, .f32⟩
  | 57 => ⟨S1x1x64, .f32⟩
  | 58 => ⟨S2x4352x64, .f32⟩
  | 59 => ⟨S2x4352x64, .f32⟩
  | 60 => ⟨S_, .f32⟩
  | 61 => ⟨S2x4352x64, .f32⟩
  | 62 => ⟨S2x4352x64, .f32⟩
  | 63 => ⟨S2x4352x64, .f32⟩
  | 64 => ⟨S2x4352x64, .f32⟩
  | 65 => ⟨S2x4352x64, .i1⟩
  | 66 => ⟨S2x4352x64, .f32⟩
  | 67 => ⟨S2x4352x64, .f32⟩
  | 68 => ⟨S2x4352x64, .f32⟩
  | 69 => ⟨S2x4352x64, .f32⟩
  | 70 => ⟨S2x4352x64, .f32⟩
  | 71 => ⟨S2x4352x64, .f32⟩
  | 72 => ⟨S2x4352x64, .f32⟩
  | 73 => ⟨S2x4352x64, .f32⟩
  | 74 => ⟨S4352, .i32⟩
  | 75 => ⟨S1x4352x1, .i32⟩
  | 76 => ⟨S_, .i32⟩
  | 77 => ⟨S1x4352x1, .i32⟩
  | 78 => ⟨S1x4352x1, .i1⟩
  | 79 => ⟨S_, .f32⟩
  | 80 => ⟨S_, .f32⟩
  | 81 => ⟨S2x4352x64, .i1⟩
  | 82 => ⟨S2x4352x64, .f32⟩
  | 83 => ⟨S2x4352x64, .f32⟩
  | 84 => ⟨S64, .f32⟩
  | 85 => ⟨S64, .f32⟩
  | 86 => ⟨S2x4352x4096, .f32⟩
  | 87 => ⟨S2x17x256x8x8x64, .f32⟩
  | 88 => ⟨S2x4352x1024, .f32⟩
  | 89 => ⟨S2x17x256x8x128, .f32⟩
  | 90 => ⟨S2x4352x1024, .f32⟩
  | 91 => ⟨S2x17x256x8x128, .f32⟩
  | 92 => ⟨S2x17x256x8x8, .f32⟩
  | 93 => ⟨S8x8, .f32⟩
  | 94 => ⟨S1x1x1x8x8, .f32⟩
  | 95 => ⟨S2x17x256x8x8, .f32⟩
  | 96 => ⟨S2x17x256x8x8, .f32⟩
  | 97 => ⟨S2x17x8x8x256, .f32⟩
  | 98 => ⟨S_, .f32⟩
  | 99 => ⟨S_, .f32⟩
  | 100 => ⟨S2x17x8x8x256, .f32⟩
  | 101 => ⟨S2x17x256x8x8x1, .f32⟩
  | 102 => ⟨S2x17x256x8x8x64, .f32⟩
  | 103 => ⟨S2x17x256x8x8x64, .f32⟩
  | 104 => ⟨S2x17x8x8x256x1, .f32⟩
  | 105 => ⟨S2x17x8x8x1x256, .f32⟩
  | 106 => ⟨S2x17x8x8x256x256, .f32⟩
  | 107 => ⟨S2x17x8x8x256x256, .f32⟩
  | 108 => ⟨S2x17x8x8x256x256, .f32⟩
  | 109 => ⟨S_, .i1⟩
  | 110 => ⟨S256x256, .i1⟩
  | 111 => ⟨S256x256, .i32⟩
  | 112 => ⟨S_, .i32⟩
  | 113 => ⟨S256x256, .i32⟩
  | 114 => ⟨S256x256, .i32⟩
  | 115 => ⟨S256x256, .i32⟩
  | 116 => ⟨S256x256, .i1⟩
  | 117 => ⟨S_, .i1⟩
  | 118 => ⟨S256x256, .i1⟩
  | 119 => ⟨S256x256, .i1⟩
  | 120 => ⟨S_, .f32⟩
  | 121 => ⟨S_, .f32⟩
  | 122 => ⟨S2x17x8x8x256x256, .i1⟩
  | 123 => ⟨S2x17x8x8x256x256, .f32⟩
  | 124 => ⟨S2x17x8x8x256x256, .f32⟩
  | 125 => ⟨S2x17x8x8x256x256, .f32⟩
  | 126 => ⟨S2x17x8x256x256, .f32⟩
  | 127 => ⟨S2x17x8x1x256x256, .f32⟩
  | _ => ⟨S8704x18432, .bf16⟩

abbrev hbmTy0_1 (i : Nat) : BufTy := match i % 128 with
  | 0 => ⟨S2x17x8x8x256x256, .f32⟩
  | 1 => ⟨S2x17x8x8x256x256, .f32⟩
  | 2 => ⟨S2x17x8x8x64x256, .f32⟩
  | 3 => ⟨S2x17x256x8x8x64, .f32⟩
  | 4 => ⟨S2x17x8x8x1, .f32⟩
  | 5 => ⟨S2x17x8x8x256, .f32⟩
  | 6 => ⟨S2x17x8x8x256, .f32⟩
  | 7 => ⟨S2x17x8x8x256, .f32⟩
  | 8 => ⟨S2x17x8x256x128, .f32⟩
  | 9 => ⟨S2x17x8x1x256x128, .f32⟩
  | 10 => ⟨S2x17x8x8x256x1, .f32⟩
  | 11 => ⟨S2x17x8x8x256x128, .f32⟩
  | 12 => ⟨S2x17x8x8x256x128, .f32⟩
  | 13 => ⟨S2x17x8x8x256x128, .f32⟩
  | 14 => ⟨S2x17x8x8x64x128, .f32⟩
  | 15 => ⟨S2x17x8x8x1, .f32⟩
  | 16 => ⟨S2x17x8x8x1, .f32⟩
  | 17 => ⟨S2x17x8x8x1x1, .f32⟩
  | 18 => ⟨S2x17x8x8x64x128, .f32⟩
  | 19 => ⟨S_, .f32⟩
  | 20 => ⟨S2x1x8x8x64x128, .f32⟩
  | 21 => ⟨S2x1x8x8x64x128, .f32⟩
  | 22 => ⟨S2x1x8x8x64x128, .f32⟩
  | 23 => ⟨S2x1x8x8x64x128, .f32⟩
  | 24 => ⟨S2x1x8x8x64x128, .f32⟩
  | 25 => ⟨S2x1x8x8x64x128, .f32⟩
  | 26 => ⟨S2x1x8x8x64x128, .f32⟩
  | 27 => ⟨S2x1x8x8x64x128, .f32⟩
  | 28 => ⟨S2x1x8x8x64x128, .f32⟩
  | 29 => ⟨S2x1x8x8x64x128, .f32⟩
  | 30 => ⟨S2x1x8x8x64x128, .f32⟩
  | 31 => ⟨S2x1x8x8x64x128, .f32⟩
  | 32 => ⟨S2x1x8x8x64x128, .f32⟩
  | 33 => ⟨S2x1x8x8x64x128, .f32⟩
  | 34 => ⟨S2x1x8x8x64x128, .f32⟩
  | 35 => ⟨S2x1x8x8x64x128, .f32⟩
  | 36 => ⟨S2x1x8x8x64x128, .f32⟩
  | 37 => ⟨S2x1x8x8x64x128, .f32⟩
  | 38 => ⟨S2x1x8x8x64x128, .f32⟩
  | 39 => ⟨S2x1x8x8x64x128, .f32⟩
  | 40 => ⟨S2x1x8x8x64x128, .f32⟩
  | 41 => ⟨S2x1x8x8x64x128, .f32⟩
  | 42 => ⟨S2x1x8x8x64x128, .f32⟩
  | 43 => ⟨S2x1x8x8x64x128, .f32⟩
  | 44 => ⟨S2x1x8x8x64x128, .f32⟩
  | 45 => ⟨S2x1x8x8x64x128, .f32⟩
  | 46 => ⟨S2x1x8x8x64x128, .f32⟩
  | 47 => ⟨S2x1x8x8x64x128, .f32⟩
  | 48 => ⟨S2x1x8x8x64x128, .f32⟩
  | 49 => ⟨S2x1x8x8x64x128, .f32⟩
  | 50 => ⟨S2x1x8x8x64x128, .f32⟩
  | 51 => ⟨S2x1x8x8x64x128, .f32⟩
  | 52 => ⟨S2x1x8x8x64x128, .f32⟩
  | 53 => ⟨S2x1x8x8x64x128, .f32⟩
  | 54 => ⟨S2x1x8x8x64x128, .f32⟩
  | 55 => ⟨S2x1x8x8x64x128, .f32⟩
  | 56 => ⟨S2x1x8x8x64x128, .f32⟩
  | 57 => ⟨S2x1x8x8x64x128, .f32⟩
  | 58 => ⟨S2x1x8x8x64x128, .f32⟩
  | 59 => ⟨S2x1x8x8x64x128, .f32⟩
  | 60 => ⟨S2x1x8x8x64x128, .f32⟩
  | 61 => ⟨S2x1x8x8x64x128, .f32⟩
  | 62 => ⟨S2x1x8x8x64x128, .f32⟩
  | 63 => ⟨S2x1x8x8x64x128, .f32⟩
  | 64 => ⟨S2x1x8x8x64x128, .f32⟩
  | 65 => ⟨S2x1x8x8x64x128, .f32⟩
  | 66 => ⟨S2x1x8x8x64x128, .f32⟩
  | 67 => ⟨S2x1x8x8x64x128, .f32⟩
  | 68 => ⟨S2x1x8x8x64x128, .f32⟩
  | 69 => ⟨S2x1x8x8x64x128, .f32⟩
  | 70 => ⟨S2x1x8x8x64x128, .f32⟩
  | 71 => ⟨S2x1x8x8x64x128, .f32⟩
  | 72 => ⟨S2x1x8x8x64x128, .f32⟩
  | 73 => ⟨S2x1x8x8x64x128, .f32⟩
  | 74 => ⟨S2x1x8x8x64x128, .f32⟩
  | 75 => ⟨S2x1x8x8x64x128, .f32⟩
  | 76 => ⟨S2x1x8x8x64x128, .f32⟩
  | 77 => ⟨S2x1x8x8x64x128, .f32⟩
  | 78 => ⟨S2x1x8x8x64x128, .f32⟩
  | 79 => ⟨S2x1x8x8x64x128, .f32⟩
  | 80 => ⟨S2x1x8x8x64x128, .f32⟩
  | 81 => ⟨S2x1x8x8x64x128, .f32⟩
  | 82 => ⟨S2x1x8x8x64x128, .f32⟩
  | 83 => ⟨S2x1x8x8x64x128, .f32⟩
  | 84 => ⟨S2x1x8x8x64x128, .f32⟩
  | 85 => ⟨S2x8x8x8x64x128, .f32⟩
  | 86 => ⟨S2x9x8x8x64x128, .f32⟩
  | 87 => ⟨S2x17x8x8x64x128, .f32⟩
  | 88 => ⟨S2x17x8x256x128, .f32⟩
  | 89 => ⟨S2x17x8x1x256x128, .f32⟩
  | 90 => ⟨S2x17x8x8x256, .f32⟩
  | 91 => ⟨S2x17x8x8x256x1, .f32⟩
  | 92 => ⟨S2x17x8x8x256x128, .f32⟩
  | 93 => ⟨S2x17x8x8x256x128, .f32⟩
  | 94 => ⟨S2x17x8x8x256x128, .f32⟩
  | 95 => ⟨S2x17x8x8x64x256, .f32⟩
  | 96 => ⟨S2x17x256x8x8x64, .f32⟩
  | 97 => ⟨S2x17x256x8x8x64, .f32⟩
  | 98 => ⟨S8x8, .f32⟩
  | 99 => ⟨S8x8x1, .f32⟩
  | 100 => ⟨S1x1x1x8x8x1, .f32⟩
  | 101 => ⟨S2x17x256x8x8x64, .f32⟩
  | 102 => ⟨S2x17x256x8x8x64, .f32⟩
  | 103 => ⟨S2x17x256x8x8x64, .f32⟩
  | 104 => ⟨S2x4352x4096, .f32⟩
  | 105 => ⟨S2x4352x4096, .f32⟩
  | 106 => ⟨S2x4352x4096, .f32⟩
  | 107 => ⟨S_, .f32⟩
  | 108 => ⟨S2x4352x4096, .f32⟩
  | 109 => ⟨S2x4352x4096, .f32⟩
  | 110 => ⟨S_, .f32⟩
  | 111 => ⟨S2x4352x4096, .f32⟩
  | 112 => ⟨S2x4352x4096, .f32⟩
  | 113 => ⟨S2x4352x4096, .f32⟩
  | 114 => ⟨S2x4352x4096, .f32⟩
  | 115 => ⟨S2x4352x8x512, .f32⟩
  | 116 => ⟨S2x4352x8x512, .f32⟩
  | 117 => ⟨S_, .f32⟩
  | 118 => ⟨S2x4352x8, .f32⟩
  | 119 => ⟨S2x4352x8x1, .f32⟩
  | 120 => ⟨S_, .f32⟩
  | 121 => ⟨S2x4352x8x1, .f32⟩
  | 122 => ⟨S2x4352x8x1, .f32⟩
  | 123 => ⟨S_, .f32⟩
  | 124 => ⟨S2x4352x8x1, .f32⟩
  | 125 => ⟨S2x4352x8x1, .f32⟩
  | 126 => ⟨S2x4352x8x1, .f32⟩
  | 127 => ⟨S2x4352x8x512, .f32⟩
  | _ => ⟨S8704x18432, .bf16⟩

abbrev hbmTy0_2 (i : Nat) : BufTy := match i % 128 with
  | 0 => ⟨S2x4352x8x512, .f32⟩
  | 1 => ⟨S2x4352x4096, .f32⟩
  | 2 => ⟨S1x1x4096, .f32⟩
  | 3 => ⟨S2x4352x4096, .f32⟩
  | 4 => ⟨S2x4352x4096, .f32⟩
  | 5 => ⟨S2x4352x4096, .bf16⟩
  | _ => ⟨S8704x18432, .bf16⟩

abbrev hbmTy (i : Nat) : BufTy := match i / 128 with
  | 0 => hbmTy0_0 i
  | 1 => hbmTy0_1 i
  | 2 => hbmTy0_2 i
  | _ => ⟨S8704x18432, .bf16⟩

abbrev bufTy : (tb : Table) → Fin (tcTables nBuf tb) → BufTy
  | .hbm, ⟨i, _⟩ => hbmTy i
  | _, _ => ⟨S8704x18432, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_call1_v0 : Ref sig .tc := ⟨.hbm, 48, rfl⟩
abbrev main_call1_v1 : Ref sig .tc := ⟨.hbm, 49, rfl⟩
abbrev main_call1_cst : Ref sig .tc := ⟨.hbm, 50, rfl⟩
abbrev main_call1_v2 : Ref sig .tc := ⟨.hbm, 51, rfl⟩
abbrev main_call1_v3 : Ref sig .tc := ⟨.hbm, 52, rfl⟩
abbrev main_call1_cst_0 : Ref sig .tc := ⟨.hbm, 53, rfl⟩
abbrev main_call1_v4 : Ref sig .tc := ⟨.hbm, 54, rfl⟩
abbrev main_call1_v5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_call2_cst : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_c_0 : Ref sig .tc := ⟨.hbm, 76, rfl⟩
abbrev main_v44 : Ref sig .tc := ⟨.hbm, 77, rfl⟩
abbrev main_v45 : Ref sig .tc := ⟨.hbm, 78, rfl⟩
abbrev main_cst_1 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_call4_call0_cst : Ref sig .tc := ⟨.hbm, 98, rfl⟩
abbrev main_call4_call0_v0 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_c_2 : Ref sig .tc := ⟨.hbm, 109, rfl⟩
abbrev main_v70 : Ref sig .tc := ⟨.hbm, 110, rfl⟩
abbrev main_call5_v0 : Ref sig .tc := ⟨.hbm, 111, rfl⟩
abbrev main_call5_c : Ref sig .tc := ⟨.hbm, 112, rfl⟩
abbrev main_call5_v1 : Ref sig .tc := ⟨.hbm, 113, rfl⟩
abbrev main_call5_v2 : Ref sig .tc := ⟨.hbm, 114, rfl⟩
abbrev main_call5_v3 : Ref sig .tc := ⟨.hbm, 115, rfl⟩
abbrev main_call5_v4 : Ref sig .tc := ⟨.hbm, 116, rfl⟩
abbrev main_call5_c_0 : Ref sig .tc := ⟨.hbm, 117, rfl⟩
abbrev main_call5_v5 : Ref sig .tc := ⟨.hbm, 118, rfl⟩
abbrev main_v71 : Ref sig .tc := ⟨.hbm, 119, rfl⟩
abbrev main_cst_3 : Ref sig .tc := ⟨.hbm, 120, rfl⟩
abbrev main_call6_v0 : Ref sig .tc := ⟨.hbm, 121, rfl⟩
abbrev main_call6_v1 : Ref sig .tc := ⟨.hbm, 122, rfl⟩
abbrev main_call6_v2 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_cst_4 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_call7_v0 : Ref sig .tc := ⟨.hbm, 233, rfl⟩
abbrev main_call7_v1 : Ref sig .tc := ⟨.hbm, 234, rfl⟩
abbrev main_call7_cst : Ref sig .tc := ⟨.hbm, 235, rfl⟩
abbrev main_call7_v2 : Ref sig .tc := ⟨.hbm, 236, rfl⟩
abbrev main_call7_v3 : Ref sig .tc := ⟨.hbm, 237, rfl⟩
abbrev main_call7_cst_0 : Ref sig .tc := ⟨.hbm, 238, rfl⟩
abbrev main_call7_v4 : Ref sig .tc := ⟨.hbm, 239, rfl⟩
abbrev main_call7_v5 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_v183 : Ref sig .tc := ⟨.hbm, 244, rfl⟩
abbrev main_cst_5 : Ref sig .tc := ⟨.hbm, 245, rfl⟩
abbrev main_v184 : Ref sig .tc := ⟨.hbm, 246, rfl⟩
abbrev main_v185 : Ref sig .tc := ⟨.hbm, 247, rfl⟩
abbrev main_cst_6 : Ref sig .tc := ⟨.hbm, 248, rfl⟩
abbrev main_v186 : Ref sig .tc := ⟨.hbm, 249, rfl⟩
abbrev main_v187 : Ref sig .tc := ⟨.hbm, 250, rfl⟩
abbrev main_cst_7 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩
abbrev main_v194 : Ref sig .tc := ⟨.hbm, 258, rfl⟩
abbrev main_v195 : Ref sig .tc := ⟨.hbm, 259, rfl⟩
abbrev main_v196 : Ref sig .tc := ⟨.hbm, 260, rfl⟩
abbrev main_v197 : Ref sig .tc := ⟨.hbm, 261, rfl⟩

abbrev nD : Nat := 1
abbrev τ : Topo := Topo.v7x

variable {F : FTy → Type} [FloatOps F]
-- ==== KernelMerge.lean ====
abbrev S2x4096x2048 : Shape := ⟨3, ![2, 4096, 2048]⟩
abbrev S2x4352x4096 : Shape := ⟨3, ![2, 4352, 4096]⟩
abbrev S8704x18432 : Shape := ⟨2, ![8704, 18432]⟩
abbrev S1x2048x2048 : Shape := ⟨3, ![1, 2048, 2048]⟩
abbrev S1x4096x2048 : Shape := ⟨3, ![1, 4096, 2048]⟩
abbrev S2048x2048 : Shape := ⟨2, ![2048, 2048]⟩
abbrev S4096x2048 : Shape := ⟨2, ![4096, 2048]⟩
abbrev S2x4352x18432 : Shape := ⟨3, ![2, 4352, 18432]⟩
abbrev S1x256x2048 : Shape := ⟨3, ![1, 256, 2048]⟩
abbrev S1x256x4096 : Shape := ⟨3, ![1, 256, 4096]⟩
abbrev S1x256x1024 : Shape := ⟨3, ![1, 256, 1024]⟩
abbrev S2048x1024 : Shape := ⟨2, ![2048, 1024]⟩
abbrev S4096x1024 : Shape := ⟨2, ![4096, 1024]⟩
abbrev S256x2048 : Shape := ⟨2, ![256, 2048]⟩
abbrev S256x1024 : Shape := ⟨2, ![256, 1024]⟩
abbrev S256x4096 : Shape := ⟨2, ![256, 4096]⟩

abbrev nBuf : Space → Nat
  | .hbm => 11
  | .vmem => 14
  | .smem => 0
  | _ => 0

abbrev bufTy : (tb : Table) → Fin (tcTables nBuf tb) → BufTy
  | .hbm, ⟨0, _⟩ => ⟨S2x4096x2048, .bf16⟩
  | .hbm, ⟨1, _⟩ => ⟨S2x4352x4096, .bf16⟩
  | .hbm, ⟨2, _⟩ => ⟨S8704x18432, .bf16⟩
  | .hbm, ⟨3, _⟩ => ⟨S1x2048x2048, .f32⟩
  | .hbm, ⟨4, _⟩ => ⟨S1x4096x2048, .f32⟩
  | .hbm, ⟨5, _⟩ => ⟨S2048x2048, .f32⟩
  | .hbm, ⟨6, _⟩ => ⟨S2048x2048, .bf16⟩
  | .hbm, ⟨7, _⟩ => ⟨S4096x2048, .f32⟩
  | .hbm, ⟨8, _⟩ => ⟨S4096x2048, .bf16⟩
  | .hbm, ⟨9, _⟩ => ⟨S2x4352x18432, .bf16⟩
  | .hbm, ⟨10, _⟩ => ⟨S2x4096x2048, .bf16⟩
  | .local _ .vmem, ⟨0, _⟩ => ⟨S1x256x2048, .bf16⟩
  | .local _ .vmem, ⟨1, _⟩ => ⟨S1x256x2048, .bf16⟩
  | .local _ .vmem, ⟨2, _⟩ => ⟨S1x256x4096, .bf16⟩
  | .local _ .vmem, ⟨3, _⟩ => ⟨S1x256x4096, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S2048x1024, .bf16⟩
  | .local _ .vmem, ⟨9, _⟩ => ⟨S2048x1024, .bf16⟩
  | .local _ .vmem, ⟨10, _⟩ => ⟨S4096x1024, .bf16⟩
  | .local _ .vmem, ⟨11, _⟩ => ⟨S4096x1024, .bf16⟩
  | .local _ .vmem, ⟨12, _⟩ => ⟨S1x256x1024, .bf16⟩
  | .local _ .vmem, ⟨13, _⟩ => ⟨S1x256x1024, .bf16⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 2, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  let c0_i32_0 : BitVec 32 := 0#32
  ![arg1.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c14_i32 : BitVec 32 := 14#32
  let v1 : BitVec 32 := Scalar.addi c14_i32 arg0
  let c0_i32 : BitVec 32 := 0#32
  ![arg1.toNat, v0.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c16_i32 : BitVec 32 := 16#32
  let v1 : BitVec 32 := Scalar.addi c16_i32 arg0
  let c0_i32 : BitVec 32 := 0#32
  ![arg1.toNat, v0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S4096x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceMergeIdeal.lean ====
abbrev S2x4096x2048 : Shape := ⟨3, ![2, 4096, 2048]⟩
abbrev S2x4352x4096 : Shape := ⟨3, ![2, 4352, 4096]⟩
abbrev S8704x18432 : Shape := ⟨2, ![8704, 18432]⟩
abbrev S1x2048x2048 : Shape := ⟨3, ![1, 2048, 2048]⟩
abbrev S1x4096x2048 : Shape := ⟨3, ![1, 4096, 2048]⟩
abbrev S2x4352x18432 : Shape := ⟨3, ![2, 4352, 18432]⟩
abbrev S2x4096x4096 : Shape := ⟨3, ![2, 4096, 4096]⟩
abbrev S_ : Shape := ⟨0, ![]⟩
abbrev S2048x2048 : Shape := ⟨2, ![2048, 2048]⟩
abbrev S4096x2048 : Shape := ⟨2, ![4096, 2048]⟩

abbrev nBuf : Space → Nat
  | .hbm => 29
  | .vmem => 0
  | .smem => 0
  | _ => 0

abbrev bufTy : (tb : Table) → Fin (tcTables nBuf tb) → BufTy
  | .hbm, ⟨0, _⟩ => ⟨S2x4096x2048, .bf16⟩
  | .hbm, ⟨1, _⟩ => ⟨S2x4352x4096, .bf16⟩
  | .hbm, ⟨2, _⟩ => ⟨S8704x18432, .bf16⟩
  | .hbm, ⟨3, _⟩ => ⟨S1x2048x2048, .f32⟩
  | .hbm, ⟨4, _⟩ => ⟨S1x4096x2048, .f32⟩
  | .hbm, ⟨5, _⟩ => ⟨S8704x18432, .f32⟩
  | .hbm, ⟨6, _⟩ => ⟨S2x4352x18432, .f32⟩
  | .hbm, ⟨7, _⟩ => ⟨S2x4096x4096, .f32⟩
  | .hbm, ⟨8, _⟩ => ⟨S2x4096x4096, .f32⟩
  | .hbm, ⟨9, _⟩ => ⟨S2x4096x4096, .f32⟩
  | .hbm, ⟨10, _⟩ => ⟨S_, .f32⟩
  | .hbm, ⟨11, _⟩ => ⟨S2x4096x4096, .f32⟩
  | .hbm, ⟨12, _⟩ => ⟨S2x4096x4096, .f32⟩
  | .hbm, ⟨13, _⟩ => ⟨S_, .f32⟩
  | .hbm, ⟨14, _⟩ => ⟨S2x4096x4096, .f32⟩
  | .hbm, ⟨15, _⟩ => ⟨S2x4096x4096, .f32⟩
  | .hbm, ⟨16, _⟩ => ⟨S2x4096x2048, .f32⟩
  | .hbm, ⟨17, _⟩ => ⟨S2x4096x2048, .f32⟩
  | .hbm, ⟨18, _⟩ => ⟨S2x4096x2048, .f32⟩
  | .hbm, ⟨19, _⟩ => ⟨S2048x2048, .f32⟩
  | .hbm, ⟨20, _⟩ => ⟨S2x4096x2048, .f32⟩
  | .hbm, ⟨21, _⟩ => ⟨S2x4096x2048, .f32⟩
  | .hbm, ⟨22, _⟩ => ⟨S2x4352x4096, .f32⟩
  | .hbm, ⟨23, _⟩ => ⟨S2x4096x4096, .f32⟩
  | .hbm, ⟨24, _⟩ => ⟨S4096x2048, .f32⟩
  | .hbm, ⟨25, _⟩ => ⟨S2x4096x2048, .f32⟩
  | .hbm, ⟨26, _⟩ => ⟨S2x4096x2048, .f32⟩
  | .hbm, ⟨27, _⟩ => ⟨S2x4096x2048, .f32⟩
  | .hbm, ⟨28, _⟩ => ⟨S2x4096x2048, .bf16⟩
  | _, _ => ⟨S2x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== KernelOutproj.lean ====
abbrev S2x4096x2048 : Shape := ⟨3, ![2, 4096, 2048]⟩
abbrev S2x4352x2048 : Shape := ⟨3, ![2, 4352, 2048]⟩
abbrev S1x2048x2048 : Shape := ⟨3, ![1, 2048, 2048]⟩
abbrev S1x2048 : Shape := ⟨2, ![1, 2048]⟩
abbrev S2048x2048 : Shape := ⟨2, ![2048, 2048]⟩
abbrev S2048 : Shape := ⟨1, ![2048]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩

abbrev nBuf : Space → Nat
  | .hbm => 10
  | .vmem => 10
  | .smem => 0
  | _ => 0

abbrev bufTy : (tb : Table) → Fin (tcTables nBuf tb) → BufTy
  | .hbm, ⟨0, _⟩ => ⟨S2x4096x2048, .bf16⟩
  | .hbm, ⟨1, _⟩ => ⟨S2x4352x2048, .f32⟩
  | .hbm, ⟨2, _⟩ => ⟨S1x2048x2048, .f32⟩
  | .hbm, ⟨3, _⟩ => ⟨S1x2048, .f32⟩
  | .hbm, ⟨4, _⟩ => ⟨S2048x2048, .f32⟩
  | .hbm, ⟨5, _⟩ => ⟨S2048x2048, .bf16⟩
  | .hbm, ⟨6, _⟩ => ⟨S2048, .f32⟩
  | .hbm, ⟨7, _⟩ => ⟨S1x2048, .f32⟩
  | .hbm, ⟨8, _⟩ => ⟨S2x4096x2048, .f32⟩
  | .hbm, ⟨9, _⟩ => ⟨S2x4096x2048, .bf16⟩
  | .local _ .vmem, ⟨0, _⟩ => ⟨S1x256x2048, .bf16⟩
  | .local _ .vmem, ⟨1, _⟩ => ⟨S1x256x2048, .bf16⟩
  | .local _ .vmem, ⟨2, _⟩ => ⟨S1x256x2048, .f32⟩
  | .local _ .vmem, ⟨3, _⟩ => ⟨S1x256x2048, .f32⟩
  | .local _ .vmem, ⟨4, _⟩ => ⟨S2048x2048, .bf16⟩
  | .local _ .vmem, ⟨5, _⟩ => ⟨S1x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .bf16⟩
  | .local _ .vmem, ⟨9, _⟩ => ⟨S1x256x2048, .bf16⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceOutprojIdeal.lean ====
abbrev S2x4096x2048 : Shape := ⟨3, ![2, 4096, 2048]⟩
abbrev S2x4352x2048 : Shape := ⟨3, ![2, 4352, 2048]⟩
abbrev S1x2048x2048 : Shape := ⟨3, ![1, 2048, 2048]⟩
abbrev S1x2048 : Shape := ⟨2, ![1, 2048]⟩
abbrev S2048x2048 : Shape := ⟨2, ![2048, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩

abbrev nBuf : Space → Nat
  | .hbm => 27
  | .vmem => 0
  | .smem => 0
  | _ => 0

abbrev bufTy : (tb : Table) → Fin (tcTables nBuf tb) → BufTy
  | .hbm, ⟨0, _⟩ => ⟨S2x4096x2048, .bf16⟩
  | .hbm, ⟨1, _⟩ => ⟨S2x4352x2048, .f32⟩
  | .hbm, ⟨2, _⟩ => ⟨S1x2048x2048, .f32⟩
  | .hbm, ⟨3, _⟩ => ⟨S1x2048, .f32⟩
  | .hbm, ⟨4, _⟩ => ⟨S2x4096x2048, .f32⟩
  | .hbm, ⟨5, _⟩ => ⟨S2x4096x2048, .f32⟩
  | .hbm, ⟨6, _⟩ => ⟨S2048x2048, .f32⟩
  | .hbm, ⟨7, _⟩ => ⟨S2x4096x2048, .f32⟩
  | .hbm, ⟨8, _⟩ => ⟨S2x4096x2048, .f32⟩
  | .hbm, ⟨9, _⟩ => ⟨S2048, .f32⟩
  | .hbm, ⟨10, _⟩ => ⟨S2x4096x2048, .f32⟩
  | .hbm, ⟨11, _⟩ => ⟨S_, .f32⟩
  | .hbm, ⟨12, _⟩ => ⟨S2x4096, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S_, .f32⟩
  | .hbm, ⟨18, _⟩ => ⟨S2x4096x1, .f32⟩
  | .hbm, ⟨19, _⟩ => ⟨S2x4096x1, .f32⟩
  | .hbm, ⟨20, _⟩ => ⟨S2x4096x1, .f32⟩
  | .hbm, ⟨21, _⟩ => ⟨S2x4096x2048, .f32⟩
  | .hbm, ⟨22, _⟩ => ⟨S2x4096x2048, .f32⟩
  | .hbm, ⟨23, _⟩ => ⟨S1x1x2048, .f32⟩
  | .hbm, ⟨24, _⟩ => ⟨S2x4096x2048, .f32⟩
  | .hbm, ⟨25, _⟩ => ⟨S2x4096x2048, .f32⟩
  | .hbm, ⟨26, _⟩ => ⟨S2x4096x2048, .bf16⟩
  | _, _ => ⟨S2x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== KernelFinal.lean ====
abbrev S8192x2048 : Shape := ⟨2, ![8192, 2048]⟩
abbrev S2048x8192 : Shape := ⟨2, ![2048, 8192]⟩
abbrev S2048 : Shape := ⟨1, ![2048]⟩
abbrev S1x2048 : Shape := ⟨2, ![1, 2048]⟩
abbrev S256x2048 : Shape := ⟨2, ![256, 2048]⟩
abbrev S2048x256 : Shape := ⟨2, ![2048, 256]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S2048, .f32⟩
  | .hbm, ⟨3, _⟩ => ⟨S1x2048, .f32⟩
  | .hbm, ⟨4, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S2048x256, .f32⟩
  | .local _ .vmem, ⟨3, _⟩ => ⟨S2048x256, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceFinalIdeal.lean ====
abbrev S8192x2048 : Shape := ⟨2, ![8192, 2048]⟩
abbrev S2048x8192 : Shape := ⟨2, ![2048, 8192]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.InprojRunIdeal.lean ====
/-
  The input projection (`KernelInprojIdeal`): what one grid point of the kernel does, and the run of the whole grid.

  The grid is 17 blocks of rows by 18 blocks of columns, the columns innermost. At the first column block of a row
  block the body normalizes the rows, keeps them in scratch and writes the tail columns; at every column block it
  multiplies the kept rows with the columns' weights. The scratch holds the normalized rows of the current row block
  between the points, and the tail's staging buffer the tail columns.
-/
module

public import proofs.«01_k».proof.Proof.Gen.KernelInprojIdeal.Frame
public import proofs.«01_k».proof.Proof.Gen.KernelInprojIdeal.Skeleton
public import Idealize.ShloMosaic.Lib.Claim
public import Idealize.ShloMosaic.Lib.Pipeline.TableIdle

@[expose] public section

set_option maxRecDepth 16384

noncomputable section

namespace Cert.KernelInprojIdeal.Hand

open Cert.KernelInprojIdeal Cert.KernelInprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What a point leaves -/

/-- All of a row block, -/
abbrev rRows : Rect S512x2048 := Rect.unit (s := S512x2048) ![0, 0] S512x2048.size inb_S512x2048_S512x2048_0_0
/-- of the norm's weights, -/
abbrev rNorm : Rect S1x2048 := Rect.unit (s := S1x2048) ![0, 0] S1x2048.size inb_S1x2048_S1x2048_0_0
/-- of a column block of the weights, -/
abbrev rCols : Rect S2048x1024 := Rect.unit (s := S2048x1024) ![0, 0] S2048x1024.size inb_S2048x1024_S2048x1024_0_0
/-- of the tail's weights, -/
abbrev rTailW : Rect S2048x256 := Rect.unit (s := S2048x256) ![0, 0] S2048x256.size inb_S2048x256_S2048x256_0_0
/-- of a block of the main result, -/
abbrev rMain : Rect S512x1024 := Rect.unit (s := S512x1024) ![0, 0] S512x1024.size inb_S512x1024_S512x1024_0_0
/-- and of a block of the tail. -/
abbrev rTail : Rect S512x256 := Rect.unit (s := S512x256) ![0, 0] S512x256.size inb_S512x256_S512x256_0_0

/-- The normalized rows, as the first column block leaves them in scratch. -/
def rowsOut (x : Vec F S512x2048 .f32) (nw : Vec F S1x2048 .f32) : Vec F S512x2048 .bf16 :=
  View.canon [⟨rRows, k0_pay2 (View.ld x rRows) (View.ld nw rNorm)⟩]

/-- The tail columns, as the first column block leaves them in the tail's staging buffer. -/
def tailOut (x : Vec F S512x2048 .f32) (nw : Vec F S1x2048 .f32) (wt : Vec F S2048x256 .bf16) : Vec F S512x256 .f32 :=
  View.canon [⟨rTail, k0_pay3 (View.ld x rRows) (View.ld nw rNorm) (View.ld wt rTailW)⟩]

/-- A block of the main result from the normalized rows and a block of the weights. -/
def mainOut (h : Vec F S512x2048 .bf16) (w : Vec F S2048x1024 .bf16) : Vec F S512x1024 .bf16 :=
  View.canon [⟨rMain, k0_pay4 (View.ld h rRows) (View.ld w rCols)⟩]

theorem rows_cover (p : Vec F S512x2048 .bf16) (y : S512x2048.Idx) :
    ∃ pc ∈ ([⟨rRows, p⟩] : List (View.Piece (Elt F) S512x2048 .bf16)), y ∈ pc.1.set :=
  View.cover_of_tiled [⟨rRows, p⟩] S512x2048.size (by rfl) y

theorem main_cover (p : Vec F S512x1024 .bf16) (y : S512x1024.Idx) :
    ∃ pc ∈ ([⟨rMain, p⟩] : List (View.Piece (Elt F) S512x1024 .bf16)), y ∈ pc.1.set :=
  View.cover_of_tiled [⟨rMain, p⟩] S512x1024.size (by rfl) y

theorem tail_cover (p : Vec F S512x256 .f32) (y : S512x256.Idx) :
    ∃ pc ∈ ([⟨rTail, p⟩] : List (View.Piece (Elt F) S512x256 .f32)), y ∈ pc.1.set :=
  View.cover_of_tiled [⟨rTail, p⟩] S512x256.size (by rfl) y

/-! ## The body at a point -/

set_option maxHeartbeats 1000000 in
/-- The first column block of a row block: the scratch and both results are written, whatever they held. -/
theorem body_first (c : Dev nD) (E : Set ℕ) (i : grid0.Coords) (hi : k0_cond1 i = 1#1)
    (arg2 : Memref sig .tc .vmem S512x2048 .f32) (harg2 : arg2.IsWhole) (arg3 : Memref sig .tc .vmem S1x2048 .f32) (harg3 : arg3.IsWhole)
    (arg4 : Memref sig .tc .vmem S2048x1024 .bf16) (harg4 : arg4.IsWhole) (arg5 : Memref sig .tc .vmem S2048x256 .bf16) (harg5 : arg5.IsWhole)
    (arg6 : Memref sig .tc .vmem S512x1024 .bf16) (harg6 : arg6.IsWhole) (arg7 : Memref sig .tc .vmem S512x256 .f32) (harg7 : arg7.IsWhole)
    (arg8 : Memref sig .tc .vmem S512x2048 .bf16) (harg8 : arg8.IsWhole)
    (x : Vec F S512x2048 .f32) (nw : Vec F S1x2048 .f32) (w : Vec F S2048x1024 .bf16) (wt : Vec F S2048x256 .bf16) (K : PUnit → sProp 𝕄) :
    iprop(owns (c : Thread nD τ) arg2 fullShare x ∗ owns (c : Thread nD τ) arg3 fullShare nw ∗ owns (c : Thread nD τ) arg4 fullShare w
        ∗ owns (c : Thread nD τ) arg5 fullShare wt ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare x ∗ owns (c : Thread nD τ) arg3 fullShare nw ∗ owns (c : Thread nD τ) arg4 fullShare w
          ∗ owns (c : Thread nD τ) arg5 fullShare wt ∗ owns (c : Thread nD τ) arg6 fullShare (mainOut (rowsOut x nw) w)
          ∗ owns (c : Thread nD τ) arg7 fullShare (tailOut x nw wt) ∗ owns (c : Thread nD τ) arg8 fullShare (rowsOut x nw)) -∗ K ⟨⟩))
      ⊢ wp frame (wpE (defs₀ (F := F)) Variants.none c none) E (cc0_inproj i arg2 harg2 arg3 harg3 arg4 harg4 arg5 harg5 arg6 harg6 arg7 harg7 arg8 harg8) K := by
  simp only [cc0_inproj_eq_skeleton]; unfold cc0_inproj_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf2 hf3 hf4 hf5
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [View.read_writes_eq_canon _ _ _ (main_cover _)]
    unfold body_first.sl.v3
    rw [View.readCov_eq_canon']
    rfl
  isplitl [H7]
  · iexists _; isplitr
    swap; · iexact H7
    ipureintro
    exact View.read_writes_eq_canon _ _ _ (tail_cover _)
  iexists _; isplitr
  swap; · iexact H8
  ipureintro
  exact View.read_writes_eq_canon _ _ _ (rows_cover _)

set_option maxHeartbeats 1000000 in
/-- A later column block: the scratch holds the normalized rows `h`, the tail's staging buffer is left alone. -/
theorem body_later (c : Dev nD) (E : Set ℕ) (i : grid0.Coords) (hi : ¬ k0_cond1 i = 1#1)
    (arg2 : Memref sig .tc .vmem S512x2048 .f32) (harg2 : arg2.IsWhole) (arg3 : Memref sig .tc .vmem S1x2048 .f32) (harg3 : arg3.IsWhole)
    (arg4 : Memref sig .tc .vmem S2048x1024 .bf16) (harg4 : arg4.IsWhole) (arg5 : Memref sig .tc .vmem S2048x256 .bf16) (harg5 : arg5.IsWhole)
    (arg6 : Memref sig .tc .vmem S512x1024 .bf16) (harg6 : arg6.IsWhole) (arg7 : Memref sig .tc .vmem S512x256 .f32) (harg7 : arg7.IsWhole)
    (arg8 : Memref sig .tc .vmem S512x2048 .bf16) (harg8 : arg8.IsWhole)
    (x : Vec F S512x2048 .f32) (nw : Vec F S1x2048 .f32) (w : Vec F S2048x1024 .bf16) (wt : Vec F S2048x256 .bf16)
    (tl : Vec F S512x256 .f32) (h : Vec F S512x2048 .bf16) (K : PUnit → sProp 𝕄) :
    iprop(owns (c : Thread nD τ) arg2 fullShare x ∗ owns (c : Thread nD τ) arg3 fullShare nw ∗ owns (c : Thread nD τ) arg4 fullShare w
        ∗ owns (c : Thread nD τ) arg5 fullShare wt ∗ (∃ d, owns (c : Thread nD τ) arg6 fullShare d) ∗ owns (c : Thread nD τ) arg7 fullShare tl
        ∗ owns (c : Thread nD τ) arg8 fullShare h
        ∗ (iprop(owns (c : Thread nD τ) arg2 fullShare x ∗ owns (c : Thread nD τ) arg3 fullShare nw ∗ owns (c : Thread nD τ) arg4 fullShare w
          ∗ owns (c : Thread nD τ) arg5 fullShare wt ∗ owns (c : Thread nD τ) arg6 fullShare (mainOut h w)
          ∗ owns (c : Thread nD τ) arg7 fullShare tl ∗ owns (c : Thread nD τ) arg8 fullShare h) -∗ K ⟨⟩))
      ⊢ wp frame (wpE (defs₀ (F := F)) Variants.none c none) E (cc0_inproj i arg2 harg2 arg3 harg3 arg4 harg4 arg5 harg5 arg6 harg6 arg7 harg7 arg8 harg8) K := by
  simp only [cc0_inproj_eq_skeleton]; unfold cc0_inproj_skel
  unfold owns
  iintro ⟨H2, H3, ⟨%f4, %hf4, H4⟩, H5, ⟨%d6, %f6, -, H6⟩, H7, ⟨%f8, %hf8, H8⟩, Hk⟩
  subst hf4 hf8
  sl_exec
  sl_step
  iapply Hk
  isplitl [H2]; · iexact H2
  isplitl [H3]; · iexact H3
  isplitl [H4]
  · iexists f4; isplitr; · ipureintro; rfl
    iexact H4
  isplitl [H5]; · iexact H5
  isplitl [H6]
  · iexists _; isplitr
    swap; · iexact H6
    ipureintro
    exact View.read_writes_eq_canon _ _ _ (main_cover _)
  isplitl [H7]; · iexact H7
  iexists f8; isplitr; · ipureintro; rfl
  iexact H8

variable (m : (ℓ : Loc nD τ sig) → Buf (Elt F) ℓ) (ρ : Dev nD → PrngReg)

/-! ## The proof data -/

/-- The normalized rows of the row block that point `t` belongs to. -/
def rowsAt (c : Dev nD) (t : Fin cfg0.N) : Vec F S512x2048 .bf16 := rowsOut (iblk m c 0 t) (iblk m c 1 t)

/-- The scratch before point `n`: from the second point on, the rows of the point before. -/
def scratchAt (c : Dev nD) (n : ℕ) (h : Vec F S512x2048 .bf16) : Prop :=
  ∀ t : Fin cfg0.N, t.val + 1 = n → h = rowsAt m c t

/-- The proof data: the inputs' buffers hold their blocks, the main result's what the point computes, the tail's the
    row block's tail; the scratch as `scratchAt` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => mainOut (rowsAt m c t) (iblk m c 2 t)
    | ⟨5, _⟩ => tailOut (iblk m c 0 t) (iblk m c 1 t) (iblk m c 3 t)
  Φ t := iprop((∃ h, ⌜scratchAt m c t.val h⌝ ∗ owns (c : Thread nD τ) (Memref.whole cc0_scratch0) fullShare h) ∗ ∃ r, prngReg c r)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = mainOut (rowsAt m c t) (iblk m c 2 t) := by dsimp only [dats]
theorem after0_5 (c : Dev nD) (t : Fin cfg0.N) : (dats m 0 c).after 5 t = tailOut (iblk m c 0 t) (iblk m c 1 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## Within a row block nothing moves but the column -/

/-- The first column block is where the body's condition holds. -/
theorem cond_iff : ∀ t : Fin grid0.N, (k0_cond1 (grid0.coords t) = 1#1) ↔ t.val % 18 = 0 := by decide +kernel

theorem lt_pred (t : Fin cfg0.N) : t.val - 1 < cfg0.N := Nat.lt_of_le_of_lt (Nat.sub_le _ _) t.isLt

/-- The rows' block does not move within a row block, -/
theorem iblk0_kept (c : Dev nD) (t : Fin cfg0.N) (ht : t.val % 18 ≠ 0) : iblk m c 0 ⟨t.val - 1, lt_pred t⟩ = iblk m c 0 t := by
  have hf : (cfg0.win 0).fetch t = false := Bool.eq_false_iff.mpr fun h => ht ((fetch0_0 t).mp h)
  have d : (cfg0.win 0).block.Idx → Elt F (cfg0.win 0).elt := iblk m c 0 t
  have h := ((dats m 0 c).before_unfetched_in 0 rfl t hf (fun _ => rfl) d).symm.trans (before0_0 m c t d)
  unfold Dat.kept at h
  rw [after0_0] at h
  exact h

/-- nor do the norm's weights -/
theorem iblk1_kept (c : Dev nD) (t : Fin cfg0.N) (ht : t.val % 18 ≠ 0) : iblk m c 1 ⟨t.val - 1, lt_pred t⟩ = iblk m c 1 t := by
  have hf : (cfg0.win 1).fetch t = false := Bool.eq_false_iff.mpr fun h => ht (by have := (fetch0_1 t).mp h; omega)
  have d : (cfg0.win 1).block.Idx → Elt F (cfg0.win 1).elt := iblk m c 1 t
  have h := ((dats m 0 c).before_unfetched_in 1 rfl t hf (fun _ => rfl) d).symm.trans (before0_1 m c t d)
  unfold Dat.kept at h
  rw [after0_1] at h
  exact h

/-- and the tail's. -/
theorem iblk3_kept (c : Dev nD) (t : Fin cfg0.N) (ht : t.val % 18 ≠ 0) : iblk m c 3 ⟨t.val - 1, lt_pred t⟩ = iblk m c 3 t := by
  have hf : (cfg0.win 3).fetch t = false := Bool.eq_false_iff.mpr fun h => ht (by have := (fetch0_3 t).mp h; omega)
  have d : (cfg0.win 3).block.Idx → Elt F (cfg0.win 3).elt := iblk m c 3 t
  have h := ((dats m 0 c).before_unfetched_in 3 rfl t hf (fun _ => rfl) d).symm.trans (before0_3 m c t d)
  unfold Dat.kept at h
  rw [after0_3] at h
  exact h

/-- The scratch a later column block finds is its row block's rows. -/
theorem scratch_later (c : Dev nD) (t : Fin cfg0.N) (ht : t.val % 18 ≠ 0) (h : Vec F S512x2048 .bf16) (hs : scratchAt m c t.val h) :
    h = rowsAt m c t := by
  have e := hs ⟨t.val - 1, lt_pred t⟩ (by show t.val - 1 + 1 = t.val; omega)
  rw [e]; unfold rowsAt; rw [iblk0_kept m c t ht, iblk1_kept m c t ht]

/-- The tail is stored at the first column blocks only. -/
theorem idle_iff (t : Fin cfg0.N) : cfg0.idle 5 (cfg0.grid.coords t) = true ↔ t.val % 18 ≠ 0 := by
  have h := cond_iff t
  show (!(k0_cond1 (grid0.coords t) == 1#1)) = true ↔ _
  rw [Bool.not_eq_true', beq_eq_false_iff_ne, ne_eq, h]

/-- Its staging buffer is fresh at the first column blocks only. -/
theorem fresh_iff : ∀ n, n < cfg0.N → (cfg0.fresh 5 n = true ↔ n % 18 = 0)
  | 0, _ => by rw [Pipeline.Cfg.fresh_zero]; simp
  | n + 1, hn => by
    have h : n < cfg0.N := by omega
    rw [Pipeline.Cfg.fresh_succ cfg0 5 n h, Bool.or_eq_true, Bool.and_eq_true, flush0_5 ⟨n, h⟩, idle_iff ⟨n, h⟩, fresh_iff n h]
    simp only
    omega

/-- The tail of a row block is one at all its points. -/
theorem tail_kept (c : Dev nD) (t : Fin cfg0.N) (ht : t.val % 18 ≠ 0) : (dats m 0 c).after 5 t = (dats m 0 c).after 5 ⟨t.val - 1, lt_pred t⟩ := by
  rw [after0_5, after0_5, iblk0_kept m c t ht, iblk1_kept m c t ht, iblk3_kept m c t ht]

/-- What a later column block finds in the tail's staging buffer is its row block's tail. -/
theorem tail_later (c : Dev nD) (t : Fin cfg0.N) (ht : t.val % 18 ≠ 0) (d) : (dats m 0 c).before 5 t d = (dats m 0 c).after 5 t := by
  rw [(dats m 0 c).before_out_traj 5 rfl (fun _ _ => rfl) (fun t _ hi _ => tail_kept m c t ((idle_iff t).mp hi)) t.val t rfl d,
    if_neg (by rw [fresh_iff t.val t.isLt]; exact ht), ← tail_kept m c t ht]

/-- So what it leaves there is what it found. -/
theorem tail_left (c : Dev nD) (t : Fin cfg0.N) : (owns (c : Thread nD τ) (st0_5 t) fullShare ((dats m 0 c).after 5 t) : sProp 𝕄)
    ⊢ (match cfg0.idle 5 (cfg0.grid.coords t) with
        | true => match (cfg0.win 5).flush t with
          | false => iprop(∃ d, owns (c : Thread nD τ) (st0_5 t) fullShare ((dats m 0 c).before 5 t d))
          | true => owns (c : Thread nD τ) (st0_5 t) fullShare ((dats m 0 c).after 5 t)
        | false => owns (c : Thread nD τ) (st0_5 t) fullShare ((dats m 0 c).after 5 t)) := by
  cases hi : cfg0.idle 5 (cfg0.grid.coords t)
  · exact .rfl
  · cases hf : (cfg0.win 5).flush t
    · iintro H
      iexists ((dats m 0 c).after 5 t)
      rw [tail_later m c t ((idle_iff t).mp hi)]
      iexact H
    · exact .rfl

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The invariant at a point, taken apart. -/
theorem Φ_eq (c : Dev nD) (t : Fin (cfg0.N + 1)) : (dats m 0 c).Φ t
    = iprop((∃ h, ⌜scratchAt m c t.val h⌝ ∗ owns (c : Thread nD τ) (Memref.whole cc0_scratch0) fullShare h) ∗ ∃ r, prngReg c r) := by
  dsimp only [dats]

/-- After a point the scratch holds that point's rows. -/
theorem scratch_succ (c : Dev nD) (t : Fin cfg0.N) : scratchAt m c t.succ.val (rowsAt m c t) := fun t' h => by
  obtain rfl : t' = t := Fin.ext (by simpa using h)
  rfl

/-- The body at a point: its triple at the point's blocks. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [Φ_eq, Φ_eq, show (dats m 0 c).owesAt () t.succ = (dats m 0 c).owesAt () t.castSucc from rfl,
    after0_0, after0_1, after0_2, after0_3, after0_4]
  by_cases ht : t.val % 18 = 0
  · rw [after0_5]
    iintro ⟨⟨⟨%h, -, Hs⟩, Hg⟩, Ho, ⟨%d0, H0⟩, ⟨%d1, H1⟩, ⟨%d2, H2⟩, ⟨%d3, H3⟩, ⟨%d4, H4⟩, ⟨%d5, H5⟩⟩
    iapply (body_first c Set.univ (grid0.coords t) ((cond_iff t).mpr ht) _ _ _ _ _ _ _ _ _ _ _ _ (Memref.whole cc0_scratch0) (Memref.isWhole_whole _)
      (iblk m c 0 t) (iblk m c 1 t) (iblk m c 2 t) (iblk m c 3 t) _)
    isplitl [H0]; · iexact H0
    isplitl [H1]; · iexact H1
    isplitl [H2]; · iexact H2
    isplitl [H3]; · iexact H3
    isplitl [H4]; · iexists _; iexact H4
    isplitl [H5]; · iexists _; iexact H5
    isplitl [Hs]; · iexists _; iexact Hs
    iintro ⟨H0, H1, H2, H3, H4, H5, Hs⟩
    isplitl [Hs Hg]
    · isplitl [Hs]
      · iexists _; isplitr
        swap; · iexact Hs
        ipureintro; exact scratch_succ m c t
      · iexact Hg
    isplitl [Ho]; · iexact Ho
    isplitl [H0]; · iexact H0
    isplitl [H1]; · iexact H1
    isplitl [H2]; · iexact H2
    isplitl [H3]; · iexact H3
    isplitl [H4]; · iexact H4
    iexact H5
  · simp only [tail_later m c t ht]
    iintro ⟨⟨⟨%h, %hs, Hs⟩, Hg⟩, Ho, ⟨%d0, H0⟩, ⟨%d1, H1⟩, ⟨%d2, H2⟩, ⟨%d3, H3⟩, ⟨%d4, H4⟩, ⟨%d5, H5⟩⟩
    obtain rfl := scratch_later m c t ht h hs
    iapply (body_later c Set.univ (grid0.coords t) (fun hi => ht ((cond_iff t).mp hi)) _ _ _ _ _ _ _ _ _ _ _ _ (Memref.whole cc0_scratch0) (Memref.isWhole_whole _)
      (iblk m c 0 t) (iblk m c 1 t) (iblk m c 2 t) (iblk m c 3 t) ((dats m 0 c).after 5 t) (rowsAt m c t) _)
    isplitl [H0]; · iexact H0
    isplitl [H1]; · iexact H1
    isplitl [H2]; · iexact H2
    isplitl [H3]; · iexact H3
    isplitl [H4]; · iexists _; iexact H4
    isplitl [H5]; · iexact H5
    isplitl [Hs]; · iexact Hs
    iintro ⟨H0, H1, H2, H3, H4, H5, Hs⟩
    isplitl [Hs Hg]
    · isplitl [Hs]
      · iexists _; isplitr
        swap; · iexact Hs
        ipureintro; exact scratch_succ m c t
      · iexact Hg
    isplitl [Ho]; · iexact Ho
    isplitl [H0]; · iexact H0
    isplitl [H1]; · iexact H1
    isplitl [H2]; · iexact H2
    isplitl [H3]; · iexact H3
    isplitl [H4]; · iexact H4
    iexact H5

theorem defs₀_row (t : Fin cfg0.N) : defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ := fun t => by
  rw [bigSep_W0, bigSep_W0, defs₀_row]
  refine triple_restated (body_at m c t) rfl .rfl fun _ => ?_
  unfold bodyPost
  iintro ⟨HΦ, Ho, H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iapply (tail_left m c t)
  iexact H5

/-! ## The run -/

/-- Before the first point the scratch may hold anything, -/
theorem enter (c : Dev nD) : Pipeline.ΦA (U := UR sig nD τ) (Val := Elt F) spec0 c ⊢ (dats m 0 c).Φ 0 := by
  rw [Φ_eq]; unfold Pipeline.ΦA; rw [scopedRest0_eq]; simp only [owns_whole_eq]
  iintro ⟨⟨%f, Hf⟩, Hg⟩
  isplitl [Hf]
  · iexists f; isplitr
    · ipureintro; intro t h; exact absurd h (Nat.succ_ne_zero _)
    · iexists f; isplitr; · ipureintro; rfl
      iexact Hf
  · iexact Hg

/-- and after the last it is forgotten. -/
theorem leave (c : Dev nD) : (dats m 0 c).Φ (Fin.last cfg0.N) ⊢ Pipeline.ΦA (U := UR sig nD τ) (Val := Elt F) spec0 c := by
  rw [Φ_eq]; unfold Pipeline.ΦA; rw [scopedRest0_eq]; simp only [owns_whole_eq]
  iintro ⟨⟨%h, -, %f, -, Hf⟩, Hg⟩
  isplitl [Hf]
  · iexists f; iexact Hf
  · iexact Hg

set_option backward.isDefEq.respectTransparency.types false in
set_option maxHeartbeats 800000 in
/-- The launch: every execution ends with the arrays at what the proof data computes and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enter m) (hout := leave m)

theorem run_main : θ_run defs (onTc (τ := τ) (main (F := F))) (s₀ m ρ) (Pipeline.FramePost cfgs (dats m) 0 (V m)) :=
  (θ_run defs _ _).mono (fun _ h => h.1) (run_quiescent m ρ)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.KernelInprojIdeal.Hand

end
-- ==== Proof.InprojValue.lean ====
/-
The input projection: what the kernel stores in a block of columns is the reference's projection at those columns.
-/
module

public import proofs.«01_k».proof.Proof.InprojRunIdeal
public import proofs.«01_k».proof.Proof.Gen.ReferenceInprojIdeal.Run
public import Idealize.ShloMosaic.Lib.Pipeline.ValueKit
public import Idealize.ShloMosaic.Lib.Pointwise
public import Idealize.ShloMosaic.Lib.Claim

@[expose] public section

set_option maxRecDepth 16384

noncomputable section

namespace Cert.ReferenceInprojIdeal.Value

open Cert.ReferenceInprojIdeal Cert.ReferenceInprojIdeal.Gen Idealize.ShloMosaic Idealize.ShloMosaic.TcCoe Idealize.SL.Sem

/-- The reference's normalised rows. -/
def normed (X0 : FVec Ideal S2x4352x2048 .f32) (X1 : FVec Ideal S1x2048 .f32) : FVec Ideal S2x4352x2048 .f32 :=
  mulf (mulf X0 (broadcastInDim S2x4352x2048 ![0, 1, 2] bcast_S2x4352x1_S2x4352x2048_0_1_2 (Host.rsqrt (addf (Host.divf (broadcastInDim S2x4352x1 ![0, 1] bcast_S2x4352_S2x4352x1_0_1 (Host.reduceAdd (mulf X0 X0) (constant (F := Ideal) S_ .f32 0x00000000#32) reducesTo_S2x4352x2048_S2x4352_d2 h_S_)) (broadcastInDim S2x4352x1 ![] bcast_S_S2x4352x1 (constant (F := Ideal) S_ .f32 0x45000000#32))) (broadcastInDim S2x4352x1 ![] bcast_S_S2x4352x1 (constant (F := Ideal) S_ .f32 0x358637BD#32)))))) (broadcastInDim S2x4352x2048 ![0, 1, 2] bcast_S1x1x2048_S2x4352x2048_0_1_2 (broadcastInDim S1x1x2048 ![2] bcast_S2048_S1x1x2048_2 (shapeCast _ X1 shapeCasts_S1x2048_S2048)))

/-- All columns of the reference's projection. -/
def proj (X0 : FVec Ideal S2x4352x2048 .f32) (X1 : FVec Ideal S1x2048 .f32) (X2 : FVec Ideal S1x2048x18576 .f32) : FVec Ideal S8704x18576 .f32 :=
  shapeCast _ (Host.dotGeneral dot_S2x4352x2048_S2048x18576_S2x4352x18576_2_0_01_1_n_n none (normed X0 X1) (shapeCast _ X2 shapeCasts_S1x2048x18576_S2048x18576)) shapeCasts_S2x4352x18576_S8704x18576

/-- The reference's first result: the columns the mixers and the gates read. -/
def mainOut (X0 : FVec Ideal S2x4352x2048 .f32) (X1 : FVec Ideal S1x2048 .f32) (X2 : FVec Ideal S1x2048x18576 .f32) : FVec Ideal S8704x18432 .bf16 :=
  truncf .bf16 ((concatenate S8704x18432 1 [⟨S8704x4096, ((extractStridedSlice S8704x4096 ![0, 0] (proj X0 X1 X2) slices_S8704x18576_S8704x4096_0_0) : (⟨S8704x4096, .f32⟩ : BufTy).Contents (Elt Ideal))⟩, ⟨S8704x10240, ((extractStridedSlice S8704x10240 ![0, 4176] (proj X0 X1 X2) slices_S8704x18576_S8704x10240_0_4176) : (⟨S8704x10240, .f32⟩ : BufTy).Contents (Elt Ideal))⟩, ⟨S8704x4096, ((extractStridedSlice S8704x4096 ![0, 14480] (proj X0 X1 X2) slices_S8704x18576_S8704x4096_0_14480) : (⟨S8704x4096, .f32⟩ : BufTy).Contents (Elt Ideal))⟩] concatenates_S8704x4096_S8704x10240_S8704x4096_S8704x18432_d1 : (⟨S8704x18432, .f32⟩ : BufTy).Contents (Elt Ideal))) bitsLt_bf16_f32

/-- The reference's second result: the narrow columns, padded with zeros. -/
def tailOut (X0 : FVec Ideal S2x4352x2048 .f32) (X1 : FVec Ideal S1x2048 .f32) (X2 : FVec Ideal S1x2048x18576 .f32) : FVec Ideal S8704x256 .f32 :=
  (concatenate S8704x256 1 [⟨S8704x80, ((extractStridedSlice S8704x80 ![0, 4096] (proj X0 X1 X2) slices_S8704x18576_S8704x80_0_4096) : (⟨S8704x80, .f32⟩ : BufTy).Contents (Elt Ideal))⟩, ⟨S8704x48, ((broadcastInDim S8704x48 ![] bcast_S_S8704x48 (constant (F := Ideal) S_ .f32 0x00000000#32)) : (⟨S8704x48, .f32⟩ : BufTy).Contents (Elt Ideal))⟩, ⟨S8704x64, ((extractStridedSlice S8704x64 ![0, 14416] (proj X0 X1 X2) slices_S8704x18576_S8704x64_0_14416) : (⟨S8704x64, .f32⟩ : BufTy).Contents (Elt Ideal))⟩, ⟨S8704x64, ((broadcastInDim S8704x64 ![] bcast_S_S8704x64 (constant (F := Ideal) S_ .f32 0x00000000#32)) : (⟨S8704x64, .f32⟩ : BufTy).Contents (Elt Ideal))⟩] concatenates_S8704x80_S8704x48_S8704x64_S8704x64_S8704x256_d1 : (⟨S8704x256, .f32⟩ : BufTy).Contents (Elt Ideal))

/-- The reference's run, its results as the terms above. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v26) = mainOut (m ((c.tc : Thread nD τ).loc main_arg0)) (m ((c.tc : Thread nD τ).loc main_arg1)) (m ((c.tc : Thread nD τ).loc main_arg2))
      ∧ r.2.mem ((c.tc : Thread nD τ).loc main_v25) = tailOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => h c) (run m ρ)

/-- The normalised rows at an index. -/
theorem normed_at (X0 : FVec Ideal S2x4352x2048 .f32) (X1 : FVec Ideal S1x2048 .f32) (b : Fin 2) (r : Fin 4352) (k : Fin 2048) :
    normed X0 X1 (ix3 b r k) = X0 (ix3 b r k) * Ideal.rsqrt (Ideal.div (∑ x, X0 (ix3 b r x) * X0 (ix3 b r x)) (Ideal.ofBits FTy.f32 1157627904#32) + Ideal.ofBits FTy.f32 897988541#32) * X1 (ix2 0 k) := by
  pointwise [normed]

/-- A column of the projection at a row. -/
theorem proj_at (X0 : FVec Ideal S2x4352x2048 .f32) (X1 : FVec Ideal S1x2048 .f32) (X2 : FVec Ideal S1x2048x18576 .f32) (r : Fin 8704) (k : Fin 18576) (h0) (h1) :
    proj X0 X1 X2 (ix2 r k) = ∑ x, normed X0 X1 (ix3 ⟨r.val / 4352, h0⟩ ⟨r.val % 4352, h1⟩ x) * X2 (ix3 0 x k) := by
  pointwise [proj]

end Cert.ReferenceInprojIdeal.Value

namespace Cert.KernelInprojIdeal.Value

open Cert.KernelInprojIdeal Cert.KernelInprojIdeal.Gen Idealize.ShloMosaic Idealize.ShloMosaic.TcCoe Idealize.SL.Sem
open Idealize.ShloMosaic.Pipeline (Dat)

variable (m : (ℓ : Loc nD τ sig) → Buf (Elt Ideal) ℓ)

/-- The block index of every window at every grid point. -/
theorem idx : ∀ t : Fin cfg0.N, win0_0.index t = ![t.val / 18, 0] ∧ win0_1.index t = ![0, 0] ∧ win0_2.index t = ![0, t.val % 18] ∧ win0_3.index t = ![0, 0] ∧ win0_4.index t = ![t.val / 18, t.val % 18] ∧ win0_5.index t = ![t.val / 18, 0] :=
  (by decide +kernel : ∀ t : Fin grid0.N, win0_0.index t = ![t.val / 18, 0] ∧ win0_1.index t = ![0, 0] ∧ win0_2.index t = ![0, t.val % 18] ∧ win0_3.index t = ![0, 0] ∧ win0_4.index t = ![t.val / 18, t.val % 18] ∧ win0_5.index t = ![t.val / 18, 0])

/-- The weights of the main columns, side by side. -/
def wMain (w : FVec Ideal S1x2048x18576 .f32) : FVec Ideal S2048x18432 .bf16 :=
  truncf .bf16 ((concatenate S2048x18432 1 [⟨S2048x4096, ((extractStridedSlice S2048x4096 ![0, 0] (shapeCast _ w shapeCasts_S1x2048x18576_S2048x18576) slices_S2048x18576_S2048x4096_0_0) : (⟨S2048x4096, .f32⟩ : BufTy).Contents (Elt Ideal))⟩, ⟨S2048x10240, ((extractStridedSlice S2048x10240 ![0, 4176] (shapeCast _ w shapeCasts_S1x2048x18576_S2048x18576) slices_S2048x18576_S2048x10240_0_4176) : (⟨S2048x10240, .f32⟩ : BufTy).Contents (Elt Ideal))⟩, ⟨S2048x4096, ((extractStridedSlice S2048x4096 ![0, 14480] (shapeCast _ w shapeCasts_S1x2048x18576_S2048x18576) slices_S2048x18576_S2048x4096_0_14480) : (⟨S2048x4096, .f32⟩ : BufTy).Contents (Elt Ideal))⟩] concatenates_S2048x4096_S2048x10240_S2048x4096_S2048x18432_d1 : (⟨S2048x18432, .f32⟩ : BufTy).Contents (Elt Ideal))) bitsLt_bf16_f32

/-- The weights of the narrow columns, padded with zero columns. -/
def wTail (w : FVec Ideal S1x2048x18576 .f32) : FVec Ideal S2048x256 .bf16 :=
  truncf .bf16 ((concatenate S2048x256 1 [⟨S2048x80, ((extractStridedSlice S2048x80 ![0, 4096] (shapeCast _ w shapeCasts_S1x2048x18576_S2048x18576) slices_S2048x18576_S2048x80_0_4096) : (⟨S2048x80, .f32⟩ : BufTy).Contents (Elt Ideal))⟩, ⟨S2048x48, ((broadcastInDim S2048x48 ![] bcast_S_S2048x48 (constant (F := Ideal) S_ .f32 0x00000000#32)) : (⟨S2048x48, .f32⟩ : BufTy).Contents (Elt Ideal))⟩, ⟨S2048x64, ((extractStridedSlice S2048x64 ![0, 14416] (shapeCast _ w shapeCasts_S1x2048x18576_S2048x18576) slices_S2048x18576_S2048x64_0_14416) : (⟨S2048x64, .f32⟩ : BufTy).Contents (Elt Ideal))⟩, ⟨S2048x64, ((broadcastInDim S2048x64 ![] bcast_S_S2048x64 (constant (F := Ideal) S_ .f32 0x00000000#32)) : (⟨S2048x64, .f32⟩ : BufTy).Contents (Elt Ideal))⟩] concatenates_S2048x80_S2048x48_S2048x64_S2048x64_S2048x256_d1 : (⟨S2048x256, .f32⟩ : BufTy).Contents (Elt Ideal))) bitsLt_bf16_f32

/-- The region finds the joined weights of the main columns. -/
theorem V_main_v5 (c : Dev nD) : V m c main_v5 = wMain (m ((c : Thread nD τ).loc main_arg2)) := by
  unfold V hostOps0
  after_results_simp <;> (try dsimp only [Matrix.cons_val]) <;> (try after_results_simp) <;> rfl

/-- The region finds the padded weights of the narrow columns. -/
theorem V_main_v11 (c : Dev nD) : V m c main_v11 = wTail (m ((c : Thread nD τ).loc main_arg2)) := by
  unfold V hostOps0
  after_results_simp <;> (try dsimp only [Matrix.cons_val]) <;> (try after_results_simp) <;> rfl

/-- The reference's main columns are the rows times the joined weights. -/
theorem main_at (X0 : FVec Ideal S2x4352x2048 .f32) (X1 : FVec Ideal S1x2048 .f32) (X2 : FVec Ideal S1x2048x18576 .f32) (r : Fin 8704) (j : Fin 18432) (h0) (h1) :
    Cert.ReferenceInprojIdeal.Value.mainOut X0 X1 X2 (ix2 r j)
      = ∑ x, Cert.ReferenceInprojIdeal.Value.normed X0 X1 (ix3 ⟨r.val / 4352, h0⟩ ⟨r.val % 4352, h1⟩ x) * wMain X2 (ix2 x j) := by
  pointwise [Cert.ReferenceInprojIdeal.Value.mainOut, wMain]
  split_ifs <;> exact Cert.ReferenceInprojIdeal.Value.proj_at _ _ _ _ _ h0 h1

/-- The reference's narrow columns are the rows times the padded weights. -/
theorem tail_at (X0 : FVec Ideal S2x4352x2048 .f32) (X1 : FVec Ideal S1x2048 .f32) (X2 : FVec Ideal S1x2048x18576 .f32) (r : Fin 8704) (j : Fin 256) (h0) (h1) :
    Cert.ReferenceInprojIdeal.Value.tailOut X0 X1 X2 (ix2 r j)
      = ∑ x, Cert.ReferenceInprojIdeal.Value.normed X0 X1 (ix3 ⟨r.val / 4352, h0⟩ ⟨r.val % 4352, h1⟩ x) * wTail X2 (ix2 x j) := by
  pointwise [Cert.ReferenceInprojIdeal.Value.tailOut, wTail]
  split_ifs <;> first
    | exact Cert.ReferenceInprojIdeal.Value.proj_at _ _ _ _ _ h0 h1
    | exact absurd rfl ‹_›
    | exact (Finset.sum_eq_zero (M := EReal) fun x _ => mul_zero (M₀ := EReal) _).symm

/-- The rows of the region's array, in the launched array's layout. -/
theorem rows (c : Dev nD) (r : Fin 8704) (k : Fin 2048) (h0) (h1) :
    (V m c main_v12 : S8704x2048.Idx → Ideal .f32) (ix2 r k) = (m ((c : Thread nD τ).loc main_arg0) : S2x4352x2048.Idx → Ideal .f32) (ix3 ⟨r.val / 4352, h0⟩ ⟨r.val % 4352, h1⟩ k) := by
  entry_read
  pointwise

/-- The norm's weights. -/
theorem normw (c : Dev nD) (k : Fin 2048) :
    (V m c main_v14 : S1x2048.Idx → Ideal .f32) (ix2 0 k) = (m ((c : Thread nD τ).loc main_arg1) : S1x2048.Idx → Ideal .f32) (ix2 0 k) := by
  entry_read
  pointwise

/-- The normalised rows a point's row block leaves, at an index. -/
theorem pay1_at (x : Vec Ideal S512x2048 .f32) (nw : Vec Ideal S1x2048 .f32) (r : Fin 512) (k : Fin 2048) :
    k0_pay1 x nw (ix2 r k) = x (ix2 r k) * Ideal.rsqrt (Ideal.div (∑ z, x (ix2 r z) * x (ix2 r z)) (Ideal.ofBits FTy.f32 1157627904#32) + Ideal.ofBits FTy.f32 897988541#32) * nw (ix2 0 k) := by
  pointwise [k0_pay1]

/-- The kept rows are the normalised rows. -/
theorem rowsOut_eq (x : Vec Ideal S512x2048 .f32) (nw : Vec Ideal S1x2048 .f32) (y) : Hand.rowsOut x nw y = k0_pay1 x nw y := by
  unfold Hand.rowsOut
  frame_out
  pointwise [k0_pay2]

/-- A row block's normalised rows are the reference's. -/
theorem block_rows (c : Dev nD) (t : Fin cfg0.N) (r : Fin 512) (k : Fin 2048) (h0) (h1) :
    k0_pay1 (iblk m c 0 t) (iblk m c 1 t) (ix2 r k)
      = Cert.ReferenceInprojIdeal.Value.normed (m ((c : Thread nD τ).loc main_arg0)) (m ((c : Thread nD τ).loc main_arg1))
          (ix3 ⟨(t.val / 18 * 512 + r.val) / 4352, h0⟩ ⟨(t.val / 18 * 512 + r.val) % 4352, h1⟩ k) := by
  have ht : t.val / 18 < 17 := by have : t.val < 306 := t.isLt; omega
  have hx : ∀ z : Fin 2048, iblk m c 0 t (ix2 r z) = (m ((c : Thread nD τ).loc main_arg0) : S2x4352x2048.Idx → Ideal .f32) (ix3 ⟨(t.val / 18 * 512 + r.val) / 4352, h0⟩ ⟨(t.val / 18 * 512 + r.val) % 4352, h1⟩ z) := by
    intro z
    refine Eq.trans ?_ (rows m c ⟨t.val / 18 * 512 + r.val, by omega⟩ z h0 h1)
    blk_point [iblk, idx t]
  have hn : iblk m c 1 t (ix2 0 k) = (m ((c : Thread nD τ).loc main_arg1) : S1x2048.Idx → Ideal .f32) (ix2 0 k) := by
    refine Eq.trans ?_ (normw m c k)
    blk_point [iblk, idx t]
  rw [pay1_at, Cert.ReferenceInprojIdeal.Value.normed_at, hn, hx k]
  simp only [hx]

/-- What a point stores in the main result is the reference's at the place of the block. -/
theorem point4 (c : Dev nD) (t : Fin cfg0.N) (y : S512x1024.Idx) :
    k0_pay4 (Hand.rowsAt m c t) (iblk m c 2 t) y = Cert.ReferenceInprojIdeal.Value.mainOut (m ((c : Thread nD τ).loc main_arg0)) (m ((c : Thread nD τ).loc main_arg1)) (m ((c : Thread nD τ).loc main_arg2)) (((cfg0.win 4).blk t).view.emb y) := by
  have ht : t.val / 18 < 17 := by have : t.val < 306 := t.isLt; omega
  have hy0 : (y 0).val < 512 := (y 0).isLt
  have hy1 : (y 1).val < 1024 := (y 1).isLt
  have e : (((cfg0.win 4).blk t).view.emb y : S8704x18432.Idx) = ix2 ⟨t.val / 18 * 512 + (y 0).val, by omega⟩ ⟨t.val % 18 * 1024 + (y 1).val, by omega⟩ := by
    blk_ext [idx t]
  rw [e, main_at _ _ _ _ _ (by show (t.val / 18 * 512 + (y 0).val) / 4352 < 2; omega) (Nat.mod_lt _ (by decide))]
  pointwise [k0_pay4]
  refine Finset.sum_congr rfl fun x _ => congrArg₂ _ ?_ ?_
  · rw [Hand.rowsAt, rowsOut_eq]
    exact block_rows m c t (y 0) x _ _
  · rw [← V_main_v5 m c]
    blk_point [iblk, idx t]

/-- What a point leaves for the tail is the reference's at the place of the block. -/
theorem point5 (c : Dev nD) (t : Fin cfg0.N) (y : S512x256.Idx) :
    k0_pay3 (iblk m c 0 t) (iblk m c 1 t) (iblk m c 3 t) y = Cert.ReferenceInprojIdeal.Value.tailOut (m ((c : Thread nD τ).loc main_arg0)) (m ((c : Thread nD τ).loc main_arg1)) (m ((c : Thread nD τ).loc main_arg2)) (((cfg0.win 5).blk t).view.emb y) := by
  have ht : t.val / 18 < 17 := by have : t.val < 306 := t.isLt; omega
  have hy0 : (y 0).val < 512 := (y 0).isLt
  have hy1 : (y 1).val < 256 := (y 1).isLt
  have e : (((cfg0.win 5).blk t).view.emb y : S8704x256.Idx) = ix2 ⟨t.val / 18 * 512 + (y 0).val, by omega⟩ (⟨(y 1).val, hy1⟩ : Fin 256) := by
    blk_ext [idx t]
  rw [e, tail_at _ _ _ _ _ (by show (t.val / 18 * 512 + (y 0).val) / 4352 < 2; omega) (Nat.mod_lt _ (by decide))]
  pointwise [k0_pay3]
  refine Finset.sum_congr rfl fun x _ => congrArg₂ _ ?_ ?_
  · exact block_rows m c t (y 0) x _ _
  · rw [← V_main_v11 m c]
    blk_point [iblk, idx t]

/-- The main result after the run is the reference's. -/
theorem final4 (c : Dev nD) : (Hand.dats m 0 c).arrAt 4 (cfgs 0).N = Cert.ReferenceInprojIdeal.Value.mainOut (m ((c : Thread nD τ).loc main_arg0)) (m ((c : Thread nD τ).loc main_arg1)) (m ((c : Thread nD τ).loc main_arg2)) := by
  refine (Hand.dats m 0 c).arrAt_eq_of_covers 4 _ (by decide +kernel) fun t _ y => ?_
  blk_simp
  rw [Hand.after0_4]
  unfold Hand.mainOut
  frame_out
  exact point4 m c t y

/-- The tail after the run is the reference's. -/
theorem final5 (c : Dev nD) : (Hand.dats m 0 c).arrAt 5 (cfgs 0).N = Cert.ReferenceInprojIdeal.Value.tailOut (m ((c : Thread nD τ).loc main_arg0)) (m ((c : Thread nD τ).loc main_arg1)) (m ((c : Thread nD τ).loc main_arg2)) := by
  refine (Hand.dats m 0 c).arrAt_eq_of_covers 5 _ (by decide +kernel) fun t _ y => ?_
  blk_simp
  rw [Hand.after0_5]
  unfold Hand.tailOut
  frame_out
  exact point5 m c t y

end Cert.KernelInprojIdeal.Value

end
-- ==== Proof.SsdSpecIdeal.lean ====
/-
  The recurrence of the layer (`KernelSsdIdeal`): what one grid point computes from its blocks, from the carried rows and
  from the carried state.

  A point is a batch, a chunk of 256 rows and a group of eight heads. It lays the last rows of the chunk before and its
  own rows one under the other, convolves them, takes step sizes and their running sums, and from these the chunk's
  output, the rows handed to the next chunk and the state handed to it.
-/
module

public import proofs.«01_k».proof.Proof.Gen.KernelSsdIdeal.Frame
public import proofs.«01_k».proof.Proof.Gen.KernelSsdIdeal.Skeleton
public import Idealize.ShloMosaic.Lib.WritesUnit
public import Idealize.ShloMosaic.Lib.Pointwise.Index

@[expose] public section

set_option maxRecDepth 16384

noncomputable section

namespace Cert.KernelSsdIdeal.Hand

open Cert.KernelSsdIdeal Cert.KernelSsdIdeal.Gen
open Idealize.ShloMosaic Idealize.ShloMosaic.TcCoe

variable {F : FTy → Type} [FloatOps F]

/-- The blocks a point reads. -/
structure Ins (F : FTy → Type) where
  z : Vec F S1x256x512 .bf16
  x : Vec F S1x256x512 .bf16
  b : Vec F S1x256x128 .bf16
  c : Vec F S1x256x128 .bf16
  dtc : Vec F S1x1x256x8 .f32
  dtr : Vec F S1x8x256 .f32
  cwx : Vec F S4x512 .f32
  cwb : Vec F S4x128 .f32
  cwc : Vec F S4x128 .f32
  cbx : Vec F S1x512 .f32
  cbb : Vec F S1x128 .f32
  cbc : Vec F S1x128 .f32
  dbc : Vec F S1x1x8 .f32
  dbr : Vec F S1x8x1 .f32
  alc : Vec F S1x1x8 .f32
  alr : Vec F S1x8x1 .f32
  dsk : Vec F S1x512 .f32
  nw : Vec F S1x512 .f32

/-! ## The rectangles that are loaded -/

abbrev rX : Rect S1x256x512 := Rect.unit (s := S1x256x512) ![0, 0, 0] S1x256x512.size inb_S1x256x512_S1x256x512_0_0_0
abbrev rB : Rect S1x256x128 := Rect.unit (s := S1x256x128) ![0, 0, 0] S1x256x128.size inb_S1x256x128_S1x256x128_0_0_0
abbrev rDtc : Rect S1x1x256x8 := Rect.unit (s := S1x1x256x8) ![0, 0, 0, 0] S1x1x256x8.size inb_S1x1x256x8_S1x1x256x8_0_0_0_0
abbrev rDtr : Rect S1x8x256 := Rect.unit (s := S1x8x256) ![0, 0, 0] S1x8x256.size inb_S1x8x256_S1x8x256_0_0_0
abbrev r512 : Rect S1x512 := Rect.unit (s := S1x512) ![0, 0] S1x512.size inb_S1x512_S1x512_0_0
abbrev r128 : Rect S1x128 := Rect.unit (s := S1x128) ![0, 0] S1x128.size inb_S1x128_S1x128_0_0
abbrev rRow : Rect S1x1x8 := Rect.unit (s := S1x1x8) ![0, 0, 0] S1x1x8.size inb_S1x1x8_S1x1x8_0_0_0
abbrev rCol : Rect S1x8x1 := Rect.unit (s := S1x8x1) ![0, 0, 0] S1x8x1.size inb_S1x8x1_S1x8x1_0_0_0

/-! ## The rows, convolved -/

/-- The carried rows and the chunk's own, one under the other. -/
def ext (I : Ins F) (cr : Vec F S1x8x768 .f32) : Vec F S264x768 .f32 :=
  View.canon [⟨Rect.unit (s := S264x768) ![8, 640] S256x128.size inb_S264x768_S256x128_8_640, k0_pay7 (View.ld I.c rB)⟩,
    ⟨Rect.unit (s := S264x768) ![8, 512] S256x128.size inb_S264x768_S256x128_8_512, k0_pay6 (View.ld I.b rB)⟩,
    ⟨Rect.unit (s := S264x768) ![8, 0] S256x512.size inb_S264x768_S256x512_8_0, k0_pay5 (View.ld I.x rX)⟩,
    ⟨Rect.unit (s := S264x768) ![0, 0] S8x768.size inb_S264x768_S8x768_0_0, k0_pay4 cr⟩]

/-- The rows handed to the next chunk: the last eight. -/
def carryNew (e : Vec F S264x768 .f32) : Vec F S1x8x768 .f32 :=
  k0_pay8 (View.ld e (Rect.unit (s := S264x768) ![256, 0] S8x768.size inb_S264x768_S8x768_256_0))

/-- The convolved inputs, -/
def xc (I : Ins F) (e : Vec F S264x768 .f32) : FVec F S256x512 .f32 :=
  k0_pay9 (View.ld I.cbx r512)
    (View.ld e (Rect.unit (s := S264x768) ![5, 0] S256x512.size inb_S264x768_S256x512_5_0)) (View.ld I.cwx (Rect.unit (s := S4x512) ![0, 0] S1x512.size inb_S4x512_S1x512_0_0))
    (View.ld e (Rect.unit (s := S264x768) ![6, 0] S256x512.size inb_S264x768_S256x512_6_0)) (View.ld I.cwx (Rect.unit (s := S4x512) ![1, 0] S1x512.size inb_S4x512_S1x512_1_0))
    (View.ld e (Rect.unit (s := S264x768) ![7, 0] S256x512.size inb_S264x768_S256x512_7_0)) (View.ld I.cwx (Rect.unit (s := S4x512) ![2, 0] S1x512.size inb_S4x512_S1x512_2_0))
    (View.ld e (Rect.unit (s := S264x768) ![8, 0] S256x512.size inb_S264x768_S256x512_8_0)) (View.ld I.cwx (Rect.unit (s := S4x512) ![3, 0] S1x512.size inb_S4x512_S1x512_3_0))

/-- the convolved rows that write the state -/
def bc (I : Ins F) (e : Vec F S264x768 .f32) : FVec F S256x128 .f32 :=
  k0_pay11 k0_pay10 (View.ld I.cbb r128)
    (View.ld e (Rect.unit (s := S264x768) ![5, 512] S256x128.size inb_S264x768_S256x128_5_512)) (View.ld I.cwb (Rect.unit (s := S4x128) ![0, 0] S1x128.size inb_S4x128_S1x128_0_0))
    (View.ld e (Rect.unit (s := S264x768) ![6, 512] S256x128.size inb_S264x768_S256x128_6_512)) (View.ld I.cwb (Rect.unit (s := S4x128) ![1, 0] S1x128.size inb_S4x128_S1x128_1_0))
    (View.ld e (Rect.unit (s := S264x768) ![7, 512] S256x128.size inb_S264x768_S256x128_7_512)) (View.ld I.cwb (Rect.unit (s := S4x128) ![2, 0] S1x128.size inb_S4x128_S1x128_2_0))
    (View.ld e (Rect.unit (s := S264x768) ![8, 512] S256x128.size inb_S264x768_S256x128_8_512)) (View.ld I.cwb (Rect.unit (s := S4x128) ![3, 0] S1x128.size inb_S4x128_S1x128_3_0))

/-- and those that read it. -/
def cc (I : Ins F) (e : Vec F S264x768 .f32) : FVec F S256x128 .f32 :=
  k0_pay13 (k0_pay12 (View.ld I.cbc r128))
    (View.ld e (Rect.unit (s := S264x768) ![5, 640] S256x128.size inb_S264x768_S256x128_5_640)) (View.ld I.cwc (Rect.unit (s := S4x128) ![0, 0] S1x128.size inb_S4x128_S1x128_0_0))
    (View.ld e (Rect.unit (s := S264x768) ![6, 640] S256x128.size inb_S264x768_S256x128_6_640)) (View.ld I.cwc (Rect.unit (s := S4x128) ![1, 0] S1x128.size inb_S4x128_S1x128_1_0))
    (View.ld e (Rect.unit (s := S264x768) ![7, 640] S256x128.size inb_S264x768_S256x128_7_640)) (View.ld I.cwc (Rect.unit (s := S4x128) ![2, 0] S1x128.size inb_S4x128_S1x128_2_0))
    (View.ld e (Rect.unit (s := S264x768) ![8, 640] S256x128.size inb_S264x768_S256x128_8_640)) (View.ld I.cwc (Rect.unit (s := S4x128) ![3, 0] S1x128.size inb_S4x128_S1x128_3_0))

/-! ## The step sizes and their running sums -/

/-- The step sizes, a column for each head, -/
def dtC (a : BitVec 32) (I : Ins F) : FVec F S256x8 .f32 :=
  k0_pay17 (k0_pay14 a) (k0_pay16 (View.ld I.dtc rDtc)) (View.ld I.dbc rRow)
/-- the same, a row for each head. -/
def dtR (a : BitVec 32) (I : Ins F) : FVec F S8x256 .f32 :=
  k0_pay18 (k0_pay15 a) (View.ld I.dtr rDtr) (View.ld I.dbr rCol)
/-- The running sums of the log decays, in columns -/
def acsC (a : BitVec 32) (I : Ins F) : FVec F S256x8 .f32 := k0_pay23 (dtC a I) (k0_pay19 (View.ld I.alc rRow))
/-- and in rows, -/
def acsR (a : BitVec 32) (I : Ins F) : FVec F S8x256 .f32 :=
  k0_pay29 (k0_pay22 (F := F)) (k0_pay26 (dtR a I) (View.ld I.alr rCol)) (k0_pay27 (dtR a I) (View.ld I.alr rCol)) (k0_pay28 (dtR a I) (View.ld I.alr rCol))
/-- their last column, -/
def aEnd (a : BitVec 32) (I : Ins F) : FVec F S8x1 .f32 :=
  k0_pay30 (k0_pay22 (F := F)) (k0_pay26 (dtR a I) (View.ld I.alr rCol)) (k0_pay27 (dtR a I) (View.ld I.alr rCol)) (k0_pay28 (dtR a I) (View.ld I.alr rCol))
/-- and the step sizes decayed to the end of the chunk. -/
def wdec (a : BitVec 32) (I : Ins F) : FVec F S8x256 .f32 :=
  k0_pay31 (dtR a I) (k0_pay22 (F := F)) (k0_pay26 (dtR a I) (View.ld I.alr rCol)) (k0_pay27 (dtR a I) (View.ld I.alr rCol)) (k0_pay28 (dtR a I) (View.ld I.alr rCol))

/-! ## One head -/

/-- A head's decays between two rows of the chunk: zero above the diagonal. -/
def decay (ac : FVec F S256x8 .f32) (ar : FVec F S8x256 .f32) (j : ℕ) (hc : S256x8.Slices ![0, j] S256x1) (hr : S8x256.Slices ![j, 0] S1x256) :
    FVec F S256x256 .f32 :=
  select k0_pay21
    (exp (select k0_pay21
      (subf (broadcastTo S256x256 (extractStridedSlice S256x1 ![0, j] ac hc) broadcasts_S256x1_S256x256)
        (broadcastTo S256x256 (extractStridedSlice S1x256 ![j, 0] ar hr) broadcasts_S1x256_S256x256))
      (broadcast S256x256 (Scalar.ofBits .f32 0x00000000#32))))
    (broadcast S256x256 (Scalar.ofBits .f32 0x00000000#32))

/-- A head's weights of the rows on the rows, -/
def mix (cb : FVec F S256x256 .f32) (ac : FVec F S256x8 .f32) (ar dt : FVec F S8x256 .f32) (j : ℕ)
    (hc : S256x8.Slices ![0, j] S256x1) (hr : S8x256.Slices ![j, 0] S1x256) : FVec F S256x256 .bf16 :=
  truncf .bf16 (mulf (mulf cb (decay ac ar j hc hr))
    (broadcastTo S256x256 (extractStridedSlice S1x256 ![j, 0] dt hr) broadcasts_S1x256_S256x256)) bitsLt_bf16_f32

/-- its weights of the carried state, -/
def seen (c : FVec F S256x128 .f32) (ac : FVec F S256x8 .f32) (j : ℕ) (hc : S256x8.Slices ![0, j] S256x1) : FVec F S256x128 .bf16 :=
  truncf .bf16 (mulf c (broadcastTo S256x128 (exp (extractStridedSlice S256x1 ![0, j] ac hc)) broadcasts_S256x1_S256x128)) bitsLt_bf16_f32

/-- what it puts out, for the 128 lanes of its pair of heads, -/
def headY (c : FVec F S256x128 .f32) (cb : FVec F S256x256 .f32) (ac : FVec F S256x8 .f32) (ar dt : FVec F S8x256 .f32)
    (xp : FVec F S256x128 .bf16) (sp : FVec F S128x128 .bf16) (j : ℕ)
    (hc : S256x8.Slices ![0, j] S256x1) (hr : S8x256.Slices ![j, 0] S1x256) : FVec F S256x128 .f32 :=
  addf (matmul dot_S256x256_S256x128_S256x128_1_0_0_1_n_n none (mix cb ac ar dt j hc hr) xp (constant S256x128 .f32 0x00000000#32))
    (matmul dot_S256x128_S128x128_S256x128_1_0_0_1_n_n none (seen c ac j hc) sp (constant S256x128 .f32 0x00000000#32))

/-- and what it adds to the state. -/
def headS (bt : FVec F S128x256 .f32) (wd : FVec F S8x256 .f32) (xp : FVec F S256x128 .bf16) (j : ℕ) (hr : S8x256.Slices ![j, 0] S1x256) :
    FVec F S128x128 .f32 :=
  matmul dot_S128x256_S256x128_S128x128_1_0_0_1_n_n none
    (truncf .bf16 (mulf bt (broadcastTo S128x256 (extractStridedSlice S1x256 ![j, 0] wd hr) broadcasts_S1x256_S128x256)) bitsLt_bf16_f32)
    xp (constant S128x128 .f32 0x00000000#32)

/-- Of a pair of heads the even one on the first 64 lanes, the odd one on the others: the output, -/
def pairOut (u v : FVec F S256x128 .f32) : FVec F S256x128 .f32 :=
  select (cmpi .slt (iota .tc S256x128 32 [1] iota_S256x128_d1_w32) (broadcast S256x128 64#32)) u v
/-- the state. -/
def pairState (u v : FVec F S128x128 .f32) : FVec F S128x128 .f32 :=
  select (cmpi .slt (iota .tc S128x128 32 [1] iota_S128x128_d1_w32) (broadcast S128x128 64#32)) u v

/-! ## All heads -/

/-- The output of all heads, before the skip and the gate. -/
def yAll (c : FVec F S256x128 .f32) (cb : FVec F S256x256 .f32) (ac : FVec F S256x8 .f32) (ar dt : FVec F S8x256 .f32)
    (x : FVec F S256x512 .bf16) (s : FVec F S128x512 .bf16) : FVec F S256x512 .f32 :=
  concatenate S256x512 1
    [⟨S256x128, pairOut
      (headY c cb ac ar dt (extractStridedSlice S256x128 ![0, 0] x slices_S256x512_o0_0_S256x128) (extractStridedSlice S128x128 ![0, 0] s slices_S128x512_o0_0_S128x128) 0 slices_S256x8_o0_0_S256x1 slices_S8x256_o0_0_S1x256)
      (headY c cb ac ar dt (extractStridedSlice S256x128 ![0, 0] x slices_S256x512_o0_0_S256x128) (extractStridedSlice S128x128 ![0, 0] s slices_S128x512_o0_0_S128x128) 1 slices_S256x8_o0_1_S256x1 slices_S8x256_o1_0_S1x256)⟩,
    ⟨S256x128, pairOut
      (headY c cb ac ar dt (extractStridedSlice S256x128 ![0, 128] x slices_S256x512_o0_128_S256x128) (extractStridedSlice S128x128 ![0, 128] s slices_S128x512_o0_128_S128x128) 2 slices_S256x8_o0_2_S256x1 slices_S8x256_o2_0_S1x256)
      (headY c cb ac ar dt (extractStridedSlice S256x128 ![0, 128] x slices_S256x512_o0_128_S256x128) (extractStridedSlice S128x128 ![0, 128] s slices_S128x512_o0_128_S128x128) 3 slices_S256x8_o0_3_S256x1 slices_S8x256_o3_0_S1x256)⟩,
    ⟨S256x128, pairOut
      (headY c cb ac ar dt (extractStridedSlice S256x128 ![0, 256] x slices_S256x512_o0_256_S256x128) (extractStridedSlice S128x128 ![0, 256] s slices_S128x512_o0_256_S128x128) 4 slices_S256x8_o0_4_S256x1 slices_S8x256_o4_0_S1x256)
      (headY c cb ac ar dt (extractStridedSlice S256x128 ![0, 256] x slices_S256x512_o0_256_S256x128) (extractStridedSlice S128x128 ![0, 256] s slices_S128x512_o0_256_S128x128) 5 slices_S256x8_o0_5_S256x1 slices_S8x256_o5_0_S1x256)⟩,
    ⟨S256x128, pairOut
      (headY c cb ac ar dt (extractStridedSlice S256x128 ![0, 384] x slices_S256x512_o0_384_S256x128) (extractStridedSlice S128x128 ![0, 384] s slices_S128x512_o0_384_S128x128) 6 slices_S256x8_o0_6_S256x1 slices_S8x256_o6_0_S1x256)
      (headY c cb ac ar dt (extractStridedSlice S256x128 ![0, 384] x slices_S256x512_o0_384_S256x128) (extractStridedSlice S128x128 ![0, 384] s slices_S128x512_o0_384_S128x128) 7 slices_S256x8_o0_7_S256x1 slices_S8x256_o7_0_S1x256)⟩]
    concatenates_S256x128_S256x128_S256x128_S256x128_S256x512_d1

/-- What all heads add to the state. -/
def sAll (bt : FVec F S128x256 .f32) (wd : FVec F S8x256 .f32) (x : FVec F S256x512 .bf16) : FVec F S128x512 .f32 :=
  concatenate S128x512 1
    [⟨S128x128, pairState (headS bt wd (extractStridedSlice S256x128 ![0, 0] x slices_S256x512_o0_0_S256x128) 0 slices_S8x256_o0_0_S1x256)
      (headS bt wd (extractStridedSlice S256x128 ![0, 0] x slices_S256x512_o0_0_S256x128) 1 slices_S8x256_o1_0_S1x256)⟩,
    ⟨S128x128, pairState (headS bt wd (extractStridedSlice S256x128 ![0, 128] x slices_S256x512_o0_128_S256x128) 2 slices_S8x256_o2_0_S1x256)
      (headS bt wd (extractStridedSlice S256x128 ![0, 128] x slices_S256x512_o0_128_S256x128) 3 slices_S8x256_o3_0_S1x256)⟩,
    ⟨S128x128, pairState (headS bt wd (extractStridedSlice S256x128 ![0, 256] x slices_S256x512_o0_256_S256x128) 4 slices_S8x256_o4_0_S1x256)
      (headS bt wd (extractStridedSlice S256x128 ![0, 256] x slices_S256x512_o0_256_S256x128) 5 slices_S8x256_o5_0_S1x256)⟩,
    ⟨S128x128, pairState (headS bt wd (extractStridedSlice S256x128 ![0, 384] x slices_S256x512_o0_384_S256x128) 6 slices_S8x256_o6_0_S1x256)
      (headS bt wd (extractStridedSlice S256x128 ![0, 384] x slices_S256x512_o0_384_S256x128) 7 slices_S8x256_o7_0_S1x256)⟩]
    concatenates_S128x128_S128x128_S128x128_S128x128_S128x512_d1

/-! ## What a point leaves -/

/-- The state handed to the next chunk. -/
def stateNew (a : BitVec 32) (I : Ins F) (e : Vec F S264x768 .f32) (s : Vec F S1x128x512 .f32) : Vec F S1x128x512 .f32 :=
  k0_pay72 (k0_pay35 s) (sAll (k0_pay33 (bc I e)) (wdec a I) (k0_pay34 (xc I e)))
    (k0_pay69 (aEnd a I) k0_pay67 k0_pay68) (k0_pay70 k0_pay67) (k0_pay71 (aEnd a I))

/-- The block of the result, as it is stored. -/
def outVal (a : BitVec 32) (I : Ins F) (e : Vec F S264x768 .f32) (s : Vec F S1x128x512 .f32) : Vec F S1x256x512 .bf16 :=
  k0_pay1 (k0_pay73 (xc I e) (yAll (cc I e) (k0_pay32 (bc I e) (cc I e)) (acsC a I) (acsR a I) (dtR a I) (k0_pay34 (xc I e)) (k0_pay36 s))
    (View.ld I.dsk r512) (View.ld I.z rX)) (k0_pay74 (View.ld I.nw r512))

/-- The block of the result. -/
def outNew (a : BitVec 32) (I : Ins F) (e : Vec F S264x768 .f32) (s : Vec F S1x128x512 .f32) : Vec F S1x256x512 .bf16 :=
  View.canon [⟨rX, outVal a I e s⟩]

theorem out_cover (p : Vec F S1x256x512 .bf16) (y : S1x256x512.Idx) :
    ∃ pc ∈ ([⟨rX, p⟩] : List (View.Piece (Elt F) S1x256x512 .bf16)), y ∈ pc.1.set :=
  View.cover_of_tiled [⟨rX, p⟩] S1x256x512.size (by rfl) y

/-- The group of heads of a point. -/
abbrev grp (i : grid0.Coords) : Fin 8 := i 2

/-- The chunk's number, as the body has it. -/
abbrev chunkNo (i : grid0.Coords) : BitVec 32 := BitVec.ofNat 32 (i 1).val

/-! ## The slabs of the two scratch buffers -/

/-- Group `g`'s state, -/
def getS (g : Fin 8) (S : Vec F S8x128x512 .f32) : Vec F S1x128x512 .f32 := fun y => S (ix3 g (y 1) (y 2))
/-- group `g`'s carried rows, -/
def getC (g : Fin 8) (S : Vec F S8x8x768 .f32) : Vec F S1x8x768 .f32 := fun y => S (ix3 g (y 1) (y 2))
/-- the states with group `g`'s replaced, -/
def setS (g : Fin 8) (p : Vec F S1x128x512 .f32) (S : Vec F S8x128x512 .f32) : Vec F S8x128x512 .f32 :=
  fun y => if (y 0).val = g.val then p (ix3 (0 : Fin 1) (y 1) (y 2)) else S y
/-- the carried rows with group `g`'s replaced. -/
def setC (g : Fin 8) (p : Vec F S1x8x768 .f32) (S : Vec F S8x8x768 .f32) : Vec F S8x8x768 .f32 :=
  fun y => if (y 0).val = g.val then p (ix3 (0 : Fin 1) (y 1) (y 2)) else S y

theorem off1_eq (i : grid0.Coords) : k0_off1 i = ![(i 2).val, 0, 0] := by
  have h : (i 2).val < 8 := (i 2).isLt
  unfold k0_off1 Scalar.indexCast
  generalize (i 2).val = n at h ⊢
  have e : ∀ n : Fin 8, (Scalar.indexCast (BitVec.ofNat 32 n.val) : Index).toNat = n.val := by decide
  exact congrArg (fun k : ℕ => (![k, 0, 0] : Fin 3 → ℕ)) (e ⟨n, h⟩)

theorem off2_eq (i : grid0.Coords) : k0_off2 i = ![(i 2).val, 0, 0] := off1_eq i
theorem off3_eq (i : grid0.Coords) : k0_off3 i = ![(i 2).val, 0, 0] := off1_eq i
theorem off4_eq (i : grid0.Coords) : k0_off4 i = ![(i 2).val, 0, 0] := off1_eq i

/-- A store of a group's state replaces that group's, -/
theorem read_slabS {sp : Space} (v : View sig .tc sp S8x128x512 .f32) (f : v.ty.Contents (Elt F)) (g : Fin 8) (off : Fin 3 → ℕ) (hoff : off = ![g.val, 0, 0])
    (inb : ∀ a, off a + S1x128x512.size a ≤ S8x128x512.size a) (p : Vec F S1x128x512 .f32) (L : List (View.Piece (Elt F) S8x128x512 .f32)) :
    v.read (Elt F) (v.writes (Elt F) f ((⟨Rect.unit (s := S8x128x512) off S1x128x512.size inb, p⟩ : View.Piece (Elt F) S8x128x512 .f32) :: L))
      = setS g p (v.read (Elt F) (v.writes (Elt F) f L)) := by
  funext y
  unfold setS
  split
  · rename_i h
    exact View.read_writes_cons_unit_of_mem v f inb p L y (ix3 (0 : Fin 1) (y 1) (y 2)) hoff (fun a => by
      fin_cases a
      · show (y 0).val = g.val + 0; omega
      · show (y 1).val = 0 + (y 1).val; omega
      · show (y 2).val = 0 + (y 2).val; omega)
  · rename_i h
    exact View.read_writes_cons_unit_of_not_mem v f inb p L y hoff 0 (by
      show (y 0).val < g.val ∨ g.val + 1 ≤ (y 0).val; omega)

/-- and so of its carried rows. -/
theorem read_slabC {sp : Space} (v : View sig .tc sp S8x8x768 .f32) (f : v.ty.Contents (Elt F)) (g : Fin 8) (off : Fin 3 → ℕ) (hoff : off = ![g.val, 0, 0])
    (inb : ∀ a, off a + S1x8x768.size a ≤ S8x8x768.size a) (p : Vec F S1x8x768 .f32) (L : List (View.Piece (Elt F) S8x8x768 .f32)) :
    v.read (Elt F) (v.writes (Elt F) f ((⟨Rect.unit (s := S8x8x768) off S1x8x768.size inb, p⟩ : View.Piece (Elt F) S8x8x768 .f32) :: L))
      = setC g p (v.read (Elt F) (v.writes (Elt F) f L)) := by
  funext y
  unfold setC
  split
  · rename_i h
    exact View.read_writes_cons_unit_of_mem v f inb p L y (ix3 (0 : Fin 1) (y 1) (y 2)) hoff (fun a => by
      fin_cases a
      · show (y 0).val = g.val + 0; omega
      · show (y 1).val = 0 + (y 1).val; omega
      · show (y 2).val = 0 + (y 2).val; omega)
  · rename_i h
    exact View.read_writes_cons_unit_of_not_mem v f inb p L y hoff 0 (by
      show (y 0).val < g.val ∨ g.val + 1 ≤ (y 0).val; omega)

/-- Replacing twice is replacing once, -/
theorem setS_setS (g : Fin 8) (p q : Vec F S1x128x512 .f32) (S : Vec F S8x128x512 .f32) : setS g p (setS g q S) = setS g p S := by
  funext y; unfold setS; split <;> rfl
theorem setC_setC (g : Fin 8) (p q : Vec F S1x8x768 .f32) (S : Vec F S8x8x768 .f32) : setC g p (setC g q S) = setC g p S := by
  funext y; unfold setC; split <;> rfl

/-- what was put is got, -/
theorem getS_setS (g : Fin 8) (p : Vec F S1x128x512 .f32) (S : Vec F S8x128x512 .f32) : getS g (setS g p S) = p := by
  funext y
  show (if g.val = g.val then p (ix3 (0 : Fin 1) (y 1) (y 2)) else _) = p y
  rw [if_pos rfl]
  congr 1
  funext a
  fin_cases a
  · exact Subsingleton.elim (α := Fin 1) _ _
  · rfl
  · rfl
theorem getC_setC (g : Fin 8) (p : Vec F S1x8x768 .f32) (S : Vec F S8x8x768 .f32) : getC g (setC g p S) = p := by
  funext y
  show (if g.val = g.val then p (ix3 (0 : Fin 1) (y 1) (y 2)) else _) = p y
  rw [if_pos rfl]
  congr 1
  funext a
  fin_cases a
  · exact Subsingleton.elim (α := Fin 1) _ _
  · rfl
  · rfl

/-- and another group's is left alone. -/
theorem getS_setS_ne (g h : Fin 8) (hn : h ≠ g) (p : Vec F S1x128x512 .f32) (S : Vec F S8x128x512 .f32) : getS h (setS g p S) = getS h S := by
  funext y
  exact if_neg (fun e : h.val = g.val => hn (Fin.ext e))
theorem getC_setC_ne (g h : Fin 8) (hn : h ≠ g) (p : Vec F S1x8x768 .f32) (S : Vec F S8x8x768 .f32) : getC h (setC g p S) = getC h S := by
  funext y
  exact if_neg (fun e : h.val = g.val => hn (Fin.ext e))

/-- A load of a group's state gets it, -/
theorem ld_slabS (g : Fin 8) (off : Fin 3 → ℕ) (hoff : off = ![g.val, 0, 0]) (inb : ∀ a, off a + S1x128x512.size a ≤ S8x128x512.size a) (S : Vec F S8x128x512 .f32) :
    View.ld S (Rect.unit (s := S8x128x512) off S1x128x512.size inb) = getS g S := by
  subst hoff
  funext y
  show S _ = S _
  congr 1
  funext a
  apply Fin.ext
  fin_cases a
  · show g.val + 1 * (y 0).val = g.val
    have : (y 0).val < 1 := (y 0).isLt
    omega
  · show 0 + 1 * (y 1).val = (y 1).val; omega
  · show 0 + 1 * (y 2).val = (y 2).val; omega
/-- and so of its carried rows. -/
theorem ld_slabC (g : Fin 8) (off : Fin 3 → ℕ) (hoff : off = ![g.val, 0, 0]) (inb : ∀ a, off a + S1x8x768.size a ≤ S8x8x768.size a) (S : Vec F S8x8x768 .f32) :
    View.ld S (Rect.unit (s := S8x8x768) off S1x8x768.size inb) = getC g S := by
  subst hoff
  funext y
  show S _ = S _
  congr 1
  funext a
  apply Fin.ext
  fin_cases a
  · show g.val + 1 * (y 0).val = g.val
    have : (y 0).val < 1 := (y 0).isLt
    omega
  · show 0 + 1 * (y 1).val = (y 1).val; omega
  · show 0 + 1 * (y 2).val = (y 2).val; omega

/-- A load through the rectangle last stored through gets what was stored. -/
theorem canon_top {s : Shape} {e : EltTy} (r : Rect s) (p : r.shape.Idx → Elt F e) (L : List (View.Piece (Elt F) s e)) :
    View.ld (View.canon ((⟨r, p⟩ : View.Piece (Elt F) s e) :: L)) r = p :=
  funext fun x => View.canon_cons_emb r p L x

end Cert.KernelSsdIdeal.Hand

end
-- ==== Proof.SsdFirstIdeal.lean ====
/-
  The recurrence of the layer (`KernelSsdIdeal`): the body at the first chunk of a batch.
-/
module

public import proofs.«01_k».proof.Proof.SsdSpecIdeal
public import Idealize.ShloMosaic.Lib.Claim

@[expose] public section

set_option maxRecDepth 16384

noncomputable section

namespace Cert.KernelSsdIdeal.Hand

open Cert.KernelSsdIdeal Cert.KernelSsdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- The first chunk: nothing is carried into it. -/
theorem body_first (c : Dev nD) (E : Set ℕ) (i : grid0.Coords) (hi : k0_cond1 i = 1#1)
    (arg3 : Memref sig .tc .vmem S1x256x512 .bf16) (harg3 : arg3.IsWhole) (arg4 : Memref sig .tc .vmem S1x256x512 .bf16) (harg4 : arg4.IsWhole)
    (arg5 : Memref sig .tc .vmem S1x256x128 .bf16) (harg5 : arg5.IsWhole) (arg6 : Memref sig .tc .vmem S1x256x128 .bf16) (harg6 : arg6.IsWhole)
    (arg7 : Memref sig .tc .vmem S1x1x256x8 .f32) (harg7 : arg7.IsWhole) (arg8 : Memref sig .tc .vmem S1x8x256 .f32) (harg8 : arg8.IsWhole)
    (arg9 : Memref sig .tc .vmem S4x512 .f32) (harg9 : arg9.IsWhole) (arg10 : Memref sig .tc .vmem S4x128 .f32) (harg10 : arg10.IsWhole)
    (arg11 : Memref sig .tc .vmem S4x128 .f32) (harg11 : arg11.IsWhole) (arg12 : Memref sig .tc .vmem S1x512 .f32) (harg12 : arg12.IsWhole)
    (arg13 : Memref sig .tc .vmem S1x128 .f32) (harg13 : arg13.IsWhole) (arg14 : Memref sig .tc .vmem S1x128 .f32) (harg14 : arg14.IsWhole)
    (arg15 : Memref sig .tc .vmem S1x1x8 .f32) (harg15 : arg15.IsWhole) (arg16 : Memref sig .tc .vmem S1x8x1 .f32) (harg16 : arg16.IsWhole)
    (arg17 : Memref sig .tc .vmem S1x1x8 .f32) (harg17 : arg17.IsWhole) (arg18 : Memref sig .tc .vmem S1x8x1 .f32) (harg18 : arg18.IsWhole)
    (arg19 : Memref sig .tc .vmem S1x512 .f32) (harg19 : arg19.IsWhole) (arg20 : Memref sig .tc .vmem S1x512 .f32) (harg20 : arg20.IsWhole)
    (arg21 : Memref sig .tc .vmem S1x256x512 .bf16) (harg21 : arg21.IsWhole) (arg22 : Memref sig .tc .vmem S8x128x512 .f32) (harg22 : arg22.IsWhole)
    (arg23 : Memref sig .tc .vmem S8x8x768 .f32) (harg23 : arg23.IsWhole) (arg24 : Memref sig .tc .vmem S264x768 .f32) (harg24 : arg24.IsWhole)
    (x3 : Vec F S1x256x512 .bf16) (x4 : Vec F S1x256x512 .bf16) (x5 : Vec F S1x256x128 .bf16) (x6 : Vec F S1x256x128 .bf16) (x7 : Vec F S1x1x256x8 .f32) (x8 : Vec F S1x8x256 .f32)
    (x9 : Vec F S4x512 .f32) (x10 : Vec F S4x128 .f32) (x11 : Vec F S4x128 .f32) (x12 : Vec F S1x512 .f32) (x13 : Vec F S1x128 .f32) (x14 : Vec F S1x128 .f32)
    (x15 : Vec F S1x1x8 .f32) (x16 : Vec F S1x8x1 .f32) (x17 : Vec F S1x1x8 .f32) (x18 : Vec F S1x8x1 .f32) (x19 : Vec F S1x512 .f32) (x20 : Vec F S1x512 .f32)
    (x22 : Vec F S8x128x512 .f32) (x23 : Vec F S8x8x768 .f32) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗
        owns (c : Thread nD τ) arg7 fullShare x7 ∗ owns (c : Thread nD τ) arg8 fullShare x8 ∗ owns (c : Thread nD τ) arg9 fullShare x9 ∗ owns (c : Thread nD τ) arg10 fullShare x10 ∗
        owns (c : Thread nD τ) arg11 fullShare x11 ∗ owns (c : Thread nD τ) arg12 fullShare x12 ∗ owns (c : Thread nD τ) arg13 fullShare x13 ∗ owns (c : Thread nD τ) arg14 fullShare x14 ∗
        owns (c : Thread nD τ) arg15 fullShare x15 ∗ owns (c : Thread nD τ) arg16 fullShare x16 ∗ owns (c : Thread nD τ) arg17 fullShare x17 ∗ owns (c : Thread nD τ) arg18 fullShare x18 ∗
        owns (c : Thread nD τ) arg19 fullShare x19 ∗ owns (c : Thread nD τ) arg20 fullShare x20 ∗
        (∃ d, owns (c : Thread nD τ) arg21 fullShare d) ∗ owns (c : Thread nD τ) arg22 fullShare x22 ∗ owns (c : Thread nD τ) arg23 fullShare x23 ∗ (∃ d, owns (c : Thread nD τ) arg24 fullShare d) ∗
        (iprop(owns (c : Thread nD τ) arg3 fullShare x3 ∗ owns (c : Thread nD τ) arg4 fullShare x4 ∗ owns (c : Thread nD τ) arg5 fullShare x5 ∗ owns (c : Thread nD τ) arg6 fullShare x6 ∗
          owns (c : Thread nD τ) arg7 fullShare x7 ∗ owns (c : Thread nD τ) arg8 fullShare x8 ∗ owns (c : Thread nD τ) arg9 fullShare x9 ∗ owns (c : Thread nD τ) arg10 fullShare x10 ∗
          owns (c : Thread nD τ) arg11 fullShare x11 ∗ owns (c : Thread nD τ) arg12 fullShare x12 ∗ owns (c : Thread nD τ) arg13 fullShare x13 ∗ owns (c : Thread nD τ) arg14 fullShare x14 ∗
          owns (c : Thread nD τ) arg15 fullShare x15 ∗ owns (c : Thread nD τ) arg16 fullShare x16 ∗ owns (c : Thread nD τ) arg17 fullShare x17 ∗ owns (c : Thread nD τ) arg18 fullShare x18 ∗
          owns (c : Thread nD τ) arg19 fullShare x19 ∗ owns (c : Thread nD τ) arg20 fullShare x20 ∗
          owns (c : Thread nD τ) arg21 fullShare (outNew (chunkNo i) ⟨x3, x4, x5, x6, x7, x8, x9, x10, x11, x12, x13, x14, x15, x16, x17, x18, x19, x20⟩ (ext ⟨x3, x4, x5, x6, x7, x8, x9, x10, x11, x12, x13, x14, x15, x16, x17, x18, x19, x20⟩ (k0_pay3 (F := F))) (k0_pay2 (F := F))) ∗
          owns (c : Thread nD τ) arg22 fullShare (setS (grp i) (stateNew (chunkNo i) ⟨x3, x4, x5, x6, x7, x8, x9, x10, x11, x12, x13, x14, x15, x16, x17, x18, x19, x20⟩ (ext ⟨x3, x4, x5, x6, x7, x8, x9, x10, x11, x12, x13, x14, x15, x16, x17, x18, x19, x20⟩ (k0_pay3 (F := F))) (k0_pay2 (F := F))) x22) ∗
          owns (c : Thread nD τ) arg23 fullShare (setC (grp i) (carryNew (ext ⟨x3, x4, x5, x6, x7, x8, x9, x10, x11, x12, x13, x14, x15, x16, x17, x18, x19, x20⟩ (k0_pay3 (F := F)))) x23) ∗ (∃ d, owns (c : Thread nD τ) arg24 fullShare d)) -∗ K ⟨⟩))
      ⊢ wp frame (wpE (defs₀ (F := F)) Variants.none c none) E (cc0_ssd i arg3 harg3 arg4 harg4 arg5 harg5 arg6 harg6 arg7 harg7 arg8 harg8 arg9 harg9 arg10 harg10 arg11 harg11 arg12 harg12 arg13 harg13 arg14 harg14
        arg15 harg15 arg16 harg16 arg17 harg17 arg18 harg18 arg19 harg19 arg20 harg20 arg21 harg21 arg22 harg22 arg23 harg23 arg24 harg24) K := by
  simp only [cc0_ssd_eq_skeleton]; unfold cc0_ssd_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%f22, %hf22, H22⟩, ⟨%f23, %hf23, H23⟩, ⟨%d24, %f24, -, H24⟩, Hk⟩
  subst hf3 hf4 hf5 hf6 hf7 hf8 hf9 hf10 hf11 hf12 hf13 hf14 hf15 hf16 hf17 hf18 hf19 hf20 hf22 hf23
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists _; isplitr
    swap; · iexact H21
    ipureintro
    rw [View.read_writes_eq_canon _ _ _ (out_cover _)]
    unfold outNew
    refine congrArg (fun p => View.canon [⟨rX, p⟩]) ?_
    delta body_first.sl.r body_first.sl.r_1 body_first.sl.r_2 body_first.sl.r_3 body_first.sl.r_4 body_first.sl.r_5 body_first.sl.r_6 body_first.sl.r_7 body_first.sl.r_8
          body_first.sl.r_9 body_first.sl.r_10 body_first.sl.r_11 body_first.sl.r_12 body_first.sl.r_13 body_first.sl.r_14 body_first.sl.r_15 body_first.sl.r_16 body_first.sl.r_17
          body_first.sl.r_18 body_first.sl.r_19 body_first.sl.r_20 body_first.sl.r_21 body_first.sl.r_22 body_first.sl.r_23 body_first.sl.r_24 body_first.sl.r_25 body_first.sl.r_26
          body_first.sl.r_27 body_first.sl.r_28 body_first.sl.r_29 body_first.sl.r_30 body_first.sl.r_31 body_first.sl.r_32 body_first.sl.r_33 body_first.sl.r_34 body_first.sl.r_35
          body_first.sl.r_36 body_first.sl.r_37 body_first.sl.r_38 body_first.sl.r_39 body_first.sl.r_40 body_first.sl.r_41 body_first.sl.r_42 body_first.sl.r_43 body_first.sl.r_44
          body_first.sl.r_45 body_first.sl.r_46 body_first.sl.r_47 body_first.sl.r_48 body_first.sl.r_49 body_first.sl.r_50 body_first.sl.r_51 body_first.sl.r_52 body_first.sl.r_53
          body_first.sl.r_54 body_first.sl.r_55 body_first.sl.r_56 body_first.sl.v4 body_first.sl.v27 body_first.sl.v37 body_first.sl.v43 body_first.sl.v49 body_first.sl.v55
          body_first.sl.v68 body_first.sl.v74 body_first.sl.v80 body_first.sl.v86 body_first.sl.v99 body_first.sl.v105 body_first.sl.v111 body_first.sl.v117 body_first.sl.v246
          body_first.sl.v249 body_first.sl.v250 body_first.sl.H24_4 body_first.sl.H22_1 body_first.sl.H23_1
    simp only [View.readCov_eq_canon']
    conv_rhs => rw [← canon_top (F := F) (e := .f32) (Rect.unit (s := S8x8x768) (k0_off2 i) S1x8x768.size (k0_off2_inb i hi)) (k0_pay3 (F := F)) []]
    conv_rhs => rw [← canon_top (F := F) (e := .f32) (Rect.unit (s := S8x128x512) (k0_off1 i) S1x128x512.size (k0_off1_inb i hi)) (k0_pay2 (F := F)) []]
    rfl
  isplitl [H22]
  · iexists _; isplitr
    swap; · iexact H22
    ipureintro
    rw [read_slabS _ _ (grp i) _ (off4_eq i)]
    refine (congrArg (fun p => setS (grp i) p _) (?_ : _ = stateNew (chunkNo i) ⟨arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20⟩ (ext ⟨arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20⟩ (k0_pay3 (F := F))) (k0_pay2 (F := F)))).trans ?_
    · delta body_first.sl.r body_first.sl.r_1 body_first.sl.r_2 body_first.sl.r_3 body_first.sl.r_4 body_first.sl.r_5 body_first.sl.r_6 body_first.sl.r_7 body_first.sl.r_8
          body_first.sl.r_9 body_first.sl.r_10 body_first.sl.r_11 body_first.sl.r_12 body_first.sl.r_13 body_first.sl.r_14 body_first.sl.r_15 body_first.sl.r_16 body_first.sl.r_17
          body_first.sl.r_18 body_first.sl.r_19 body_first.sl.r_20 body_first.sl.r_21 body_first.sl.r_22 body_first.sl.r_23 body_first.sl.r_24 body_first.sl.r_25 body_first.sl.r_26
          body_first.sl.r_27 body_first.sl.r_28 body_first.sl.r_29 body_first.sl.r_30 body_first.sl.r_31 body_first.sl.r_32 body_first.sl.r_33 body_first.sl.r_34 body_first.sl.r_35
          body_first.sl.r_36 body_first.sl.r_37 body_first.sl.r_38 body_first.sl.r_39 body_first.sl.r_40 body_first.sl.r_41 body_first.sl.r_42 body_first.sl.r_43 body_first.sl.r_44
          body_first.sl.r_45 body_first.sl.r_46 body_first.sl.r_47 body_first.sl.r_48 body_first.sl.r_49 body_first.sl.r_50 body_first.sl.r_51 body_first.sl.r_52 body_first.sl.r_53
          body_first.sl.r_54 body_first.sl.r_55 body_first.sl.r_56 body_first.sl.v4 body_first.sl.v27 body_first.sl.v37 body_first.sl.v43 body_first.sl.v49 body_first.sl.v55
          body_first.sl.v68 body_first.sl.v74 body_first.sl.v80 body_first.sl.v86 body_first.sl.v99 body_first.sl.v105 body_first.sl.v111 body_first.sl.v117 body_first.sl.v246
          body_first.sl.v249 body_first.sl.v250 body_first.sl.H24_4 body_first.sl.H22_1 body_first.sl.H23_1
      simp only [View.readCov_eq_canon']
      conv_rhs => rw [← canon_top (F := F) (e := .f32) (Rect.unit (s := S8x8x768) (k0_off2 i) S1x8x768.size (k0_off2_inb i hi)) (k0_pay3 (F := F)) []]
      conv_rhs => rw [← canon_top (F := F) (e := .f32) (Rect.unit (s := S8x128x512) (k0_off1 i) S1x128x512.size (k0_off1_inb i hi)) (k0_pay2 (F := F)) []]
      rfl
    · unfold body_first.sl.H22_1; rw [read_slabS _ _ (grp i) _ (off1_eq i), setS_setS]; rfl
  isplitl [H23]
  · iexists _; isplitr
    swap; · iexact H23
    ipureintro
    rw [read_slabC _ _ (grp i) _ (off3_eq i)]
    refine (congrArg (fun p => setC (grp i) p _) (?_ : _ = carryNew (ext ⟨arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20⟩ (k0_pay3 (F := F))))).trans ?_
    · delta body_first.sl.r body_first.sl.r_1 body_first.sl.r_2 body_first.sl.r_3 body_first.sl.r_4 body_first.sl.r_5 body_first.sl.r_6 body_first.sl.r_7 body_first.sl.r_8
          body_first.sl.r_9 body_first.sl.r_10 body_first.sl.r_11 body_first.sl.r_12 body_first.sl.r_13 body_first.sl.r_14 body_first.sl.r_15 body_first.sl.r_16 body_first.sl.r_17
          body_first.sl.r_18 body_first.sl.r_19 body_first.sl.r_20 body_first.sl.r_21 body_first.sl.r_22 body_first.sl.r_23 body_first.sl.r_24 body_first.sl.r_25 body_first.sl.r_26
          body_first.sl.r_27 body_first.sl.r_28 body_first.sl.r_29 body_first.sl.r_30 body_first.sl.r_31 body_first.sl.r_32 body_first.sl.r_33 body_first.sl.r_34 body_first.sl.r_35
          body_first.sl.r_36 body_first.sl.r_37 body_first.sl.r_38 body_first.sl.r_39 body_first.sl.r_40 body_first.sl.r_41 body_first.sl.r_42 body_first.sl.r_43 body_first.sl.r_44
          body_first.sl.r_45 body_first.sl.r_46 body_first.sl.r_47 body_first.sl.r_48 body_first.sl.r_49 body_first.sl.r_50 body_first.sl.r_51 body_first.sl.r_52 body_first.sl.r_53
          body_first.sl.r_54 body_first.sl.r_55 body_first.sl.r_56 body_first.sl.v4 body_first.sl.v27 body_first.sl.v37 body_first.sl.v43 body_first.sl.v49 body_first.sl.v55
          body_first.sl.v68 body_first.sl.v74 body_first.sl.v80 body_first.sl.v86 body_first.sl.v99 body_first.sl.v105 body_first.sl.v111 body_first.sl.v117 body_first.sl.v246
          body_first.sl.v249 body_first.sl.v250 body_first.sl.H24_4 body_first.sl.H22_1 body_first.sl.H23_1
      simp only [View.readCov_eq_canon']
      conv_rhs => rw [← canon_top (F := F) (e := .f32) (Rect.unit (s := S8x8x768) (k0_off2 i) S1x8x768.size (k0_off2_inb i hi)) (k0_pay3 (F := F)) []]
      rfl
    · unfold body_first.sl.H23_1; rw [read_slabC _ _ (grp i) _ (off2_eq i), setC_setC]; rfl
  iexists _; iexists _; isplitr
  swap; · iexact H24
  ipureintro; rfl

end Cert.KernelSsdIdeal.Hand

end
-- ==== Proof.SsdLaterIdeal.lean ====
/-
  The recurrence of the layer (`KernelSsdIdeal`): the body at a later chunk of a batch.
-/
module

public import proofs.«01_k».proof.Proof.SsdSpecIdeal
public import Idealize.ShloMosaic.Lib.Claim

@[expose] public section

set_option maxRecDepth 16384

noncomputable section

namespace Cert.KernelSsdIdeal.Hand

open Cert.KernelSsdIdeal Cert.KernelSsdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- A later chunk: it takes what its group of heads carried. -/
theorem body_later (c : Dev nD) (E : Set ℕ) (i : grid0.Coords) (hi : ¬ k0_cond1 i = 1#1)
    (arg3 : Memref sig .tc .vmem S1x256x512 .bf16) (harg3 : arg3.IsWhole) (arg4 : Memref sig .tc .vmem S1x256x512 .bf16) (harg4 : arg4.IsWhole)
    (arg5 : Memref sig .tc .vmem S1x256x128 .bf16) (harg5 : arg5.IsWhole) (arg6 : Memref sig .tc .vmem S1x256x128 .bf16) (harg6 : arg6.IsWhole)
    (arg7 : Memref sig .tc .vmem S1x1x256x8 .f32) (harg7 : arg7.IsWhole) (arg8 : Memref sig .tc .vmem S1x8x256 .f32) (harg8 : arg8.IsWhole)
    (arg9 : Memref sig .tc .vmem S4x512 .f32) (harg9 : arg9.IsWhole) (arg10 : Memref sig .tc .vmem S4x128 .f32) (harg10 : arg10.IsWhole)
    (arg11 : Memref sig .tc .vmem S4x128 .f32) (harg11 : arg11.IsWhole) (arg12 : Memref sig .tc .vmem S1x512 .f32) (harg12 : arg12.IsWhole)
    (arg13 : Memref sig .tc .vmem S1x128 .f32) (harg13 : arg13.IsWhole) (arg14 : Memref sig .tc .vmem S1x128 .f32) (harg14 : arg14.IsWhole)
    (arg15 : Memref sig .tc .vmem S1x1x8 .f32) (harg15 : arg15.IsWhole) (arg16 : Memref sig .tc .vmem S1x8x1 .f32) (harg16 : arg16.IsWhole)
    (arg17 : Memref sig .tc .vmem S1x1x8 .f32) (harg17 : arg17.IsWhole) (arg18 : Memref sig .tc .vmem S1x8x1 .f32) (harg18 : arg18.IsWhole)
    (arg19 : Memref sig .tc .vmem S1x512 .f32) (harg19 : arg19.IsWhole) (arg20 : Memref sig .tc .vmem S1x512 .f32) (harg20 : arg20.IsWhole)
    (arg21 : Memref sig .tc .vmem S1x256x512 .bf16) (harg21 : arg21.IsWhole) (arg22 : Memref sig .tc .vmem S8x128x512 .f32) (harg22 : arg22.IsWhole)
    (arg23 : Memref sig .tc .vmem S8x8x768 .f32) (harg23 : arg23.IsWhole) (arg24 : Memref sig .tc .vmem S264x768 .f32) (harg24 : arg24.IsWhole)
    (x3 : Vec F S1x256x512 .bf16) (x4 : Vec F S1x256x512 .bf16) (x5 : Vec F S1x256x128 .bf16) (x6 : Vec F S1x256x128 .bf16) (x7 : Vec F S1x1x256x8 .f32) (x8 : Vec F S1x8x256 .f32)
    (x9 : Vec F S4x512 .f32) (x10 : Vec F S4x128 .f32) (x11 : Vec F S4x128 .f32) (x12 : Vec F S1x512 .f32) (x13 : Vec F S1x128 .f32) (x14 : Vec F S1x128 .f32)
    (x15 : Vec F S1x1x8 .f32) (x16 : Vec F S1x8x1 .f32) (x17 : Vec F S1x1x8 .f32) (x18 : Vec F S1x8x1 .f32) (x19 : Vec F S1x512 .f32) (x20 : Vec F S1x512 .f32)
    (x22 : Vec F S8x128x512 .f32) (x23 : Vec F S8x8x768 .f32) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗
        owns (c : Thread nD τ) arg7 fullShare x7 ∗ owns (c : Thread nD τ) arg8 fullShare x8 ∗ owns (c : Thread nD τ) arg9 fullShare x9 ∗ owns (c : Thread nD τ) arg10 fullShare x10 ∗
        owns (c : Thread nD τ) arg11 fullShare x11 ∗ owns (c : Thread nD τ) arg12 fullShare x12 ∗ owns (c : Thread nD τ) arg13 fullShare x13 ∗ owns (c : Thread nD τ) arg14 fullShare x14 ∗
        owns (c : Thread nD τ) arg15 fullShare x15 ∗ owns (c : Thread nD τ) arg16 fullShare x16 ∗ owns (c : Thread nD τ) arg17 fullShare x17 ∗ owns (c : Thread nD τ) arg18 fullShare x18 ∗
        owns (c : Thread nD τ) arg19 fullShare x19 ∗ owns (c : Thread nD τ) arg20 fullShare x20 ∗
        (∃ d, owns (c : Thread nD τ) arg21 fullShare d) ∗ owns (c : Thread nD τ) arg22 fullShare x22 ∗ owns (c : Thread nD τ) arg23 fullShare x23 ∗ (∃ d, owns (c : Thread nD τ) arg24 fullShare d) ∗
        (iprop(owns (c : Thread nD τ) arg3 fullShare x3 ∗ owns (c : Thread nD τ) arg4 fullShare x4 ∗ owns (c : Thread nD τ) arg5 fullShare x5 ∗ owns (c : Thread nD τ) arg6 fullShare x6 ∗
          owns (c : Thread nD τ) arg7 fullShare x7 ∗ owns (c : Thread nD τ) arg8 fullShare x8 ∗ owns (c : Thread nD τ) arg9 fullShare x9 ∗ owns (c : Thread nD τ) arg10 fullShare x10 ∗
          owns (c : Thread nD τ) arg11 fullShare x11 ∗ owns (c : Thread nD τ) arg12 fullShare x12 ∗ owns (c : Thread nD τ) arg13 fullShare x13 ∗ owns (c : Thread nD τ) arg14 fullShare x14 ∗
          owns (c : Thread nD τ) arg15 fullShare x15 ∗ owns (c : Thread nD τ) arg16 fullShare x16 ∗ owns (c : Thread nD τ) arg17 fullShare x17 ∗ owns (c : Thread nD τ) arg18 fullShare x18 ∗
          owns (c : Thread nD τ) arg19 fullShare x19 ∗ owns (c : Thread nD τ) arg20 fullShare x20 ∗
          owns (c : Thread nD τ) arg21 fullShare (outNew (chunkNo i) ⟨x3, x4, x5, x6, x7, x8, x9, x10, x11, x12, x13, x14, x15, x16, x17, x18, x19, x20⟩ (ext ⟨x3, x4, x5, x6, x7, x8, x9, x10, x11, x12, x13, x14, x15, x16, x17, x18, x19, x20⟩ (getC (grp i) x23)) (getS (grp i) x22)) ∗
          owns (c : Thread nD τ) arg22 fullShare (setS (grp i) (stateNew (chunkNo i) ⟨x3, x4, x5, x6, x7, x8, x9, x10, x11, x12, x13, x14, x15, x16, x17, x18, x19, x20⟩ (ext ⟨x3, x4, x5, x6, x7, x8, x9, x10, x11, x12, x13, x14, x15, x16, x17, x18, x19, x20⟩ (getC (grp i) x23)) (getS (grp i) x22)) x22) ∗
          owns (c : Thread nD τ) arg23 fullShare (setC (grp i) (carryNew (ext ⟨x3, x4, x5, x6, x7, x8, x9, x10, x11, x12, x13, x14, x15, x16, x17, x18, x19, x20⟩ (getC (grp i) x23))) x23) ∗ (∃ d, owns (c : Thread nD τ) arg24 fullShare d)) -∗ K ⟨⟩))
      ⊢ wp frame (wpE (defs₀ (F := F)) Variants.none c none) E (cc0_ssd i arg3 harg3 arg4 harg4 arg5 harg5 arg6 harg6 arg7 harg7 arg8 harg8 arg9 harg9 arg10 harg10 arg11 harg11 arg12 harg12 arg13 harg13 arg14 harg14
        arg15 harg15 arg16 harg16 arg17 harg17 arg18 harg18 arg19 harg19 arg20 harg20 arg21 harg21 arg22 harg22 arg23 harg23 arg24 harg24) K := by
  simp only [cc0_ssd_eq_skeleton]; unfold cc0_ssd_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%f22, %hf22, H22⟩, ⟨%f23, %hf23, H23⟩, ⟨%d24, %f24, -, H24⟩, Hk⟩
  subst hf3 hf4 hf5 hf6 hf7 hf8 hf9 hf10 hf11 hf12 hf13 hf14 hf15 hf16 hf17 hf18 hf19 hf20 hf22 hf23
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists _; isplitr
    swap; · iexact H21
    ipureintro
    rw [View.read_writes_eq_canon _ _ _ (out_cover _)]
    unfold outNew
    refine congrArg (fun p => View.canon [⟨rX, p⟩]) ?_
    delta body_later.sl.r body_later.sl.r_1 body_later.sl.r_2 body_later.sl.r_3 body_later.sl.r_4 body_later.sl.r_5 body_later.sl.r_6 body_later.sl.r_7 body_later.sl.r_8
          body_later.sl.r_9 body_later.sl.r_10 body_later.sl.r_11 body_later.sl.r_12 body_later.sl.r_13 body_later.sl.r_14 body_later.sl.r_15 body_later.sl.r_16 body_later.sl.r_17
          body_later.sl.r_18 body_later.sl.r_19 body_later.sl.r_20 body_later.sl.r_21 body_later.sl.r_22 body_later.sl.r_23 body_later.sl.r_24 body_later.sl.r_25 body_later.sl.r_26
          body_later.sl.r_27 body_later.sl.r_28 body_later.sl.r_29 body_later.sl.r_30 body_later.sl.r_31 body_later.sl.r_32 body_later.sl.r_33 body_later.sl.r_34 body_later.sl.r_35
          body_later.sl.r_36 body_later.sl.r_37 body_later.sl.r_38 body_later.sl.r_39 body_later.sl.r_40 body_later.sl.r_41 body_later.sl.r_42 body_later.sl.r_43 body_later.sl.r_44
          body_later.sl.r_45 body_later.sl.r_46 body_later.sl.r_47 body_later.sl.r_48 body_later.sl.r_49 body_later.sl.r_50 body_later.sl.r_51 body_later.sl.r_52 body_later.sl.r_53
          body_later.sl.r_54 body_later.sl.r_55 body_later.sl.r_56 body_later.sl.v27 body_later.sl.v37 body_later.sl.v43 body_later.sl.v49 body_later.sl.v55 body_later.sl.v68
          body_later.sl.v74 body_later.sl.v80 body_later.sl.v86 body_later.sl.v99 body_later.sl.v105 body_later.sl.v111 body_later.sl.v117 body_later.sl.v249 body_later.sl.v250
          body_later.sl.H24_4
    simp only [View.readCov_eq_canon']
    rw [← ld_slabC (grp i) (k0_off3 i) (off3_eq i) (k0_off3_inb i)]
    rw [← ld_slabS (grp i) (k0_off4 i) (off4_eq i) (k0_off4_inb i)]
    rfl
  isplitl [H22]
  · iexists _; isplitr
    swap; · iexact H22
    ipureintro
    rw [read_slabS _ _ (grp i) _ (off4_eq i)]
    refine (congrArg (fun p => setS (grp i) p _) (?_ : _ = stateNew (chunkNo i) ⟨arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20⟩ (ext ⟨arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20⟩ (getC (grp i) (arg23.view.read (Elt F) f23))) (getS (grp i) (arg22.view.read (Elt F) f22)))).trans ?_
    · delta body_later.sl.r body_later.sl.r_1 body_later.sl.r_2 body_later.sl.r_3 body_later.sl.r_4 body_later.sl.r_5 body_later.sl.r_6 body_later.sl.r_7 body_later.sl.r_8
          body_later.sl.r_9 body_later.sl.r_10 body_later.sl.r_11 body_later.sl.r_12 body_later.sl.r_13 body_later.sl.r_14 body_later.sl.r_15 body_later.sl.r_16 body_later.sl.r_17
          body_later.sl.r_18 body_later.sl.r_19 body_later.sl.r_20 body_later.sl.r_21 body_later.sl.r_22 body_later.sl.r_23 body_later.sl.r_24 body_later.sl.r_25 body_later.sl.r_26
          body_later.sl.r_27 body_later.sl.r_28 body_later.sl.r_29 body_later.sl.r_30 body_later.sl.r_31 body_later.sl.r_32 body_later.sl.r_33 body_later.sl.r_34 body_later.sl.r_35
          body_later.sl.r_36 body_later.sl.r_37 body_later.sl.r_38 body_later.sl.r_39 body_later.sl.r_40 body_later.sl.r_41 body_later.sl.r_42 body_later.sl.r_43 body_later.sl.r_44
          body_later.sl.r_45 body_later.sl.r_46 body_later.sl.r_47 body_later.sl.r_48 body_later.sl.r_49 body_later.sl.r_50 body_later.sl.r_51 body_later.sl.r_52 body_later.sl.r_53
          body_later.sl.r_54 body_later.sl.r_55 body_later.sl.r_56 body_later.sl.v27 body_later.sl.v37 body_later.sl.v43 body_later.sl.v49 body_later.sl.v55 body_later.sl.v68
          body_later.sl.v74 body_later.sl.v80 body_later.sl.v86 body_later.sl.v99 body_later.sl.v105 body_later.sl.v111 body_later.sl.v117 body_later.sl.v249 body_later.sl.v250
          body_later.sl.H24_4
      simp only [View.readCov_eq_canon']
      rw [← ld_slabC (grp i) (k0_off3 i) (off3_eq i) (k0_off3_inb i)]
      rw [← ld_slabS (grp i) (k0_off4 i) (off4_eq i) (k0_off4_inb i)]
      rfl
    · rfl
  isplitl [H23]
  · iexists _; isplitr
    swap; · iexact H23
    ipureintro
    rw [read_slabC _ _ (grp i) _ (off3_eq i)]
    refine (congrArg (fun p => setC (grp i) p _) (?_ : _ = carryNew (ext ⟨arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20⟩ (getC (grp i) (arg23.view.read (Elt F) f23))))).trans ?_
    · delta body_later.sl.r body_later.sl.r_1 body_later.sl.r_2 body_later.sl.r_3 body_later.sl.r_4 body_later.sl.r_5 body_later.sl.r_6 body_later.sl.r_7 body_later.sl.r_8
          body_later.sl.r_9 body_later.sl.r_10 body_later.sl.r_11 body_later.sl.r_12 body_later.sl.r_13 body_later.sl.r_14 body_later.sl.r_15 body_later.sl.r_16 body_later.sl.r_17
          body_later.sl.r_18 body_later.sl.r_19 body_later.sl.r_20 body_later.sl.r_21 body_later.sl.r_22 body_later.sl.r_23 body_later.sl.r_24 body_later.sl.r_25 body_later.sl.r_26
          body_later.sl.r_27 body_later.sl.r_28 body_later.sl.r_29 body_later.sl.r_30 body_later.sl.r_31 body_later.sl.r_32 body_later.sl.r_33 body_later.sl.r_34 body_later.sl.r_35
          body_later.sl.r_36 body_later.sl.r_37 body_later.sl.r_38 body_later.sl.r_39 body_later.sl.r_40 body_later.sl.r_41 body_later.sl.r_42 body_later.sl.r_43 body_later.sl.r_44
          body_later.sl.r_45 body_later.sl.r_46 body_later.sl.r_47 body_later.sl.r_48 body_later.sl.r_49 body_later.sl.r_50 body_later.sl.r_51 body_later.sl.r_52 body_later.sl.r_53
          body_later.sl.r_54 body_later.sl.r_55 body_later.sl.r_56 body_later.sl.v27 body_later.sl.v37 body_later.sl.v43 body_later.sl.v49 body_later.sl.v55 body_later.sl.v68
          body_later.sl.v74 body_later.sl.v80 body_later.sl.v86 body_later.sl.v99 body_later.sl.v105 body_later.sl.v111 body_later.sl.v117 body_later.sl.v249 body_later.sl.v250
          body_later.sl.H24_4
      simp only [View.readCov_eq_canon']
      rw [← ld_slabC (grp i) (k0_off3 i) (off3_eq i) (k0_off3_inb i)]
      rfl
    · rfl
  iexists _; iexists _; isplitr
  swap; · iexact H24
  ipureintro; rfl

end Cert.KernelSsdIdeal.Hand

end
-- ==== Proof.SsdRunIdeal.lean ====
/-
  The recurrence of the layer (`KernelSsdIdeal`): the run of the whole grid.

  The grid is 2 batches by 17 chunks by 8 groups of heads, the groups innermost. Each group's carried rows and state stay in
  scratch from one chunk to the next: between two points the scratch holds, for each group, what its last chunk handed on.
-/
module

public import proofs.«01_k».proof.Proof.SsdFirstIdeal
public import proofs.«01_k».proof.Proof.SsdLaterIdeal
public import Idealize.ShloMosaic.Lib.Claim
public import Idealize.ShloMosaic.Lib.Pipeline.TableIdle

@[expose] public section

set_option maxRecDepth 16384

noncomputable section

namespace Cert.KernelSsdIdeal.Hand

open Cert.KernelSsdIdeal Cert.KernelSsdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What is handed from chunk to chunk -/

/-- The blocks of point `t`. -/
def ins (c : Dev nD) (t : Fin cfg0.N) : Ins F :=
  ⟨iblk m c 0 t, iblk m c 1 t, iblk m c 2 t, iblk m c 3 t, iblk m c 4 t, iblk m c 5 t,
    iblk m c 6 t, iblk m c 7 t, iblk m c 8 t, iblk m c 9 t, iblk m c 10 t, iblk m c 11 t,
    iblk m c 12 t, iblk m c 13 t, iblk m c 14 t, iblk m c 15 t, iblk m c 16 t, iblk m c 17 t⟩

/-- The point of the chunk before, of the same batch and group. -/
def prev (t : Fin cfg0.N) : Fin cfg0.N := ⟨t.val - 8, Nat.lt_of_le_of_lt (Nat.sub_le _ _) t.isLt⟩

/-- The chunk of a point. -/
def chunkOf (t : Fin cfg0.N) : ℕ := t.val / 8 % 17

/-- The rows carried into point `t`, `k` chunks after the first, -/
def carryIn (c : Dev nD) (k : ℕ) : Fin cfg0.N → Vec F S1x8x768 .f32 :=
  Nat.rec (motive := fun _ => Fin cfg0.N → Vec F S1x8x768 .f32) (fun _ => k0_pay3 (F := F))
    (fun _ r t => carryNew (ext (ins m c (prev t)) (r (prev t)))) k

theorem carryIn_zero (c : Dev nD) (t : Fin cfg0.N) : carryIn m c 0 t = k0_pay3 (F := F) := rfl
theorem carryIn_succ (c : Dev nD) (k : ℕ) (t : Fin cfg0.N) :
    carryIn m c (k + 1) t = carryNew (ext (ins m c (prev t)) (carryIn m c k (prev t))) := rfl

/-- and the state. -/
def stateIn (c : Dev nD) (k : ℕ) : Fin cfg0.N → Vec F S1x128x512 .f32 :=
  Nat.rec (motive := fun _ => Fin cfg0.N → Vec F S1x128x512 .f32) (fun _ => k0_pay2 (F := F))
    (fun k r t => stateNew (chunkNo (grid0.coords (prev t))) (ins m c (prev t)) (ext (ins m c (prev t)) (carryIn m c k (prev t))) (r (prev t))) k

theorem stateIn_zero (c : Dev nD) (t : Fin cfg0.N) : stateIn m c 0 t = k0_pay2 (F := F) := rfl
theorem stateIn_succ (c : Dev nD) (k : ℕ) (t : Fin cfg0.N) :
    stateIn m c (k + 1) t = stateNew (chunkNo (grid0.coords (prev t))) (ins m c (prev t))
      (ext (ins m c (prev t)) (carryIn m c k (prev t))) (stateIn m c k (prev t)) := rfl

/-- The rows of point `t`, -/
def extAt (c : Dev nD) (t : Fin cfg0.N) : Vec F S264x768 .f32 := ext (ins m c t) (carryIn m c (chunkOf t) t)

/-- the block of the result that it leaves, -/
def outAt (c : Dev nD) (t : Fin cfg0.N) : Vec F S1x256x512 .bf16 :=
  outNew (chunkNo (grid0.coords t)) (ins m c t) (extAt m c t) (stateIn m c (chunkOf t) t)

/-- and the state. -/
def stateAt (c : Dev nD) (t : Fin cfg0.N) : Vec F S1x128x512 .f32 :=
  stateNew (chunkNo (grid0.coords t)) (ins m c t) (extAt m c t) (stateIn m c (chunkOf t) t)

/-- The scratch before point `n`: for the next point of each group, unless it begins a batch, what that point takes. -/
def held (c : Dev nD) (n : ℕ) (S : Vec F S8x128x512 .f32) (C : Vec F S8x8x768 .f32) : Prop :=
  ∀ t : Fin cfg0.N, n ≤ t.val → t.val < n + 8 → chunkOf t ≠ 0 →
    getS (grp (grid0.coords t)) S = stateIn m c (chunkOf t) t ∧ getC (grp (grid0.coords t)) C = carryIn m c (chunkOf t) t

theorem grp_eq : ∀ t : Fin grid0.N, (grp (grid0.coords t)).val = t.val % 8 := by decide +kernel
theorem chunk_eq : ∀ t : Fin grid0.N, ((grid0.coords t) 1).val = t.val / 8 % 17 := by decide +kernel
theorem batch_eq : ∀ t : Fin grid0.N, ((grid0.coords t) 0).val = t.val / 136 := by decide +kernel
/-- The first chunk is where the body's condition holds. -/
theorem cond_iff : ∀ t : Fin grid0.N, (k0_cond1 (grid0.coords t) = 1#1) ↔ t.val / 8 % 17 = 0 := by decide +kernel

/-- A point leaves its group's scratch as the next chunk takes it, and the other groups' alone. -/
theorem held_succ (c : Dev nD) (t : Fin cfg0.N) (S : Vec F S8x128x512 .f32) (C : Vec F S8x8x768 .f32) (h : held m c t.val S C) :
    held m c (t.val + 1) (setS (grp (grid0.coords t)) (stateAt m c t) S) (setC (grp (grid0.coords t)) (carryNew (extAt m c t)) C) := by
  intro u h1 h2 h3
  by_cases he : u.val = t.val + 8
  · have hp : prev u = t := Fin.ext (by show u.val - 8 = t.val; omega)
    have hc : chunkOf u = chunkOf t + 1 := by unfold chunkOf at h3 ⊢; omega
    have hg : grp (grid0.coords u) = grp (grid0.coords t) := Fin.ext (by rw [grp_eq, grp_eq]; omega)
    rw [hg, getS_setS, getC_setC, hc]
    rw [stateIn_succ, carryIn_succ, hp]
    exact ⟨rfl, rfl⟩
  · have hg : grp (grid0.coords u) ≠ grp (grid0.coords t) := fun e => by
      have := congrArg Fin.val e
      rw [grp_eq, grp_eq] at this
      omega
    rw [getS_setS_ne _ _ hg, getC_setC_ne _ _ hg]
    exact h u (by omega) (by omega) h3

theorem outAt_first (c : Dev nD) (t : Fin cfg0.N) (h : chunkOf t = 0) :
    outAt m c t = outNew (chunkNo (grid0.coords t)) (ins m c t) (ext (ins m c t) (k0_pay3 (F := F))) (k0_pay2 (F := F)) := by
  unfold outAt extAt; rw [h, carryIn_zero, stateIn_zero]
theorem stateAt_first (c : Dev nD) (t : Fin cfg0.N) (h : chunkOf t = 0) :
    stateAt m c t = stateNew (chunkNo (grid0.coords t)) (ins m c t) (ext (ins m c t) (k0_pay3 (F := F))) (k0_pay2 (F := F)) := by
  unfold stateAt extAt; rw [h, carryIn_zero, stateIn_zero]
theorem extAt_first (c : Dev nD) (t : Fin cfg0.N) (h : chunkOf t = 0) : extAt m c t = ext (ins m c t) (k0_pay3 (F := F)) := by
  unfold extAt; rw [h, carryIn_zero]

/-! ## The proof data -/

/-- The proof data: the inputs' buffers hold their blocks, the result's what the point computes; the scratch as `held` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => outAt m c t
    | ⟨_ + 19, h⟩ => absurd h (Nat.not_lt.2 (Nat.le_add_left _ _))
  Φ t := iprop((∃ S C, ⌜held m c t.val S C⌝ ∗ owns (c : Thread nD τ) (Memref.whole cc0_scratch0) fullShare S ∗ owns (c : Thread nD τ) (Memref.whole cc0_scratch1) fullShare C)
    ∗ (∃ d, owns (c : Thread nD τ) (Memref.whole cc0_scratch2) fullShare d) ∗ ∃ r, prngReg c r)
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t))

/-- The invariant at a point, taken apart. -/
theorem Φ_eq (c : Dev nD) (t : Fin (cfg0.N + 1)) : (dats m 0 c).Φ t
    = iprop((∃ S C, ⌜held m c t.val S C⌝ ∗ owns (c : Thread nD τ) (Memref.whole cc0_scratch0) fullShare S ∗ owns (c : Thread nD τ) (Memref.whole cc0_scratch1) fullShare C)
    ∗ (∃ d, owns (c : Thread nD τ) (Memref.whole cc0_scratch2) fullShare d) ∗ ∃ r, prngReg c r) := by
  dsimp only [dats]

set_option maxHeartbeats 2000000 in
/-- The body at a point: its triple at the point's blocks. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8,
    before0_9, before0_10, before0_11, before0_12, before0_13, before0_14, before0_15, before0_16, before0_17]
  rw [Φ_eq, Φ_eq, show (dats m 0 c).owesAt () t.succ = (dats m 0 c).owesAt () t.castSucc from rfl,
    after0_0, after0_1, after0_2, after0_3, after0_4, after0_5, after0_6, after0_7, after0_8,
    after0_9, after0_10, after0_11, after0_12, after0_13, after0_14, after0_15, after0_16, after0_17,
    after0_18]
  by_cases ht : t.val / 8 % 17 = 0
  · rw [outAt_first m c t ht]
    iintro ⟨⟨⟨%S, %C, %hS, Hs, Hc⟩, ⟨%de, He⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply (body_first c Set.univ (grid0.coords t) ((cond_iff t).mpr ht) _ _ _ _ _ _ _ _ _ _ _ _ _ _ _ _ _ _ _ _ _ _ _ _ _ _ _ _ _ _ _ _ _ _ _ _ _ _ (Memref.whole cc0_scratch0) (Memref.isWhole_whole _) (Memref.whole cc0_scratch1) (Memref.isWhole_whole _)
      (Memref.whole cc0_scratch2) (Memref.isWhole_whole _) (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (iblk m c 13 t) (iblk m c 14 t) (iblk m c 15 t) (iblk m c 16 t) (iblk m c 17 t) S C _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    isplitl [Hs]; · iexact Hs
    isplitl [Hc]; · iexact Hc
    isplitl [He]; · iexists _; iexact He
    iintro ⟨H0, H1, H2, H3, H4, H5, H6, H7, H8, H9, H10, H11, H12, H13, H14, H15, H16, H17, H18, Hs, Hc, ⟨%de', He⟩⟩
    isplitl [Hs Hc He Hg]
    · isplitl [Hs Hc]
      · iexists _, _; isplitr
        swap
        · isplitl [Hs]; · iexact Hs
          iexact Hc
        ipureintro
        have hh := held_succ m c t S C hS
        rw [stateAt_first m c t ht, extAt_first m c t ht] at hh
        exact hh
      · isplitl [He]; · iexists _; iexact He
        iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  · iintro ⟨⟨⟨%S, %C, %hS, Hs, Hc⟩, ⟨%de, He⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    obtain ⟨e1, e2⟩ := (show held m c t.val S C from hS) t (Nat.le_refl _) (Nat.lt_add_of_pos_right (by decide)) ht
    have e3 : outAt m c t = outNew (chunkNo (grid0.coords t)) (ins m c t) (ext (ins m c t) (getC (grp (grid0.coords t)) C)) (getS (grp (grid0.coords t)) S) := by
      rw [e1, e2]; rfl
    rw [e3]
    iapply (body_later c Set.univ (grid0.coords t) (fun hi => ht ((cond_iff t).mp hi)) _ _ _ _ _ _ _ _ _ _ _ _ _ _ _ _ _ _ _ _ _ _ _ _ _ _ _ _ _ _ _ _ _ _ _ _ _ _ (Memref.whole cc0_scratch0) (Memref.isWhole_whole _) (Memref.whole cc0_scratch1) (Memref.isWhole_whole _)
      (Memref.whole cc0_scratch2) (Memref.isWhole_whole _) (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (iblk m c 13 t) (iblk m c 14 t) (iblk m c 15 t) (iblk m c 16 t) (iblk m c 17 t) S C _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    isplitl [Hs]; · iexact Hs
    isplitl [Hc]; · iexact Hc
    isplitl [He]; · iexists _; iexact He
    iintro ⟨H0, H1, H2, H3, H4, H5, H6, H7, H8, H9, H10, H11, H12, H13, H14, H15, H16, H17, H18, Hs, Hc, ⟨%de', He⟩⟩
    isplitl [Hs Hc He Hg]
    · isplitl [Hs Hc]
      · iexists _, _; isplitr
        swap
        · isplitl [Hs]; · iexact Hs
          iexact Hc
        ipureintro
        have hh := held_succ m c t S C hS
        unfold stateAt extAt at hh
        rw [← e1, ← e2] at hh
        exact hh
      · isplitl [He]; · iexists _; iexact He
        iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18

theorem defs₀_row (t : Fin cfg0.N) : defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ := fun t => by
  rw [bigSep_W0, bigSep_W0, defs₀_row]
  exact triple_restated (body_at m c t) rfl .rfl fun _ => .rfl

/-! ## The run -/

/-- Before the first point the scratch may hold anything, -/
theorem enter (c : Dev nD) : Pipeline.ΦA (U := UR sig nD τ) (Val := Elt F) spec0 c ⊢ (dats m 0 c).Φ 0 := by
  rw [Φ_eq]; unfold Pipeline.ΦA; rw [scopedRest0_eq]; simp only [owns_whole_eq]
  iintro ⟨⟨⟨%f, Hf⟩, ⟨%g, Hc⟩, ⟨%e, He⟩⟩, Hg⟩
  isplitl [Hf Hc]
  · iexists f, g; isplitr
    · ipureintro; intro t h1 h2 h3; exact absurd (show t.val / 8 % 17 = 0 by have : t.val < 0 + 8 := h2; omega) h3
    · isplitl [Hf]
      · iexists f; isplitr; · ipureintro; rfl
        iexact Hf
      · iexists g; isplitr; · ipureintro; rfl
        iexact Hc
  isplitl [He]
  · iexists e; iexists e; isplitr; · ipureintro; rfl
    iexact He
  iexact Hg

/-- and after the last it is forgotten. -/
theorem leave (c : Dev nD) : (dats m 0 c).Φ (Fin.last cfg0.N) ⊢ Pipeline.ΦA (U := UR sig nD τ) (Val := Elt F) spec0 c := by
  rw [Φ_eq]; unfold Pipeline.ΦA; rw [scopedRest0_eq]; simp only [owns_whole_eq]
  iintro ⟨⟨%S, %C, -, ⟨%f, -, Hf⟩, ⟨%g, -, Hc⟩⟩, ⟨%d, %e, -, He⟩, Hg⟩
  isplitl [Hf Hc He]
  · isplitl [Hf]; · iexists f; iexact Hf
    isplitl [Hc]; · iexists g; iexact Hc
    iexists e; iexact He
  · iexact Hg

set_option backward.isDefEq.respectTransparency.types false in
set_option maxHeartbeats 800000 in
/-- The launch: every execution ends with the arrays at what the proof data computes and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := enter m) (hout := leave m)

theorem run_main : θ_run defs (onTc (τ := τ) (main (F := F))) (s₀ m ρ) (Pipeline.FramePost cfgs (dats m) 0 (V m)) :=
  (θ_run defs _ _).mono (fun _ h => h.1) (run_quiescent m ρ)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_quiescent m ρ))

end Cert.KernelSsdIdeal.Hand

end
-- ==== Proof.SsdRefTerms.lean ====
/-
  The reference of the recurrence: the arrays on its way, each as a term of the arguments.
-/
module

public import proofs.«01_k».proof.Proof.Gen.ReferenceSsdIdeal
public import Idealize.ShloMosaic.Lib.StableHlo.Run
public import Idealize.ShloMosaic.Lib.Pipeline.Frame

@[expose] public section

set_option Elab.async false

noncomputable section

namespace Cert.ReferenceSsdIdeal.Hand

open Cert.ReferenceSsdIdeal Cert.ReferenceSsdIdeal.Gen Idealize.ShloMosaic Idealize.ShloMosaic.TcCoe Idealize.SL.Sem Idealize.ShloMosaic.StableHlo

variable {F : FTy → Type} [FloatOps F]
set_option maxRecDepth 8192

/-- The arguments. -/
structure Args (F : FTy → Type) where
  a0 : FVec F S8704x18432 .bf16
  a1 : FVec F S2x4352x64 .f32
  a2 : FVec F S4x6144 .f32
  a3 : FVec F S6144 .f32
  a4 : FVec F S64 .f32
  a5 : FVec F S64 .f32
  a6 : FVec F S64 .f32
  a7 : FVec F S4096 .f32

/-- The arguments in the buffers. -/
def args (V0 : Valuation τ sig (Elt F)) : Args F :=
  ⟨V0 (Proc.devRef .tc main_arg0), V0 (Proc.devRef .tc main_arg1), V0 (Proc.devRef .tc main_arg2), V0 (Proc.devRef .tc main_arg3), V0 (Proc.devRef .tc main_arg4), V0 (Proc.devRef .tc main_arg5), V0 (Proc.devRef .tc main_arg6), V0 (Proc.devRef .tc main_arg7)⟩

set_option maxRecDepth 8192 in
/-- `main_v1`'s composed term of the arguments (named: it is used 2 times). -/
def res_main_v1 (A : Args F) : FVec F S2x4352x18432 .f32 :=
  shapeCast _ (extf .f32 A.a0 bitsLt_bf16_f32) shapeCasts_S8704x18432_S2x4352x18432

set_option maxRecDepth 8192 in
/-- `main_v2`'s composed term of the arguments (named: it is used 2 times). -/
def res_main_v2 (A : Args F) : FVec F S2x4352x4096 .f32 :=
  extractStridedSlice S2x4352x4096 ![0, 0, 4096] (res_main_v1 A) slices_S2x4352x18432_S2x4352x4096_0_0_4096

set_option maxRecDepth 8192 in
/-- `main_v4`'s composed term of the arguments (named: it is used 4 times). -/
def res_main_v4 (A : Args F) : FVec F S2x4355x6144 .f32 :=
  pad S2x4355x6144 ![0, 3, 0] ![0, 0, 0] ![0, 0, 0] (extractStridedSlice S2x4352x6144 ![0, 0, 8192] (res_main_v1 A) slices_S2x4352x18432_S2x4352x6144_0_0_8192) (sitofp .f32 (constantI S_ 32 0#32)) pads_S2x4352x6144_S2x4355x6144_000_300_000 h_S_

set_option maxRecDepth 8192 in
/-- `main_v36`'s composed term of the arguments (named: it is used 2 times). -/
def res_main_v36 (A : Args F) : FVec F S2x4352x6144 .f32 :=
  addf (addf (addf (addf (addf (broadcastInDim S2x4352x6144 ![] bcast_S_S2x4352x6144 (constant S_ .f32 0x00000000#32)) (mulf (extractStridedSlice S2x4352x6144 ![0, 0, 0] (res_main_v4 A) slices_S2x4355x6144_S2x4352x6144_0_0_0) (broadcastInDim S2x4352x6144 ![0, 1, 2] bcast_S1x1x6144_S2x4352x6144_0_1_2 (broadcastInDim S1x1x6144 ![2] bcast_S6144_S1x1x6144_2 (shapeCast _ (extractStridedSlice S1x6144 ![0, 0] A.a2 slices_S4x6144_S1x6144_0_0) shapeCasts_S1x6144_S6144))))) (mulf (extractStridedSlice S2x4352x6144 ![0, 1, 0] (res_main_v4 A) slices_S2x4355x6144_S2x4352x6144_0_1_0) (broadcastInDim S2x4352x6144 ![0, 1, 2] bcast_S1x1x6144_S2x4352x6144_0_1_2 (broadcastInDim S1x1x6144 ![2] bcast_S6144_S1x1x6144_2 (shapeCast _ (extractStridedSlice S1x6144 ![1, 0] A.a2 slices_S4x6144_S1x6144_1_0) shapeCasts_S1x6144_S6144))))) (mulf (extractStridedSlice S2x4352x6144 ![0, 2, 0] (res_main_v4 A) slices_S2x4355x6144_S2x4352x6144_0_2_0) (broadcastInDim S2x4352x6144 ![0, 1, 2] bcast_S1x1x6144_S2x4352x6144_0_1_2 (broadcastInDim S1x1x6144 ![2] bcast_S6144_S1x1x6144_2 (shapeCast _ (extractStridedSlice S1x6144 ![2, 0] A.a2 slices_S4x6144_S1x6144_2_0) shapeCasts_S1x6144_S6144))))) (mulf (extractStridedSlice S2x4352x6144 ![0, 3, 0] (res_main_v4 A) slices_S2x4355x6144_S2x4352x6144_0_3_0) (broadcastInDim S2x4352x6144 ![0, 1, 2] bcast_S1x1x6144_S2x4352x6144_0_1_2 (broadcastInDim S1x1x6144 ![2] bcast_S6144_S1x1x6144_2 (shapeCast _ (extractStridedSlice S1x6144 ![3, 0] A.a2 slices_S4x6144_S1x6144_3_0) shapeCasts_S1x6144_S6144))))) (broadcastInDim S2x4352x6144 ![0, 1, 2] bcast_S1x1x6144_S2x4352x6144_0_1_2 (broadcastInDim S1x1x6144 ![2] bcast_S6144_S1x1x6144_2 A.a3))

set_option maxRecDepth 8192 in
/-- `main_v37`'s composed term of the arguments (named: it is used 3 times). -/
def res_main_v37 (A : Args F) : FVec F S2x4352x6144 .f32 :=
  mulf (res_main_v36 A) (Host.divf (broadcastInDim S2x4352x6144 ![] bcast_S_S2x4352x6144 (constant S_ .f32 0x3F800000#32)) (addf (broadcastInDim S2x4352x6144 ![] bcast_S_S2x4352x6144 (constant S_ .f32 0x3F800000#32)) (Host.exp (Host.negf (res_main_v36 A)))))

set_option maxRecDepth 8192 in
/-- `main_v40`'s composed term of the arguments (named: it is used 3 times). -/
def res_main_v40 (A : Args F) : FVec F S2x4352x64 .f32 :=
  addf A.a1 (broadcastInDim S2x4352x64 ![0, 1, 2] bcast_S1x1x64_S2x4352x64_0_1_2 (broadcastInDim S1x1x64 ![2] bcast_S64_S1x1x64_2 A.a4))

set_option maxRecDepth 8192 in
/-- `main_call2_cst`'s composed term of the arguments (named: it is used 3 times). -/
def res_main_call2_cst (A : Args F) : FVec F S_ .f32 :=
  constant S_ .f32 0x00000000#32

set_option maxRecDepth 8192 in
/-- `main_call2_v3`'s composed term of the arguments (named: it is used 3 times). -/
def res_main_call2_v3 (A : Args F) : FVec F S2x4352x64 .f32 :=
  subf (res_main_v40 A) (broadcastInDim S2x4352x64 ![] bcast_S_S2x4352x64 (res_main_call2_cst A))

set_option maxRecDepth 8192 in
/-- `main_v50`'s composed term of the arguments (named: it is used 2 times). -/
def res_main_v50 (A : Args F) : FVec F S2x17x256x8x8x64 .f32 :=
  shapeCast _ (extractStridedSlice S2x4352x4096 ![0, 0, 0] (res_main_v37 A) slices_S2x4352x6144_S2x4352x4096_0_0_0) shapeCasts_S2x4352x4096_S2x17x256x8x8x64

set_option maxRecDepth 8192 in
/-- `main_v52`'s composed term of the arguments (named: it is used 2 times). -/
def res_main_v52 (A : Args F) : FVec F S2x17x256x8x128 .f32 :=
  shapeCast _ (extractStridedSlice S2x4352x1024 ![0, 0, 4096] (res_main_v37 A) slices_S2x4352x6144_S2x4352x1024_0_0_4096) shapeCasts_S2x4352x1024_S2x17x256x8x128

set_option maxRecDepth 8192 in
/-- `main_v54`'s composed term of the arguments (named: it is used 2 times). -/
def res_main_v54 (A : Args F) : FVec F S2x17x256x8x128 .f32 :=
  shapeCast _ (extractStridedSlice S2x4352x1024 ![0, 0, 5120] (res_main_v37 A) slices_S2x4352x6144_S2x4352x1024_0_0_5120) shapeCasts_S2x4352x1024_S2x17x256x8x128

set_option maxRecDepth 8192 in
/-- `main_v55`'s composed term of the arguments (named: it is used 2 times). -/
def res_main_v55 (A : Args F) : FVec F S2x17x256x8x8 .f32 :=
  shapeCast _ (select (broadcastInDim S2x4352x64 ![0, 1, 2] bcast_S1x4352x1_S2x4352x64_0_1_2 (cmpi .slt (broadcastInDim S1x4352x1 ![1] bcast_S4352_S1x4352x1_1 (iotaInDim S4352 32 0)) (broadcastInDim S1x4352x1 ![] bcast_S_S1x4352x1 (constantI S_ 32 240#32)))) (broadcastInDim S2x4352x64 ![] bcast_S_S2x4352x64 (id (constant S_ .f32 0x00000000#32))) (select (cmpf .une (res_main_call2_v3 A) (res_main_call2_v3 A)) (addf (res_main_v40 A) (broadcastInDim S2x4352x64 ![] bcast_S_S2x4352x64 (res_main_call2_cst A))) (addf (maximumf (res_main_v40 A) (broadcastInDim S2x4352x64 ![] bcast_S_S2x4352x64 (res_main_call2_cst A))) (Host.log1p (Host.exp (Host.negf (Host.absf (res_main_call2_v3 A)))))))) shapeCasts_S2x4352x64_S2x17x256x8x8

set_option maxRecDepth 8192 in
/-- `main_v61`'s composed term of the arguments (named: it is used 6 times). -/
def res_main_v61 (A : Args F) : FVec F S2x17x8x8x256 .f32 :=
  Host.reduceWindowAdd ![1, 1, 1, 1, 256] ![1, 1, 1, 1, 1] ![0, 0, 0, 0, 255] ![0, 0, 0, 0, 0] (transpose S2x17x8x8x256 [0, 1, 3, 4, 2] (mulf (res_main_v55 A) (broadcastInDim S2x17x256x8x8 ![0, 1, 2, 3, 4] bcast_S1x1x1x8x8_S2x17x256x8x8_0_1_2_3_4 (broadcastInDim S1x1x1x8x8 ![3, 4] bcast_S8x8_S1x1x1x8x8_3_4 (shapeCast _ (Host.negf (Host.exp A.a5)) shapeCasts_S64_S8x8)))) transposes_S2x17x256x8x8_S2x17x8x8x256_0_1_3_4_2) (broadcastInDim S_ ![] bcast_S_S_ (constant S_ .f32 0x00000000#32)) reduceWindows_S2x17x8x8x256_S2x17x8x8x256_w1s1p0_0_w1s1p0_0_w1s1p0_0_w1s1p0_0_w256s1p255_0 h_S_

set_option maxRecDepth 8192 in
/-- `main_v64`'s composed term of the arguments (named: it is used 2 times). -/
def res_main_v64 (A : Args F) : FVec F S2x17x256x8x8x64 .f32 :=
  mulf (res_main_v50 A) (broadcastInDim S2x17x256x8x8x64 ![0, 1, 2, 3, 4, 5] bcast_S2x17x256x8x8x1_S2x17x256x8x8x64_0_1_2_3_4_5 (broadcastInDim S2x17x256x8x8x1 ![0, 1, 2, 3, 4] bcast_S2x17x256x8x8_S2x17x256x8x8x1_0_1_2_3_4 (res_main_v55 A)))

set_option maxRecDepth 8192 in
/-- `main_v90`'s composed term of the arguments (named: it is used 16 times). -/
def res_main_v90 (A : Args F) : FVec F S2x17x8x8x64x128 .f32 :=
  Host.dotGeneral dot_S2x17x256x8x8x64_S2x17x8x8x256x128_S2x17x8x8x64x128_2_4_5_5_0134_0123 none (res_main_v64 A) (mulf (broadcastInDim S2x17x8x8x256x128 ![0, 1, 2, 3, 4, 5] bcast_S2x17x8x1x256x128_S2x17x8x8x256x128_0_1_2_3_4_5 (broadcastInDim S2x17x8x1x256x128 ![0, 1, 2, 4, 5] bcast_S2x17x8x256x128_S2x17x8x1x256x128_0_1_2_4_5 (transpose S2x17x8x256x128 [0, 1, 3, 2, 4] (res_main_v52 A) transposes_S2x17x256x8x128_S2x17x8x256x128_0_1_3_2_4))) (broadcastInDim S2x17x8x8x256x128 ![0, 1, 2, 3, 4, 5] bcast_S2x17x8x8x256x1_S2x17x8x8x256x128_0_1_2_3_4_5 (broadcastInDim S2x17x8x8x256x1 ![0, 1, 2, 3, 4] bcast_S2x17x8x8x256_S2x17x8x8x256x1_0_1_2_3_4 (Host.exp (subf (broadcastInDim S2x17x8x8x256 ![0, 1, 2, 3, 4] bcast_S2x17x8x8x1_S2x17x8x8x256_0_1_2_3_4 (extractStridedSlice S2x17x8x8x1 ![0, 0, 0, 0, 255] (res_main_v61 A) slices_S2x17x8x8x256_S2x17x8x8x1_0_0_0_0_255)) (res_main_v61 A))))))

set_option maxRecDepth 8192 in
/-- `main_v94`'s composed term of the arguments (named: it is used 16 times). -/
def res_main_v94 (A : Args F) : FVec F S2x17x8x8x64x128 .f32 :=
  broadcastInDim S2x17x8x8x64x128 ![0, 1, 2, 3, 4, 5] bcast_S2x17x8x8x1x1_S2x17x8x8x64x128_0_1_2_3_4_5 (broadcastInDim S2x17x8x8x1x1 ![0, 1, 2, 3, 4] bcast_S2x17x8x8x1_S2x17x8x8x1x1_0_1_2_3_4 (Host.exp (extractStridedSlice S2x17x8x8x1 ![0, 0, 0, 0, 255] (res_main_v61 A) slices_S2x17x8x8x256_S2x17x8x8x1_0_0_0_0_255)))

set_option maxRecDepth 8192 in
/-- `main_v95`'s composed term of the arguments (named: it is used 2 times). -/
def res_main_v95 (A : Args F) : FVec F S2x1x8x8x64x128 .f32 :=
  broadcastInDim S2x1x8x8x64x128 ![] bcast_S_S2x1x8x8x64x128 (constant S_ .f32 0x00000000#32)

set_option maxRecDepth 8192 in
/-- `main_v99`'s composed term of the arguments (named: it is used 2 times). -/
def res_main_v99 (A : Args F) : FVec F S2x1x8x8x64x128 .f32 :=
  addf (mulf (res_main_v95 A) (extractStridedSlice S2x1x8x8x64x128 ![0, 0, 0, 0, 0, 0] (res_main_v94 A) slices_S2x17x8x8x64x128_S2x1x8x8x64x128_0_0_0_0_0_0)) (extractStridedSlice S2x1x8x8x64x128 ![0, 0, 0, 0, 0, 0] (res_main_v90 A) slices_S2x17x8x8x64x128_S2x1x8x8x64x128_0_0_0_0_0_0)

set_option maxRecDepth 8192 in
/-- `main_v103`'s composed term of the arguments (named: it is used 2 times). -/
def res_main_v103 (A : Args F) : FVec F S2x1x8x8x64x128 .f32 :=
  addf (mulf (res_main_v99 A) (extractStridedSlice S2x1x8x8x64x128 ![0, 1, 0, 0, 0, 0] (res_main_v94 A) slices_S2x17x8x8x64x128_S2x1x8x8x64x128_0_1_0_0_0_0)) (extractStridedSlice S2x1x8x8x64x128 ![0, 1, 0, 0, 0, 0] (res_main_v90 A) slices_S2x17x8x8x64x128_S2x1x8x8x64x128_0_1_0_0_0_0)

set_option maxRecDepth 8192 in
/-- `main_v107`'s composed term of the arguments (named: it is used 2 times). -/
def res_main_v107 (A : Args F) : FVec F S2x1x8x8x64x128 .f32 :=
  addf (mulf (res_main_v103 A) (extractStridedSlice S2x1x8x8x64x128 ![0, 2, 0, 0, 0, 0] (res_main_v94 A) slices_S2x17x8x8x64x128_S2x1x8x8x64x128_0_2_0_0_0_0)) (extractStridedSlice S2x1x8x8x64x128 ![0, 2, 0, 0, 0, 0] (res_main_v90 A) slices_S2x17x8x8x64x128_S2x1x8x8x64x128_0_2_0_0_0_0)

set_option maxRecDepth 8192 in
/-- `main_v111`'s composed term of the arguments (named: it is used 2 times). -/
def res_main_v111 (A : Args F) : FVec F S2x1x8x8x64x128 .f32 :=
  addf (mulf (res_main_v107 A) (extractStridedSlice S2x1x8x8x64x128 ![0, 3, 0, 0, 0, 0] (res_main_v94 A) slices_S2x17x8x8x64x128_S2x1x8x8x64x128_0_3_0_0_0_0)) (extractStridedSlice S2x1x8x8x64x128 ![0, 3, 0, 0, 0, 0] (res_main_v90 A) slices_S2x17x8x8x64x128_S2x1x8x8x64x128_0_3_0_0_0_0)

set_option maxRecDepth 8192 in
/-- `main_v115`'s composed term of the arguments (named: it is used 2 times). -/
def res_main_v115 (A : Args F) : FVec F S2x1x8x8x64x128 .f32 :=
  addf (mulf (res_main_v111 A) (extractStridedSlice S2x1x8x8x64x128 ![0, 4, 0, 0, 0, 0] (res_main_v94 A) slices_S2x17x8x8x64x128_S2x1x8x8x64x128_0_4_0_0_0_0)) (extractStridedSlice S2x1x8x8x64x128 ![0, 4, 0, 0, 0, 0] (res_main_v90 A) slices_S2x17x8x8x64x128_S2x1x8x8x64x128_0_4_0_0_0_0)

set_option maxRecDepth 8192 in
/-- `main_v119`'s composed term of the arguments (named: it is used 2 times). -/
def res_main_v119 (A : Args F) : FVec F S2x1x8x8x64x128 .f32 :=
  addf (mulf (res_main_v115 A) (extractStridedSlice S2x1x8x8x64x128 ![0, 5, 0, 0, 0, 0] (res_main_v94 A) slices_S2x17x8x8x64x128_S2x1x8x8x64x128_0_5_0_0_0_0)) (extractStridedSlice S2x1x8x8x64x128 ![0, 5, 0, 0, 0, 0] (res_main_v90 A) slices_S2x17x8x8x64x128_S2x1x8x8x64x128_0_5_0_0_0_0)

set_option maxRecDepth 8192 in
/-- `main_v123`'s composed term of the arguments (named: it is used 2 times). -/
def res_main_v123 (A : Args F) : FVec F S2x1x8x8x64x128 .f32 :=
  addf (mulf (res_main_v119 A) (extractStridedSlice S2x1x8x8x64x128 ![0, 6, 0, 0, 0, 0] (res_main_v94 A) slices_S2x17x8x8x64x128_S2x1x8x8x64x128_0_6_0_0_0_0)) (extractStridedSlice S2x1x8x8x64x128 ![0, 6, 0, 0, 0, 0] (res_main_v90 A) slices_S2x17x8x8x64x128_S2x1x8x8x64x128_0_6_0_0_0_0)

set_option maxRecDepth 8192 in
/-- `main_v127`'s composed term of the arguments (named: it is used 2 times). -/
def res_main_v127 (A : Args F) : FVec F S2x1x8x8x64x128 .f32 :=
  addf (mulf (res_main_v123 A) (extractStridedSlice S2x1x8x8x64x128 ![0, 7, 0, 0, 0, 0] (res_main_v94 A) slices_S2x17x8x8x64x128_S2x1x8x8x64x128_0_7_0_0_0_0)) (extractStridedSlice S2x1x8x8x64x128 ![0, 7, 0, 0, 0, 0] (res_main_v90 A) slices_S2x17x8x8x64x128_S2x1x8x8x64x128_0_7_0_0_0_0)

set_option maxRecDepth 8192 in
/-- `main_v131`'s composed term of the arguments (named: it is used 2 times). -/
def res_main_v131 (A : Args F) : FVec F S2x1x8x8x64x128 .f32 :=
  addf (mulf (res_main_v127 A) (extractStridedSlice S2x1x8x8x64x128 ![0, 8, 0, 0, 0, 0] (res_main_v94 A) slices_S2x17x8x8x64x128_S2x1x8x8x64x128_0_8_0_0_0_0)) (extractStridedSlice S2x1x8x8x64x128 ![0, 8, 0, 0, 0, 0] (res_main_v90 A) slices_S2x17x8x8x64x128_S2x1x8x8x64x128_0_8_0_0_0_0)

set_option maxRecDepth 8192 in
/-- `main_v135`'s composed term of the arguments (named: it is used 2 times). -/
def res_main_v135 (A : Args F) : FVec F S2x1x8x8x64x128 .f32 :=
  addf (mulf (res_main_v131 A) (extractStridedSlice S2x1x8x8x64x128 ![0, 9, 0, 0, 0, 0] (res_main_v94 A) slices_S2x17x8x8x64x128_S2x1x8x8x64x128_0_9_0_0_0_0)) (extractStridedSlice S2x1x8x8x64x128 ![0, 9, 0, 0, 0, 0] (res_main_v90 A) slices_S2x17x8x8x64x128_S2x1x8x8x64x128_0_9_0_0_0_0)

set_option maxRecDepth 8192 in
/-- `main_v139`'s composed term of the arguments (named: it is used 2 times). -/
def res_main_v139 (A : Args F) : FVec F S2x1x8x8x64x128 .f32 :=
  addf (mulf (res_main_v135 A) (extractStridedSlice S2x1x8x8x64x128 ![0, 10, 0, 0, 0, 0] (res_main_v94 A) slices_S2x17x8x8x64x128_S2x1x8x8x64x128_0_10_0_0_0_0)) (extractStridedSlice S2x1x8x8x64x128 ![0, 10, 0, 0, 0, 0] (res_main_v90 A) slices_S2x17x8x8x64x128_S2x1x8x8x64x128_0_10_0_0_0_0)

set_option maxRecDepth 8192 in
/-- `main_v143`'s composed term of the arguments (named: it is used 2 times). -/
def res_main_v143 (A : Args F) : FVec F S2x1x8x8x64x128 .f32 :=
  addf (mulf (res_main_v139 A) (extractStridedSlice S2x1x8x8x64x128 ![0, 11, 0, 0, 0, 0] (res_main_v94 A) slices_S2x17x8x8x64x128_S2x1x8x8x64x128_0_11_0_0_0_0)) (extractStridedSlice S2x1x8x8x64x128 ![0, 11, 0, 0, 0, 0] (res_main_v90 A) slices_S2x17x8x8x64x128_S2x1x8x8x64x128_0_11_0_0_0_0)

set_option maxRecDepth 8192 in
/-- `main_v147`'s composed term of the arguments (named: it is used 2 times). -/
def res_main_v147 (A : Args F) : FVec F S2x1x8x8x64x128 .f32 :=
  addf (mulf (res_main_v143 A) (extractStridedSlice S2x1x8x8x64x128 ![0, 12, 0, 0, 0, 0] (res_main_v94 A) slices_S2x17x8x8x64x128_S2x1x8x8x64x128_0_12_0_0_0_0)) (extractStridedSlice S2x1x8x8x64x128 ![0, 12, 0, 0, 0, 0] (res_main_v90 A) slices_S2x17x8x8x64x128_S2x1x8x8x64x128_0_12_0_0_0_0)

set_option maxRecDepth 8192 in
/-- `main_v151`'s composed term of the arguments (named: it is used 2 times). -/
def res_main_v151 (A : Args F) : FVec F S2x1x8x8x64x128 .f32 :=
  addf (mulf (res_main_v147 A) (extractStridedSlice S2x1x8x8x64x128 ![0, 13, 0, 0, 0, 0] (res_main_v94 A) slices_S2x17x8x8x64x128_S2x1x8x8x64x128_0_13_0_0_0_0)) (extractStridedSlice S2x1x8x8x64x128 ![0, 13, 0, 0, 0, 0] (res_main_v90 A) slices_S2x17x8x8x64x128_S2x1x8x8x64x128_0_13_0_0_0_0)

set_option maxRecDepth 8192 in
/-- `main_v155`'s composed term of the arguments (named: it is used 2 times). -/
def res_main_v155 (A : Args F) : FVec F S2x1x8x8x64x128 .f32 :=
  addf (mulf (res_main_v151 A) (extractStridedSlice S2x1x8x8x64x128 ![0, 14, 0, 0, 0, 0] (res_main_v94 A) slices_S2x17x8x8x64x128_S2x1x8x8x64x128_0_14_0_0_0_0)) (extractStridedSlice S2x1x8x8x64x128 ![0, 14, 0, 0, 0, 0] (res_main_v90 A) slices_S2x17x8x8x64x128_S2x1x8x8x64x128_0_14_0_0_0_0)

set_option maxRecDepth 8192 in
/-- `main_v172`'s composed term of the arguments (named: it is long). -/
def res_main_v172 (A : Args F) : FVec F S2x17x256x8x8x64 .f32 :=
  addf (transpose S2x17x256x8x8x64 [0, 1, 5, 2, 3, 4] (Host.dotGeneral dot_S2x17x256x8x8x64_S2x17x8x8x256x256_S2x17x8x8x64x256_2_5_5_4_0134_0123 none (res_main_v64 A) (mulf (broadcastInDim S2x17x8x8x256x256 ![0, 1, 2, 3, 4, 5] bcast_S2x17x8x1x256x256_S2x17x8x8x256x256_0_1_2_3_4_5 (broadcastInDim S2x17x8x1x256x256 ![0, 1, 2, 4, 5] bcast_S2x17x8x256x256_S2x17x8x1x256x256_0_1_2_4_5 (Host.dotGeneral dot_S2x17x256x8x128_S2x17x256x8x128_S2x17x8x256x256_4_4_2_2_013_013 none (res_main_v54 A) (res_main_v52 A)))) (Host.exp (select (broadcastInDim S2x17x8x8x256x256 ![4, 5] bcast_S256x256_S2x17x8x8x256x256_4_5 (select (cmpi .sge (addi (iotaInDim S256x256 32 0) (broadcastInDim S256x256 ![] bcast_S_S256x256 (constantI S_ 32 0#32))) (iotaInDim S256x256 32 1)) (broadcastInDim S256x256 ![] bcast_S_S256x256 (constantI S_ 1 1#1)) (broadcastInDim S256x256 ![] bcast_S_S256x256 (constantI S_ 1 0#1)))) (subf (broadcastInDim S2x17x8x8x256x256 ![0, 1, 2, 3, 4, 5] bcast_S2x17x8x8x256x1_S2x17x8x8x256x256_0_1_2_3_4_5 (broadcastInDim S2x17x8x8x256x1 ![0, 1, 2, 3, 4] bcast_S2x17x8x8x256_S2x17x8x8x256x1_0_1_2_3_4 (res_main_v61 A))) (broadcastInDim S2x17x8x8x256x256 ![0, 1, 2, 3, 4, 5] bcast_S2x17x8x8x1x256_S2x17x8x8x256x256_0_1_2_3_4_5 (broadcastInDim S2x17x8x8x1x256 ![0, 1, 2, 3, 5] bcast_S2x17x8x8x256_S2x17x8x8x1x256_0_1_2_3_5 (res_main_v61 A)))) (broadcastInDim S2x17x8x8x256x256 ![] bcast_S_S2x17x8x8x256x256 (id (constant S_ .f32 0xFF800000#32))))))) transposes_S2x17x8x8x64x256_S2x17x256x8x8x64_0_1_5_2_3_4) (transpose S2x17x256x8x8x64 [0, 1, 5, 2, 3, 4] (Host.dotGeneral dot_S2x17x8x8x64x128_S2x17x8x8x256x128_S2x17x8x8x64x256_5_5_4_4_0123_0123 none (concatenate S2x17x8x8x64x128 1 [⟨S2x8x8x8x64x128, ((concatenate S2x8x8x8x64x128 1 [⟨S2x1x8x8x64x128, ((res_main_v95 A) : (⟨S2x1x8x8x64x128, .f32⟩ : BufTy).Contents (Elt F))⟩, ⟨S2x1x8x8x64x128, ((res_main_v99 A) : (⟨S2x1x8x8x64x128, .f32⟩ : BufTy).Contents (Elt F))⟩, ⟨S2x1x8x8x64x128, ((res_main_v103 A) : (⟨S2x1x8x8x64x128, .f32⟩ : BufTy).Contents (Elt F))⟩, ⟨S2x1x8x8x64x128, ((res_main_v107 A) : (⟨S2x1x8x8x64x128, .f32⟩ : BufTy).Contents (Elt F))⟩, ⟨S2x1x8x8x64x128, ((res_main_v111 A) : (⟨S2x1x8x8x64x128, .f32⟩ : BufTy).Contents (Elt F))⟩, ⟨S2x1x8x8x64x128, ((res_main_v115 A) : (⟨S2x1x8x8x64x128, .f32⟩ : BufTy).Contents (Elt F))⟩, ⟨S2x1x8x8x64x128, ((res_main_v119 A) : (⟨S2x1x8x8x64x128, .f32⟩ : BufTy).Contents (Elt F))⟩, ⟨S2x1x8x8x64x128, ((res_main_v123 A) : (⟨S2x1x8x8x64x128, .f32⟩ : BufTy).Contents (Elt F))⟩] concatenates_S2x1x8x8x64x128_S2x1x8x8x64x128_S2x1x8x8x64x128_S2x1x8x8x64x128_S2x1x8x8x64x128_S2x1x8x8x64x128_S2x1x8x8x64x128_S2x1x8x8x64x128_S2x8x8x8x64x128_d1 : (⟨S2x8x8x8x64x128, .f32⟩ : BufTy).Contents (Elt F)))⟩, ⟨S2x9x8x8x64x128, ((concatenate S2x9x8x8x64x128 1 [⟨S2x1x8x8x64x128, ((res_main_v127 A) : (⟨S2x1x8x8x64x128, .f32⟩ : BufTy).Contents (Elt F))⟩, ⟨S2x1x8x8x64x128, ((res_main_v131 A) : (⟨S2x1x8x8x64x128, .f32⟩ : BufTy).Contents (Elt F))⟩, ⟨S2x1x8x8x64x128, ((res_main_v135 A) : (⟨S2x1x8x8x64x128, .f32⟩ : BufTy).Contents (Elt F))⟩, ⟨S2x1x8x8x64x128, ((res_main_v139 A) : (⟨S2x1x8x8x64x128, .f32⟩ : BufTy).Contents (Elt F))⟩, ⟨S2x1x8x8x64x128, ((res_main_v143 A) : (⟨S2x1x8x8x64x128, .f32⟩ : BufTy).Contents (Elt F))⟩, ⟨S2x1x8x8x64x128, ((res_main_v147 A) : (⟨S2x1x8x8x64x128, .f32⟩ : BufTy).Contents (Elt F))⟩, ⟨S2x1x8x8x64x128, ((res_main_v151 A) : (⟨S2x1x8x8x64x128, .f32⟩ : BufTy).Contents (Elt F))⟩, ⟨S2x1x8x8x64x128, ((res_main_v155 A) : (⟨S2x1x8x8x64x128, .f32⟩ : BufTy).Contents (Elt F))⟩, ⟨S2x1x8x8x64x128, ((addf (mulf (res_main_v155 A) (extractStridedSlice S2x1x8x8x64x128 ![0, 15, 0, 0, 0, 0] (res_main_v94 A) slices_S2x17x8x8x64x128_S2x1x8x8x64x128_0_15_0_0_0_0)) (extractStridedSlice S2x1x8x8x64x128 ![0, 15, 0, 0, 0, 0] (res_main_v90 A) slices_S2x17x8x8x64x128_S2x1x8x8x64x128_0_15_0_0_0_0)) : (⟨S2x1x8x8x64x128, .f32⟩ : BufTy).Contents (Elt F))⟩] concatenates_S2x1x8x8x64x128_S2x1x8x8x64x128_S2x1x8x8x64x128_S2x1x8x8x64x128_S2x1x8x8x64x128_S2x1x8x8x64x128_S2x1x8x8x64x128_S2x1x8x8x64x128_S2x1x8x8x64x128_S2x9x8x8x64x128_d1 : (⟨S2x9x8x8x64x128, .f32⟩ : BufTy).Contents (Elt F)))⟩] concatenates_S2x8x8x8x64x128_S2x9x8x8x64x128_S2x17x8x8x64x128_d1) (mulf (broadcastInDim S2x17x8x8x256x128 ![0, 1, 2, 3, 4, 5] bcast_S2x17x8x1x256x128_S2x17x8x8x256x128_0_1_2_3_4_5 (broadcastInDim S2x17x8x1x256x128 ![0, 1, 2, 4, 5] bcast_S2x17x8x256x128_S2x17x8x1x256x128_0_1_2_4_5 (transpose S2x17x8x256x128 [0, 1, 3, 2, 4] (res_main_v54 A) transposes_S2x17x256x8x128_S2x17x8x256x128_0_1_3_2_4))) (broadcastInDim S2x17x8x8x256x128 ![0, 1, 2, 3, 4, 5] bcast_S2x17x8x8x256x1_S2x17x8x8x256x128_0_1_2_3_4_5 (broadcastInDim S2x17x8x8x256x1 ![0, 1, 2, 3, 4] bcast_S2x17x8x8x256_S2x17x8x8x256x1_0_1_2_3_4 (Host.exp (res_main_v61 A)))))) transposes_S2x17x8x8x64x256_S2x17x256x8x8x64_0_1_5_2_3_4)

set_option maxRecDepth 8192 in
/-- `main_v182`'s composed term of the arguments (named: it is used 3 times). -/
def res_main_v182 (A : Args F) : FVec F S2x4352x8x512 .f32 :=
  shapeCast _ (mulf (shapeCast _ (addf (res_main_v172 A) (mulf (res_main_v50 A) (broadcastInDim S2x17x256x8x8x64 ![0, 1, 2, 3, 4, 5] bcast_S1x1x1x8x8x1_S2x17x256x8x8x64_0_1_2_3_4_5 (broadcastInDim S1x1x1x8x8x1 ![3, 4, 5] bcast_S8x8x1_S1x1x1x8x8x1_3_4_5 (broadcastInDim S8x8x1 ![0, 1] bcast_S8x8_S8x8x1_0_1 (shapeCast _ A.a6 shapeCasts_S64_S8x8)))))) shapeCasts_S2x17x256x8x8x64_S2x4352x4096) (mulf (res_main_v2 A) (Host.divf (broadcastInDim S2x4352x4096 ![] bcast_S_S2x4352x4096 (constant S_ .f32 0x3F800000#32)) (addf (broadcastInDim S2x4352x4096 ![] bcast_S_S2x4352x4096 (constant S_ .f32 0x3F800000#32)) (Host.exp (Host.negf (res_main_v2 A))))))) shapeCasts_S2x4352x4096_S2x4352x8x512
end Cert.ReferenceSsdIdeal.Hand

end
-- ==== Proof.SsdRefOps.lean ====
/-
  The reference of the recurrence (`ReferenceSsdIdeal`): its operations as a list, in windows.
-/
module

public import proofs.«01_k».proof.Proof.Gen.ReferenceSsdIdeal
public import Idealize.ShloMosaic.Lib.StableHlo.Run
public import Idealize.ShloMosaic.Lib.Pipeline.Frame

@[expose] public section

set_option Elab.async false

noncomputable section

namespace Cert.ReferenceSsdIdeal.Hand

open Cert.ReferenceSsdIdeal Cert.ReferenceSsdIdeal.Gen Idealize.ShloMosaic Idealize.ShloMosaic.TcCoe Idealize.SL.Sem Idealize.ShloMosaic.StableHlo

variable {F : FTy → Type} [FloatOps F]

/-- The function of the operation that writes `main_v160`, named. It packs its operands into a list of dependent pairs
    whose shapes a later argument's type mentions, so `simp` cannot rewrite an operand where it stands; applied by
    name, the operands are plain arguments, which the window lemmas below rewrite before the name unfolds. -/
def fn_main_v160 : (main_v95 : Ref sig .tc).ty.Contents (Elt F) → (main_v99 : Ref sig .tc).ty.Contents (Elt F) → (main_v103 : Ref sig .tc).ty.Contents (Elt F) → (main_v107 : Ref sig .tc).ty.Contents (Elt F) → (main_v111 : Ref sig .tc).ty.Contents (Elt F) → (main_v115 : Ref sig .tc).ty.Contents (Elt F) → (main_v119 : Ref sig .tc).ty.Contents (Elt F) → (main_v123 : Ref sig .tc).ty.Contents (Elt F) → (main_v160 : Ref sig .tc).ty.Contents (Elt F) :=
  (fun u0 u1 u2 u3 u4 u5 u6 u7 => (concatenate S2x8x8x8x64x128 1 [⟨S2x1x8x8x64x128, (u0 : (⟨S2x1x8x8x64x128, .f32⟩ : BufTy).Contents (Elt F))⟩, ⟨S2x1x8x8x64x128, (u1 : (⟨S2x1x8x8x64x128, .f32⟩ : BufTy).Contents (Elt F))⟩, ⟨S2x1x8x8x64x128, (u2 : (⟨S2x1x8x8x64x128, .f32⟩ : BufTy).Contents (Elt F))⟩, ⟨S2x1x8x8x64x128, (u3 : (⟨S2x1x8x8x64x128, .f32⟩ : BufTy).Contents (Elt F))⟩, ⟨S2x1x8x8x64x128, (u4 : (⟨S2x1x8x8x64x128, .f32⟩ : BufTy).Contents (Elt F))⟩, ⟨S2x1x8x8x64x128, (u5 : (⟨S2x1x8x8x64x128, .f32⟩ : BufTy).Contents (Elt F))⟩, ⟨S2x1x8x8x64x128, (u6 : (⟨S2x1x8x8x64x128, .f32⟩ : BufTy).Contents (Elt F))⟩, ⟨S2x1x8x8x64x128, (u7 : (⟨S2x1x8x8x64x128, .f32⟩ : BufTy).Contents (Elt F))⟩] concatenates_S2x1x8x8x64x128_S2x1x8x8x64x128_S2x1x8x8x64x128_S2x1x8x8x64x128_S2x1x8x8x64x128_S2x1x8x8x64x128_S2x1x8x8x64x128_S2x1x8x8x64x128_S2x8x8x8x64x128_d1 : (⟨S2x8x8x8x64x128, .f32⟩ : BufTy).Contents (Elt F)))

/-- The function of the operation that writes `main_v161`, named. It packs its operands into a list of dependent pairs
    whose shapes a later argument's type mentions, so `simp` cannot rewrite an operand where it stands; applied by
    name, the operands are plain arguments, which the window lemmas below rewrite before the name unfolds. -/
def fn_main_v161 : (main_v127 : Ref sig .tc).ty.Contents (Elt F) → (main_v131 : Ref sig .tc).ty.Contents (Elt F) → (main_v135 : Ref sig .tc).ty.Contents (Elt F) → (main_v139 : Ref sig .tc).ty.Contents (Elt F) → (main_v143 : Ref sig .tc).ty.Contents (Elt F) → (main_v147 : Ref sig .tc).ty.Contents (Elt F) → (main_v151 : Ref sig .tc).ty.Contents (Elt F) → (main_v155 : Ref sig .tc).ty.Contents (Elt F) → (main_v159 : Ref sig .tc).ty.Contents (Elt F) → (main_v161 : Ref sig .tc).ty.Contents (Elt F) :=
  (fun u0 u1 u2 u3 u4 u5 u6 u7 u8 => (concatenate S2x9x8x8x64x128 1 [⟨S2x1x8x8x64x128, (u0 : (⟨S2x1x8x8x64x128, .f32⟩ : BufTy).Contents (Elt F))⟩, ⟨S2x1x8x8x64x128, (u1 : (⟨S2x1x8x8x64x128, .f32⟩ : BufTy).Contents (Elt F))⟩, ⟨S2x1x8x8x64x128, (u2 : (⟨S2x1x8x8x64x128, .f32⟩ : BufTy).Contents (Elt F))⟩, ⟨S2x1x8x8x64x128, (u3 : (⟨S2x1x8x8x64x128, .f32⟩ : BufTy).Contents (Elt F))⟩, ⟨S2x1x8x8x64x128, (u4 : (⟨S2x1x8x8x64x128, .f32⟩ : BufTy).Contents (Elt F))⟩, ⟨S2x1x8x8x64x128, (u5 : (⟨S2x1x8x8x64x128, .f32⟩ : BufTy).Contents (Elt F))⟩, ⟨S2x1x8x8x64x128, (u6 : (⟨S2x1x8x8x64x128, .f32⟩ : BufTy).Contents (Elt F))⟩, ⟨S2x1x8x8x64x128, (u7 : (⟨S2x1x8x8x64x128, .f32⟩ : BufTy).Contents (Elt F))⟩, ⟨S2x1x8x8x64x128, (u8 : (⟨S2x1x8x8x64x128, .f32⟩ : BufTy).Contents (Elt F))⟩] concatenates_S2x1x8x8x64x128_S2x1x8x8x64x128_S2x1x8x8x64x128_S2x1x8x8x64x128_S2x1x8x8x64x128_S2x1x8x8x64x128_S2x1x8x8x64x128_S2x1x8x8x64x128_S2x1x8x8x64x128_S2x9x8x8x64x128_d1 : (⟨S2x9x8x8x64x128, .f32⟩ : BufTy).Contents (Elt F)))

/-- The function of the operation that writes `main_v162`, named. It packs its operands into a list of dependent pairs
    whose shapes a later argument's type mentions, so `simp` cannot rewrite an operand where it stands; applied by
    name, the operands are plain arguments, which the window lemmas below rewrite before the name unfolds. -/
def fn_main_v162 : (⟨S2x8x8x8x64x128, .f32⟩ : BufTy).Contents (Elt F) → (⟨S2x9x8x8x64x128, .f32⟩ : BufTy).Contents (Elt F) → (⟨S2x17x8x8x64x128, .f32⟩ : BufTy).Contents (Elt F) :=
  (fun a b => concatenate S2x17x8x8x64x128 1 [⟨S2x8x8x8x64x128, a⟩, ⟨S2x9x8x8x64x128, b⟩] concatenates_S2x8x8x8x64x128_S2x9x8x8x64x128_S2x17x8x8x64x128_d1)

/-- @main's operations 1 … 30 of 254 (window `main_part0`). -/
abbrev ops_part0_0 : List (HloOp τ sig (Elt F)) :=
  [ unary main_arg0 main_v0 ((extf .f32 · bitsLt_bf16_f32) : (⟨S8704x18432, .bf16⟩ : BufTy).Contents (Elt F) → (⟨S8704x18432, .f32⟩ : BufTy).Contents (Elt F)),
    reshape main_v0 main_v1 (rfl : (.f32 : EltTy) = .f32) shapeCasts_S8704x18432_S2x4352x18432,
    unary main_v1 main_v2 ((extractStridedSlice S2x4352x4096 ![0, 0, 4096] · slices_S2x4352x18432_S2x4352x4096_0_0_4096) : (⟨S2x4352x18432, .f32⟩ : BufTy).Contents (Elt F) → (⟨S2x4352x4096, .f32⟩ : BufTy).Contents (Elt F)),
    unary main_v1 main_v3 ((extractStridedSlice S2x4352x6144 ![0, 0, 8192] · slices_S2x4352x18432_S2x4352x6144_0_0_8192) : (⟨S2x4352x18432, .f32⟩ : BufTy).Contents (Elt F) → (⟨S2x4352x6144, .f32⟩ : BufTy).Contents (Elt F)),
    nullary main_c (constantI S_ 32 0#32),
    TRef.unary (TRef.of (T := ⟨S_, .i32⟩) main_c) (TRef.of (T := ⟨S_, .f32⟩) main_call0_v0) (sitofp .f32),
    TRef.binary (TRef.of (T := ⟨S2x4352x6144, .f32⟩) main_v3) (TRef.of (T := ⟨S_, .f32⟩) main_call0_v0) (TRef.of (T := ⟨S2x4355x6144, .f32⟩) main_v4) (fun x v => pad S2x4355x6144 ![0, 3, 0] ![0, 0, 0] ![0, 0, 0] x v pads_S2x4352x6144_S2x4355x6144_000_300_000 h_S_),
    unary main_v4 main_v5 ((extractStridedSlice S2x4352x6144 ![0, 0, 0] · slices_S2x4355x6144_S2x4352x6144_0_0_0) : (⟨S2x4355x6144, .f32⟩ : BufTy).Contents (Elt F) → (⟨S2x4352x6144, .f32⟩ : BufTy).Contents (Elt F)),
    unary main_arg2 main_v6 ((extractStridedSlice S1x6144 ![0, 0] · slices_S4x6144_S1x6144_0_0) : (⟨S4x6144, .f32⟩ : BufTy).Contents (Elt F) → (⟨S1x6144, .f32⟩ : BufTy).Contents (Elt F)),
    reshape main_v6 main_v7 (rfl : (.f32 : EltTy) = .f32) shapeCasts_S1x6144_S6144,
    unary main_v7 main_v8 (broadcastInDim S1x1x6144 ![2] bcast_S6144_S1x1x6144_2 : (⟨S6144, .f32⟩ : BufTy).Contents (Elt F) → (⟨S1x1x6144, .f32⟩ : BufTy).Contents (Elt F)),
    unary main_v8 main_v9 (broadcastInDim S2x4352x6144 ![0, 1, 2] bcast_S1x1x6144_S2x4352x6144_0_1_2 : (⟨S1x1x6144, .f32⟩ : BufTy).Contents (Elt F) → (⟨S2x4352x6144, .f32⟩ : BufTy).Contents (Elt F)),
    binary main_v5 main_v9 main_v10 (mulf : (⟨S2x4352x6144, .f32⟩ : BufTy).Contents (Elt F) → (⟨S2x4352x6144, .f32⟩ : BufTy).Contents (Elt F) → (⟨S2x4352x6144, .f32⟩ : BufTy).Contents (Elt F)),
    nullary main_cst (constant S_ .f32 0x00000000#32),
    unary main_cst main_v11 (broadcastInDim S2x4352x6144 ![] bcast_S_S2x4352x6144 : (⟨S_, .f32⟩ : BufTy).Contents (Elt F) → (⟨S2x4352x6144, .f32⟩ : BufTy).Contents (Elt F)),
    binary main_v11 main_v10 main_v12 (addf : (⟨S2x4352x6144, .f32⟩ : BufTy).Contents (Elt F) → (⟨S2x4352x6144, .f32⟩ : BufTy).Contents (Elt F) → (⟨S2x4352x6144, .f32⟩ : BufTy).Contents (Elt F)),
    unary main_v4 main_v13 ((extractStridedSlice S2x4352x6144 ![0, 1, 0] · slices_S2x4355x6144_S2x4352x6144_0_1_0) : (⟨S2x4355x6144, .f32⟩ : BufTy).Contents (Elt F) → (⟨S2x4352x6144, .f32⟩ : BufTy).Contents (Elt F)),
    unary main_arg2 main_v14 ((extractStridedSlice S1x6144 ![1, 0] · slices_S4x6144_S1x6144_1_0) : (⟨S4x6144, .f32⟩ : BufTy).Contents (Elt F) → (⟨S1x6144, .f32⟩ : BufTy).Contents (Elt F)),
    reshape main_v14 main_v15 (rfl : (.f32 : EltTy) = .f32) shapeCasts_S1x6144_S6144,
    unary main_v15 main_v16 (broadcastInDim S1x1x6144 ![2] bcast_S6144_S1x1x6144_2 : (⟨S6144, .f32⟩ : BufTy).Contents (Elt F) → (⟨S1x1x6144, .f32⟩ : BufTy).Contents (Elt F)),
    unary main_v16 main_v17 (broadcastInDim S2x4352x6144 ![0, 1, 2] bcast_S1x1x6144_S2x4352x6144_0_1_2 : (⟨S1x1x6144, .f32⟩ : BufTy).Contents (Elt F) → (⟨S2x4352x6144, .f32⟩ : BufTy).Contents (Elt F)),
    binary main_v13 main_v17 main_v18 (mulf : (⟨S2x4352x6144, .f32⟩ : BufTy).Contents (Elt F) → (⟨S2x4352x6144, .f32⟩ : BufTy).Contents (Elt F) → (⟨S2x4352x6144, .f32⟩ : BufTy).Contents (Elt F)),
    binary main_v12 main_v18 main_v19 (addf : (⟨S2x4352x6144, .f32⟩ : BufTy).Contents (Elt F) → (⟨S2x4352x6144, .f32⟩ : BufTy).Contents (Elt F) → (⟨S2x4352x6144, .f32⟩ : BufTy).Contents (Elt F)),
    unary main_v4 main_v20 ((extractStridedSlice S2x4352x6144 ![0, 2, 0] · slices_S2x4355x6144_S2x4352x6144_0_2_0) : (⟨S2x4355x6144, .f32⟩ : BufTy).Contents (Elt F) → (⟨S2x4352x6144, .f32⟩ : BufTy).Contents (Elt F)),
    unary main_arg2 main_v21 ((extractStridedSlice S1x6144 ![2, 0] · slices_S4x6144_S1x6144_2_0) : (⟨S4x6144, .f32⟩ : BufTy).Contents (Elt F) → (⟨S1x6144, .f32⟩ : BufTy).Contents (Elt F)),
    reshape main_v21 main_v22 (rfl : (.f32 : EltTy) = .f32) shapeCasts_S1x6144_S6144,
    unary main_v22 main_v23 (broadcastInDim S1x1x6144 ![2] bcast_S6144_S1x1x6144_2 : (⟨S6144, .f32⟩ : BufTy).Contents (Elt F) → (⟨S1x1x6144, .f32⟩ : BufTy).Contents (Elt F)),
    unary main_v23 main_v24 (broadcastInDim S2x4352x6144 ![0, 1, 2] bcast_S1x1x6144_S2x4352x6144_0_1_2 : (⟨S1x1x6144, .f32⟩ : BufTy).Contents (Elt F) → (⟨S2x4352x6144, .f32⟩ : BufTy).Contents (Elt F)),
    binary main_v20 main_v24 main_v25 (mulf : (⟨S2x4352x6144, .f32⟩ : BufTy).Contents (Elt F) → (⟨S2x4352x6144, .f32⟩ : BufTy).Contents (Elt F) → (⟨S2x4352x6144, .f32⟩ : BufTy).Contents (Elt F)),
    binary main_v19 main_v25 main_v26 (addf : (⟨S2x4352x6144, .f32⟩ : BufTy).Contents (Elt F) → (⟨S2x4352x6144, .f32⟩ : BufTy).Contents (Elt F) → (⟨S2x4352x6144, .f32⟩ : BufTy).Contents (Elt F)) ]

/-- @main's operations 31 … 60 of 254 (window `main_part0`). -/
abbrev ops_part0_1 : List (HloOp τ sig (Elt F)) :=
  [ unary main_v4 main_v27 ((extractStridedSlice S2x4352x6144 ![0, 3, 0] · slices_S2x4355x6144_S2x4352x6144_0_3_0) : (⟨S2x4355x6144, .f32⟩ : BufTy).Contents (Elt F) → (⟨S2x4352x6144, .f32⟩ : BufTy).Contents (Elt F)),
    unary main_arg2 main_v28 ((extractStridedSlice S1x6144 ![3, 0] · slices_S4x6144_S1x6144_3_0) : (⟨S4x6144, .f32⟩ : BufTy).Contents (Elt F) → (⟨S1x6144, .f32⟩ : BufTy).Contents (Elt F)),
    reshape main_v28 main_v29 (rfl : (.f32 : EltTy) = .f32) shapeCasts_S1x6144_S6144,
    unary main_v29 main_v30 (broadcastInDim S1x1x6144 ![2] bcast_S6144_S1x1x6144_2 : (⟨S6144, .f32⟩ : BufTy).Contents (Elt F) → (⟨S1x1x6144, .f32⟩ : BufTy).Contents (Elt F)),
    unary main_v30 main_v31 (broadcastInDim S2x4352x6144 ![0, 1, 2] bcast_S1x1x6144_S2x4352x6144_0_1_2 : (⟨S1x1x6144, .f32⟩ : BufTy).Contents (Elt F) → (⟨S2x4352x6144, .f32⟩ : BufTy).Contents (Elt F)),
    binary main_v27 main_v31 main_v32 (mulf : (⟨S2x4352x6144, .f32⟩ : BufTy).Contents (Elt F) → (⟨S2x4352x6144, .f32⟩ : BufTy).Contents (Elt F) → (⟨S2x4352x6144, .f32⟩ : BufTy).Contents (Elt F)),
    binary main_v26 main_v32 main_v33 (addf : (⟨S2x4352x6144, .f32⟩ : BufTy).Contents (Elt F) → (⟨S2x4352x6144, .f32⟩ : BufTy).Contents (Elt F) → (⟨S2x4352x6144, .f32⟩ : BufTy).Contents (Elt F)),
    unary main_arg3 main_v34 (broadcastInDim S1x1x6144 ![2] bcast_S6144_S1x1x6144_2 : (⟨S6144, .f32⟩ : BufTy).Contents (Elt F) → (⟨S1x1x6144, .f32⟩ : BufTy).Contents (Elt F)),
    unary main_v34 main_v35 (broadcastInDim S2x4352x6144 ![0, 1, 2] bcast_S1x1x6144_S2x4352x6144_0_1_2 : (⟨S1x1x6144, .f32⟩ : BufTy).Contents (Elt F) → (⟨S2x4352x6144, .f32⟩ : BufTy).Contents (Elt F)),
    binary main_v33 main_v35 main_v36 (addf : (⟨S2x4352x6144, .f32⟩ : BufTy).Contents (Elt F) → (⟨S2x4352x6144, .f32⟩ : BufTy).Contents (Elt F) → (⟨S2x4352x6144, .f32⟩ : BufTy).Contents (Elt F)),
    TRef.unary (TRef.of (T := ⟨S2x4352x6144, .f32⟩) main_v36) (TRef.of (T := ⟨S2x4352x6144, .f32⟩) main_call1_v0) Host.negf,
    TRef.unary (TRef.of (T := ⟨S2x4352x6144, .f32⟩) main_call1_v0) (TRef.of (T := ⟨S2x4352x6144, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S2x4352x6144, .f32⟩) main_call1_v2) (broadcastInDim S2x4352x6144 ![] bcast_S_S2x4352x6144),
    TRef.binary (TRef.of (T := ⟨S2x4352x6144, .f32⟩) main_call1_v2) (TRef.of (T := ⟨S2x4352x6144, .f32⟩) main_call1_v1) (TRef.of (T := ⟨S2x4352x6144, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S2x4352x6144, .f32⟩) main_call1_v4) (broadcastInDim S2x4352x6144 ![] bcast_S_S2x4352x6144),
    TRef.binary (TRef.of (T := ⟨S2x4352x6144, .f32⟩) main_call1_v4) (TRef.of (T := ⟨S2x4352x6144, .f32⟩) main_call1_v3) (TRef.of (T := ⟨S2x4352x6144, .f32⟩) main_call1_v5) Host.divf,
    TRef.binary (TRef.of (T := ⟨S2x4352x6144, .f32⟩) main_v36) (TRef.of (T := ⟨S2x4352x6144, .f32⟩) main_call1_v5) (TRef.of (T := ⟨S2x4352x6144, .f32⟩) main_v37) mulf,
    unary main_arg4 main_v38 (broadcastInDim S1x1x64 ![2] bcast_S64_S1x1x64_2 : (⟨S64, .f32⟩ : BufTy).Contents (Elt F) → (⟨S1x1x64, .f32⟩ : BufTy).Contents (Elt F)),
    unary main_v38 main_v39 (broadcastInDim S2x4352x64 ![0, 1, 2] bcast_S1x1x64_S2x4352x64_0_1_2 : (⟨S1x1x64, .f32⟩ : BufTy).Contents (Elt F) → (⟨S2x4352x64, .f32⟩ : BufTy).Contents (Elt F)),
    binary main_arg1 main_v39 main_v40 (addf : (⟨S2x4352x64, .f32⟩ : BufTy).Contents (Elt F) → (⟨S2x4352x64, .f32⟩ : BufTy).Contents (Elt F) → (⟨S2x4352x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S2x4352x64, .f32⟩) main_call2_v0) (broadcastInDim S2x4352x64 ![] bcast_S_S2x4352x64),
    TRef.binary (TRef.of (T := ⟨S2x4352x64, .f32⟩) main_v40) (TRef.of (T := ⟨S2x4352x64, .f32⟩) main_call2_v0) (TRef.of (T := ⟨S2x4352x64, .f32⟩) main_call2_v1) maximumf,
    TRef.unary (TRef.of (T := ⟨S_, .f32⟩) main_call2_cst) (TRef.of (T := ⟨S2x4352x64, .f32⟩) main_call2_v2) (broadcastInDim S2x4352x64 ![] bcast_S_S2x4352x64),
    TRef.binary (TRef.of (T := ⟨S2x4352x64, .f32⟩) main_v40) (TRef.of (T := ⟨S2x4352x64, .f32⟩) main_call2_v2) (TRef.of (T := ⟨S2x4352x64, .f32⟩) main_call2_v3) subf,
    TRef.binary (TRef.of (T := ⟨S2x4352x64, .f32⟩) main_call2_v3) (TRef.of (T := ⟨S2x4352x64, .f32⟩) main_call2_v3) (TRef.of (T := ⟨S2x4352x64, .i1⟩) main_call2_v4) (cmpf .une),
    TRef.unary (TRef.of (T := ⟨S_, .f32⟩) main_call2_cst) (TRef.of (T := ⟨S2x4352x64, .f32⟩) main_call2_v5) (broadcastInDim S2x4352x64 ![] bcast_S_S2x4352x64),
    TRef.binary (TRef.of (T := ⟨S2x4352x64, .f32⟩) main_v40) (TRef.of (T := ⟨S2x4352x64, .f32⟩) main_call2_v5) (TRef.of (T := ⟨S2x4352x64, .f32⟩) main_call2_v6) addf ]

/-- @main's operations 61 … 85 of 254 (window `main_part0`). -/
abbrev ops_part0_2 : List (HloOp τ sig (Elt F)) :=
  [ TRef.unary (TRef.of (T := ⟨S2x4352x64, .f32⟩) main_call2_v3) (TRef.of (T := ⟨S2x4352x64, .f32⟩) main_call2_v7) Host.absf,
    TRef.unary (TRef.of (T := ⟨S2x4352x64, .f32⟩) main_call2_v7) (TRef.of (T := ⟨S2x4352x64, .f32⟩) main_call2_v8) Host.negf,
    TRef.unary (TRef.of (T := ⟨S2x4352x64, .f32⟩) main_call2_v8) (TRef.of (T := ⟨S2x4352x64, .f32⟩) main_call2_v9) Host.exp,
    TRef.unary (TRef.of (T := ⟨S2x4352x64, .f32⟩) main_call2_v9) (TRef.of (T := ⟨S2x4352x64, .f32⟩) main_call2_v10) Host.log1p,
    TRef.binary (TRef.of (T := ⟨S2x4352x64, .f32⟩) main_call2_v1) (TRef.of (T := ⟨S2x4352x64, .f32⟩) main_call2_v10) (TRef.of (T := ⟨S2x4352x64, .f32⟩) main_call2_v11) addf,
    TRef.ternary (TRef.of (T := ⟨S2x4352x64, .i1⟩) main_call2_v4) (TRef.of (T := ⟨S2x4352x64, .f32⟩) main_call2_v6) (TRef.of (T := ⟨S2x4352x64, .f32⟩) main_call2_v11) (TRef.of (T := ⟨S2x4352x64, .f32⟩) main_v41) select,
    nullary main_v42 (iotaInDim S4352 32 0),
    unary main_v42 main_v43 (broadcastInDim S1x4352x1 ![1] bcast_S4352_S1x4352x1_1 : (⟨S4352, .i32⟩ : BufTy).Contents (Elt F) → (⟨S1x4352x1, .i32⟩ : BufTy).Contents (Elt F)),
    nullary main_c_0 (constantI S_ 32 240#32),
    unary main_c_0 main_v44 (broadcastInDim S1x4352x1 ![] bcast_S_S1x4352x1 : (⟨S_, .i32⟩ : BufTy).Contents (Elt F) → (⟨S1x4352x1, .i32⟩ : BufTy).Contents (Elt F)),
    binary main_v43 main_v44 main_v45 (cmpi .slt : (⟨S1x4352x1, .i32⟩ : BufTy).Contents (Elt F) → (⟨S1x4352x1, .i32⟩ : BufTy).Contents (Elt F) → (⟨S1x4352x1, .i1⟩ : BufTy).Contents (Elt F)),
    nullary main_cst_1 (constant S_ .f32 0x00000000#32),
    TRef.unary (TRef.of (T := ⟨S_, .f32⟩) main_cst_1) (TRef.of (T := ⟨S_, .f32⟩) main_call3_v0) id,
    TRef.unary (TRef.of (T := ⟨S1x4352x1, .i1⟩) main_v45) (TRef.of (T := ⟨S2x4352x64, .i1⟩) main_call3_v1) (broadcastInDim S2x4352x64 ![0, 1, 2] bcast_S1x4352x1_S2x4352x64_0_1_2),
    TRef.unary (TRef.of (T := ⟨S_, .f32⟩) main_call3_v0) (TRef.of (T := ⟨S2x4352x64, .f32⟩) main_call3_v2) (broadcastInDim S2x4352x64 ![] bcast_S_S2x4352x64),
    TRef.ternary (TRef.of (T := ⟨S2x4352x64, .i1⟩) main_call3_v1) (TRef.of (T := ⟨S2x4352x64, .f32⟩) main_call3_v2) (TRef.of (T := ⟨S2x4352x64, .f32⟩) main_v41) (TRef.of (T := ⟨S2x4352x64, .f32⟩) main_v46) select,
    unary main_arg5 main_v47 (Host.exp : (⟨S64, .f32⟩ : BufTy).Contents (Elt F) → (⟨S64, .f32⟩ : BufTy).Contents (Elt F)),
    unary main_v47 main_v48 (Host.negf : (⟨S64, .f32⟩ : BufTy).Contents (Elt F) → (⟨S64, .f32⟩ : BufTy).Contents (Elt F)),
    unary main_v37 main_v49 ((extractStridedSlice S2x4352x4096 ![0, 0, 0] · slices_S2x4352x6144_S2x4352x4096_0_0_0) : (⟨S2x4352x6144, .f32⟩ : BufTy).Contents (Elt F) → (⟨S2x4352x4096, .f32⟩ : BufTy).Contents (Elt F)),
    reshape main_v49 main_v50 (rfl : (.f32 : EltTy) = .f32) shapeCasts_S2x4352x4096_S2x17x256x8x8x64,
    unary main_v37 main_v51 ((extractStridedSlice S2x4352x1024 ![0, 0, 4096] · slices_S2x4352x6144_S2x4352x1024_0_0_4096) : (⟨S2x4352x6144, .f32⟩ : BufTy).Contents (Elt F) → (⟨S2x4352x1024, .f32⟩ : BufTy).Contents (Elt F)),
    reshape main_v51 main_v52 (rfl : (.f32 : EltTy) = .f32) shapeCasts_S2x4352x1024_S2x17x256x8x128,
    unary main_v37 main_v53 ((extractStridedSlice S2x4352x1024 ![0, 0, 5120] · slices_S2x4352x6144_S2x4352x1024_0_0_5120) : (⟨S2x4352x6144, .f32⟩ : BufTy).Contents (Elt F) → (⟨S2x4352x1024, .f32⟩ : BufTy).Contents (Elt F)),
    reshape main_v53 main_v54 (rfl : (.f32 : EltTy) = .f32) shapeCasts_S2x4352x1024_S2x17x256x8x128,
    reshape main_v46 main_v55 (rfl : (.f32 : EltTy) = .f32) shapeCasts_S2x4352x64_S2x17x256x8x8 ]

/-- Window `main_part0`'s operations. Not an abbreviation: `main_eq` below splits `ops` into the windows and no further. -/
def ops_part0 : List (HloOp τ sig (Elt F)) :=
  ops_part0_0 ++ (ops_part0_1 ++ (ops_part0_2))

/-- @main's operations 86 … 115 of 254 (window `main_part1`). -/
abbrev ops_part1_0 : List (HloOp τ sig (Elt F)) :=
  [ reshape main_v48 main_v56 (rfl : (.f32 : EltTy) = .f32) shapeCasts_S64_S8x8,
    unary main_v56 main_v57 (broadcastInDim S1x1x1x8x8 ![3, 4] bcast_S8x8_S1x1x1x8x8_3_4 : (⟨S8x8, .f32⟩ : BufTy).Contents (Elt F) → (⟨S1x1x1x8x8, .f32⟩ : BufTy).Contents (Elt F)),
    unary main_v57 main_v58 (broadcastInDim S2x17x256x8x8 ![0, 1, 2, 3, 4] bcast_S1x1x1x8x8_S2x17x256x8x8_0_1_2_3_4 : (⟨S1x1x1x8x8, .f32⟩ : BufTy).Contents (Elt F) → (⟨S2x17x256x8x8, .f32⟩ : BufTy).Contents (Elt F)),
    binary main_v55 main_v58 main_v59 (mulf : (⟨S2x17x256x8x8, .f32⟩ : BufTy).Contents (Elt F) → (⟨S2x17x256x8x8, .f32⟩ : BufTy).Contents (Elt F) → (⟨S2x17x256x8x8, .f32⟩ : BufTy).Contents (Elt F)),
    unary main_v59 main_v60 ((transpose S2x17x8x8x256 [0, 1, 3, 4, 2] · transposes_S2x17x256x8x8_S2x17x8x8x256_0_1_3_4_2) : (⟨S2x17x256x8x8, .f32⟩ : BufTy).Contents (Elt F) → (⟨S2x17x8x8x256, .f32⟩ : BufTy).Contents (Elt F)),
    TRef.nullary (TRef.of (T := ⟨S_, .f32⟩) main_call4_call0_cst) (constant S_ .f32 0x00000000#32),
    TRef.unary (TRef.of (T := ⟨S_, .f32⟩) main_call4_call0_cst) (TRef.of (T := ⟨S_, .f32⟩) main_call4_call0_v0) (broadcastInDim S_ ![] bcast_S_S_),
    TRef.binary (TRef.of (T := ⟨S2x17x8x8x256, .f32⟩) main_v60) (TRef.of (T := ⟨S_, .f32⟩) main_call4_call0_v0) (TRef.of (T := ⟨S2x17x8x8x256, .f32⟩) main_v61) (fun x v => Host.reduceWindowAdd ![1, 1, 1, 1, 256] ![1, 1, 1, 1, 1] ![0, 0, 0, 0, 255] ![0, 0, 0, 0, 0] x v reduceWindows_S2x17x8x8x256_S2x17x8x8x256_w1s1p0_0_w1s1p0_0_w1s1p0_0_w1s1p0_0_w256s1p255_0 h_S_),
    unary main_v55 main_v62 (broadcastInDim S2x17x256x8x8x1 ![0, 1, 2, 3, 4] bcast_S2x17x256x8x8_S2x17x256x8x8x1_0_1_2_3_4 : (⟨S2x17x256x8x8, .f32⟩ : BufTy).Contents (Elt F) → (⟨S2x17x256x8x8x1, .f32⟩ : BufTy).Contents (Elt F)),
    unary main_v62 main_v63 (broadcastInDim S2x17x256x8x8x64 ![0, 1, 2, 3, 4, 5] bcast_S2x17x256x8x8x1_S2x17x256x8x8x64_0_1_2_3_4_5 : (⟨S2x17x256x8x8x1, .f32⟩ : BufTy).Contents (Elt F) → (⟨S2x17x256x8x8x64, .f32⟩ : BufTy).Contents (Elt F)),
    binary main_v50 main_v63 main_v64 (mulf : (⟨S2x17x256x8x8x64, .f32⟩ : BufTy).Contents (Elt F) → (⟨S2x17x256x8x8x64, .f32⟩ : BufTy).Contents (Elt F) → (⟨S2x17x256x8x8x64, .f32⟩ : BufTy).Contents (Elt F)),
    unary main_v61 main_v65 (broadcastInDim S2x17x8x8x256x1 ![0, 1, 2, 3, 4] bcast_S2x17x8x8x256_S2x17x8x8x256x1_0_1_2_3_4 : (⟨S2x17x8x8x256, .f32⟩ : BufTy).Contents (Elt F) → (⟨S2x17x8x8x256x1, .f32⟩ : BufTy).Contents (Elt F)),
    unary main_v61 main_v66 (broadcastInDim S2x17x8x8x1x256 ![0, 1, 2, 3, 5] bcast_S2x17x8x8x256_S2x17x8x8x1x256_0_1_2_3_5 : (⟨S2x17x8x8x256, .f32⟩ : BufTy).Contents (Elt F) → (⟨S2x17x8x8x1x256, .f32⟩ : BufTy).Contents (Elt F)),
    unary main_v65 main_v67 (broadcastInDim S2x17x8x8x256x256 ![0, 1, 2, 3, 4, 5] bcast_S2x17x8x8x256x1_S2x17x8x8x256x256_0_1_2_3_4_5 : (⟨S2x17x8x8x256x1, .f32⟩ : BufTy).Contents (Elt F) → (⟨S2x17x8x8x256x256, .f32⟩ : BufTy).Contents (Elt F)),
    unary main_v66 main_v68 (broadcastInDim S2x17x8x8x256x256 ![0, 1, 2, 3, 4, 5] bcast_S2x17x8x8x1x256_S2x17x8x8x256x256_0_1_2_3_4_5 : (⟨S2x17x8x8x1x256, .f32⟩ : BufTy).Contents (Elt F) → (⟨S2x17x8x8x256x256, .f32⟩ : BufTy).Contents (Elt F)),
    binary main_v67 main_v68 main_v69 (subf : (⟨S2x17x8x8x256x256, .f32⟩ : BufTy).Contents (Elt F) → (⟨S2x17x8x8x256x256, .f32⟩ : BufTy).Contents (Elt F) → (⟨S2x17x8x8x256x256, .f32⟩ : BufTy).Contents (Elt F)),
    nullary main_c_2 (constantI S_ 1 1#1),
    unary main_c_2 main_v70 (broadcastInDim S256x256 ![] bcast_S_S256x256 : (⟨S_, .i1⟩ : BufTy).Contents (Elt F) → (⟨S256x256, .i1⟩ : BufTy).Contents (Elt F)),
    TRef.nullary (TRef.of (T := ⟨S256x256, .i32⟩) main_call5_v0) (iotaInDim S256x256 32 0),
    TRef.nullary (TRef.of (T := ⟨S_, .i32⟩) main_call5_c) (constantI S_ 32 0#32),
    TRef.unary (TRef.of (T := ⟨S_, .i32⟩) main_call5_c) (TRef.of (T := ⟨S256x256, .i32⟩) main_call5_v1) (broadcastInDim S256x256 ![] bcast_S_S256x256),
    TRef.binary (TRef.of (T := ⟨S256x256, .i32⟩) main_call5_v0) (TRef.of (T := ⟨S256x256, .i32⟩) main_call5_v1) (TRef.of (T := ⟨S256x256, .i32⟩) main_call5_v2) addi,
    TRef.nullary (TRef.of (T := ⟨S256x256, .i32⟩) main_call5_v3) (iotaInDim S256x256 32 1),
    TRef.binary (TRef.of (T := ⟨S256x256, .i32⟩) main_call5_v2) (TRef.of (T := ⟨S256x256, .i32⟩) main_call5_v3) (TRef.of (T := ⟨S256x256, .i1⟩) main_call5_v4) (cmpi .sge),
    TRef.nullary (TRef.of (T := ⟨S_, .i1⟩) main_call5_c_0) (constantI S_ 1 0#1),
    TRef.unary (TRef.of (T := ⟨S_, .i1⟩) main_call5_c_0) (TRef.of (T := ⟨S256x256, .i1⟩) main_call5_v5) (broadcastInDim S256x256 ![] bcast_S_S256x256),
    TRef.ternary (TRef.of (T := ⟨S256x256, .i1⟩) main_call5_v4) (TRef.of (T := ⟨S256x256, .i1⟩) main_v70) (TRef.of (T := ⟨S256x256, .i1⟩) main_call5_v5) (TRef.of (T := ⟨S256x256, .i1⟩) main_v71) select,
    nullary main_cst_3 (constant S_ .f32 0xFF800000#32),
    TRef.unary (TRef.of (T := ⟨S_, .f32⟩) main_cst_3) (TRef.of (T := ⟨S_, .f32⟩) main_call6_v0) id,
    TRef.unary (TRef.of (T := ⟨S256x256, .i1⟩) main_v71) (TRef.of (T := ⟨S2x17x8x8x256x256, .i1⟩) main_call6_v1) (broadcastInDim S2x17x8x8x256x256 ![4, 5] bcast_S256x256_S2x17x8x8x256x256_4_5) ]

/-- @main's operations 116 … 145 of 254 (window `main_part1`). -/
abbrev ops_part1_1 : List (HloOp τ sig (Elt F)) :=
  [ TRef.unary (TRef.of (T := ⟨S_, .f32⟩) main_call6_v0) (TRef.of (T := ⟨S2x17x8x8x256x256, .f32⟩) main_call6_v2) (broadcastInDim S2x17x8x8x256x256 ![] bcast_S_S2x17x8x8x256x256),
    TRef.ternary (TRef.of (T := ⟨S2x17x8x8x256x256, .i1⟩) main_call6_v1) (TRef.of (T := ⟨S2x17x8x8x256x256, .f32⟩) main_v69) (TRef.of (T := ⟨S2x17x8x8x256x256, .f32⟩) main_call6_v2) (TRef.of (T := ⟨S2x17x8x8x256x256, .f32⟩) main_v72) select,
    unary main_v72 main_v73 (Host.exp : (⟨S2x17x8x8x256x256, .f32⟩ : BufTy).Contents (Elt F) → (⟨S2x17x8x8x256x256, .f32⟩ : BufTy).Contents (Elt F)),
    binary main_v54 main_v52 main_v74 ((fun l r => Host.dotGeneral dot_S2x17x256x8x128_S2x17x256x8x128_S2x17x8x256x256_4_4_2_2_013_013 none l r) : (⟨S2x17x256x8x128, .f32⟩ : BufTy).Contents (Elt F) → (⟨S2x17x256x8x128, .f32⟩ : BufTy).Contents (Elt F) → (⟨S2x17x8x256x256, .f32⟩ : BufTy).Contents (Elt F)),
    unary main_v74 main_v75 (broadcastInDim S2x17x8x1x256x256 ![0, 1, 2, 4, 5] bcast_S2x17x8x256x256_S2x17x8x1x256x256_0_1_2_4_5 : (⟨S2x17x8x256x256, .f32⟩ : BufTy).Contents (Elt F) → (⟨S2x17x8x1x256x256, .f32⟩ : BufTy).Contents (Elt F)),
    unary main_v75 main_v76 (broadcastInDim S2x17x8x8x256x256 ![0, 1, 2, 3, 4, 5] bcast_S2x17x8x1x256x256_S2x17x8x8x256x256_0_1_2_3_4_5 : (⟨S2x17x8x1x256x256, .f32⟩ : BufTy).Contents (Elt F) → (⟨S2x17x8x8x256x256, .f32⟩ : BufTy).Contents (Elt F)),
    binary main_v76 main_v73 main_v77 (mulf : (⟨S2x17x8x8x256x256, .f32⟩ : BufTy).Contents (Elt F) → (⟨S2x17x8x8x256x256, .f32⟩ : BufTy).Contents (Elt F) → (⟨S2x17x8x8x256x256, .f32⟩ : BufTy).Contents (Elt F)),
    binary main_v64 main_v77 main_v78 ((fun l r => Host.dotGeneral dot_S2x17x256x8x8x64_S2x17x8x8x256x256_S2x17x8x8x64x256_2_5_5_4_0134_0123 none l r) : (⟨S2x17x256x8x8x64, .f32⟩ : BufTy).Contents (Elt F) → (⟨S2x17x8x8x256x256, .f32⟩ : BufTy).Contents (Elt F) → (⟨S2x17x8x8x64x256, .f32⟩ : BufTy).Contents (Elt F)),
    unary main_v78 main_v79 ((transpose S2x17x256x8x8x64 [0, 1, 5, 2, 3, 4] · transposes_S2x17x8x8x64x256_S2x17x256x8x8x64_0_1_5_2_3_4) : (⟨S2x17x8x8x64x256, .f32⟩ : BufTy).Contents (Elt F) → (⟨S2x17x256x8x8x64, .f32⟩ : BufTy).Contents (Elt F)),
    unary main_v61 main_v80 ((extractStridedSlice S2x17x8x8x1 ![0, 0, 0, 0, 255] · slices_S2x17x8x8x256_S2x17x8x8x1_0_0_0_0_255) : (⟨S2x17x8x8x256, .f32⟩ : BufTy).Contents (Elt F) → (⟨S2x17x8x8x1, .f32⟩ : BufTy).Contents (Elt F)),
    unary main_v80 main_v81 (broadcastInDim S2x17x8x8x256 ![0, 1, 2, 3, 4] bcast_S2x17x8x8x1_S2x17x8x8x256_0_1_2_3_4 : (⟨S2x17x8x8x1, .f32⟩ : BufTy).Contents (Elt F) → (⟨S2x17x8x8x256, .f32⟩ : BufTy).Contents (Elt F)),
    binary main_v81 main_v61 main_v82 (subf : (⟨S2x17x8x8x256, .f32⟩ : BufTy).Contents (Elt F) → (⟨S2x17x8x8x256, .f32⟩ : BufTy).Contents (Elt F) → (⟨S2x17x8x8x256, .f32⟩ : BufTy).Contents (Elt F)),
    unary main_v82 main_v83 (Host.exp : (⟨S2x17x8x8x256, .f32⟩ : BufTy).Contents (Elt F) → (⟨S2x17x8x8x256, .f32⟩ : BufTy).Contents (Elt F)),
    unary main_v52 main_v84 ((transpose S2x17x8x256x128 [0, 1, 3, 2, 4] · transposes_S2x17x256x8x128_S2x17x8x256x128_0_1_3_2_4) : (⟨S2x17x256x8x128, .f32⟩ : BufTy).Contents (Elt F) → (⟨S2x17x8x256x128, .f32⟩ : BufTy).Contents (Elt F)),
    unary main_v84 main_v85 (broadcastInDim S2x17x8x1x256x128 ![0, 1, 2, 4, 5] bcast_S2x17x8x256x128_S2x17x8x1x256x128_0_1_2_4_5 : (⟨S2x17x8x256x128, .f32⟩ : BufTy).Contents (Elt F) → (⟨S2x17x8x1x256x128, .f32⟩ : BufTy).Contents (Elt F)),
    unary main_v83 main_v86 (broadcastInDim S2x17x8x8x256x1 ![0, 1, 2, 3, 4] bcast_S2x17x8x8x256_S2x17x8x8x256x1_0_1_2_3_4 : (⟨S2x17x8x8x256, .f32⟩ : BufTy).Contents (Elt F) → (⟨S2x17x8x8x256x1, .f32⟩ : BufTy).Contents (Elt F)),
    unary main_v85 main_v87 (broadcastInDim S2x17x8x8x256x128 ![0, 1, 2, 3, 4, 5] bcast_S2x17x8x1x256x128_S2x17x8x8x256x128_0_1_2_3_4_5 : (⟨S2x17x8x1x256x128, .f32⟩ : BufTy).Contents (Elt F) → (⟨S2x17x8x8x256x128, .f32⟩ : BufTy).Contents (Elt F)),
    unary main_v86 main_v88 (broadcastInDim S2x17x8x8x256x128 ![0, 1, 2, 3, 4, 5] bcast_S2x17x8x8x256x1_S2x17x8x8x256x128_0_1_2_3_4_5 : (⟨S2x17x8x8x256x1, .f32⟩ : BufTy).Contents (Elt F) → (⟨S2x17x8x8x256x128, .f32⟩ : BufTy).Contents (Elt F)),
    binary main_v87 main_v88 main_v89 (mulf : (⟨S2x17x8x8x256x128, .f32⟩ : BufTy).Contents (Elt F) → (⟨S2x17x8x8x256x128, .f32⟩ : BufTy).Contents (Elt F) → (⟨S2x17x8x8x256x128, .f32⟩ : BufTy).Contents (Elt F)),
    binary main_v64 main_v89 main_v90 ((fun l r => Host.dotGeneral dot_S2x17x256x8x8x64_S2x17x8x8x256x128_S2x17x8x8x64x128_2_4_5_5_0134_0123 none l r) : (⟨S2x17x256x8x8x64, .f32⟩ : BufTy).Contents (Elt F) → (⟨S2x17x8x8x256x128, .f32⟩ : BufTy).Contents (Elt F) → (⟨S2x17x8x8x64x128, .f32⟩ : BufTy).Contents (Elt F)),
    unary main_v61 main_v91 ((extractStridedSlice S2x17x8x8x1 ![0, 0, 0, 0, 255] · slices_S2x17x8x8x256_S2x17x8x8x1_0_0_0_0_255) : (⟨S2x17x8x8x256, .f32⟩ : BufTy).Contents (Elt F) → (⟨S2x17x8x8x1, .f32⟩ : BufTy).Contents (Elt F)),
    unary main_v91 main_v92 (Host.exp : (⟨S2x17x8x8x1, .f32⟩ : BufTy).Contents (Elt F) → (⟨S2x17x8x8x1, .f32⟩ : BufTy).Contents (Elt F)),
    unary main_v92 main_v93 (broadcastInDim S2x17x8x8x1x1 ![0, 1, 2, 3, 4] bcast_S2x17x8x8x1_S2x17x8x8x1x1_0_1_2_3_4 : (⟨S2x17x8x8x1, .f32⟩ : BufTy).Contents (Elt F) → (⟨S2x17x8x8x1x1, .f32⟩ : BufTy).Contents (Elt F)),
    unary main_v93 main_v94 (broadcastInDim S2x17x8x8x64x128 ![0, 1, 2, 3, 4, 5] bcast_S2x17x8x8x1x1_S2x17x8x8x64x128_0_1_2_3_4_5 : (⟨S2x17x8x8x1x1, .f32⟩ : BufTy).Contents (Elt F) → (⟨S2x17x8x8x64x128, .f32⟩ : BufTy).Contents (Elt F)),
    nullary main_cst_4 (constant S_ .f32 0x00000000#32),
    unary main_cst_4 main_v95 (broadcastInDim S2x1x8x8x64x128 ![] bcast_S_S2x1x8x8x64x128 : (⟨S_, .f32⟩ : BufTy).Contents (Elt F) → (⟨S2x1x8x8x64x128, .f32⟩ : BufTy).Contents (Elt F)),
    unary main_v94 main_v96 ((extractStridedSlice S2x1x8x8x64x128 ![0, 0, 0, 0, 0, 0] · slices_S2x17x8x8x64x128_S2x1x8x8x64x128_0_0_0_0_0_0) : (⟨S2x17x8x8x64x128, .f32⟩ : BufTy).Contents (Elt F) → (⟨S2x1x8x8x64x128, .f32⟩ : BufTy).Contents (Elt F)),
    binary main_v95 main_v96 main_v97 (mulf : (⟨S2x1x8x8x64x128, .f32⟩ : BufTy).Contents (Elt F) → (⟨S2x1x8x8x64x128, .f32⟩ : BufTy).Contents (Elt F) → (⟨S2x1x8x8x64x128, .f32⟩ : BufTy).Contents (Elt F)),
    unary main_v90 main_v98 ((extractStridedSlice S2x1x8x8x64x128 ![0, 0, 0, 0, 0, 0] · slices_S2x17x8x8x64x128_S2x1x8x8x64x128_0_0_0_0_0_0) : (⟨S2x17x8x8x64x128, .f32⟩ : BufTy).Contents (Elt F) → (⟨S2x1x8x8x64x128, .f32⟩ : BufTy).Contents (Elt F)),
    binary main_v97 main_v98 main_v99 (addf : (⟨S2x1x8x8x64x128, .f32⟩ : BufTy).Contents (Elt F) → (⟨S2x1x8x8x64x128, .f32⟩ : BufTy).Contents (Elt F) → (⟨S2x1x8x8x64x128, .f32⟩ : BufTy).Contents (Elt F)) ]

/-- @main's operations 146 … 158 of 254 (window `main_part1`). -/
abbrev ops_part1_2 : List (HloOp τ sig (Elt F)) :=
  [ unary main_v94 main_v100 ((extractStridedSlice S2x1x8x8x64x128 ![0, 1, 0, 0, 0, 0] · slices_S2x17x8x8x64x128_S2x1x8x8x64x128_0_1_0_0_0_0) : (⟨S2x17x8x8x64x128, .f32⟩ : BufTy).Contents (Elt F) → (⟨S2x1x8x8x64x128, .f32⟩ : BufTy).Contents (Elt F)),
    binary main_v99 main_v100 main_v101 (mulf : (⟨S2x1x8x8x64x128, .f32⟩ : BufTy).Contents (Elt F) → (⟨S2x1x8x8x64x128, .f32⟩ : BufTy).Contents (Elt F) → (⟨S2x1x8x8x64x128, .f32⟩ : BufTy).Contents (Elt F)),
    unary main_v90 main_v102 ((extractStridedSlice S2x1x8x8x64x128 ![0, 1, 0, 0, 0, 0] · slices_S2x17x8x8x64x128_S2x1x8x8x64x128_0_1_0_0_0_0) : (⟨S2x17x8x8x64x128, .f32⟩ : BufTy).Contents (Elt F) → (⟨S2x1x8x8x64x128, .f32⟩ : BufTy).Contents (Elt F)),
    binary main_v101 main_v102 main_v103 (addf : (⟨S2x1x8x8x64x128, .f32⟩ : BufTy).Contents (Elt F) → (⟨S2x1x8x8x64x128, .f32⟩ : BufTy).Contents (Elt F) → (⟨S2x1x8x8x64x128, .f32⟩ : BufTy).Contents (Elt F)),
    unary main_v94 main_v104 ((extractStridedSlice S2x1x8x8x64x128 ![0, 2, 0, 0, 0, 0] · slices_S2x17x8x8x64x128_S2x1x8x8x64x128_0_2_0_0_0_0) : (⟨S2x17x8x8x64x128, .f32⟩ : BufTy).Contents (Elt F) → (⟨S2x1x8x8x64x128, .f32⟩ : BufTy).Contents (Elt F)),
    binary main_v103 main_v104 main_v105 (mulf : (⟨S2x1x8x8x64x128, .f32⟩ : BufTy).Contents (Elt F) → (⟨S2x1x8x8x64x128, .f32⟩ : BufTy).Contents (Elt F) → (⟨S2x1x8x8x64x128, .f32⟩ : BufTy).Contents (Elt F)),
    unary main_v90 main_v106 ((extractStridedSlice S2x1x8x8x64x128 ![0, 2, 0, 0, 0, 0] · slices_S2x17x8x8x64x128_S2x1x8x8x64x128_0_2_0_0_0_0) : (⟨S2x17x8x8x64x128, .f32⟩ : BufTy).Contents (Elt F) → (⟨S2x1x8x8x64x128, .f32⟩ : BufTy).Contents (Elt F)),
    binary main_v105 main_v106 main_v107 (addf : (⟨S2x1x8x8x64x128, .f32⟩ : BufTy).Contents (Elt F) → (⟨S2x1x8x8x64x128, .f32⟩ : BufTy).Contents (Elt F) → (⟨S2x1x8x8x64x128, .f32⟩ : BufTy).Contents (Elt F)),
    unary main_v94 main_v108 ((extractStridedSlice S2x1x8x8x64x128 ![0, 3, 0, 0, 0, 0] · slices_S2x17x8x8x64x128_S2x1x8x8x64x128_0_3_0_0_0_0) : (⟨S2x17x8x8x64x128, .f32⟩ : BufTy).Contents (Elt F) → (⟨S2x1x8x8x64x128, .f32⟩ : BufTy).Contents (Elt F)),
    binary main_v107 main_v108 main_v109 (mulf : (⟨S2x1x8x8x64x128, .f32⟩ : BufTy).Contents (Elt F) → (⟨S2x1x8x8x64x128, .f32⟩ : BufTy).Contents (Elt F) → (⟨S2x1x8x8x64x128, .f32⟩ : BufTy).Contents (Elt F)),
    unary main_v90 main_v110 ((extractStridedSlice S2x1x8x8x64x128 ![0, 3, 0, 0, 0, 0] · slices_S2x17x8x8x64x128_S2x1x8x8x64x128_0_3_0_0_0_0) : (⟨S2x17x8x8x64x128, .f32⟩ : BufTy).Contents (Elt F) → (⟨S2x1x8x8x64x128, .f32⟩ : BufTy).Contents (Elt F)),
    binary main_v109 main_v110 main_v111 (addf : (⟨S2x1x8x8x64x128, .f32⟩ : BufTy).Contents (Elt F) → (⟨S2x1x8x8x64x128, .f32⟩ : BufTy).Contents (Elt F) → (⟨S2x1x8x8x64x128, .f32⟩ : BufTy).Contents (Elt F)),
    unary main_v94 main_v112 ((extractStridedSlice S2x1x8x8x64x128 ![0, 4, 0, 0, 0, 0] · slices_S2x17x8x8x64x128_S2x1x8x8x64x128_0_4_0_0_0_0) : (⟨S2x17x8x8x64x128, .f32⟩ : BufTy).Contents (Elt F) → (⟨S2x1x8x8x64x128, .f32⟩ : BufTy).Contents (Elt F)) ]

/-- Window `main_part1`'s operations. Not an abbreviation: `main_eq` below splits `ops` into the windows and no further. -/
def ops_part1 : List (HloOp τ sig (Elt F)) :=
  ops_part1_0 ++ (ops_part1_1 ++ (ops_part1_2))

/-- @main's operations 159 … 218 of 254 (window `main_part2`). -/
abbrev ops_part2 : List (HloOp τ sig (Elt F)) :=
  [ binary main_v111 main_v112 main_v113 (mulf : (⟨S2x1x8x8x64x128, .f32⟩ : BufTy).Contents (Elt F) → (⟨S2x1x8x8x64x128, .f32⟩ : BufTy).Contents (Elt F) → (⟨S2x1x8x8x64x128, .f32⟩ : BufTy).Contents (Elt F)),
    unary main_v90 main_v114 ((extractStridedSlice S2x1x8x8x64x128 ![0, 4, 0, 0, 0, 0] · slices_S2x17x8x8x64x128_S2x1x8x8x64x128_0_4_0_0_0_0) : (⟨S2x17x8x8x64x128, .f32⟩ : BufTy).Contents (Elt F) → (⟨S2x1x8x8x64x128, .f32⟩ : BufTy).Contents (Elt F)),
    binary main_v113 main_v114 main_v115 (addf : (⟨S2x1x8x8x64x128, .f32⟩ : BufTy).Contents (Elt F) → (⟨S2x1x8x8x64x128, .f32⟩ : BufTy).Contents (Elt F) → (⟨S2x1x8x8x64x128, .f32⟩ : BufTy).Contents (Elt F)),
    unary main_v94 main_v116 ((extractStridedSlice S2x1x8x8x64x128 ![0, 5, 0, 0, 0, 0] · slices_S2x17x8x8x64x128_S2x1x8x8x64x128_0_5_0_0_0_0) : (⟨S2x17x8x8x64x128, .f32⟩ : BufTy).Contents (Elt F) → (⟨S2x1x8x8x64x128, .f32⟩ : BufTy).Contents (Elt F)),
    binary main_v115 main_v116 main_v117 (mulf : (⟨S2x1x8x8x64x128, .f32⟩ : BufTy).Contents (Elt F) → (⟨S2x1x8x8x64x128, .f32⟩ : BufTy).Contents (Elt F) → (⟨S2x1x8x8x64x128, .f32⟩ : BufTy).Contents (Elt F)),
    unary main_v90 main_v118 ((extractStridedSlice S2x1x8x8x64x128 ![0, 5, 0, 0, 0, 0] · slices_S2x17x8x8x64x128_S2x1x8x8x64x128_0_5_0_0_0_0) : (⟨S2x17x8x8x64x128, .f32⟩ : BufTy).Contents (Elt F) → (⟨S2x1x8x8x64x128, .f32⟩ : BufTy).Contents (Elt F)),
    binary main_v117 main_v118 main_v119 (addf : (⟨S2x1x8x8x64x128, .f32⟩ : BufTy).Contents (Elt F) → (⟨S2x1x8x8x64x128, .f32⟩ : BufTy).Contents (Elt F) → (⟨S2x1x8x8x64x128, .f32⟩ : BufTy).Contents (Elt F)),
    unary main_v94 main_v120 ((extractStridedSlice S2x1x8x8x64x128 ![0, 6, 0, 0, 0, 0] · slices_S2x17x8x8x64x128_S2x1x8x8x64x128_0_6_0_0_0_0) : (⟨S2x17x8x8x64x128, .f32⟩ : BufTy).Contents (Elt F) → (⟨S2x1x8x8x64x128, .f32⟩ : BufTy).Contents (Elt F)),
    binary main_v119 main_v120 main_v121 (mulf : (⟨S2x1x8x8x64x128, .f32⟩ : BufTy).Contents (Elt F) → (⟨S2x1x8x8x64x128, .f32⟩ : BufTy).Contents (Elt F) → (⟨S2x1x8x8x64x128, .f32⟩ : BufTy).Contents (Elt F)),
    unary main_v90 main_v122 ((extractStridedSlice S2x1x8x8x64x128 ![0, 6, 0, 0, 0, 0] · slices_S2x17x8x8x64x128_S2x1x8x8x64x128_0_6_0_0_0_0) : (⟨S2x17x8x8x64x128, .f32⟩ : BufTy).Contents (Elt F) → (⟨S2x1x8x8x64x128, .f32⟩ : BufTy).Contents (Elt F)),
    binary main_v121 main_v122 main_v123 (addf : (⟨S2x1x8x8x64x128, .f32⟩ : BufTy).Contents (Elt F) → (⟨S2x1x8x8x64x128, .f32⟩ : BufTy).Contents (Elt F) → (⟨S2x1x8x8x64x128, .f32⟩ : BufTy).Contents (Elt F)),
    unary main_v94 main_v124 ((extractStridedSlice S2x1x8x8x64x128 ![0, 7, 0, 0, 0, 0] · slices_S2x17x8x8x64x128_S2x1x8x8x64x128_0_7_0_0_0_0) : (⟨S2x17x8x8x64x128, .f32⟩ : BufTy).Contents (Elt F) → (⟨S2x1x8x8x64x128, .f32⟩ : BufTy).Contents (Elt F)),
    binary main_v123 main_v124 main_v125 (mulf : (⟨S2x1x8x8x64x128, .f32⟩ : BufTy).Contents (Elt F) → (⟨S2x1x8x8x64x128, .f32⟩ : BufTy).Contents (Elt F) → (⟨S2x1x8x8x64x128, .f32⟩ : BufTy).Contents (Elt F)),
    unary main_v90 main_v126 ((extractStridedSlice S2x1x8x8x64x128 ![0, 7, 0, 0, 0, 0] · slices_S2x17x8x8x64x128_S2x1x8x8x64x128_0_7_0_0_0_0) : (⟨S2x17x8x8x64x128, .f32⟩ : BufTy).Contents (Elt F) → (⟨S2x1x8x8x64x128, .f32⟩ : BufTy).Contents (Elt F)),
    binary main_v125 main_v126 main_v127 (addf : (⟨S2x1x8x8x64x128, .f32⟩ : BufTy).Contents (Elt F) → (⟨S2x1x8x8x64x128, .f32⟩ : BufTy).Contents (Elt F) → (⟨S2x1x8x8x64x128, .f32⟩ : BufTy).Contents (Elt F)),
    unary main_v94 main_v128 ((extractStridedSlice S2x1x8x8x64x128 ![0, 8, 0, 0, 0, 0] · slices_S2x17x8x8x64x128_S2x1x8x8x64x128_0_8_0_0_0_0) : (⟨S2x17x8x8x64x128, .f32⟩ : BufTy).Contents (Elt F) → (⟨S2x1x8x8x64x128, .f32⟩ : BufTy).Contents (Elt F)),
    binary main_v127 main_v128 main_v129 (mulf : (⟨S2x1x8x8x64x128, .f32⟩ : BufTy).Contents (Elt F) → (⟨S2x1x8x8x64x128, .f32⟩ : BufTy).Contents (Elt F) → (⟨S2x1x8x8x64x128, .f32⟩ : BufTy).Contents (Elt F)),
    unary main_v90 main_v130 ((extractStridedSlice S2x1x8x8x64x128 ![0, 8, 0, 0, 0, 0] · slices_S2x17x8x8x64x128_S2x1x8x8x64x128_0_8_0_0_0_0) : (⟨S2x17x8x8x64x128, .f32⟩ : BufTy).Contents (Elt F) → (⟨S2x1x8x8x64x128, .f32⟩ : BufTy).Contents (Elt F)),
    binary main_v129 main_v130 main_v131 (addf : (⟨S2x1x8x8x64x128, .f32⟩ : BufTy).Contents (Elt F) → (⟨S2x1x8x8x64x128, .f32⟩ : BufTy).Contents (Elt F) → (⟨S2x1x8x8x64x128, .f32⟩ : BufTy).Contents (Elt F)),
    unary main_v94 main_v132 ((extractStridedSlice S2x1x8x8x64x128 ![0, 9, 0, 0, 0, 0] · slices_S2x17x8x8x64x128_S2x1x8x8x64x128_0_9_0_0_0_0) : (⟨S2x17x8x8x64x128, .f32⟩ : BufTy).Contents (Elt F) → (⟨S2x1x8x8x64x128, .f32⟩ : BufTy).Contents (Elt F)),
    binary main_v131 main_v132 main_v133 (mulf : (⟨S2x1x8x8x64x128, .f32⟩ : BufTy).Contents (Elt F) → (⟨S2x1x8x8x64x128, .f32⟩ : BufTy).Contents (Elt F) → (⟨S2x1x8x8x64x128, .f32⟩ : BufTy).Contents (Elt F)),
    unary main_v90 main_v134 ((extractStridedSlice S2x1x8x8x64x128 ![0, 9, 0, 0, 0, 0] · slices_S2x17x8x8x64x128_S2x1x8x8x64x128_0_9_0_0_0_0) : (⟨S2x17x8x8x64x128, .f32⟩ : BufTy).Contents (Elt F) → (⟨S2x1x8x8x64x128, .f32⟩ : BufTy).Contents (Elt F)),
    binary main_v133 main_v134 main_v135 (addf : (⟨S2x1x8x8x64x128, .f32⟩ : BufTy).Contents (Elt F) → (⟨S2x1x8x8x64x128, .f32⟩ : BufTy).Contents (Elt F) → (⟨S2x1x8x8x64x128, .f32⟩ : BufTy).Contents (Elt F)),
    unary main_v94 main_v136 ((extractStridedSlice S2x1x8x8x64x128 ![0, 10, 0, 0, 0, 0] · slices_S2x17x8x8x64x128_S2x1x8x8x64x128_0_10_0_0_0_0) : (⟨S2x17x8x8x64x128, .f32⟩ : BufTy).Contents (Elt F) → (⟨S2x1x8x8x64x128, .f32⟩ : BufTy).Contents (Elt F)),
    binary main_v135 main_v136 main_v137 (mulf : (⟨S2x1x8x8x64x128, .f32⟩ : BufTy).Contents (Elt F) → (⟨S2x1x8x8x64x128, .f32⟩ : BufTy).Contents (Elt F) → (⟨S2x1x8x8x64x128, .f32⟩ : BufTy).Contents (Elt F)),
    unary main_v90 main_v138 ((extractStridedSlice S2x1x8x8x64x128 ![0, 10, 0, 0, 0, 0] · slices_S2x17x8x8x64x128_S2x1x8x8x64x128_0_10_0_0_0_0) : (⟨S2x17x8x8x64x128, .f32⟩ : BufTy).Contents (Elt F) → (⟨S2x1x8x8x64x128, .f32⟩ : BufTy).Contents (Elt F)),
    binary main_v137 main_v138 main_v139 (addf : (⟨S2x1x8x8x64x128, .f32⟩ : BufTy).Contents (Elt F) → (⟨S2x1x8x8x64x128, .f32⟩ : BufTy).Contents (Elt F) → (⟨S2x1x8x8x64x128, .f32⟩ : BufTy).Contents (Elt F)),
    unary main_v94 main_v140 ((extractStridedSlice S2x1x8x8x64x128 ![0, 11, 0, 0, 0, 0] · slices_S2x17x8x8x64x128_S2x1x8x8x64x128_0_11_0_0_0_0) : (⟨S2x17x8x8x64x128, .f32⟩ : BufTy).Contents (Elt F) → (⟨S2x1x8x8x64x128, .f32⟩ : BufTy).Contents (Elt F)),
    binary main_v139 main_v140 main_v141 (mulf : (⟨S2x1x8x8x64x128, .f32⟩ : BufTy).Contents (Elt F) → (⟨S2x1x8x8x64x128, .f32⟩ : BufTy).Contents (Elt F) → (⟨S2x1x8x8x64x128, .f32⟩ : BufTy).Contents (Elt F)),
    unary main_v90 main_v142 ((extractStridedSlice S2x1x8x8x64x128 ![0, 11, 0, 0, 0, 0] · slices_S2x17x8x8x64x128_S2x1x8x8x64x128_0_11_0_0_0_0) : (⟨S2x17x8x8x64x128, .f32⟩ : BufTy).Contents (Elt F) → (⟨S2x1x8x8x64x128, .f32⟩ : BufTy).Contents (Elt F)),
    binary main_v141 main_v142 main_v143 (addf : (⟨S2x1x8x8x64x128, .f32⟩ : BufTy).Contents (Elt F) → (⟨S2x1x8x8x64x128, .f32⟩ : BufTy).Contents (Elt F) → (⟨S2x1x8x8x64x128, .f32⟩ : BufTy).Contents (Elt F)),
    unary main_v94 main_v144 ((extractStridedSlice S2x1x8x8x64x128 ![0, 12, 0, 0, 0, 0] · slices_S2x17x8x8x64x128_S2x1x8x8x64x128_0_12_0_0_0_0) : (⟨S2x17x8x8x64x128, .f32⟩ : BufTy).Contents (Elt F) → (⟨S2x1x8x8x64x128, .f32⟩ : BufTy).Contents (Elt F)),
    binary main_v143 main_v144 main_v145 (mulf : (⟨S2x1x8x8x64x128, .f32⟩ : BufTy).Contents (Elt F) → (⟨S2x1x8x8x64x128, .f32⟩ : BufTy).Contents (Elt F) → (⟨S2x1x8x8x64x128, .f32⟩ : BufTy).Contents (Elt F)),
    unary main_v90 main_v146 ((extractStridedSlice S2x1x8x8x64x128 ![0, 12, 0, 0, 0, 0] · slices_S2x17x8x8x64x128_S2x1x8x8x64x128_0_12_0_0_0_0) : (⟨S2x17x8x8x64x128, .f32⟩ : BufTy).Contents (Elt F) → (⟨S2x1x8x8x64x128, .f32⟩ : BufTy).Contents (Elt F)),
    binary main_v145 main_v146 main_v147 (addf : (⟨S2x1x8x8x64x128, .f32⟩ : BufTy).Contents (Elt F) → (⟨S2x1x8x8x64x128, .f32⟩ : BufTy).Contents (Elt F) → (⟨S2x1x8x8x64x128, .f32⟩ : BufTy).Contents (Elt F)),
    unary main_v94 main_v148 ((extractStridedSlice S2x1x8x8x64x128 ![0, 13, 0, 0, 0, 0] · slices_S2x17x8x8x64x128_S2x1x8x8x64x128_0_13_0_0_0_0) : (⟨S2x17x8x8x64x128, .f32⟩ : BufTy).Contents (Elt F) → (⟨S2x1x8x8x64x128, .f32⟩ : BufTy).Contents (Elt F)),
    binary main_v147 main_v148 main_v149 (mulf : (⟨S2x1x8x8x64x128, .f32⟩ : BufTy).Contents (Elt F) → (⟨S2x1x8x8x64x128, .f32⟩ : BufTy).Contents (Elt F) → (⟨S2x1x8x8x64x128, .f32⟩ : BufTy).Contents (Elt F)),
    unary main_v90 main_v150 ((extractStridedSlice S2x1x8x8x64x128 ![0, 13, 0, 0, 0, 0] · slices_S2x17x8x8x64x128_S2x1x8x8x64x128_0_13_0_0_0_0) : (⟨S2x17x8x8x64x128, .f32⟩ : BufTy).Contents (Elt F) → (⟨S2x1x8x8x64x128, .f32⟩ : BufTy).Contents (Elt F)),
    binary main_v149 main_v150 main_v151 (addf : (⟨S2x1x8x8x64x128, .f32⟩ : BufTy).Contents (Elt F) → (⟨S2x1x8x8x64x128, .f32⟩ : BufTy).Contents (Elt F) → (⟨S2x1x8x8x64x128, .f32⟩ : BufTy).Contents (Elt F)),
    unary main_v94 main_v152 ((extractStridedSlice S2x1x8x8x64x128 ![0, 14, 0, 0, 0, 0] · slices_S2x17x8x8x64x128_S2x1x8x8x64x128_0_14_0_0_0_0) : (⟨S2x17x8x8x64x128, .f32⟩ : BufTy).Contents (Elt F) → (⟨S2x1x8x8x64x128, .f32⟩ : BufTy).Contents (Elt F)),
    binary main_v151 main_v152 main_v153 (mulf : (⟨S2x1x8x8x64x128, .f32⟩ : BufTy).Contents (Elt F) → (⟨S2x1x8x8x64x128, .f32⟩ : BufTy).Contents (Elt F) → (⟨S2x1x8x8x64x128, .f32⟩ : BufTy).Contents (Elt F)),
    unary main_v90 main_v154 ((extractStridedSlice S2x1x8x8x64x128 ![0, 14, 0, 0, 0, 0] · slices_S2x17x8x8x64x128_S2x1x8x8x64x128_0_14_0_0_0_0) : (⟨S2x17x8x8x64x128, .f32⟩ : BufTy).Contents (Elt F) → (⟨S2x1x8x8x64x128, .f32⟩ : BufTy).Contents (Elt F)),
    binary main_v153 main_v154 main_v155 (addf : (⟨S2x1x8x8x64x128, .f32⟩ : BufTy).Contents (Elt F) → (⟨S2x1x8x8x64x128, .f32⟩ : BufTy).Contents (Elt F) → (⟨S2x1x8x8x64x128, .f32⟩ : BufTy).Contents (Elt F)),
    unary main_v94 main_v156 ((extractStridedSlice S2x1x8x8x64x128 ![0, 15, 0, 0, 0, 0] · slices_S2x17x8x8x64x128_S2x1x8x8x64x128_0_15_0_0_0_0) : (⟨S2x17x8x8x64x128, .f32⟩ : BufTy).Contents (Elt F) → (⟨S2x1x8x8x64x128, .f32⟩ : BufTy).Contents (Elt F)),
    binary main_v155 main_v156 main_v157 (mulf : (⟨S2x1x8x8x64x128, .f32⟩ : BufTy).Contents (Elt F) → (⟨S2x1x8x8x64x128, .f32⟩ : BufTy).Contents (Elt F) → (⟨S2x1x8x8x64x128, .f32⟩ : BufTy).Contents (Elt F)),
    unary main_v90 main_v158 ((extractStridedSlice S2x1x8x8x64x128 ![0, 15, 0, 0, 0, 0] · slices_S2x17x8x8x64x128_S2x1x8x8x64x128_0_15_0_0_0_0) : (⟨S2x17x8x8x64x128, .f32⟩ : BufTy).Contents (Elt F) → (⟨S2x1x8x8x64x128, .f32⟩ : BufTy).Contents (Elt F)),
    binary main_v157 main_v158 main_v159 (addf : (⟨S2x1x8x8x64x128, .f32⟩ : BufTy).Contents (Elt F) → (⟨S2x1x8x8x64x128, .f32⟩ : BufTy).Contents (Elt F) → (⟨S2x1x8x8x64x128, .f32⟩ : BufTy).Contents (Elt F)),
    nary ![main_v95, main_v99, main_v103, main_v107, main_v111, main_v115, main_v119, main_v123] main_v160 (fun u => fn_main_v160 (F := F) (u 0) (u 1) (u 2) (u 3) (u 4) (u 5) (u 6) (u 7)),
    nary ![main_v127, main_v131, main_v135, main_v139, main_v143, main_v147, main_v151, main_v155, main_v159] main_v161 (fun u => fn_main_v161 (F := F) (u 0) (u 1) (u 2) (u 3) (u 4) (u 5) (u 6) (u 7) (u 8)),
    binary main_v160 main_v161 main_v162 (fn_main_v162 (F := F)),
    unary main_v54 main_v163 ((transpose S2x17x8x256x128 [0, 1, 3, 2, 4] · transposes_S2x17x256x8x128_S2x17x8x256x128_0_1_3_2_4) : (⟨S2x17x256x8x128, .f32⟩ : BufTy).Contents (Elt F) → (⟨S2x17x8x256x128, .f32⟩ : BufTy).Contents (Elt F)),
    unary main_v163 main_v164 (broadcastInDim S2x17x8x1x256x128 ![0, 1, 2, 4, 5] bcast_S2x17x8x256x128_S2x17x8x1x256x128_0_1_2_4_5 : (⟨S2x17x8x256x128, .f32⟩ : BufTy).Contents (Elt F) → (⟨S2x17x8x1x256x128, .f32⟩ : BufTy).Contents (Elt F)),
    unary main_v61 main_v165 (Host.exp : (⟨S2x17x8x8x256, .f32⟩ : BufTy).Contents (Elt F) → (⟨S2x17x8x8x256, .f32⟩ : BufTy).Contents (Elt F)),
    unary main_v165 main_v166 (broadcastInDim S2x17x8x8x256x1 ![0, 1, 2, 3, 4] bcast_S2x17x8x8x256_S2x17x8x8x256x1_0_1_2_3_4 : (⟨S2x17x8x8x256, .f32⟩ : BufTy).Contents (Elt F) → (⟨S2x17x8x8x256x1, .f32⟩ : BufTy).Contents (Elt F)),
    unary main_v164 main_v167 (broadcastInDim S2x17x8x8x256x128 ![0, 1, 2, 3, 4, 5] bcast_S2x17x8x1x256x128_S2x17x8x8x256x128_0_1_2_3_4_5 : (⟨S2x17x8x1x256x128, .f32⟩ : BufTy).Contents (Elt F) → (⟨S2x17x8x8x256x128, .f32⟩ : BufTy).Contents (Elt F)),
    unary main_v166 main_v168 (broadcastInDim S2x17x8x8x256x128 ![0, 1, 2, 3, 4, 5] bcast_S2x17x8x8x256x1_S2x17x8x8x256x128_0_1_2_3_4_5 : (⟨S2x17x8x8x256x1, .f32⟩ : BufTy).Contents (Elt F) → (⟨S2x17x8x8x256x128, .f32⟩ : BufTy).Contents (Elt F)),
    binary main_v167 main_v168 main_v169 (mulf : (⟨S2x17x8x8x256x128, .f32⟩ : BufTy).Contents (Elt F) → (⟨S2x17x8x8x256x128, .f32⟩ : BufTy).Contents (Elt F) → (⟨S2x17x8x8x256x128, .f32⟩ : BufTy).Contents (Elt F)),
    binary main_v162 main_v169 main_v170 ((fun l r => Host.dotGeneral dot_S2x17x8x8x64x128_S2x17x8x8x256x128_S2x17x8x8x64x256_5_5_4_4_0123_0123 none l r) : (⟨S2x17x8x8x64x128, .f32⟩ : BufTy).Contents (Elt F) → (⟨S2x17x8x8x256x128, .f32⟩ : BufTy).Contents (Elt F) → (⟨S2x17x8x8x64x256, .f32⟩ : BufTy).Contents (Elt F)),
    unary main_v170 main_v171 ((transpose S2x17x256x8x8x64 [0, 1, 5, 2, 3, 4] · transposes_S2x17x8x8x64x256_S2x17x256x8x8x64_0_1_5_2_3_4) : (⟨S2x17x8x8x64x256, .f32⟩ : BufTy).Contents (Elt F) → (⟨S2x17x256x8x8x64, .f32⟩ : BufTy).Contents (Elt F)),
    binary main_v79 main_v171 main_v172 (addf : (⟨S2x17x256x8x8x64, .f32⟩ : BufTy).Contents (Elt F) → (⟨S2x17x256x8x8x64, .f32⟩ : BufTy).Contents (Elt F) → (⟨S2x17x256x8x8x64, .f32⟩ : BufTy).Contents (Elt F)) ]

/-- @main's operations 219 … 254 of 254 (window `main_part3`). -/
abbrev ops_part3 : List (HloOp τ sig (Elt F)) :=
  [ reshape main_arg6 main_v173 (rfl : (.f32 : EltTy) = .f32) shapeCasts_S64_S8x8,
    unary main_v173 main_v174 (broadcastInDim S8x8x1 ![0, 1] bcast_S8x8_S8x8x1_0_1 : (⟨S8x8, .f32⟩ : BufTy).Contents (Elt F) → (⟨S8x8x1, .f32⟩ : BufTy).Contents (Elt F)),
    unary main_v174 main_v175 (broadcastInDim S1x1x1x8x8x1 ![3, 4, 5] bcast_S8x8x1_S1x1x1x8x8x1_3_4_5 : (⟨S8x8x1, .f32⟩ : BufTy).Contents (Elt F) → (⟨S1x1x1x8x8x1, .f32⟩ : BufTy).Contents (Elt F)),
    unary main_v175 main_v176 (broadcastInDim S2x17x256x8x8x64 ![0, 1, 2, 3, 4, 5] bcast_S1x1x1x8x8x1_S2x17x256x8x8x64_0_1_2_3_4_5 : (⟨S1x1x1x8x8x1, .f32⟩ : BufTy).Contents (Elt F) → (⟨S2x17x256x8x8x64, .f32⟩ : BufTy).Contents (Elt F)),
    binary main_v50 main_v176 main_v177 (mulf : (⟨S2x17x256x8x8x64, .f32⟩ : BufTy).Contents (Elt F) → (⟨S2x17x256x8x8x64, .f32⟩ : BufTy).Contents (Elt F) → (⟨S2x17x256x8x8x64, .f32⟩ : BufTy).Contents (Elt F)),
    binary main_v172 main_v177 main_v178 (addf : (⟨S2x17x256x8x8x64, .f32⟩ : BufTy).Contents (Elt F) → (⟨S2x17x256x8x8x64, .f32⟩ : BufTy).Contents (Elt F) → (⟨S2x17x256x8x8x64, .f32⟩ : BufTy).Contents (Elt F)),
    reshape main_v178 main_v179 (rfl : (.f32 : EltTy) = .f32) shapeCasts_S2x17x256x8x8x64_S2x4352x4096,
    TRef.unary (TRef.of (T := ⟨S2x4352x4096, .f32⟩) main_v2) (TRef.of (T := ⟨S2x4352x4096, .f32⟩) main_call7_v0) Host.negf,
    TRef.unary (TRef.of (T := ⟨S2x4352x4096, .f32⟩) main_call7_v0) (TRef.of (T := ⟨S2x4352x4096, .f32⟩) main_call7_v1) Host.exp,
    TRef.nullary (TRef.of (T := ⟨S_, .f32⟩) main_call7_cst) (constant S_ .f32 0x3F800000#32),
    TRef.unary (TRef.of (T := ⟨S_, .f32⟩) main_call7_cst) (TRef.of (T := ⟨S2x4352x4096, .f32⟩) main_call7_v2) (broadcastInDim S2x4352x4096 ![] bcast_S_S2x4352x4096),
    TRef.binary (TRef.of (T := ⟨S2x4352x4096, .f32⟩) main_call7_v2) (TRef.of (T := ⟨S2x4352x4096, .f32⟩) main_call7_v1) (TRef.of (T := ⟨S2x4352x4096, .f32⟩) main_call7_v3) addf,
    TRef.nullary (TRef.of (T := ⟨S_, .f32⟩) main_call7_cst_0) (constant S_ .f32 0x3F800000#32),
    TRef.unary (TRef.of (T := ⟨S_, .f32⟩) main_call7_cst_0) (TRef.of (T := ⟨S2x4352x4096, .f32⟩) main_call7_v4) (broadcastInDim S2x4352x4096 ![] bcast_S_S2x4352x4096),
    TRef.binary (TRef.of (T := ⟨S2x4352x4096, .f32⟩) main_call7_v4) (TRef.of (T := ⟨S2x4352x4096, .f32⟩) main_call7_v3) (TRef.of (T := ⟨S2x4352x4096, .f32⟩) main_call7_v5) Host.divf,
    TRef.binary (TRef.of (T := ⟨S2x4352x4096, .f32⟩) main_v2) (TRef.of (T := ⟨S2x4352x4096, .f32⟩) main_call7_v5) (TRef.of (T := ⟨S2x4352x4096, .f32⟩) main_v180) mulf,
    binary main_v179 main_v180 main_v181 (mulf : (⟨S2x4352x4096, .f32⟩ : BufTy).Contents (Elt F) → (⟨S2x4352x4096, .f32⟩ : BufTy).Contents (Elt F) → (⟨S2x4352x4096, .f32⟩ : BufTy).Contents (Elt F)),
    reshape main_v181 main_v182 (rfl : (.f32 : EltTy) = .f32) shapeCasts_S2x4352x4096_S2x4352x8x512,
    binary main_v182 main_v182 main_v183 (mulf : (⟨S2x4352x8x512, .f32⟩ : BufTy).Contents (Elt F) → (⟨S2x4352x8x512, .f32⟩ : BufTy).Contents (Elt F) → (⟨S2x4352x8x512, .f32⟩ : BufTy).Contents (Elt F)),
    nullary main_cst_5 (constant S_ .f32 0x00000000#32),
    binary main_v183 main_cst_5 main_v184 ((fun x v => Host.reduceAdd x v reducesTo_S2x4352x8x512_S2x4352x8_d3 h_S_) : (⟨S2x4352x8x512, .f32⟩ : BufTy).Contents (Elt F) → (⟨S_, .f32⟩ : BufTy).Contents (Elt F) → (⟨S2x4352x8, .f32⟩ : BufTy).Contents (Elt F)),
    unary main_v184 main_v185 (broadcastInDim S2x4352x8x1 ![0, 1, 2] bcast_S2x4352x8_S2x4352x8x1_0_1_2 : (⟨S2x4352x8, .f32⟩ : BufTy).Contents (Elt F) → (⟨S2x4352x8x1, .f32⟩ : BufTy).Contents (Elt F)),
    nullary main_cst_6 (constant S_ .f32 0x44000000#32),
    unary main_cst_6 main_v186 (broadcastInDim S2x4352x8x1 ![] bcast_S_S2x4352x8x1 : (⟨S_, .f32⟩ : BufTy).Contents (Elt F) → (⟨S2x4352x8x1, .f32⟩ : BufTy).Contents (Elt F)),
    binary main_v185 main_v186 main_v187 (Host.divf : (⟨S2x4352x8x1, .f32⟩ : BufTy).Contents (Elt F) → (⟨S2x4352x8x1, .f32⟩ : BufTy).Contents (Elt F) → (⟨S2x4352x8x1, .f32⟩ : BufTy).Contents (Elt F)),
    nullary main_cst_7 (constant S_ .f32 0x358637BD#32),
    unary main_cst_7 main_v188 (broadcastInDim S2x4352x8x1 ![] bcast_S_S2x4352x8x1 : (⟨S_, .f32⟩ : BufTy).Contents (Elt F) → (⟨S2x4352x8x1, .f32⟩ : BufTy).Contents (Elt F)),
    binary main_v187 main_v188 main_v189 (addf : (⟨S2x4352x8x1, .f32⟩ : BufTy).Contents (Elt F) → (⟨S2x4352x8x1, .f32⟩ : BufTy).Contents (Elt F) → (⟨S2x4352x8x1, .f32⟩ : BufTy).Contents (Elt F)),
    unary main_v189 main_v190 (Host.rsqrt : (⟨S2x4352x8x1, .f32⟩ : BufTy).Contents (Elt F) → (⟨S2x4352x8x1, .f32⟩ : BufTy).Contents (Elt F)),
    unary main_v190 main_v191 (broadcastInDim S2x4352x8x512 ![0, 1, 2, 3] bcast_S2x4352x8x1_S2x4352x8x512_0_1_2_3 : (⟨S2x4352x8x1, .f32⟩ : BufTy).Contents (Elt F) → (⟨S2x4352x8x512, .f32⟩ : BufTy).Contents (Elt F)),
    binary main_v182 main_v191 main_v192 (mulf : (⟨S2x4352x8x512, .f32⟩ : BufTy).Contents (Elt F) → (⟨S2x4352x8x512, .f32⟩ : BufTy).Contents (Elt F) → (⟨S2x4352x8x512, .f32⟩ : BufTy).Contents (Elt F)),
    reshape main_v192 main_v193 (rfl : (.f32 : EltTy) = .f32) shapeCasts_S2x4352x8x512_S2x4352x4096,
    unary main_arg7 main_v194 (broadcastInDim S1x1x4096 ![2] bcast_S4096_S1x1x4096_2 : (⟨S4096, .f32⟩ : BufTy).Contents (Elt F) → (⟨S1x1x4096, .f32⟩ : BufTy).Contents (Elt F)),
    unary main_v194 main_v195 (broadcastInDim S2x4352x4096 ![0, 1, 2] bcast_S1x1x4096_S2x4352x4096_0_1_2 : (⟨S1x1x4096, .f32⟩ : BufTy).Contents (Elt F) → (⟨S2x4352x4096, .f32⟩ : BufTy).Contents (Elt F)),
    binary main_v193 main_v195 main_v196 (mulf : (⟨S2x4352x4096, .f32⟩ : BufTy).Contents (Elt F) → (⟨S2x4352x4096, .f32⟩ : BufTy).Contents (Elt F) → (⟨S2x4352x4096, .f32⟩ : BufTy).Contents (Elt F)),
    unary main_v196 main_v197 ((truncf .bf16 · bitsLt_bf16_f32) : (⟨S2x4352x4096, .f32⟩ : BufTy).Contents (Elt F) → (⟨S2x4352x4096, .bf16⟩ : BufTy).Contents (Elt F)) ]

/-- @main's 254 operations, in order (a called function's operations stand in its call's place, spelt `TRef.…`). -/
abbrev ops : List (HloOp τ sig (Elt F)) :=
  ops_part0 ++ (ops_part1 ++ (ops_part2 ++ (ops_part3)))

set_option maxRecDepth 8192 in
set_option maxHeartbeats 4000000 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
theorem main_part2_eq (c : Dev nD) : main_part2 (F := F) c = seq ops_part2 := rfl
set_option maxRecDepth 8192 in
theorem main_part3_eq (c : Dev nD) : main_part3 (F := F) c = seq ops_part3 := rfl
set_option maxRecDepth 8192 in
theorem main_eq (c : Dev nD) : main (F := F) c = seq ops := by
  simp only [ops, seq_append, ← main_part0_eq c, ← main_part1_eq c, ← main_part2_eq c, ← main_part3_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨unary_bufs_sub .., reshape_bufs_sub .., unary_bufs_sub .., unary_bufs_sub .., nullary_bufs_sub .., unary_bufs_sub .., binary_bufs_sub .., unary_bufs_sub .., unary_bufs_sub .., reshape_bufs_sub .., unary_bufs_sub .., unary_bufs_sub .., binary_bufs_sub .., nullary_bufs_sub .., unary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨unary_bufs_sub .., unary_bufs_sub .., reshape_bufs_sub .., unary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., unary_bufs_sub .., binary_bufs_sub .., binary_bufs_sub .., unary_bufs_sub .., binary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨unary_bufs_sub .., unary_bufs_sub .., unary_bufs_sub .., unary_bufs_sub .., binary_bufs_sub .., ternary_bufs_sub .., nullary_bufs_sub .., unary_bufs_sub .., nullary_bufs_sub .., unary_bufs_sub .., binary_bufs_sub .., nullary_bufs_sub .., unary_bufs_sub .., unary_bufs_sub .., unary_bufs_sub .., ternary_bufs_sub .., unary_bufs_sub .., unary_bufs_sub .., unary_bufs_sub .., reshape_bufs_sub .., unary_bufs_sub .., reshape_bufs_sub .., unary_bufs_sub .., reshape_bufs_sub .., reshape_bufs_sub ..⟩
set_option maxRecDepth 8192 in
theorem ops_part0_2_fresh : (ops_part0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_0_sub : (ops_part1_0 : List (HloOp τ sig (Elt F))).Forall fun op => op.bufs ⊆ tcRefs τ sig :=
  ⟨reshape_bufs_sub .., unary_bufs_sub .., unary_bufs_sub .., binary_bufs_sub .., unary_bufs_sub .., nullary_bufs_sub .., unary_bufs_sub .., binary_bufs_sub .., unary_bufs_sub .., unary_bufs_sub .., binary_bufs_sub .., unary_bufs_sub .., unary_bufs_sub .., unary_bufs_sub .., unary_bufs_sub .., binary_bufs_sub .., nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., nullary_bufs_sub .., unary_bufs_sub .., unary_bufs_sub ..⟩
set_option maxRecDepth 8192 in
theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_1_sub : (ops_part1_1 : List (HloOp τ sig (Elt F))).Forall fun op => op.bufs ⊆ tcRefs τ sig :=
  ⟨unary_bufs_sub .., ternary_bufs_sub .., unary_bufs_sub .., binary_bufs_sub .., unary_bufs_sub .., unary_bufs_sub .., binary_bufs_sub .., binary_bufs_sub .., unary_bufs_sub .., unary_bufs_sub .., unary_bufs_sub .., binary_bufs_sub .., unary_bufs_sub .., unary_bufs_sub .., unary_bufs_sub .., unary_bufs_sub .., unary_bufs_sub .., unary_bufs_sub .., binary_bufs_sub .., binary_bufs_sub .., unary_bufs_sub .., unary_bufs_sub .., unary_bufs_sub .., unary_bufs_sub .., nullary_bufs_sub .., unary_bufs_sub .., unary_bufs_sub .., binary_bufs_sub .., unary_bufs_sub .., binary_bufs_sub ..⟩
set_option maxRecDepth 8192 in
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_2_sub : (ops_part1_2 : List (HloOp τ sig (Elt F))).Forall fun op => op.bufs ⊆ tcRefs τ sig :=
  ⟨unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub ..⟩
set_option maxRecDepth 8192 in
theorem ops_part1_2_fresh : (ops_part1_2 : List (HloOp τ sig (Elt F))).Forall fun op => op.fresh = ∅ :=
  ⟨rfl, rfl, rfl, rfl, rfl, rfl, rfl, rfl, rfl, rfl, rfl, rfl, rfl⟩
set_option maxRecDepth 8192 in
theorem ops_part2_sub : (ops_part2 : List (HloOp τ sig (Elt F))).Forall fun op => op.bufs ⊆ tcRefs τ sig :=
  ⟨binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., nary_bufs_sub .., nary_bufs_sub .., binary_bufs_sub .., unary_bufs_sub .., unary_bufs_sub .., unary_bufs_sub .., unary_bufs_sub .., unary_bufs_sub .., unary_bufs_sub .., binary_bufs_sub .., binary_bufs_sub .., unary_bufs_sub .., binary_bufs_sub ..⟩
set_option maxRecDepth 8192 in
theorem ops_part2_fresh : (ops_part2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part3_sub : (ops_part3 : List (HloOp τ sig (Elt F))).Forall fun op => op.bufs ⊆ tcRefs τ sig :=
  ⟨reshape_bufs_sub .., unary_bufs_sub .., unary_bufs_sub .., unary_bufs_sub .., binary_bufs_sub .., binary_bufs_sub .., reshape_bufs_sub .., unary_bufs_sub .., unary_bufs_sub .., nullary_bufs_sub .., unary_bufs_sub .., binary_bufs_sub .., nullary_bufs_sub .., unary_bufs_sub .., binary_bufs_sub .., binary_bufs_sub .., binary_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., reshape_bufs_sub .., unary_bufs_sub .., unary_bufs_sub .., binary_bufs_sub .., unary_bufs_sub ..⟩
set_option maxRecDepth 8192 in
theorem ops_part3_fresh : (ops_part3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, ops_part1, List.mem_append, or_assoc] at h
    rcases h with h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part1_0_sub op h, List.forall_iff_forall_mem.mp ops_part1_1_sub op h, List.forall_iff_forall_mem.mp ops_part1_2_sub op h, List.forall_iff_forall_mem.mp ops_part2_sub op h, List.forall_iff_forall_mem.mp ops_part3_sub op h]
theorem ops_fresh : ∀ op ∈ (ops : List (HloOp τ sig (Elt F))), op.fresh = ∅ := fun op h => by
    simp only [ops, ops_part0, ops_part1, List.mem_append, or_assoc] at h
    rcases h with h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part1_0_fresh op h, List.forall_iff_forall_mem.mp ops_part1_1_fresh op h, List.forall_iff_forall_mem.mp ops_part1_2_fresh op h, List.forall_iff_forall_mem.mp ops_part2_fresh op h, List.forall_iff_forall_mem.mp ops_part3_fresh op h]
end Cert.ReferenceSsdIdeal.Hand

end
-- ==== Proof.SsdRefRun.lean ====
/-
  The reference of the recurrence: its end as a term of the arguments.
-/
module

public import proofs.«01_k».proof.Proof.SsdRefTerms
public import proofs.«01_k».proof.Proof.SsdRefOps

@[expose] public section

set_option Elab.async false

noncomputable section

namespace Cert.ReferenceSsdIdeal.Hand

open Cert.ReferenceSsdIdeal Cert.ReferenceSsdIdeal.Gen Idealize.ShloMosaic Idealize.ShloMosaic.TcCoe Idealize.SL.Sem Idealize.ShloMosaic.StableHlo

variable {F : FTy → Type} [FloatOps F]

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_v0, main_v1, main_v2, main_v3, main_c, main_call0_v0, main_v4, main_v5, main_v6, main_v7, main_v8, main_v9, main_v10, main_cst, main_v11, main_v12, main_v13, main_v14, main_v15, main_v16, main_v17, main_v18, main_v19, main_v20, main_v21, main_v22, main_v23, main_v24, main_v25, main_v26]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)
theorem val0_1_main_arg3 (V0 : Valuation τ sig (Elt F)) : val0_1 V0 (no_index (Proc.devRef .tc main_arg3)) = V0 (Proc.devRef .tc main_arg3) :=
  (val0_1_keep V0 main_arg3 (by decide)).trans (val0_main_arg3 V0)
theorem val0_1_main_arg4 (V0 : Valuation τ sig (Elt F)) : val0_1 V0 (no_index (Proc.devRef .tc main_arg4)) = V0 (Proc.devRef .tc main_arg4) :=
  (val0_1_keep V0 main_arg4 (by decide)).trans (val0_main_arg4 V0)
theorem val0_1_main_arg5 (V0 : Valuation τ sig (Elt F)) : val0_1 V0 (no_index (Proc.devRef .tc main_arg5)) = V0 (Proc.devRef .tc main_arg5) :=
  (val0_1_keep V0 main_arg5 (by decide)).trans (val0_main_arg5 V0)
theorem val0_1_main_arg6 (V0 : Valuation τ sig (Elt F)) : val0_1 V0 (no_index (Proc.devRef .tc main_arg6)) = V0 (Proc.devRef .tc main_arg6) :=
  (val0_1_keep V0 main_arg6 (by decide)).trans (val0_main_arg6 V0)
theorem val0_1_main_arg7 (V0 : Valuation τ sig (Elt F)) : val0_1 V0 (no_index (Proc.devRef .tc main_arg7)) = V0 (Proc.devRef .tc main_arg7) :=
  (val0_1_keep V0 main_arg7 (by decide)).trans (val0_main_arg7 V0)
set_option maxRecDepth 8192 in
set_option maxHeartbeats 2000000 in
theorem val0_1_main_v2 (V0 : Valuation τ sig (Elt F)) : val0_1 V0 (no_index (Proc.devRef .tc main_v2)) = res_main_v2 (args V0) := by
  unfold val0_1
  simp only [ops_part0_0, TRef.binary, TRef.unary, TRef.toBuf, TRef.ofBuf, cast_eq]
  after_results_simp
  simp only [val0_main_arg0] <;> rfl
set_option maxRecDepth 8192 in
set_option maxHeartbeats 2000000 in
theorem val0_1_main_v4 (V0 : Valuation τ sig (Elt F)) : val0_1 V0 (no_index (Proc.devRef .tc main_v4)) = res_main_v4 (args V0) := by
  unfold val0_1
  simp only [ops_part0_0, TRef.binary, TRef.unary, TRef.toBuf, TRef.ofBuf, cast_eq]
  after_results_simp
  simp only [val0_main_arg0] <;> rfl
set_option maxRecDepth 8192 in
set_option maxHeartbeats 2000000 in
theorem val0_1_main_v26 (V0 : Valuation τ sig (Elt F)) : val0_1 V0 (no_index (Proc.devRef .tc main_v26)) = addf (addf (addf (broadcastInDim S2x4352x6144 ![] bcast_S_S2x4352x6144 (constant S_ .f32 0x00000000#32)) (mulf (extractStridedSlice S2x4352x6144 ![0, 0, 0] (res_main_v4 (args V0)) slices_S2x4355x6144_S2x4352x6144_0_0_0) (broadcastInDim S2x4352x6144 ![0, 1, 2] bcast_S1x1x6144_S2x4352x6144_0_1_2 (broadcastInDim S1x1x6144 ![2] bcast_S6144_S1x1x6144_2 (shapeCast _ (extractStridedSlice S1x6144 ![0, 0] (V0 (Proc.devRef .tc main_arg2) : FVec F S4x6144 .f32) slices_S4x6144_S1x6144_0_0) shapeCasts_S1x6144_S6144))))) (mulf (extractStridedSlice S2x4352x6144 ![0, 1, 0] (res_main_v4 (args V0)) slices_S2x4355x6144_S2x4352x6144_0_1_0) (broadcastInDim S2x4352x6144 ![0, 1, 2] bcast_S1x1x6144_S2x4352x6144_0_1_2 (broadcastInDim S1x1x6144 ![2] bcast_S6144_S1x1x6144_2 (shapeCast _ (extractStridedSlice S1x6144 ![1, 0] (V0 (Proc.devRef .tc main_arg2) : FVec F S4x6144 .f32) slices_S4x6144_S1x6144_1_0) shapeCasts_S1x6144_S6144))))) (mulf (extractStridedSlice S2x4352x6144 ![0, 2, 0] (res_main_v4 (args V0)) slices_S2x4355x6144_S2x4352x6144_0_2_0) (broadcastInDim S2x4352x6144 ![0, 1, 2] bcast_S1x1x6144_S2x4352x6144_0_1_2 (broadcastInDim S1x1x6144 ![2] bcast_S6144_S1x1x6144_2 (shapeCast _ (extractStridedSlice S1x6144 ![2, 0] (V0 (Proc.devRef .tc main_arg2) : FVec F S4x6144 .f32) slices_S4x6144_S1x6144_2_0) shapeCasts_S1x6144_S6144)))) := by
  unfold val0_1
  simp only [ops_part0_0, TRef.binary, TRef.unary, TRef.toBuf, TRef.ofBuf, cast_eq]
  after_results_simp
  simp only [val0_main_arg2, val0_main_arg0] <;> rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_v27, main_v28, main_v29, main_v30, main_v31, main_v32, main_v33, main_v34, main_v35, main_v36, main_call1_v0, main_call1_v1, main_call1_cst, main_call1_v2, main_call1_v3, main_call1_cst_0, main_call1_v4, main_call1_v5, main_v37, main_v38, main_v39, main_v40, main_call2_cst, main_call2_v0, main_call2_v1, main_call2_v2, main_call2_v3, main_call2_v4, main_call2_v5, main_call2_v6]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)
theorem val0_2_main_arg3 (V0 : Valuation τ sig (Elt F)) : val0_2 V0 (no_index (Proc.devRef .tc main_arg3)) = V0 (Proc.devRef .tc main_arg3) :=
  (val0_2_keep V0 main_arg3 (by decide)).trans (val0_1_main_arg3 V0)
theorem val0_2_main_arg4 (V0 : Valuation τ sig (Elt F)) : val0_2 V0 (no_index (Proc.devRef .tc main_arg4)) = V0 (Proc.devRef .tc main_arg4) :=
  (val0_2_keep V0 main_arg4 (by decide)).trans (val0_1_main_arg4 V0)
theorem val0_2_main_arg5 (V0 : Valuation τ sig (Elt F)) : val0_2 V0 (no_index (Proc.devRef .tc main_arg5)) = V0 (Proc.devRef .tc main_arg5) :=
  (val0_2_keep V0 main_arg5 (by decide)).trans (val0_1_main_arg5 V0)
theorem val0_2_main_arg6 (V0 : Valuation τ sig (Elt F)) : val0_2 V0 (no_index (Proc.devRef .tc main_arg6)) = V0 (Proc.devRef .tc main_arg6) :=
  (val0_2_keep V0 main_arg6 (by decide)).trans (val0_1_main_arg6 V0)
theorem val0_2_main_arg7 (V0 : Valuation τ sig (Elt F)) : val0_2 V0 (no_index (Proc.devRef .tc main_arg7)) = V0 (Proc.devRef .tc main_arg7) :=
  (val0_2_keep V0 main_arg7 (by decide)).trans (val0_1_main_arg7 V0)
theorem val0_2_main_v2 (V0 : Valuation τ sig (Elt F)) : val0_2 V0 (no_index (Proc.devRef .tc main_v2)) = res_main_v2 (args V0) :=
  (val0_2_keep V0 main_v2 (by decide)).trans (val0_1_main_v2 V0)
set_option maxRecDepth 8192 in
set_option maxHeartbeats 2000000 in
theorem val0_2_main_v37 (V0 : Valuation τ sig (Elt F)) : val0_2 V0 (no_index (Proc.devRef .tc main_v37)) = res_main_v37 (args V0) := by
  unfold val0_2
  simp only [ops_part0_1, TRef.binary, TRef.nullary, TRef.unary, TRef.toBuf, TRef.ofBuf, cast_eq]
  after_results_simp
  simp only [val0_1_main_arg3, val0_1_main_arg2, val0_1_main_v4, val0_1_main_v26] <;> rfl
set_option maxRecDepth 8192 in
set_option maxHeartbeats 2000000 in
theorem val0_2_main_call2_v1 (V0 : Valuation τ sig (Elt F)) : val0_2 V0 (no_index (Proc.devRef .tc main_call2_v1)) = maximumf (res_main_v40 (args V0)) (broadcastInDim S2x4352x64 ![] bcast_S_S2x4352x64 (res_main_call2_cst (args V0))) := by
  unfold val0_2
  simp only [ops_part0_1, TRef.binary, TRef.nullary, TRef.unary, TRef.toBuf, TRef.ofBuf, cast_eq]
  after_results_simp
  simp only [val0_1_main_arg4, val0_1_main_arg1] <;> rfl
set_option maxRecDepth 8192 in
set_option maxHeartbeats 2000000 in
theorem val0_2_main_call2_v3 (V0 : Valuation τ sig (Elt F)) : val0_2 V0 (no_index (Proc.devRef .tc main_call2_v3)) = res_main_call2_v3 (args V0) := by
  unfold val0_2
  simp only [ops_part0_1, TRef.binary, TRef.nullary, TRef.unary, TRef.toBuf, TRef.ofBuf, cast_eq]
  after_results_simp
  simp only [val0_1_main_arg4, val0_1_main_arg1] <;> rfl
set_option maxRecDepth 8192 in
set_option maxHeartbeats 2000000 in
theorem val0_2_main_call2_v4 (V0 : Valuation τ sig (Elt F)) : val0_2 V0 (no_index (Proc.devRef .tc main_call2_v4)) = cmpf .une (res_main_call2_v3 (args V0)) (res_main_call2_v3 (args V0)) := by
  unfold val0_2
  simp only [ops_part0_1, TRef.binary, TRef.nullary, TRef.unary, TRef.toBuf, TRef.ofBuf, cast_eq]
  after_results_simp
  simp only [val0_1_main_arg4, val0_1_main_arg1] <;> rfl
set_option maxRecDepth 8192 in
set_option maxHeartbeats 2000000 in
theorem val0_2_main_call2_v6 (V0 : Valuation τ sig (Elt F)) : val0_2 V0 (no_index (Proc.devRef .tc main_call2_v6)) = addf (res_main_v40 (args V0)) (broadcastInDim S2x4352x64 ![] bcast_S_S2x4352x64 (res_main_call2_cst (args V0))) := by
  unfold val0_2
  simp only [ops_part0_1, TRef.binary, TRef.nullary, TRef.unary, TRef.toBuf, TRef.ofBuf, cast_eq]
  after_results_simp
  simp only [val0_1_main_arg4, val0_1_main_arg1] <;> rfl

/-- The device's buffer contents after @main's first 1 window. -/
def val1 (V0 : Valuation τ sig (Elt F)) : Valuation τ sig (Elt F) := after ops_part0_2 (val0_2 V0)
/-- The buffers that window `ops_part0_2`'s operations write. -/
abbrev ops_part0_2_W : List (Ref sig .tc) := [main_call2_v7, main_call2_v8, main_call2_v9, main_call2_v10, main_call2_v11, main_v41, main_v42, main_v43, main_c_0, main_v44, main_v45, main_cst_1, main_call3_v0, main_call3_v1, main_call3_v2, main_v46, main_v47, main_v48, main_v49, main_v50, main_v51, main_v52, main_v53, main_v54, main_v55]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_2` does not write keeps its contents through it. -/
theorem val1_keep (V0 : Valuation τ sig (Elt F)) (r : Ref sig .tc) (h : r ∉ ops_part0_2_W) :
    val1 V0 (Proc.devRef .tc r) = val0_2 V0 (Proc.devRef .tc r) :=
  after_of_writes_sub ops_part0_2 _ ops_part0_2_writes h
theorem val1_main_arg0 (V0 : Valuation τ sig (Elt F)) : val1 V0 (no_index (Proc.devRef .tc main_arg0)) = V0 (Proc.devRef .tc main_arg0) :=
  (val1_keep V0 main_arg0 (by decide)).trans (val0_2_main_arg0 V0)
theorem val1_main_arg1 (V0 : Valuation τ sig (Elt F)) : val1 V0 (no_index (Proc.devRef .tc main_arg1)) = V0 (Proc.devRef .tc main_arg1) :=
  (val1_keep V0 main_arg1 (by decide)).trans (val0_2_main_arg1 V0)
theorem val1_main_arg2 (V0 : Valuation τ sig (Elt F)) : val1 V0 (no_index (Proc.devRef .tc main_arg2)) = V0 (Proc.devRef .tc main_arg2) :=
  (val1_keep V0 main_arg2 (by decide)).trans (val0_2_main_arg2 V0)
theorem val1_main_arg3 (V0 : Valuation τ sig (Elt F)) : val1 V0 (no_index (Proc.devRef .tc main_arg3)) = V0 (Proc.devRef .tc main_arg3) :=
  (val1_keep V0 main_arg3 (by decide)).trans (val0_2_main_arg3 V0)
theorem val1_main_arg4 (V0 : Valuation τ sig (Elt F)) : val1 V0 (no_index (Proc.devRef .tc main_arg4)) = V0 (Proc.devRef .tc main_arg4) :=
  (val1_keep V0 main_arg4 (by decide)).trans (val0_2_main_arg4 V0)
theorem val1_main_arg5 (V0 : Valuation τ sig (Elt F)) : val1 V0 (no_index (Proc.devRef .tc main_arg5)) = V0 (Proc.devRef .tc main_arg5) :=
  (val1_keep V0 main_arg5 (by decide)).trans (val0_2_main_arg5 V0)
theorem val1_main_arg6 (V0 : Valuation τ sig (Elt F)) : val1 V0 (no_index (Proc.devRef .tc main_arg6)) = V0 (Proc.devRef .tc main_arg6) :=
  (val1_keep V0 main_arg6 (by decide)).trans (val0_2_main_arg6 V0)
theorem val1_main_arg7 (V0 : Valuation τ sig (Elt F)) : val1 V0 (no_index (Proc.devRef .tc main_arg7)) = V0 (Proc.devRef .tc main_arg7) :=
  (val1_keep V0 main_arg7 (by decide)).trans (val0_2_main_arg7 V0)
theorem val1_main_v2 (V0 : Valuation τ sig (Elt F)) : val1 V0 (no_index (Proc.devRef .tc main_v2)) = res_main_v2 (args V0) :=
  (val1_keep V0 main_v2 (by decide)).trans (val0_2_main_v2 V0)
set_option maxRecDepth 8192 in
set_option maxHeartbeats 2000000 in
theorem val1_main_v48 (V0 : Valuation τ sig (Elt F)) : val1 V0 (no_index (Proc.devRef .tc main_v48)) = Host.negf (Host.exp (V0 (Proc.devRef .tc main_arg5) : FVec F S64 .f32)) := by
  unfold val1
  simp only [ops_part0_2, TRef.binary, TRef.ternary, TRef.unary, TRef.toBuf, TRef.ofBuf, cast_eq]
  after_results_simp
  simp only [val0_2_main_arg5] <;> rfl
set_option maxRecDepth 8192 in
set_option maxHeartbeats 2000000 in
theorem val1_main_v50 (V0 : Valuation τ sig (Elt F)) : val1 V0 (no_index (Proc.devRef .tc main_v50)) = res_main_v50 (args V0) := by
  unfold val1
  simp only [ops_part0_2, TRef.binary, TRef.ternary, TRef.unary, TRef.toBuf, TRef.ofBuf, cast_eq]
  after_results_simp
  simp only [val0_2_main_v37] <;> rfl
set_option maxRecDepth 8192 in
set_option maxHeartbeats 2000000 in
theorem val1_main_v52 (V0 : Valuation τ sig (Elt F)) : val1 V0 (no_index (Proc.devRef .tc main_v52)) = res_main_v52 (args V0) := by
  unfold val1
  simp only [ops_part0_2, TRef.binary, TRef.ternary, TRef.unary, TRef.toBuf, TRef.ofBuf, cast_eq]
  after_results_simp
  simp only [val0_2_main_v37] <;> rfl
set_option maxRecDepth 8192 in
set_option maxHeartbeats 2000000 in
theorem val1_main_v54 (V0 : Valuation τ sig (Elt F)) : val1 V0 (no_index (Proc.devRef .tc main_v54)) = res_main_v54 (args V0) := by
  unfold val1
  simp only [ops_part0_2, TRef.binary, TRef.ternary, TRef.unary, TRef.toBuf, TRef.ofBuf, cast_eq]
  after_results_simp
  simp only [val0_2_main_v37] <;> rfl
set_option maxRecDepth 8192 in
set_option maxHeartbeats 2000000 in
theorem val1_main_v55 (V0 : Valuation τ sig (Elt F)) : val1 V0 (no_index (Proc.devRef .tc main_v55)) = res_main_v55 (args V0) := by
  unfold val1
  simp only [ops_part0_2, TRef.binary, TRef.ternary, TRef.unary, TRef.toBuf, TRef.ofBuf, cast_eq]
  after_results_simp
  simp only [val0_2_main_call2_v3, val0_2_main_call2_v1, val0_2_main_call2_v6, val0_2_main_call2_v4] <;> rfl

/-- The device's buffer contents after @main's first 115 operations. -/
def val1_1 (V0 : Valuation τ sig (Elt F)) : Valuation τ sig (Elt F) := after ops_part1_0 (val1 V0)
/-- The buffers that window `ops_part1_0`'s operations write. -/
abbrev ops_part1_0_W : List (Ref sig .tc) := [main_v56, main_v57, main_v58, main_v59, main_v60, main_call4_call0_cst, main_call4_call0_v0, main_v61, main_v62, main_v63, main_v64, main_v65, main_v66, main_v67, main_v68, main_v69, main_c_2, main_v70, main_call5_v0, main_call5_c, main_call5_v1, main_call5_v2, main_call5_v3, main_call5_v4, main_call5_c_0, main_call5_v5, main_v71, main_cst_3, main_call6_v0, main_call6_v1]
set_option maxRecDepth 8192 in
theorem ops_part1_0_writes : (ops_part1_0 : List (HloOp τ sig (Elt F))).Forall fun op => op.writes ⊆ (ops_part1_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_0` does not write keeps its contents through it. -/
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h
theorem val1_1_main_arg0 (V0 : Valuation τ sig (Elt F)) : val1_1 V0 (no_index (Proc.devRef .tc main_arg0)) = V0 (Proc.devRef .tc main_arg0) :=
  (val1_1_keep V0 main_arg0 (by decide)).trans (val1_main_arg0 V0)
theorem val1_1_main_arg1 (V0 : Valuation τ sig (Elt F)) : val1_1 V0 (no_index (Proc.devRef .tc main_arg1)) = V0 (Proc.devRef .tc main_arg1) :=
  (val1_1_keep V0 main_arg1 (by decide)).trans (val1_main_arg1 V0)
theorem val1_1_main_arg2 (V0 : Valuation τ sig (Elt F)) : val1_1 V0 (no_index (Proc.devRef .tc main_arg2)) = V0 (Proc.devRef .tc main_arg2) :=
  (val1_1_keep V0 main_arg2 (by decide)).trans (val1_main_arg2 V0)
theorem val1_1_main_arg3 (V0 : Valuation τ sig (Elt F)) : val1_1 V0 (no_index (Proc.devRef .tc main_arg3)) = V0 (Proc.devRef .tc main_arg3) :=
  (val1_1_keep V0 main_arg3 (by decide)).trans (val1_main_arg3 V0)
theorem val1_1_main_arg4 (V0 : Valuation τ sig (Elt F)) : val1_1 V0 (no_index (Proc.devRef .tc main_arg4)) = V0 (Proc.devRef .tc main_arg4) :=
  (val1_1_keep V0 main_arg4 (by decide)).trans (val1_main_arg4 V0)
theorem val1_1_main_arg5 (V0 : Valuation τ sig (Elt F)) : val1_1 V0 (no_index (Proc.devRef .tc main_arg5)) = V0 (Proc.devRef .tc main_arg5) :=
  (val1_1_keep V0 main_arg5 (by decide)).trans (val1_main_arg5 V0)
theorem val1_1_main_arg6 (V0 : Valuation τ sig (Elt F)) : val1_1 V0 (no_index (Proc.devRef .tc main_arg6)) = V0 (Proc.devRef .tc main_arg6) :=
  (val1_1_keep V0 main_arg6 (by decide)).trans (val1_main_arg6 V0)
theorem val1_1_main_arg7 (V0 : Valuation τ sig (Elt F)) : val1_1 V0 (no_index (Proc.devRef .tc main_arg7)) = V0 (Proc.devRef .tc main_arg7) :=
  (val1_1_keep V0 main_arg7 (by decide)).trans (val1_main_arg7 V0)
theorem val1_1_main_v2 (V0 : Valuation τ sig (Elt F)) : val1_1 V0 (no_index (Proc.devRef .tc main_v2)) = res_main_v2 (args V0) :=
  (val1_1_keep V0 main_v2 (by decide)).trans (val1_main_v2 V0)
theorem val1_1_main_v50 (V0 : Valuation τ sig (Elt F)) : val1_1 V0 (no_index (Proc.devRef .tc main_v50)) = res_main_v50 (args V0) :=
  (val1_1_keep V0 main_v50 (by decide)).trans (val1_main_v50 V0)
theorem val1_1_main_v52 (V0 : Valuation τ sig (Elt F)) : val1_1 V0 (no_index (Proc.devRef .tc main_v52)) = res_main_v52 (args V0) :=
  (val1_1_keep V0 main_v52 (by decide)).trans (val1_main_v52 V0)
theorem val1_1_main_v54 (V0 : Valuation τ sig (Elt F)) : val1_1 V0 (no_index (Proc.devRef .tc main_v54)) = res_main_v54 (args V0) :=
  (val1_1_keep V0 main_v54 (by decide)).trans (val1_main_v54 V0)
set_option maxRecDepth 8192 in
set_option maxHeartbeats 2000000 in
theorem val1_1_main_v61 (V0 : Valuation τ sig (Elt F)) : val1_1 V0 (no_index (Proc.devRef .tc main_v61)) = res_main_v61 (args V0) := by
  unfold val1_1
  simp only [ops_part1_0, TRef.binary, TRef.nullary, TRef.ternary, TRef.unary, TRef.toBuf, TRef.ofBuf, cast_eq]
  after_results_simp
  simp only [val1_main_v48, val1_main_v55] <;> rfl
set_option maxRecDepth 8192 in
set_option maxHeartbeats 2000000 in
theorem val1_1_main_v64 (V0 : Valuation τ sig (Elt F)) : val1_1 V0 (no_index (Proc.devRef .tc main_v64)) = res_main_v64 (args V0) := by
  unfold val1_1
  simp only [ops_part1_0, TRef.binary, TRef.nullary, TRef.ternary, TRef.unary, TRef.toBuf, TRef.ofBuf, cast_eq]
  after_results_simp
  simp only [val1_main_v55, val1_main_v50] <;> rfl
set_option maxRecDepth 8192 in
set_option maxHeartbeats 2000000 in
theorem val1_1_main_v69 (V0 : Valuation τ sig (Elt F)) : val1_1 V0 (no_index (Proc.devRef .tc main_v69)) = subf (broadcastInDim S2x17x8x8x256x256 ![0, 1, 2, 3, 4, 5] bcast_S2x17x8x8x256x1_S2x17x8x8x256x256_0_1_2_3_4_5 (broadcastInDim S2x17x8x8x256x1 ![0, 1, 2, 3, 4] bcast_S2x17x8x8x256_S2x17x8x8x256x1_0_1_2_3_4 (res_main_v61 (args V0)))) (broadcastInDim S2x17x8x8x256x256 ![0, 1, 2, 3, 4, 5] bcast_S2x17x8x8x1x256_S2x17x8x8x256x256_0_1_2_3_4_5 (broadcastInDim S2x17x8x8x1x256 ![0, 1, 2, 3, 5] bcast_S2x17x8x8x256_S2x17x8x8x1x256_0_1_2_3_5 (res_main_v61 (args V0)))) := by
  unfold val1_1
  simp only [ops_part1_0, TRef.binary, TRef.nullary, TRef.ternary, TRef.unary, TRef.toBuf, TRef.ofBuf, cast_eq]
  after_results_simp
  simp only [val1_main_v48, val1_main_v55] <;> rfl
set_option maxRecDepth 8192 in
set_option maxHeartbeats 2000000 in
theorem val1_1_main_call6_v0 (V0 : Valuation τ sig (Elt F)) : val1_1 V0 (no_index (Proc.devRef .tc main_call6_v0)) = id (constant S_ .f32 0xFF800000#32) := by
  unfold val1_1
  simp only [ops_part1_0, TRef.binary, TRef.nullary, TRef.ternary, TRef.unary, TRef.toBuf, TRef.ofBuf, cast_eq]
  after_results_simp
  all_goals rfl
set_option maxRecDepth 8192 in
set_option maxHeartbeats 2000000 in
theorem val1_1_main_call6_v1 (V0 : Valuation τ sig (Elt F)) : val1_1 V0 (no_index (Proc.devRef .tc main_call6_v1)) = broadcastInDim S2x17x8x8x256x256 ![4, 5] bcast_S256x256_S2x17x8x8x256x256_4_5 (select (cmpi .sge (addi (iotaInDim S256x256 32 0) (broadcastInDim S256x256 ![] bcast_S_S256x256 (constantI S_ 32 0#32))) (iotaInDim S256x256 32 1)) (broadcastInDim S256x256 ![] bcast_S_S256x256 (constantI S_ 1 1#1)) (broadcastInDim S256x256 ![] bcast_S_S256x256 (constantI S_ 1 0#1))) := by
  unfold val1_1
  simp only [ops_part1_0, TRef.binary, TRef.nullary, TRef.ternary, TRef.unary, TRef.toBuf, TRef.ofBuf, cast_eq]
  after_results_simp
  all_goals rfl

/-- The device's buffer contents after @main's first 145 operations. -/
def val1_2 (V0 : Valuation τ sig (Elt F)) : Valuation τ sig (Elt F) := after ops_part1_1 (val1_1 V0)
/-- The buffers that window `ops_part1_1`'s operations write. -/
abbrev ops_part1_1_W : List (Ref sig .tc) := [main_call6_v2, main_v72, main_v73, main_v74, main_v75, main_v76, main_v77, main_v78, main_v79, main_v80, main_v81, main_v82, main_v83, main_v84, main_v85, main_v86, main_v87, main_v88, main_v89, main_v90, main_v91, main_v92, main_v93, main_v94, main_cst_4, main_v95, main_v96, main_v97, main_v98, main_v99]
set_option maxRecDepth 8192 in
theorem ops_part1_1_writes : (ops_part1_1 : List (HloOp τ sig (Elt F))).Forall fun op => op.writes ⊆ (ops_part1_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_1` does not write keeps its contents through it. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
theorem val1_2_main_arg0 (V0 : Valuation τ sig (Elt F)) : val1_2 V0 (no_index (Proc.devRef .tc main_arg0)) = V0 (Proc.devRef .tc main_arg0) :=
  (val1_2_keep V0 main_arg0 (by decide)).trans (val1_1_main_arg0 V0)
theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)
theorem val1_2_main_arg2 (V0 : Valuation τ sig (Elt F)) : val1_2 V0 (no_index (Proc.devRef .tc main_arg2)) = V0 (Proc.devRef .tc main_arg2) :=
  (val1_2_keep V0 main_arg2 (by decide)).trans (val1_1_main_arg2 V0)
theorem val1_2_main_arg3 (V0 : Valuation τ sig (Elt F)) : val1_2 V0 (no_index (Proc.devRef .tc main_arg3)) = V0 (Proc.devRef .tc main_arg3) :=
  (val1_2_keep V0 main_arg3 (by decide)).trans (val1_1_main_arg3 V0)
theorem val1_2_main_arg4 (V0 : Valuation τ sig (Elt F)) : val1_2 V0 (no_index (Proc.devRef .tc main_arg4)) = V0 (Proc.devRef .tc main_arg4) :=
  (val1_2_keep V0 main_arg4 (by decide)).trans (val1_1_main_arg4 V0)
theorem val1_2_main_arg5 (V0 : Valuation τ sig (Elt F)) : val1_2 V0 (no_index (Proc.devRef .tc main_arg5)) = V0 (Proc.devRef .tc main_arg5) :=
  (val1_2_keep V0 main_arg5 (by decide)).trans (val1_1_main_arg5 V0)
theorem val1_2_main_arg6 (V0 : Valuation τ sig (Elt F)) : val1_2 V0 (no_index (Proc.devRef .tc main_arg6)) = V0 (Proc.devRef .tc main_arg6) :=
  (val1_2_keep V0 main_arg6 (by decide)).trans (val1_1_main_arg6 V0)
theorem val1_2_main_arg7 (V0 : Valuation τ sig (Elt F)) : val1_2 V0 (no_index (Proc.devRef .tc main_arg7)) = V0 (Proc.devRef .tc main_arg7) :=
  (val1_2_keep V0 main_arg7 (by decide)).trans (val1_1_main_arg7 V0)
theorem val1_2_main_v2 (V0 : Valuation τ sig (Elt F)) : val1_2 V0 (no_index (Proc.devRef .tc main_v2)) = res_main_v2 (args V0) :=
  (val1_2_keep V0 main_v2 (by decide)).trans (val1_1_main_v2 V0)
theorem val1_2_main_v50 (V0 : Valuation τ sig (Elt F)) : val1_2 V0 (no_index (Proc.devRef .tc main_v50)) = res_main_v50 (args V0) :=
  (val1_2_keep V0 main_v50 (by decide)).trans (val1_1_main_v50 V0)
theorem val1_2_main_v54 (V0 : Valuation τ sig (Elt F)) : val1_2 V0 (no_index (Proc.devRef .tc main_v54)) = res_main_v54 (args V0) :=
  (val1_2_keep V0 main_v54 (by decide)).trans (val1_1_main_v54 V0)
theorem val1_2_main_v61 (V0 : Valuation τ sig (Elt F)) : val1_2 V0 (no_index (Proc.devRef .tc main_v61)) = res_main_v61 (args V0) :=
  (val1_2_keep V0 main_v61 (by decide)).trans (val1_1_main_v61 V0)
set_option maxRecDepth 8192 in
set_option maxHeartbeats 2000000 in
theorem val1_2_main_v79 (V0 : Valuation τ sig (Elt F)) : val1_2 V0 (no_index (Proc.devRef .tc main_v79)) = transpose S2x17x256x8x8x64 [0, 1, 5, 2, 3, 4] (Host.dotGeneral dot_S2x17x256x8x8x64_S2x17x8x8x256x256_S2x17x8x8x64x256_2_5_5_4_0134_0123 none (res_main_v64 (args V0)) (mulf (broadcastInDim S2x17x8x8x256x256 ![0, 1, 2, 3, 4, 5] bcast_S2x17x8x1x256x256_S2x17x8x8x256x256_0_1_2_3_4_5 (broadcastInDim S2x17x8x1x256x256 ![0, 1, 2, 4, 5] bcast_S2x17x8x256x256_S2x17x8x1x256x256_0_1_2_4_5 (Host.dotGeneral dot_S2x17x256x8x128_S2x17x256x8x128_S2x17x8x256x256_4_4_2_2_013_013 none (res_main_v54 (args V0)) (res_main_v52 (args V0))))) (Host.exp (select (broadcastInDim S2x17x8x8x256x256 ![4, 5] bcast_S256x256_S2x17x8x8x256x256_4_5 (select (cmpi .sge (addi (iotaInDim S256x256 32 0) (broadcastInDim S256x256 ![] bcast_S_S256x256 (constantI S_ 32 0#32))) (iotaInDim S256x256 32 1)) (broadcastInDim S256x256 ![] bcast_S_S256x256 (constantI S_ 1 1#1)) (broadcastInDim S256x256 ![] bcast_S_S256x256 (constantI S_ 1 0#1)))) (subf (broadcastInDim S2x17x8x8x256x256 ![0, 1, 2, 3, 4, 5] bcast_S2x17x8x8x256x1_S2x17x8x8x256x256_0_1_2_3_4_5 (broadcastInDim S2x17x8x8x256x1 ![0, 1, 2, 3, 4] bcast_S2x17x8x8x256_S2x17x8x8x256x1_0_1_2_3_4 (res_main_v61 (args V0)))) (broadcastInDim S2x17x8x8x256x256 ![0, 1, 2, 3, 4, 5] bcast_S2x17x8x8x1x256_S2x17x8x8x256x256_0_1_2_3_4_5 (broadcastInDim S2x17x8x8x1x256 ![0, 1, 2, 3, 5] bcast_S2x17x8x8x256_S2x17x8x8x1x256_0_1_2_3_5 (res_main_v61 (args V0))))) (broadcastInDim S2x17x8x8x256x256 ![] bcast_S_S2x17x8x8x256x256 (id (constant S_ .f32 0xFF800000#32))))))) transposes_S2x17x8x8x64x256_S2x17x256x8x8x64_0_1_5_2_3_4 := by
  unfold val1_2
  simp only [ops_part1_1, TRef.ternary, TRef.unary, TRef.toBuf, TRef.ofBuf, cast_eq]
  after_results_simp
  simp only [val1_1_main_call6_v0, val1_1_main_v69, val1_1_main_call6_v1, val1_1_main_v52, val1_1_main_v54, val1_1_main_v64] <;> rfl
set_option maxRecDepth 8192 in
set_option maxHeartbeats 2000000 in
theorem val1_2_main_v90 (V0 : Valuation τ sig (Elt F)) : val1_2 V0 (no_index (Proc.devRef .tc main_v90)) = res_main_v90 (args V0) := by
  unfold val1_2
  simp only [ops_part1_1, TRef.ternary, TRef.unary, TRef.toBuf, TRef.ofBuf, cast_eq]
  after_results_simp
  simp only [val1_1_main_v61, val1_1_main_v52, val1_1_main_v64] <;> rfl
set_option maxRecDepth 8192 in
set_option maxHeartbeats 2000000 in
theorem val1_2_main_v94 (V0 : Valuation τ sig (Elt F)) : val1_2 V0 (no_index (Proc.devRef .tc main_v94)) = res_main_v94 (args V0) := by
  unfold val1_2
  simp only [ops_part1_1, TRef.ternary, TRef.unary, TRef.toBuf, TRef.ofBuf, cast_eq]
  after_results_simp
  simp only [val1_1_main_v61] <;> rfl
set_option maxRecDepth 8192 in
set_option maxHeartbeats 2000000 in
theorem val1_2_main_v95 (V0 : Valuation τ sig (Elt F)) : val1_2 V0 (no_index (Proc.devRef .tc main_v95)) = res_main_v95 (args V0) := by
  unfold val1_2
  simp only [ops_part1_1, TRef.ternary, TRef.unary, TRef.toBuf, TRef.ofBuf, cast_eq]
  after_results_simp
  all_goals rfl
set_option maxRecDepth 8192 in
set_option maxHeartbeats 2000000 in
theorem val1_2_main_v99 (V0 : Valuation τ sig (Elt F)) : val1_2 V0 (no_index (Proc.devRef .tc main_v99)) = res_main_v99 (args V0) := by
  unfold val1_2
  simp only [ops_part1_1, TRef.ternary, TRef.unary, TRef.toBuf, TRef.ofBuf, cast_eq]
  after_results_simp
  simp only [val1_1_main_v61, val1_1_main_v52, val1_1_main_v64] <;> rfl

/-- The device's buffer contents after @main's first 2 windows. -/
def val2 (V0 : Valuation τ sig (Elt F)) : Valuation τ sig (Elt F) := after ops_part1_2 (val1_2 V0)
/-- The buffers that window `ops_part1_2`'s operations write. -/
abbrev ops_part1_2_W : List (Ref sig .tc) := [main_v100, main_v101, main_v102, main_v103, main_v104, main_v105, main_v106, main_v107, main_v108, main_v109, main_v110, main_v111, main_v112]
set_option maxRecDepth 8192 in
theorem ops_part1_2_writes : (ops_part1_2 : List (HloOp τ sig (Elt F))).Forall fun op => op.writes ⊆ (ops_part1_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_2` does not write keeps its contents through it. -/
theorem val2_keep (V0 : Valuation τ sig (Elt F)) (r : Ref sig .tc) (h : r ∉ ops_part1_2_W) :
    val2 V0 (Proc.devRef .tc r) = val1_2 V0 (Proc.devRef .tc r) :=
  after_of_writes_sub ops_part1_2 _ ops_part1_2_writes h
theorem val2_main_arg0 (V0 : Valuation τ sig (Elt F)) : val2 V0 (no_index (Proc.devRef .tc main_arg0)) = V0 (Proc.devRef .tc main_arg0) :=
  (val2_keep V0 main_arg0 (by decide)).trans (val1_2_main_arg0 V0)
theorem val2_main_arg1 (V0 : Valuation τ sig (Elt F)) : val2 V0 (no_index (Proc.devRef .tc main_arg1)) = V0 (Proc.devRef .tc main_arg1) :=
  (val2_keep V0 main_arg1 (by decide)).trans (val1_2_main_arg1 V0)
theorem val2_main_arg2 (V0 : Valuation τ sig (Elt F)) : val2 V0 (no_index (Proc.devRef .tc main_arg2)) = V0 (Proc.devRef .tc main_arg2) :=
  (val2_keep V0 main_arg2 (by decide)).trans (val1_2_main_arg2 V0)
theorem val2_main_arg3 (V0 : Valuation τ sig (Elt F)) : val2 V0 (no_index (Proc.devRef .tc main_arg3)) = V0 (Proc.devRef .tc main_arg3) :=
  (val2_keep V0 main_arg3 (by decide)).trans (val1_2_main_arg3 V0)
theorem val2_main_arg4 (V0 : Valuation τ sig (Elt F)) : val2 V0 (no_index (Proc.devRef .tc main_arg4)) = V0 (Proc.devRef .tc main_arg4) :=
  (val2_keep V0 main_arg4 (by decide)).trans (val1_2_main_arg4 V0)
theorem val2_main_arg5 (V0 : Valuation τ sig (Elt F)) : val2 V0 (no_index (Proc.devRef .tc main_arg5)) = V0 (Proc.devRef .tc main_arg5) :=
  (val2_keep V0 main_arg5 (by decide)).trans (val1_2_main_arg5 V0)
theorem val2_main_arg6 (V0 : Valuation τ sig (Elt F)) : val2 V0 (no_index (Proc.devRef .tc main_arg6)) = V0 (Proc.devRef .tc main_arg6) :=
  (val2_keep V0 main_arg6 (by decide)).trans (val1_2_main_arg6 V0)
theorem val2_main_arg7 (V0 : Valuation τ sig (Elt F)) : val2 V0 (no_index (Proc.devRef .tc main_arg7)) = V0 (Proc.devRef .tc main_arg7) :=
  (val2_keep V0 main_arg7 (by decide)).trans (val1_2_main_arg7 V0)
theorem val2_main_v2 (V0 : Valuation τ sig (Elt F)) : val2 V0 (no_index (Proc.devRef .tc main_v2)) = res_main_v2 (args V0) :=
  (val2_keep V0 main_v2 (by decide)).trans (val1_2_main_v2 V0)
theorem val2_main_v50 (V0 : Valuation τ sig (Elt F)) : val2 V0 (no_index (Proc.devRef .tc main_v50)) = res_main_v50 (args V0) :=
  (val2_keep V0 main_v50 (by decide)).trans (val1_2_main_v50 V0)
theorem val2_main_v54 (V0 : Valuation τ sig (Elt F)) : val2 V0 (no_index (Proc.devRef .tc main_v54)) = res_main_v54 (args V0) :=
  (val2_keep V0 main_v54 (by decide)).trans (val1_2_main_v54 V0)
theorem val2_main_v61 (V0 : Valuation τ sig (Elt F)) : val2 V0 (no_index (Proc.devRef .tc main_v61)) = res_main_v61 (args V0) :=
  (val2_keep V0 main_v61 (by decide)).trans (val1_2_main_v61 V0)
theorem val2_main_v79 (V0 : Valuation τ sig (Elt F)) : val2 V0 (no_index (Proc.devRef .tc main_v79)) = transpose S2x17x256x8x8x64 [0, 1, 5, 2, 3, 4] (Host.dotGeneral dot_S2x17x256x8x8x64_S2x17x8x8x256x256_S2x17x8x8x64x256_2_5_5_4_0134_0123 none (res_main_v64 (args V0)) (mulf (broadcastInDim S2x17x8x8x256x256 ![0, 1, 2, 3, 4, 5] bcast_S2x17x8x1x256x256_S2x17x8x8x256x256_0_1_2_3_4_5 (broadcastInDim S2x17x8x1x256x256 ![0, 1, 2, 4, 5] bcast_S2x17x8x256x256_S2x17x8x1x256x256_0_1_2_4_5 (Host.dotGeneral dot_S2x17x256x8x128_S2x17x256x8x128_S2x17x8x256x256_4_4_2_2_013_013 none (res_main_v54 (args V0)) (res_main_v52 (args V0))))) (Host.exp (select (broadcastInDim S2x17x8x8x256x256 ![4, 5] bcast_S256x256_S2x17x8x8x256x256_4_5 (select (cmpi .sge (addi (iotaInDim S256x256 32 0) (broadcastInDim S256x256 ![] bcast_S_S256x256 (constantI S_ 32 0#32))) (iotaInDim S256x256 32 1)) (broadcastInDim S256x256 ![] bcast_S_S256x256 (constantI S_ 1 1#1)) (broadcastInDim S256x256 ![] bcast_S_S256x256 (constantI S_ 1 0#1)))) (subf (broadcastInDim S2x17x8x8x256x256 ![0, 1, 2, 3, 4, 5] bcast_S2x17x8x8x256x1_S2x17x8x8x256x256_0_1_2_3_4_5 (broadcastInDim S2x17x8x8x256x1 ![0, 1, 2, 3, 4] bcast_S2x17x8x8x256_S2x17x8x8x256x1_0_1_2_3_4 (res_main_v61 (args V0)))) (broadcastInDim S2x17x8x8x256x256 ![0, 1, 2, 3, 4, 5] bcast_S2x17x8x8x1x256_S2x17x8x8x256x256_0_1_2_3_4_5 (broadcastInDim S2x17x8x8x1x256 ![0, 1, 2, 3, 5] bcast_S2x17x8x8x256_S2x17x8x8x1x256_0_1_2_3_5 (res_main_v61 (args V0))))) (broadcastInDim S2x17x8x8x256x256 ![] bcast_S_S2x17x8x8x256x256 (id (constant S_ .f32 0xFF800000#32))))))) transposes_S2x17x8x8x64x256_S2x17x256x8x8x64_0_1_5_2_3_4 :=
  (val2_keep V0 main_v79 (by decide)).trans (val1_2_main_v79 V0)
theorem val2_main_v90 (V0 : Valuation τ sig (Elt F)) : val2 V0 (no_index (Proc.devRef .tc main_v90)) = res_main_v90 (args V0) :=
  (val2_keep V0 main_v90 (by decide)).trans (val1_2_main_v90 V0)
theorem val2_main_v94 (V0 : Valuation τ sig (Elt F)) : val2 V0 (no_index (Proc.devRef .tc main_v94)) = res_main_v94 (args V0) :=
  (val2_keep V0 main_v94 (by decide)).trans (val1_2_main_v94 V0)
theorem val2_main_v95 (V0 : Valuation τ sig (Elt F)) : val2 V0 (no_index (Proc.devRef .tc main_v95)) = res_main_v95 (args V0) :=
  (val2_keep V0 main_v95 (by decide)).trans (val1_2_main_v95 V0)
theorem val2_main_v99 (V0 : Valuation τ sig (Elt F)) : val2 V0 (no_index (Proc.devRef .tc main_v99)) = res_main_v99 (args V0) :=
  (val2_keep V0 main_v99 (by decide)).trans (val1_2_main_v99 V0)
set_option maxRecDepth 8192 in
set_option maxHeartbeats 1300000 in
theorem val2_main_v103 (V0 : Valuation τ sig (Elt F)) : val2 V0 (no_index (Proc.devRef .tc main_v103)) = res_main_v103 (args V0) := by
  unfold val2
  simp only [ops_part1_2]
  after_results_simp
  simp only [val1_2_main_v90, val1_2_main_v94, val1_2_main_v99] <;> rfl
set_option maxRecDepth 8192 in
set_option maxHeartbeats 1300000 in
theorem val2_main_v107 (V0 : Valuation τ sig (Elt F)) : val2 V0 (no_index (Proc.devRef .tc main_v107)) = res_main_v107 (args V0) := by
  unfold val2
  simp only [ops_part1_2]
  after_results_simp
  simp only [val1_2_main_v90, val1_2_main_v94, val1_2_main_v99] <;> rfl
set_option maxRecDepth 8192 in
set_option maxHeartbeats 1300000 in
theorem val2_main_v111 (V0 : Valuation τ sig (Elt F)) : val2 V0 (no_index (Proc.devRef .tc main_v111)) = res_main_v111 (args V0) := by
  unfold val2
  simp only [ops_part1_2]
  after_results_simp
  simp only [val1_2_main_v90, val1_2_main_v94, val1_2_main_v99] <;> rfl
set_option maxRecDepth 8192 in
set_option maxHeartbeats 1300000 in
theorem val2_main_v112 (V0 : Valuation τ sig (Elt F)) : val2 V0 (no_index (Proc.devRef .tc main_v112)) = extractStridedSlice S2x1x8x8x64x128 ![0, 4, 0, 0, 0, 0] (res_main_v94 (args V0)) slices_S2x17x8x8x64x128_S2x1x8x8x64x128_0_4_0_0_0_0 := by
  unfold val2
  simp only [ops_part1_2]
  after_results_simp
  simp only [val1_2_main_v94] <;> rfl

/-- The device's buffer contents after @main's first 3 windows. -/
def val3 (V0 : Valuation τ sig (Elt F)) : Valuation τ sig (Elt F) := after ops_part2 (val2 V0)
/-- The buffers that window `main_part2`'s operations write. -/
abbrev ops_part2_W : List (Ref sig .tc) := [main_v113, main_v114, main_v115, main_v116, main_v117, main_v118, main_v119, main_v120, main_v121, main_v122, main_v123, main_v124, main_v125, main_v126, main_v127, main_v128, main_v129, main_v130, main_v131, main_v132, main_v133, main_v134, main_v135, main_v136, main_v137, main_v138, main_v139, main_v140, main_v141, main_v142, main_v143, main_v144, main_v145, main_v146, main_v147, main_v148, main_v149, main_v150, main_v151, main_v152, main_v153, main_v154, main_v155, main_v156, main_v157, main_v158, main_v159, main_v160, main_v161, main_v162, main_v163, main_v164, main_v165, main_v166, main_v167, main_v168, main_v169, main_v170, main_v171, main_v172]
set_option maxRecDepth 8192 in
theorem ops_part2_writes : (ops_part2 : List (HloOp τ sig (Elt F))).Forall fun op => op.writes ⊆ (ops_part2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part2` does not write keeps its contents through it. -/
theorem val3_keep (V0 : Valuation τ sig (Elt F)) (r : Ref sig .tc) (h : r ∉ ops_part2_W) :
    val3 V0 (Proc.devRef .tc r) = val2 V0 (Proc.devRef .tc r) :=
  after_of_writes_sub ops_part2 _ ops_part2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)
theorem val3_main_v2 (V0 : Valuation τ sig (Elt F)) : val3 V0 (no_index (Proc.devRef .tc main_v2)) = res_main_v2 (args V0) :=
  (val3_keep V0 main_v2 (by decide)).trans (val2_main_v2 V0)
theorem val3_main_v50 (V0 : Valuation τ sig (Elt F)) : val3 V0 (no_index (Proc.devRef .tc main_v50)) = res_main_v50 (args V0) :=
  (val3_keep V0 main_v50 (by decide)).trans (val2_main_v50 V0)
set_option maxRecDepth 8192 in
set_option maxHeartbeats 2000000 in
theorem val3_main_v172 (V0 : Valuation τ sig (Elt F)) : val3 V0 (no_index (Proc.devRef .tc main_v172)) = res_main_v172 (args V0) := by
  unfold val3
  simp only [ops_part2]
  after_results_simp
  try dsimp only [Matrix.cons_val]
  try after_results_simp
  simp only [val2_main_v61, val2_main_v54, val2_main_v90, val2_main_v94, val2_main_v112, val2_main_v111, val2_main_v107, val2_main_v103, val2_main_v99, val2_main_v95, val2_main_v79] <;> rfl

/-- The device's buffer contents after @main's first 4 windows. -/
def val4 (V0 : Valuation τ sig (Elt F)) : Valuation τ sig (Elt F) := after ops_part3 (val3 V0)
/-- The buffers that window `main_part3`'s operations write. -/
abbrev ops_part3_W : List (Ref sig .tc) := [main_v173, main_v174, main_v175, main_v176, main_v177, main_v178, main_v179, main_call7_v0, main_call7_v1, main_call7_cst, main_call7_v2, main_call7_v3, main_call7_cst_0, main_call7_v4, main_call7_v5, main_v180, main_v181, main_v182, main_v183, main_cst_5, main_v184, main_v185, main_cst_6, main_v186, main_v187, main_cst_7, main_v188, main_v189, main_v190, main_v191, main_v192, main_v193, main_v194, main_v195, main_v196, main_v197]
set_option maxRecDepth 8192 in
theorem ops_part3_writes : (ops_part3 : List (HloOp τ sig (Elt F))).Forall fun op => op.writes ⊆ (ops_part3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part3` does not write keeps its contents through it. -/
theorem val4_keep (V0 : Valuation τ sig (Elt F)) (r : Ref sig .tc) (h : r ∉ ops_part3_W) :
    val4 V0 (Proc.devRef .tc r) = val3 V0 (Proc.devRef .tc r) :=
  after_of_writes_sub ops_part3 _ ops_part3_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_arg6 (V0 : Valuation τ sig (Elt F)) : val4 V0 (no_index (Proc.devRef .tc main_arg6)) = V0 (Proc.devRef .tc main_arg6) :=
  (val4_keep V0 main_arg6 (by decide)).trans (val3_main_arg6 V0)
theorem val4_main_arg7 (V0 : Valuation τ sig (Elt F)) : val4 V0 (no_index (Proc.devRef .tc main_arg7)) = V0 (Proc.devRef .tc main_arg7) :=
  (val4_keep V0 main_arg7 (by decide)).trans (val3_main_arg7 V0)
set_option maxRecDepth 8192 in
set_option maxHeartbeats 2000000 in
theorem val4_main_v197 (V0 : Valuation τ sig (Elt F)) : val4 V0 (no_index (Proc.devRef .tc main_v197)) = truncf .bf16 (mulf (shapeCast _ (mulf (res_main_v182 (args V0)) (broadcastInDim S2x4352x8x512 ![0, 1, 2, 3] bcast_S2x4352x8x1_S2x4352x8x512_0_1_2_3 (Host.rsqrt (addf (Host.divf (broadcastInDim S2x4352x8x1 ![0, 1, 2] bcast_S2x4352x8_S2x4352x8x1_0_1_2 (Host.reduceAdd (mulf (res_main_v182 (args V0)) (res_main_v182 (args V0))) (constant S_ .f32 0x00000000#32) reducesTo_S2x4352x8x512_S2x4352x8_d3 h_S_)) (broadcastInDim S2x4352x8x1 ![] bcast_S_S2x4352x8x1 (constant S_ .f32 0x44000000#32))) (broadcastInDim S2x4352x8x1 ![] bcast_S_S2x4352x8x1 (constant S_ .f32 0x358637BD#32)))))) shapeCasts_S2x4352x8x512_S2x4352x4096) (broadcastInDim S2x4352x4096 ![0, 1, 2] bcast_S1x1x4096_S2x4352x4096_0_1_2 (broadcastInDim S1x1x4096 ![2] bcast_S4096_S1x1x4096_2 (V0 (Proc.devRef .tc main_arg7) : FVec F S4096 .f32)))) bitsLt_bf16_f32 := by
  unfold val4
  simp only [ops_part3, TRef.binary, TRef.nullary, TRef.unary, TRef.toBuf, TRef.ofBuf, cast_eq]
  after_results_simp
  simp only [val3_main_arg7, val3_main_v2, val3_main_arg6, val3_main_v50, val3_main_v172] <;> rfl

theorem after_ops (V0 : Valuation τ sig (Elt F)) : after ops V0 = val4 V0 := by
  simp only [ops, ops_part0, ops_part1, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v197) = truncf .bf16 (mulf (shapeCast _ (mulf (res_main_v182 (args (launchContents m c))) (broadcastInDim S2x4352x8x512 ![0, 1, 2, 3] bcast_S2x4352x8x1_S2x4352x8x512_0_1_2_3 (Host.rsqrt (addf (Host.divf (broadcastInDim S2x4352x8x1 ![0, 1, 2] bcast_S2x4352x8_S2x4352x8x1_0_1_2 (Host.reduceAdd (mulf (res_main_v182 (args (launchContents m c))) (res_main_v182 (args (launchContents m c)))) (constant S_ .f32 0x00000000#32) reducesTo_S2x4352x8x512_S2x4352x8_d3 h_S_)) (broadcastInDim S2x4352x8x1 ![] bcast_S_S2x4352x8x1 (constant S_ .f32 0x44000000#32))) (broadcastInDim S2x4352x8x1 ![] bcast_S_S2x4352x8x1 (constant S_ .f32 0x358637BD#32)))))) shapeCasts_S2x4352x8x512_S2x4352x4096) (broadcastInDim S2x4352x4096 ![0, 1, 2] bcast_S1x1x4096_S2x4352x4096_0_1_2 (broadcastInDim S1x1x4096 ![2] bcast_S4096_S1x1x4096_2 ((launchContents m c) (Proc.devRef .tc main_arg7))))) bitsLt_bf16_f32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v197).trans ((congrFun (after_ops (launchContents m c)) (Proc.devRef .tc main_v197)).trans (val4_main_v197 (launchContents m c))),
      (h c main_arg0).trans ((congrFun (after_ops (launchContents m c)) (Proc.devRef .tc main_arg0)).trans (val4_main_arg0 (launchContents m c))),
      (h c main_arg1).trans ((congrFun (after_ops (launchContents m c)) (Proc.devRef .tc main_arg1)).trans (val4_main_arg1 (launchContents m c))),
      (h c main_arg2).trans ((congrFun (after_ops (launchContents m c)) (Proc.devRef .tc main_arg2)).trans (val4_main_arg2 (launchContents m c))),
      (h c main_arg3).trans ((congrFun (after_ops (launchContents m c)) (Proc.devRef .tc main_arg3)).trans (val4_main_arg3 (launchContents m c))),
      (h c main_arg4).trans ((congrFun (after_ops (launchContents m c)) (Proc.devRef .tc main_arg4)).trans (val4_main_arg4 (launchContents m c))),
      (h c main_arg5).trans ((congrFun (after_ops (launchContents m c)) (Proc.devRef .tc main_arg5)).trans (val4_main_arg5 (launchContents m c))),
      (h c main_arg6).trans ((congrFun (after_ops (launchContents m c)) (Proc.devRef .tc main_arg6)).trans (val4_main_arg6 (launchContents m c))),
      (h c main_arg7).trans ((congrFun (after_ops (launchContents m c)) (Proc.devRef .tc main_arg7)).trans (val4_main_arg7 (launchContents m c)))⟩)
    (run_seq scopedRefs_eq scopedSems_eq defs main (fun _ => ops) main_eq (fun _ => ops_sub) m ρ fun _ => ops_fresh)

end Cert.ReferenceSsdIdeal.Hand

end
-- ==== Proof.SsdPlain.lean ====
/-
The recurrence on plain numbers: arrays indexed by natural numbers, element by element.
-/
module

public import Idealize.ShloMosaic.Lib.Pointwise

@[expose] public section

noncomputable section

namespace Cert.Ssd

open Idealize.ShloMosaic

/-- The arguments, read at natural numbers. -/
structure Arr where
  M : ℕ → ℕ → EReal
  D : ℕ → ℕ → ℕ → EReal
  cw : ℕ → ℕ → EReal
  cb : ℕ → EReal
  db : ℕ → EReal
  al : ℕ → EReal
  ds : ℕ → EReal
  nw : ℕ → EReal

variable (R : Arr)

/-- The convolution's input: three rows of zeros before the projected rows. -/
def up (b r q : ℕ) : EReal := if 3 ≤ r then R.M (b * 4352 + (r - 3)) (8192 + q) else 0

/-- The convolution over four rows, -/
def conv (b r q : ℕ) : EReal :=
  up R b r q * R.cw 0 q + up R b (1 + r) q * R.cw 1 q + up R b (2 + r) q * R.cw 2 q + up R b (3 + r) q * R.cw 3 q + R.cb q

/-- and its sigmoid-weighted value. -/
def xbc (b r q : ℕ) : EReal := conv R b r q * Ideal.logistic (conv R b r q)

/-- The softplus. -/
def softplus (x : EReal) : EReal := max x 0 + Ideal.log1p (Ideal.exp (-(FloatOps.absf (F := Ideal) (φ := .f32) x)))

/-- The step sizes: zero on the rows of padding. -/
def dt (b r h : ℕ) : EReal := if r < 240 then 0 else softplus (R.D b r h + R.db h)

/-- The log decays, -/
def la (b r h : ℕ) : EReal := dt R b r h * (-(Ideal.exp (R.al h)))

/-- and their running sums within a chunk. -/
def acs (b c h l : ℕ) : EReal := ∑ s : Fin 256, if s.val ≤ l then la R b (c * 256 + s.val) h else 0

/-- The products of the two projections of a group. -/
def cbm (b c g l s : ℕ) : EReal :=
  ∑ n : Fin 128, xbc R b (c * 256 + l) (5120 + (g * 128 + n.val)) * xbc R b (c * 256 + s) (4096 + (g * 128 + n.val))

/-- What a chunk adds to the state, -/
def st (b c g q n : ℕ) : EReal :=
  ∑ k : Fin 256, xbc R b (c * 256 + k.val) (g * 512 + q) * dt R b (c * 256 + k.val) (g * 8 + q / 64) *
    (xbc R b (c * 256 + k.val) (4096 + (g * 128 + n)) * Ideal.exp (acs R b c (g * 8 + q / 64) 255 - acs R b c (g * 8 + q / 64) k.val))

/-- and the state before a chunk. -/
def pv (b : ℕ) : ℕ → ℕ → ℕ → ℕ → EReal
  | 0, _, _, _ => 0
  | c + 1, g, q, n => pv b c g q n * Ideal.exp (acs R b c (g * 8 + q / 64) 255) + st R b c g q n

/-- The output of a head within its chunk, -/
def yd (b c g l q : ℕ) : EReal :=
  ∑ s : Fin 256, xbc R b (c * 256 + s.val) (g * 512 + q) * dt R b (c * 256 + s.val) (g * 8 + q / 64) *
    (cbm R b c g l s.val * Ideal.exp (if s.val ≤ l then acs R b c (g * 8 + q / 64) l - acs R b c (g * 8 + q / 64) s.val else ⊥))

/-- from the state before it, -/
def yo (b c g l q : ℕ) : EReal :=
  ∑ n : Fin 128, pv R b c g q n.val * (xbc R b (c * 256 + l) (5120 + (g * 128 + n.val)) * Ideal.exp (acs R b c (g * 8 + q / 64) l))

/-- and both with the skip, gated. -/
def gated (b c g l q : ℕ) : EReal :=
  (yd R b c g l q + yo R b c g l q + xbc R b (c * 256 + l) (g * 512 + q) * R.ds (g * 8 + q / 64)) *
    (R.M (b * 4352 + (c * 256 + l)) (4096 + (g * 512 + q)) * Ideal.logistic (R.M (b * 4352 + (c * 256 + l)) (4096 + (g * 512 + q))))

/-- The result: each group normalised by its root mean square. -/
def res (b c g l q : ℕ) : EReal :=
  gated R b c g l q * Ideal.rsqrt (Ideal.div (∑ x : Fin 512, gated R b c g l x.val * gated R b c g l x.val) (Scalar.ofBits (F := Ideal) .f32 0x44000000#32)
    + Scalar.ofBits (F := Ideal) .f32 0x358637BD#32) * R.nw (g * 512 + q)

/-- A window's sum is the running sum. -/
theorem window_sum (a : ℕ → EReal) (l : ℕ) (hl : l < 256) :
    (∑ n : Fin 256, if 255 ≤ l + n.val then a (l + n.val - 255) else 0) = ∑ s : Fin 256, if s.val ≤ l then a s.val else 0 := by
  rw [Fin.sum_univ_eq_sum_range (fun n => if 255 ≤ l + n then a (l + n - 255) else 0) 256,
    Fin.sum_univ_eq_sum_range (fun s => if s ≤ l then a s else 0) 256, ← Finset.sum_filter, ← Finset.sum_filter]
  refine Finset.sum_bij (fun n _ => l + n - 255) ?_ ?_ ?_ ?_
  · intro n hn; simp only [Finset.mem_filter, Finset.mem_range] at hn ⊢; omega
  · intro n hn n' hn' e; simp only [Finset.mem_filter, Finset.mem_range] at hn hn'; omega
  · intro s hs; simp only [Finset.mem_filter, Finset.mem_range] at hs
    exact ⟨s + 255 - l, by simp only [Finset.mem_filter, Finset.mem_range]; omega, by omega⟩
  · intro n hn; rfl

/-- A word's order is the number's. -/
theorem slt_small (n k : ℕ) (hn : n < 2 ^ 31) (hk : k < 2 ^ 31) : (BitVec.ofNat 32 n).slt (BitVec.ofNat 32 k) = decide (n < k) := by
  rw [BitVec.slt_eq_decide, BitVec.toInt_eq_toNat_of_lt (by rw [BitVec.toNat_ofNat]; omega), BitVec.toInt_eq_toNat_of_lt (by rw [BitVec.toNat_ofNat]; omega),
    BitVec.toNat_ofNat, BitVec.toNat_ofNat, Nat.mod_eq_of_lt (by omega), Nat.mod_eq_of_lt (by omega)]
  simp

theorem sle_small (n k : ℕ) (hn : n < 2 ^ 31) (hk : k < 2 ^ 31) : (BitVec.ofNat 32 n).sle (BitVec.ofNat 32 k) = decide (n ≤ k) := by
  rw [BitVec.sle_eq_decide, BitVec.toInt_eq_toNat_of_lt (by rw [BitVec.toNat_ofNat]; omega), BitVec.toInt_eq_toNat_of_lt (by rw [BitVec.toNat_ofNat]; omega),
    BitVec.toNat_ofNat, BitVec.toNat_ofNat, Nat.mod_eq_of_lt (by omega), Nat.mod_eq_of_lt (by omega)]
  simp

/-- A selection by a comparison is a case distinction. -/
theorem select_slt {α : Type} (n k : ℕ) (hn : n < 2 ^ 31) (hk : k < 2 ^ 31) (x y : α) :
    Scalar.select (IntOp.cmpi .slt (BitVec.ofNat 32 n) (BitVec.ofNat 32 k)) x y = if n < k then x else y := by
  unfold Scalar.select IntOp.cmpi
  simp only [slt_small n k hn hk]
  by_cases h : n < k <;> simp [h]

theorem select_sge {α : Type} (n k : ℕ) (hn : n < 2 ^ 31) (hk : k < 2 ^ 31) (x y : α) :
    Scalar.select (IntOp.cmpi .sge (BitVec.ofNat 32 n) (BitVec.ofNat 32 k)) x y = if k ≤ n then x else y := by
  unfold Scalar.select IntOp.cmpi
  simp only [sle_small k n hk hn]
  by_cases h : k ≤ n <;> simp [h]

theorem select_sle {α : Type} (n k : ℕ) (hn : n < 2 ^ 31) (hk : k < 2 ^ 31) (x y : α) :
    Scalar.select (IntOp.cmpi .sle (BitVec.ofNat 32 n) (BitVec.ofNat 32 k)) x y = if n ≤ k then x else y := by
  unfold Scalar.select IntOp.cmpi
  simp only [sle_small n k hn hk]
  by_cases h : n ≤ k <;> simp [h]

/-- The step sizes are never below zero, -/
theorem dt_nonneg (b r h : ℕ) : 0 ≤ dt R b r h := by
  unfold dt softplus
  split
  · exact le_rfl
  · refine add_nonneg (le_max_right _ _) ?_
    generalize FloatOps.absf (F := Ideal) (φ := .f32) (R.D b r h + R.db h) = y
    have e : ∀ z : EReal, 0 ≤ Ideal.log1p (Ideal.exp z) := by
      intro z
      induction z with
      | bot =>
        have h1 : (1 : EReal) = ((1 : ℝ) : EReal) := rfl
        simp only [Ideal.log1p, Ideal.exp_bot, add_zero]
        rw [h1, Ideal.log_coe, if_neg (by norm_num)]
        simp
      | top =>
        have h1 : (1 : EReal) + ⊤ = ⊤ := EReal.coe_add_top 1
        simp [Ideal.log1p, h1]
      | coe z =>
        have h0 : 0 < Real.exp z := Real.exp_pos z
        have h1 : (1 : EReal) + ((Real.exp z : ℝ) : EReal) = ((1 + Real.exp z : ℝ) : EReal) := by push_cast; rfl
        unfold Ideal.log1p
        rw [Ideal.exp_coe, h1, Ideal.log_coe, if_neg (by linarith)]
        exact EReal.coe_nonneg.2 (Real.log_nonneg (by linarith))
    exact e _

theorem exp_nonneg (z : EReal) : 0 ≤ Ideal.exp z := by
  induction z with
  | bot => simp
  | top => simp
  | coe z => simpa using (Real.exp_pos z).le

/-- so the log decays are never above zero. -/
theorem la_nonpos (b r h : ℕ) : la R b r h ≤ 0 := by
  unfold la
  rw [mul_neg]
  have : 0 ≤ dt R b r h * Ideal.exp (R.al h) := mul_nonneg (dt_nonneg R b r h) (exp_nonneg _)
  simpa using this

theorem la_ne_top (b r h : ℕ) : la R b r h ≠ ⊤ := fun e => by
  have := la_nonpos R b r h; rw [e] at this; simp at this

/-- Splitting a number that is not positive infinity in three parts and adding the parts' sums again changes nothing. -/
theorem split_sum (a : ℕ → EReal) (p : ℕ → Prop) [DecidablePred p] (ha : ∀ s, a s ≠ ⊤) :
    (∑ s : Fin 256, if p s.val then a s.val else 0) + (∑ s : Fin 256, if p s.val then a s.val - a s.val else 0)
      + (∑ s : Fin 256, if p s.val then (a s.val - a s.val) - (a s.val - a s.val) else 0) = ∑ s : Fin 256, if p s.val then a s.val else 0 := by
  rw [← Finset.sum_add_distrib, ← Finset.sum_add_distrib]
  refine Finset.sum_congr rfl fun s _ => ?_
  split
  · have := ha s.val
    generalize a s.val = x at this
    induction x with
    | bot => simp
    | top => exact absurd rfl this
    | coe x => norm_cast; simp
  · simp

/-- The bias may come first. -/
theorem conv_bias_first (b r q : ℕ) :
    R.cb q + up R b r q * R.cw 0 q + up R b (1 + r) q * R.cw 1 q + up R b (2 + r) q * R.cw 2 q + up R b (3 + r) q * R.cw 3 q = conv R b r q := by
  unfold conv; ac_rfl

/-- The rows of padding are the first of the first chunk. -/
theorem dt_first (b c l h : ℕ) (hc : c < 17) (hl : l < 256) (x : EReal) (hx : x = R.D b (c * 256 + l) h + R.db h) :
    Scalar.select (IntOp.andi (IntOp.cmpi .slt (BitVec.ofNat 32 l) 240#32) (Scalar.cmpi .eq (BitVec.ofNat 32 c) 0#32)) 0
      (if x ≠ x then x else max x 0 + Ideal.log1p (Ideal.exp (0 - FloatOps.absf (F := Ideal) (φ := .f32) x))) = dt R b (c * 256 + l) h := by
  have e1 : IntOp.cmpi .slt (BitVec.ofNat 32 l) 240#32 = BitVec.ofBool (decide (l < 240)) := by
    unfold IntOp.cmpi; simp only [slt_small l 240 (by omega) (by omega)]
  have e2 : Scalar.cmpi .eq (BitVec.ofNat 32 c) 0#32 = BitVec.ofBool (decide (c = 0)) := by
    have : ∀ c : Fin 17, Scalar.cmpi .eq (BitVec.ofNat 32 c.val) 0#32 = BitVec.ofBool (decide (c.val = 0)) := by decide
    exact this ⟨c, hc⟩
  have e3 : (if x ≠ x then x else max x 0 + Ideal.log1p (Ideal.exp (0 - FloatOps.absf (F := Ideal) (φ := .f32) x))) = softplus x := by
    rw [if_neg (fun k => k rfl), zero_sub]; rfl
  rw [e1, e2, e3]
  unfold dt
  rw [← hx]
  by_cases h1 : l < 240
  · by_cases h2 : c = 0
    · rw [if_pos (by omega)]; simp only [h1, h2]; rfl
    · rw [if_neg (by omega)]; simp only [h1, h2]; rfl
  · rw [if_neg (by omega)]; simp only [h1]
    by_cases h2 : c = 0
    · simp only [h2]; rfl
    · simp only [h2]; rfl

end Cert.Ssd

end
-- ==== Proof.SsdRefPoint.lean ====
/-
The reference of the recurrence: each operation on the six-dimensional arrays, element by element.
-/
module

public import proofs.«01_k».proof.Proof.SsdRefTerms
public import proofs.«01_k».proof.Proof.SsdPlain

@[expose] public section

set_option maxRecDepth 16384

noncomputable section

namespace Cert.ReferenceSsdIdeal.Hand

open Cert.ReferenceSsdIdeal Cert.ReferenceSsdIdeal.Gen Idealize.ShloMosaic Idealize.ShloMosaic.TcCoe Idealize.SL.Sem Idealize.ShloMosaic.StableHlo

theorem v50_apply (X : FVec Ideal S2x4352x6144 .f32) (b : Fin 2) (c : Fin 17) (l : Fin 256) (g j : Fin 8) (p : Fin 64) :
    (shapeCast S2x17x256x8x8x64 (extractStridedSlice S2x4352x4096 ![0, 0, 0] X slices_S2x4352x6144_S2x4352x4096_0_0_0) shapeCasts_S2x4352x4096_S2x17x256x8x8x64 : FVec Ideal S2x17x256x8x8x64 .f32) (ix6 b c l g j p)
      = X (ix3 b ⟨c.val * 256 + l.val, by omega⟩ ⟨g.val * 512 + (j.val * 64 + p.val), by omega⟩) := by
  pointwise
  simp only [Nat.add_assoc]

theorem v52_apply (X : FVec Ideal S2x4352x6144 .f32) (b : Fin 2) (c : Fin 17) (l : Fin 256) (g : Fin 8) (p : Fin 128) :
    (shapeCast S2x17x256x8x128 (extractStridedSlice S2x4352x1024 ![0, 0, 4096] X slices_S2x4352x6144_S2x4352x1024_0_0_4096) shapeCasts_S2x4352x1024_S2x17x256x8x128 : FVec Ideal S2x17x256x8x128 .f32) (ix5 b c l g p)
      = X (ix3 b ⟨c.val * 256 + l.val, by omega⟩ ⟨4096 + (g.val * 128 + p.val), by omega⟩) := by
  pointwise

theorem v64_apply (X : FVec Ideal S2x17x256x8x8x64 .f32) (D : FVec Ideal S2x17x256x8x8 .f32) (b : Fin 2) (c : Fin 17) (l : Fin 256) (g j : Fin 8) (p : Fin 64) :
    (mulf X (broadcastInDim S2x17x256x8x8x64 ![0, 1, 2, 3, 4, 5] bcast_S2x17x256x8x8x1_S2x17x256x8x8x64_0_1_2_3_4_5 (broadcastInDim S2x17x256x8x8x1 ![0, 1, 2, 3, 4] bcast_S2x17x256x8x8_S2x17x256x8x8x1_0_1_2_3_4 D))) (ix6 b c l g j p)
      = X (ix6 b c l g j p) * D (ix5 b c l g j) := by
  pointwise

theorem b90_apply (B : FVec Ideal S2x17x256x8x128 .f32) (b : Fin 2) (c : Fin 17) (l : Fin 256) (g j : Fin 8) (n : Fin 128) :
    (broadcastInDim S2x17x8x8x256x128 ![0, 1, 2, 3, 4, 5] bcast_S2x17x8x1x256x128_S2x17x8x8x256x128_0_1_2_3_4_5 (broadcastInDim S2x17x8x1x256x128 ![0, 1, 2, 4, 5] bcast_S2x17x8x256x128_S2x17x8x1x256x128_0_1_2_4_5 (transpose S2x17x8x256x128 [0, 1, 3, 2, 4] B transposes_S2x17x256x8x128_S2x17x8x256x128_0_1_3_2_4))) (ix6 b c g j l n)
      = B (ix5 b c l g n) := by
  pointwise

theorem e90_apply (E : FVec Ideal S2x17x8x8x256 .f32) (b : Fin 2) (c : Fin 17) (l : Fin 256) (g j : Fin 8) (n : Fin 128) :
   (broadcastInDim S2x17x8x8x256x128 ![0, 1, 2, 3, 4, 5] bcast_S2x17x8x8x256x1_S2x17x8x8x256x128_0_1_2_3_4_5 (broadcastInDim S2x17x8x8x256x1 ![0, 1, 2, 3, 4] bcast_S2x17x8x8x256_S2x17x8x8x256x1_0_1_2_3_4 E)) (ix6 b c g j l n) = E (ix5 b c g j l) := by
  pointwise

theorem s90_apply (V : FVec Ideal S2x17x8x8x256 .f32) (b : Fin 2) (c : Fin 17) (l : Fin 256) (g j : Fin 8) :
   (Host.exp (subf (broadcastInDim S2x17x8x8x256 ![0, 1, 2, 3, 4] bcast_S2x17x8x8x1_S2x17x8x8x256_0_1_2_3_4 (extractStridedSlice S2x17x8x8x1 ![0, 0, 0, 0, 255] V slices_S2x17x8x8x256_S2x17x8x8x1_0_0_0_0_255)) V)) (ix5 b c g j l) = Ideal.exp (V (ix5 b c g j 255) - V (ix5 b c g j l)) := by
  pointwise

theorem s94_apply (V : FVec Ideal S2x17x8x8x256 .f32) (b : Fin 2) (c : Fin 17) (g j : Fin 8) (p : Fin 64) (n : Fin 128) :
  (broadcastInDim S2x17x8x8x64x128 ![0, 1, 2, 3, 4, 5] bcast_S2x17x8x8x1x1_S2x17x8x8x64x128_0_1_2_3_4_5 (broadcastInDim S2x17x8x8x1x1 ![0, 1, 2, 3, 4] bcast_S2x17x8x8x1_S2x17x8x8x1x1_0_1_2_3_4 (Host.exp (extractStridedSlice S2x17x8x8x1 ![0, 0, 0, 0, 255] V slices_S2x17x8x8x256_S2x17x8x8x1_0_0_0_0_255)))) (ix6 b c g j p n) = Ideal.exp (V (ix5 b c g j 255)) := by
  pointwise

theorem step_apply (k : ℕ) (hk : k < 17) (h : S2x17x8x8x64x128.Slices ![0, k, 0, 0, 0, 0] S2x1x8x8x64x128) (S : FVec Ideal S2x1x8x8x64x128 .f32) (X Y : FVec Ideal S2x17x8x8x64x128 .f32) (b : Fin 2) (g j : Fin 8) (p : Fin 64) (n : Fin 128) :
  (addf (mulf S (extractStridedSlice S2x1x8x8x64x128 ![0, k, 0, 0, 0, 0] X h)) (extractStridedSlice S2x1x8x8x64x128 ![0, k, 0, 0, 0, 0] Y h)) (ix6 b 0 g j p n)
    = S (ix6 b 0 g j p n) * X (ix6 b ⟨k, hk⟩ g j p n) + Y (ix6 b ⟨k, hk⟩ g j p n) := by
  pointwise

theorem d172a (x : FVec Ideal S2x17x256x8x8x64 .f32) (y : FVec Ideal S2x17x8x8x256x256 .f32) (b : Fin 2) (c : Fin 17) (l : Fin 256) (g j : Fin 8) (p : Fin 64) :
  (transpose S2x17x256x8x8x64 [0, 1, 5, 2, 3, 4] (Host.dotGeneral dot_S2x17x256x8x8x64_S2x17x8x8x256x256_S2x17x8x8x64x256_2_5_5_4_0134_0123 none x y) transposes_S2x17x8x8x64x256_S2x17x256x8x8x64_0_1_5_2_3_4) (ix6 b c l g j p)
   = ∑ k : Fin 256, x (ix6 b c k g j p) * y (ix6 b c g j l k) := by pointwise

theorem d172b (x : FVec Ideal S2x17x8x8x64x128 .f32) (y : FVec Ideal S2x17x8x8x256x128 .f32) (b : Fin 2) (c : Fin 17) (l : Fin 256) (g j : Fin 8) (p : Fin 64) :
  (transpose S2x17x256x8x8x64 [0, 1, 5, 2, 3, 4] (Host.dotGeneral dot_S2x17x8x8x64x128_S2x17x8x8x256x128_S2x17x8x8x64x256_5_5_4_4_0123_0123 none x y) transposes_S2x17x8x8x64x256_S2x17x256x8x8x64_0_1_5_2_3_4) (ix6 b c l g j p)
   = ∑ k : Fin 128, x (ix6 b c g j p k) * y (ix6 b c g j l k) := by pointwise

theorem d172c (x y : FVec Ideal S2x17x256x8x128 .f32) (b : Fin 2) (c : Fin 17) (l k : Fin 256) (g j : Fin 8) :
 (broadcastInDim S2x17x8x8x256x256 ![0, 1, 2, 3, 4, 5] bcast_S2x17x8x1x256x256_S2x17x8x8x256x256_0_1_2_3_4_5 (broadcastInDim S2x17x8x1x256x256 ![0, 1, 2, 4, 5] bcast_S2x17x8x256x256_S2x17x8x1x256x256_0_1_2_4_5 (Host.dotGeneral dot_S2x17x256x8x128_S2x17x256x8x128_S2x17x8x256x256_4_4_2_2_013_013 none x y))) (ix6 b c g j l k) = ∑ n : Fin 128, x (ix5 b c l g n) * y (ix5 b c k g n) := by pointwise

theorem m172 (V : FVec Ideal S2x17x8x8x256 .f32) (b : Fin 2) (c : Fin 17) (l k : Fin 256) (g j : Fin 8) :
 (Host.exp (select (broadcastInDim S2x17x8x8x256x256 ![4, 5] bcast_S256x256_S2x17x8x8x256x256_4_5 (select (cmpi .sge (addi (iotaInDim S256x256 32 0) (broadcastInDim S256x256 ![] bcast_S_S256x256 (constantI S_ 32 0#32))) (iotaInDim S256x256 32 1)) (broadcastInDim S256x256 ![] bcast_S_S256x256 (constantI S_ 1 1#1)) (broadcastInDim S256x256 ![] bcast_S_S256x256 (constantI S_ 1 0#1)))) (subf (broadcastInDim S2x17x8x8x256x256 ![0, 1, 2, 3, 4, 5] bcast_S2x17x8x8x256x1_S2x17x8x8x256x256_0_1_2_3_4_5 (broadcastInDim S2x17x8x8x256x1 ![0, 1, 2, 3, 4] bcast_S2x17x8x8x256_S2x17x8x8x256x1_0_1_2_3_4 V)) (broadcastInDim S2x17x8x8x256x256 ![0, 1, 2, 3, 4, 5] bcast_S2x17x8x8x1x256_S2x17x8x8x256x256_0_1_2_3_4_5 (broadcastInDim S2x17x8x8x1x256 ![0, 1, 2, 3, 5] bcast_S2x17x8x8x256_S2x17x8x8x1x256_0_1_2_3_5 V))) (broadcastInDim S2x17x8x8x256x256 ![] bcast_S_S2x17x8x8x256x256 (id (constant (F := Ideal) S_ .f32 0xFF800000#32))))) (ix6 b c g j l k) = Ideal.exp (if k.val ≤ l.val then V (ix5 b c g j l) - V (ix5 b c g j k) else ⊥) := by
  pointwise
  have e1 : IntOp.addi (BitVec.ofNat 32 l.val) 0#32 = BitVec.ofNat 32 l.val := by simp [IntOp.addi]
  have e2 : (id (constant (F := Ideal) S_ .f32 4286578688#32) ix0 : EReal) = ⊥ := by
    show Ideal.ofBits .f32 4286578688#32 = ⊥
    simp [Ideal.ofBits, Ideal.ieee]
  rw [e1, e2, Cert.Ssd.select_sge _ _ (by omega) (by omega)]
  by_cases h : k.val ≤ l.val
  · simp only [if_pos h]; rfl
  · simp only [if_neg h]; rfl

theorem v54_apply (X : FVec Ideal S2x4352x6144 .f32) (b : Fin 2) (c : Fin 17) (l : Fin 256) (g : Fin 8) (p : Fin 128) :
    (shapeCast S2x17x256x8x128 (extractStridedSlice S2x4352x1024 ![0, 0, 5120] X slices_S2x4352x6144_S2x4352x1024_0_0_5120) shapeCasts_S2x4352x1024_S2x17x256x8x128 : FVec Ideal S2x17x256x8x128 .f32) (ix5 b c l g p)
      = X (ix3 b ⟨c.val * 256 + l.val, by omega⟩ ⟨5120 + (g.val * 128 + p.val), by omega⟩) := by
  pointwise

theorem d90 (x : FVec Ideal S2x17x256x8x8x64 .f32) (y : FVec Ideal S2x17x8x8x256x128 .f32) (b : Fin 2) (c : Fin 17) (g j : Fin 8) (p : Fin 64) (n : Fin 128) :
    Host.dotGeneral dot_S2x17x256x8x8x64_S2x17x8x8x256x128_S2x17x8x8x64x128_2_4_5_5_0134_0123 none x y (ix6 b c g j p n)
      = ∑ k : Fin 256, x (ix6 b c k g j p) * y (ix6 b c g j k n) := by pointwise
theorem foldl_add {α : Type} (F : α → EReal) (L : List α) (r : EReal) : L.foldl (fun r n => r + F n) r = r + (L.map F).sum := by
  induction L generalizing r with
  | nil => simp
  | cons a L ih => rw [List.foldl_cons, ih, List.map_cons, List.sum_cons, add_assoc]

/-- The positions of a window that runs along the last axis only. -/
def windowEquiv : (⟨5, ![1, 1, 1, 1, 256]⟩ : Shape).Idx ≃ Fin 256 where
  toFun w := w 4
  invFun n := ix5 (0 : Fin 1) (0 : Fin 1) (0 : Fin 1) (0 : Fin 1) n
  left_inv w := by
    funext a
    fin_cases a
    · exact Subsingleton.elim (α := Fin 1) _ _
    · exact Subsingleton.elim (α := Fin 1) _ _
    · exact Subsingleton.elim (α := Fin 1) _ _
    · exact Subsingleton.elim (α := Fin 1) _ _
    · rfl
  right_inv n := rfl

/-- A position of the window, from its number. -/
abbrev windowAt (m : Fin (⟨5, ![1, 1, 1, 1, 256]⟩ : Shape).numel) : (⟨5, ![1, 1, 1, 1, 256]⟩ : Shape).Idx := (Shape.rowMajor _).symm m

theorem window_apply (x : FVec Ideal S2x17x8x8x256 .f32) (v : FVec Ideal S_ .f32) (hv : v (Shape.Idx.first h_S_) = 0) (b : Fin 2) (c : Fin 17) (g j : Fin 8) (l : Fin 256) :
    Host.reduceWindowAdd ![1, 1, 1, 1, 256] ![1, 1, 1, 1, 1] ![0, 0, 0, 0, 255] ![0, 0, 0, 0, 0] x v reduceWindows_S2x17x8x8x256_S2x17x8x8x256_w1s1p0_0_w1s1p0_0_w1s1p0_0_w1s1p0_0_w256s1p255_0 h_S_ (ix5 b c g j l)
      = ∑ n : Fin 256, if h : 255 ≤ l.val + n.val then x (ix5 b c g j ⟨l.val + n.val - 255, by omega⟩) else 0 := by
  unfold Host.reduceWindowAdd
  rw [Ideal.hostReduceWindowAdd_def]
  unfold Ideal.hostReduceWindowAdd Host.reduceWindow
  rw [hv]
  refine (foldl_add _ _ _).trans ?_
  rw [zero_add, ← Fin.sum_univ_def]
  refine Fintype.sum_equiv ((Shape.rowMajor _).symm.trans windowEquiv) _ _ fun m => ?_
  have h0 : (windowAt m 0).val < 1 := (windowAt m 0).isLt
  have h1 : (windowAt m 1).val < 1 := (windowAt m 1).isLt
  have h2 : (windowAt m 2).val < 1 := (windowAt m 2).isLt
  have h3 : (windowAt m 3).val < 1 := (windowAt m 3).isLt
  have h4 : (windowAt m 4).val < 256 := (windowAt m 4).isLt
  rw [show ((Shape.rowMajor _).symm.trans windowEquiv) m = windowAt m 4 from rfl]
  by_cases h : 255 ≤ l.val + (windowAt m 4).val
  · rw [dif_pos h, dif_pos]
    · congr 1
      funext a
      apply Fin.ext
      fin_cases a
      · show b.val * 1 + (windowAt m 0).val - 0 = b.val; omega
      · show c.val * 1 + (windowAt m 1).val - 0 = c.val; omega
      · show g.val * 1 + (windowAt m 2).val - 0 = g.val; omega
      · show j.val * 1 + (windowAt m 3).val - 0 = j.val; omega
      · show l.val * 1 + (windowAt m 4).val - 255 = l.val + (windowAt m 4).val - 255; omega
    · intro a
      fin_cases a
      · show 0 ≤ b.val * 1 + (windowAt m 0).val ∧ b.val * 1 + (windowAt m 0).val - 0 < 2; omega
      · show 0 ≤ c.val * 1 + (windowAt m 1).val ∧ c.val * 1 + (windowAt m 1).val - 0 < 17; omega
      · show 0 ≤ g.val * 1 + (windowAt m 2).val ∧ g.val * 1 + (windowAt m 2).val - 0 < 8; omega
      · show 0 ≤ j.val * 1 + (windowAt m 3).val ∧ j.val * 1 + (windowAt m 3).val - 0 < 8; omega
      · show 255 ≤ l.val * 1 + (windowAt m 4).val ∧ l.val * 1 + (windowAt m 4).val - 255 < 256; omega
  · rw [dif_neg h, dif_neg]
    intro k
    have := (k 4).1
    have : 255 ≤ l.val * 1 + (windowAt m 4).val := this
    omega

theorem m61_apply (D : FVec Ideal S2x17x256x8x8 .f32) (X : FVec Ideal S64 .f32) (b : Fin 2) (c : Fin 17) (g j : Fin 8) (l : Fin 256) :
  (transpose S2x17x8x8x256 [0, 1, 3, 4, 2] (mulf D (broadcastInDim S2x17x256x8x8 ![0, 1, 2, 3, 4] bcast_S1x1x1x8x8_S2x17x256x8x8_0_1_2_3_4 (broadcastInDim S1x1x1x8x8 ![3, 4] bcast_S8x8_S1x1x1x8x8_3_4 (shapeCast S8x8 (Host.negf (Host.exp X)) shapeCasts_S64_S8x8)))) transposes_S2x17x256x8x8_S2x17x8x8x256_0_1_3_4_2) (ix5 b c g j l)
   = D (ix5 b c l g j) * (-(Ideal.exp (X (ix1 ⟨g.val * 8 + j.val, by omega⟩)))) := by
  pointwise

theorem cat8 (x0 x1 x2 x3 x4 x5 x6 x7 : FVec Ideal S2x1x8x8x64x128 .f32) (b : Fin 2) (g j : Fin 8) (p : Fin 64) (n : Fin 128) (c : Fin 8) :
  (concatenate S2x8x8x8x64x128 1 [⟨S2x1x8x8x64x128, x0⟩, ⟨S2x1x8x8x64x128, x1⟩, ⟨S2x1x8x8x64x128, x2⟩, ⟨S2x1x8x8x64x128, x3⟩, ⟨S2x1x8x8x64x128, x4⟩, ⟨S2x1x8x8x64x128, x5⟩, ⟨S2x1x8x8x64x128, x6⟩, ⟨S2x1x8x8x64x128, x7⟩] concatenates_S2x1x8x8x64x128_S2x1x8x8x64x128_S2x1x8x8x64x128_S2x1x8x8x64x128_S2x1x8x8x64x128_S2x1x8x8x64x128_S2x1x8x8x64x128_S2x1x8x8x64x128_S2x8x8x8x64x128_d1) (ix6 b c g j p n)
   = (![x0, x1, x2, x3, x4, x5, x6, x7] c) (ix6 b 0 g j p n) := by
  pointwise
  fin_cases c <;> rfl
theorem cat9 (x0 x1 x2 x3 x4 x5 x6 x7 x8 : FVec Ideal S2x1x8x8x64x128 .f32) (b : Fin 2) (g j : Fin 8) (p : Fin 64) (n : Fin 128) (c : Fin 9) :
  (concatenate S2x9x8x8x64x128 1 [⟨S2x1x8x8x64x128, x0⟩, ⟨S2x1x8x8x64x128, x1⟩, ⟨S2x1x8x8x64x128, x2⟩, ⟨S2x1x8x8x64x128, x3⟩, ⟨S2x1x8x8x64x128, x4⟩, ⟨S2x1x8x8x64x128, x5⟩, ⟨S2x1x8x8x64x128, x6⟩, ⟨S2x1x8x8x64x128, x7⟩, ⟨S2x1x8x8x64x128, x8⟩] concatenates_S2x1x8x8x64x128_S2x1x8x8x64x128_S2x1x8x8x64x128_S2x1x8x8x64x128_S2x1x8x8x64x128_S2x1x8x8x64x128_S2x1x8x8x64x128_S2x1x8x8x64x128_S2x1x8x8x64x128_S2x9x8x8x64x128_d1) (ix6 b c g j p n)
   = (![x0, x1, x2, x3, x4, x5, x6, x7, x8] c) (ix6 b 0 g j p n) := by
  pointwise
  fin_cases c <;> rfl

theorem cat17 (x : FVec Ideal S2x8x8x8x64x128 .f32) (y : FVec Ideal S2x9x8x8x64x128 .f32) (b : Fin 2) (g j : Fin 8) (p : Fin 64) (n : Fin 128) (c : Fin 17) :
  (concatenate S2x17x8x8x64x128 1 [⟨S2x8x8x8x64x128, x⟩, ⟨S2x9x8x8x64x128, y⟩] concatenates_S2x8x8x8x64x128_S2x9x8x8x64x128_S2x17x8x8x64x128_d1) (ix6 b c g j p n)
   = if h : c.val < 8 then x (ix6 b ⟨c.val, h⟩ g j p n) else y (ix6 b ⟨c.val - 8, by omega⟩ g j p n) := by
  pointwise
theorem skip172 (X : FVec Ideal S2x17x256x8x8x64 .f32) (D : FVec Ideal S64 .f32) (b : Fin 2) (c : Fin 17) (l : Fin 256) (g j : Fin 8) (p : Fin 64) :
   (mulf X (broadcastInDim S2x17x256x8x8x64 ![0, 1, 2, 3, 4, 5] bcast_S1x1x1x8x8x1_S2x17x256x8x8x64_0_1_2_3_4_5 (broadcastInDim S1x1x1x8x8x1 ![3, 4, 5] bcast_S8x8x1_S1x1x1x8x8x1_3_4_5 (broadcastInDim S8x8x1 ![0, 1] bcast_S8x8_S8x8x1_0_1 (shapeCast S8x8 D shapeCasts_S64_S8x8))))) (ix6 b c l g j p) = X (ix6 b c l g j p) * D (ix1 ⟨g.val * 8 + j.val, by omega⟩) := by
  pointwise
theorem flat172 (X : FVec Ideal S2x17x256x8x8x64 .f32) (b : Fin 2) (c : Fin 17) (l : Fin 256) (g j : Fin 8) (p : Fin 64) (h : c.val * 256 + l.val < 4352) (h' : g.val * 512 + (j.val * 64 + p.val) < 4096) :
  (shapeCast S2x4352x4096 X shapeCasts_S2x17x256x8x8x64_S2x4352x4096 : FVec Ideal S2x4352x4096 .f32) (ix3 b ⟨c.val * 256 + l.val, h⟩ ⟨g.val * 512 + (j.val * 64 + p.val), h'⟩) = X (ix6 b c l g j p) := by
  pointwise

theorem gate_apply (X Z : FVec Ideal S2x4352x4096 .f32) (b : Fin 2) (r : Fin 4352) (g : Fin 8) (q : Fin 512) :
  (shapeCast S2x4352x8x512 (mulf X (mulf Z (Host.divf (broadcastInDim S2x4352x4096 ![] bcast_S_S2x4352x4096 (constant S_ .f32 0x3F800000#32)) (addf (broadcastInDim S2x4352x4096 ![] bcast_S_S2x4352x4096 (constant S_ .f32 0x3F800000#32)) (Host.exp (Host.negf Z)))))) shapeCasts_S2x4352x4096_S2x4352x8x512 : FVec Ideal S2x4352x8x512 .f32) (ix4 b r g q)
   = X (ix3 b r ⟨g.val * 512 + q.val, by omega⟩) * (Z (ix3 b r ⟨g.val * 512 + q.val, by omega⟩) * Ideal.logistic (Z (ix3 b r ⟨g.val * 512 + q.val, by omega⟩))) := by
  pointwise
  rfl
theorem norm_apply (Y : FVec Ideal S2x4352x8x512 .f32) (W : FVec Ideal S4096 .f32) (b : Fin 2) (r : Fin 4352) (g : Fin 8) (q : Fin 512) :
  truncf .bf16 (mulf (shapeCast S2x4352x4096 (mulf Y (broadcastInDim S2x4352x8x512 ![0, 1, 2, 3] bcast_S2x4352x8x1_S2x4352x8x512_0_1_2_3 (Host.rsqrt (addf (Host.divf (broadcastInDim S2x4352x8x1 ![0, 1, 2] bcast_S2x4352x8_S2x4352x8x1_0_1_2 (Host.reduceAdd (mulf Y Y) (constant S_ .f32 0x00000000#32) reducesTo_S2x4352x8x512_S2x4352x8_d3 h_S_)) (broadcastInDim S2x4352x8x1 ![] bcast_S_S2x4352x8x1 (constant S_ .f32 0x44000000#32))) (broadcastInDim S2x4352x8x1 ![] bcast_S_S2x4352x8x1 (constant S_ .f32 0x358637BD#32)))))) shapeCasts_S2x4352x8x512_S2x4352x4096) (broadcastInDim S2x4352x4096 ![0, 1, 2] bcast_S1x1x4096_S2x4352x4096_0_1_2 (broadcastInDim S1x1x4096 ![2] bcast_S4096_S1x1x4096_2 W))) bitsLt_bf16_f32 (ix3 b r ⟨g.val * 512 + q.val, by omega⟩)
   = Y (ix4 b r g q) * Ideal.rsqrt (Ideal.div (∑ x : Fin 512, Y (ix4 b r g x) * Y (ix4 b r g x)) (Scalar.ofBits (F := Ideal) .f32 0x44000000#32)
    + Scalar.ofBits (F := Ideal) .f32 0x358637BD#32) * W (ix1 ⟨g.val * 512 + q.val, by omega⟩) := by
  pointwise

end Cert.ReferenceSsdIdeal.Hand

end
-- ==== Proof.SsdRefValue.lean ====
/-
The reference of the recurrence is the recurrence on plain numbers.
-/
module

public import proofs.«01_k».proof.Proof.SsdRefPoint

@[expose] public section

set_option maxRecDepth 16384

noncomputable section

namespace Cert.ReferenceSsdIdeal.Hand

open Cert.ReferenceSsdIdeal Cert.ReferenceSsdIdeal.Gen Idealize.ShloMosaic Idealize.ShloMosaic.TcCoe Idealize.SL.Sem Idealize.ShloMosaic.StableHlo
open Cert.Ssd (xbc dt la acs cbm st pv yd yo gated res)

variable (A : Args Ideal)

/-- The arguments, read at natural numbers. -/
def arr : Cert.Ssd.Arr where
  M p q := if h : p < 8704 ∧ q < 18432 then A.a0 (ix2 ⟨p, h.1⟩ ⟨q, h.2⟩) else 0
  D b r h := if k : b < 2 ∧ r < 4352 ∧ h < 64 then A.a1 (ix3 ⟨b, k.1⟩ ⟨r, k.2.1⟩ ⟨h, k.2.2⟩) else 0
  cw k q := if h : k < 4 ∧ q < 6144 then A.a2 (ix2 ⟨k, h.1⟩ ⟨q, h.2⟩) else 0
  cb q := if h : q < 6144 then A.a3 (ix1 ⟨q, h⟩) else 0
  db q := if h : q < 64 then A.a4 (ix1 ⟨q, h⟩) else 0
  al q := if h : q < 64 then A.a5 (ix1 ⟨q, h⟩) else 0
  ds q := if h : q < 64 then A.a6 (ix1 ⟨q, h⟩) else 0
  nw q := if h : q < 4096 then A.a7 (ix1 ⟨q, h⟩) else 0

theorem a0_eq (i : Fin 8704) (j : Fin 18432) : A.a0 (ix2 i j) = (arr A).M i.val j.val := by
  simp only [arr]; rw [dif_pos ⟨i.isLt, j.isLt⟩]
theorem a1_eq (b : Fin 2) (i : Fin 4352) (j : Fin 64) : A.a1 (ix3 b i j) = (arr A).D b.val i.val j.val := by
  simp only [arr]; rw [dif_pos ⟨b.isLt, i.isLt, j.isLt⟩]
theorem a2_eq (i : Fin 4) (j : Fin 6144) : A.a2 (ix2 i j) = (arr A).cw i.val j.val := by
  simp only [arr]; rw [dif_pos ⟨i.isLt, j.isLt⟩]
theorem a3_eq (j : Fin 6144) : A.a3 (ix1 j) = (arr A).cb j.val := by
  simp only [arr]; rw [dif_pos j.isLt]
theorem a4_eq (j : Fin 64) : A.a4 (ix1 j) = (arr A).db j.val := by
  simp only [arr]; rw [dif_pos j.isLt]
theorem a5_eq (j : Fin 64) : A.a5 (ix1 j) = (arr A).al j.val := by
  simp only [arr]; rw [dif_pos j.isLt]
theorem a6_eq (j : Fin 64) : A.a6 (ix1 j) = (arr A).ds j.val := by
  simp only [arr]; rw [dif_pos j.isLt]
theorem a7_eq (j : Fin 4096) : A.a7 (ix1 j) = (arr A).nw j.val := by
  simp only [arr]; rw [dif_pos j.isLt]

theorem v4_apply (b : Fin 2) (r : Fin 4355) (q : Fin 6144) : res_main_v4 A (ix3 b r q) = Cert.Ssd.up (arr A) b.val r.val q.val := by
  pointwise [res_main_v4, res_main_v1]
  unfold Cert.Ssd.up
  by_cases h : 3 ≤ r.val
  · rw [dif_pos ⟨h, by omega⟩, if_pos h, a0_eq]
  · rw [dif_neg (fun k => h k.1), if_neg h]
    show (((0#32 : BitVec 32).toInt : ℝ) : EReal) = 0
    simp

theorem v36_apply (b : Fin 2) (r : Fin 4352) (q : Fin 6144) : res_main_v36 A (ix3 b r q) = Cert.Ssd.conv (arr A) b.val r.val q.val := by
  pointwise [res_main_v36]
  simp only [v4_apply, a2_eq, a3_eq]
  rfl

theorem v37_apply (b : Fin 2) (r : Fin 4352) (q : Fin 6144) : res_main_v37 A (ix3 b r q) = Cert.Ssd.xbc (arr A) b.val r.val q.val := by
  pointwise [res_main_v37]
  simp only [v36_apply]
  rfl

theorem v40_apply (b : Fin 2) (r : Fin 4352) (q : Fin 64) : res_main_v40 A (ix3 b r q) = (arr A).D b.val r.val q.val + (arr A).db q.val := by
  pointwise [res_main_v40]
  simp only [a1_eq, a4_eq]

theorem v55_apply (b : Fin 2) (c : Fin 17) (l : Fin 256) (g j : Fin 8) :
    res_main_v55 A (ix5 b c l g j) = Cert.Ssd.dt (arr A) b.val (c.val * 256 + l.val) (g.val * 8 + j.val) := by
  pointwise [res_main_v55, res_main_call2_v3, res_main_call2_cst]
  have e2 : (id (constant (F := Ideal) S_ .f32 0x00000000#32) ix0 : EReal) = 0 := by
    show Scalar.ofBits (F := Ideal) .f32 0x00000000#32 = 0
    simp [Scalar.ofBits]
  simp only [v40_apply]
  rw [Cert.Ssd.select_slt _ _ (by omega) (by omega), e2]
  unfold Cert.Ssd.dt Cert.Ssd.softplus
  simp

theorem v61_apply (b : Fin 2) (c : Fin 17) (g j : Fin 8) (l : Fin 256) :
    res_main_v61 A (ix5 b c g j l) = acs (arr A) b.val c.val (g.val * 8 + j.val) l.val := by
  unfold res_main_v61
  rw [window_apply _ _ (by show Ideal.ofBits .f32 0x00000000#32 = 0; simp [Ideal.ofBits, Ideal.ieee])]
  refine (Finset.sum_congr rfl fun n _ => ?_).trans (Cert.Ssd.window_sum (fun s => la (arr A) b.val (c.val * 256 + s) (g.val * 8 + j.val)) l.val l.isLt)
  by_cases h : 255 ≤ l.val + n.val
  · rw [dif_pos h, if_pos h, m61_apply, v55_apply, a5_eq]
    rfl
  · rw [dif_neg h, if_neg h]

theorem w50 (b : Fin 2) (c : Fin 17) (l : Fin 256) (g j : Fin 8) (p : Fin 64) :
    res_main_v50 A (ix6 b c l g j p) = xbc (arr A) b.val (c.val * 256 + l.val) (g.val * 512 + (j.val * 64 + p.val)) := by
  unfold res_main_v50; rw [v50_apply, v37_apply]

theorem w52 (b : Fin 2) (c : Fin 17) (l : Fin 256) (g : Fin 8) (n : Fin 128) :
    res_main_v52 A (ix5 b c l g n) = xbc (arr A) b.val (c.val * 256 + l.val) (4096 + (g.val * 128 + n.val)) := by
  unfold res_main_v52; rw [v52_apply, v37_apply]

theorem w54 (b : Fin 2) (c : Fin 17) (l : Fin 256) (g : Fin 8) (n : Fin 128) :
    res_main_v54 A (ix5 b c l g n) = xbc (arr A) b.val (c.val * 256 + l.val) (5120 + (g.val * 128 + n.val)) := by
  unfold res_main_v54; rw [v54_apply, v37_apply]

theorem w64 (b : Fin 2) (c : Fin 17) (l : Fin 256) (g j : Fin 8) (p : Fin 64) :
    res_main_v64 A (ix6 b c l g j p) = xbc (arr A) b.val (c.val * 256 + l.val) (g.val * 512 + (j.val * 64 + p.val)) * dt (arr A) b.val (c.val * 256 + l.val) (g.val * 8 + j.val) := by
  unfold res_main_v64; rw [v64_apply, w50, v55_apply]

/-- The head of a lane. -/
theorem head_of (g j : Fin 8) (p : Fin 64) : g.val * 8 + (j.val * 64 + p.val) / 64 = g.val * 8 + j.val := by omega

theorem w90 (b : Fin 2) (c : Fin 17) (g j : Fin 8) (p : Fin 64) (n : Fin 128) :
    res_main_v90 A (ix6 b c g j p n) = st (arr A) b.val c.val g.val (j.val * 64 + p.val) n.val := by
  unfold res_main_v90 st
  rw [d90]
  refine Finset.sum_congr rfl fun k _ => ?_
  rw [w64, mulf_apply, b90_apply, e90_apply, s90_apply, w52, v61_apply, v61_apply, head_of]
  rfl

theorem w94 (b : Fin 2) (c : Fin 17) (g j : Fin 8) (p : Fin 64) (n : Fin 128) :
    res_main_v94 A (ix6 b c g j p n) = Ideal.exp (acs (arr A) b.val c.val (g.val * 8 + j.val) 255) := by
  unfold res_main_v94; rw [s94_apply, v61_apply]; rfl

theorem w95 (b : Fin 2) (g j : Fin 8) (p : Fin 64) (n : Fin 128) :
    res_main_v95 A (ix6 b 0 g j p n) = pv (arr A) b.val 0 g.val (j.val * 64 + p.val) n.val := by
  show Ideal.ofBits .f32 0x00000000#32 = 0
  simp [Ideal.ofBits, Ideal.ieee]

/-- An array holds the state before chunk `k`. -/
def holdsPv (k : ℕ) (S : FVec Ideal S2x1x8x8x64x128 .f32) : Prop :=
  ∀ (b : Fin 2) (g j : Fin 8) (p : Fin 64) (n : Fin 128), S (ix6 b 0 g j p n) = pv (arr A) b.val k g.val (j.val * 64 + p.val) n.val

/-- A step from chunk to chunk. -/
theorem pv_step (k : ℕ) (hk : k < 17) (h : S2x17x8x8x64x128.Slices ![0, k, 0, 0, 0, 0] S2x1x8x8x64x128) (S : FVec Ideal S2x1x8x8x64x128 .f32)
    (hS : holdsPv A k S) : holdsPv A (k + 1) (addf (mulf S (extractStridedSlice S2x1x8x8x64x128 ![0, k, 0, 0, 0, 0] (res_main_v94 A) h)) (extractStridedSlice S2x1x8x8x64x128 ![0, k, 0, 0, 0, 0] (res_main_v90 A) h)) := by
  intro b g j p n
  rw [step_apply k hk, hS b g j p n, w94, w90]
  show _ = pv (arr A) b.val k g.val (j.val * 64 + p.val) n.val * Ideal.exp (acs (arr A) b.val k (g.val * 8 + (j.val * 64 + p.val) / 64) 255) + _
  rw [head_of]

theorem w99 : holdsPv A 1 (res_main_v99 A) := pv_step A 0 (by decide) slices_S2x17x8x8x64x128_S2x1x8x8x64x128_0_0_0_0_0_0 (res_main_v95 A) (w95 A)
theorem w103 : holdsPv A 2 (res_main_v103 A) := pv_step A 1 (by decide) slices_S2x17x8x8x64x128_S2x1x8x8x64x128_0_1_0_0_0_0 (res_main_v99 A) (w99 A)
theorem w107 : holdsPv A 3 (res_main_v107 A) := pv_step A 2 (by decide) slices_S2x17x8x8x64x128_S2x1x8x8x64x128_0_2_0_0_0_0 (res_main_v103 A) (w103 A)
theorem w111 : holdsPv A 4 (res_main_v111 A) := pv_step A 3 (by decide) slices_S2x17x8x8x64x128_S2x1x8x8x64x128_0_3_0_0_0_0 (res_main_v107 A) (w107 A)
theorem w115 : holdsPv A 5 (res_main_v115 A) := pv_step A 4 (by decide) slices_S2x17x8x8x64x128_S2x1x8x8x64x128_0_4_0_0_0_0 (res_main_v111 A) (w111 A)
theorem w119 : holdsPv A 6 (res_main_v119 A) := pv_step A 5 (by decide) slices_S2x17x8x8x64x128_S2x1x8x8x64x128_0_5_0_0_0_0 (res_main_v115 A) (w115 A)
theorem w123 : holdsPv A 7 (res_main_v123 A) := pv_step A 6 (by decide) slices_S2x17x8x8x64x128_S2x1x8x8x64x128_0_6_0_0_0_0 (res_main_v119 A) (w119 A)
theorem w127 : holdsPv A 8 (res_main_v127 A) := pv_step A 7 (by decide) slices_S2x17x8x8x64x128_S2x1x8x8x64x128_0_7_0_0_0_0 (res_main_v123 A) (w123 A)
theorem w131 : holdsPv A 9 (res_main_v131 A) := pv_step A 8 (by decide) slices_S2x17x8x8x64x128_S2x1x8x8x64x128_0_8_0_0_0_0 (res_main_v127 A) (w127 A)
theorem w135 : holdsPv A 10 (res_main_v135 A) := pv_step A 9 (by decide) slices_S2x17x8x8x64x128_S2x1x8x8x64x128_0_9_0_0_0_0 (res_main_v131 A) (w131 A)
theorem w139 : holdsPv A 11 (res_main_v139 A) := pv_step A 10 (by decide) slices_S2x17x8x8x64x128_S2x1x8x8x64x128_0_10_0_0_0_0 (res_main_v135 A) (w135 A)
theorem w143 : holdsPv A 12 (res_main_v143 A) := pv_step A 11 (by decide) slices_S2x17x8x8x64x128_S2x1x8x8x64x128_0_11_0_0_0_0 (res_main_v139 A) (w139 A)
theorem w147 : holdsPv A 13 (res_main_v147 A) := pv_step A 12 (by decide) slices_S2x17x8x8x64x128_S2x1x8x8x64x128_0_12_0_0_0_0 (res_main_v143 A) (w143 A)
theorem w151 : holdsPv A 14 (res_main_v151 A) := pv_step A 13 (by decide) slices_S2x17x8x8x64x128_S2x1x8x8x64x128_0_13_0_0_0_0 (res_main_v147 A) (w147 A)
theorem w155 : holdsPv A 15 (res_main_v155 A) := pv_step A 14 (by decide) slices_S2x17x8x8x64x128_S2x1x8x8x64x128_0_14_0_0_0_0 (res_main_v151 A) (w151 A)
theorem w159 : holdsPv A 16 (addf (mulf (res_main_v155 A) (extractStridedSlice S2x1x8x8x64x128 ![0, 15, 0, 0, 0, 0] (res_main_v94 A) slices_S2x17x8x8x64x128_S2x1x8x8x64x128_0_15_0_0_0_0)) (extractStridedSlice S2x1x8x8x64x128 ![0, 15, 0, 0, 0, 0] (res_main_v90 A) slices_S2x17x8x8x64x128_S2x1x8x8x64x128_0_15_0_0_0_0)) :=
  pv_step A 15 (by decide) slices_S2x17x8x8x64x128_S2x1x8x8x64x128_0_15_0_0_0_0 (res_main_v155 A) (w155 A)

theorem w172 (b : Fin 2) (c : Fin 17) (l : Fin 256) (g j : Fin 8) (p : Fin 64) :
    res_main_v172 A (ix6 b c l g j p) = yd (arr A) b.val c.val g.val l.val (j.val * 64 + p.val) + yo (arr A) b.val c.val g.val l.val (j.val * 64 + p.val) := by
  unfold res_main_v172 yd yo
  rw [addf_apply, d172a, d172b]
  refine congrArg₂ (· + ·) (Finset.sum_congr rfl fun k _ => ?_) (Finset.sum_congr rfl fun n _ => ?_)
  · rw [w64, mulf_apply, d172c, m172, v61_apply, v61_apply, head_of]
    simp only [w52, w54]
    rfl
  · rw [mulf_apply, b90_apply, e90_apply, w54, head_of]
    refine congrArg₂ (· * ·) ?_ ?_
    · rw [cat17]
      by_cases h : c.val < 8
      · rw [dif_pos h, cat8]
        obtain ⟨c, hc⟩ := c
        interval_cases c
        · exact w95 A b g j p n
        · exact w99 A b g j p n
        · exact w103 A b g j p n
        · exact w107 A b g j p n
        · exact w111 A b g j p n
        · exact w115 A b g j p n
        · exact w119 A b g j p n
        · exact w123 A b g j p n
      · rw [dif_neg h, cat9]
        obtain ⟨c, hc⟩ := c
        have h8 : 8 ≤ c := Nat.le_of_not_lt h
        interval_cases c
        · exact w127 A b g j p n
        · exact w131 A b g j p n
        · exact w135 A b g j p n
        · exact w139 A b g j p n
        · exact w143 A b g j p n
        · exact w147 A b g j p n
        · exact w151 A b g j p n
        · exact w155 A b g j p n
        · exact w159 A b g j p n
    · show _ * Ideal.exp (res_main_v61 A (ix5 b c g j l)) = _
      rw [v61_apply]

/-- The gate's columns. -/
theorem z_apply (b : Fin 2) (r : Fin 4352) (q : Fin 4096) : res_main_v2 A (ix3 b r q) = A.a0 (ix2 ⟨b.val * 4352 + r.val, by omega⟩ ⟨4096 + q.val, by omega⟩) := by
  pointwise [res_main_v2, res_main_v1]

theorem w182 (b : Fin 2) (c : Fin 17) (l : Fin 256) (g j : Fin 8) (p : Fin 64) :
    res_main_v182 A (ix4 b ⟨c.val * 256 + l.val, by omega⟩ g ⟨j.val * 64 + p.val, by omega⟩) = gated (arr A) b.val c.val g.val l.val (j.val * 64 + p.val) := by
  unfold res_main_v182 gated
  rw [gate_apply, z_apply, a0_eq, flat172, addf_apply, skip172, w172, w50, a6_eq, head_of]
  rfl

/-- The result, -/
def out : FVec Ideal S2x4352x4096 .bf16 :=
  truncf .bf16 (mulf (shapeCast _ (mulf (res_main_v182 A) (broadcastInDim S2x4352x8x512 ![0, 1, 2, 3] bcast_S2x4352x8x1_S2x4352x8x512_0_1_2_3 (Host.rsqrt (addf (Host.divf (broadcastInDim S2x4352x8x1 ![0, 1, 2] bcast_S2x4352x8_S2x4352x8x1_0_1_2 (Host.reduceAdd (mulf (res_main_v182 A) (res_main_v182 A)) (constant S_ .f32 0x00000000#32) reducesTo_S2x4352x8x512_S2x4352x8_d3 h_S_)) (broadcastInDim S2x4352x8x1 ![] bcast_S_S2x4352x8x1 (constant S_ .f32 0x44000000#32))) (broadcastInDim S2x4352x8x1 ![] bcast_S_S2x4352x8x1 (constant S_ .f32 0x358637BD#32)))))) shapeCasts_S2x4352x8x512_S2x4352x4096) (broadcastInDim S2x4352x4096 ![0, 1, 2] bcast_S1x1x4096_S2x4352x4096_0_1_2 (broadcastInDim S1x1x4096 ![2] bcast_S4096_S1x1x4096_2 A.a7))) bitsLt_bf16_f32

/-- element by element. -/
theorem out_apply (b : Fin 2) (c : Fin 17) (l : Fin 256) (g : Fin 8) (q : Fin 512) (h : c.val * 256 + l.val < 4352) (h' : g.val * 512 + q.val < 4096) :
    out A (ix3 b ⟨c.val * 256 + l.val, h⟩ ⟨g.val * 512 + q.val, h'⟩) = res (arr A) b.val c.val g.val l.val q.val := by
  have e : ∀ x : Fin 512, res_main_v182 A (ix4 b ⟨c.val * 256 + l.val, h⟩ g x) = gated (arr A) b.val c.val g.val l.val x.val := fun x => by
    have := w182 A b c l g ⟨x.val / 64, by omega⟩ ⟨x.val % 64, by omega⟩
    simp only [Nat.div_add_mod'] at this
    exact this
  unfold out res
  rw [norm_apply, a7_eq, e q]
  simp only [e]

end Cert.ReferenceSsdIdeal.Hand

end
-- ==== Proof.SsdRefResult.lean ====
/-
The reference's run ends with the result as one term of the arguments.
-/
module

public import proofs.«01_k».proof.Proof.SsdRefRun
public import proofs.«01_k».proof.Proof.SsdRefValue

@[expose] public section

noncomputable section

namespace Cert.ReferenceSsdIdeal.Hand

open Cert.ReferenceSsdIdeal Cert.ReferenceSsdIdeal.Gen Idealize.ShloMosaic Idealize.ShloMosaic.TcCoe Idealize.SL.Sem Idealize.ShloMosaic.StableHlo

/-- Equal arguments, one by one. -/
theorem args_congr {a0 b0 : FVec Ideal S8704x18432 .bf16} {a1 b1 : FVec Ideal S2x4352x64 .f32} {a2 b2 : FVec Ideal S4x6144 .f32} {a3 b3 : FVec Ideal S6144 .f32} {a4 b4 : FVec Ideal S64 .f32} {a5 b5 : FVec Ideal S64 .f32} {a6 b6 : FVec Ideal S64 .f32} {a7 b7 : FVec Ideal S4096 .f32}
    (h0 : a0 = b0) (h1 : a1 = b1) (h2 : a2 = b2) (h3 : a3 = b3) (h4 : a4 = b4) (h5 : a5 = b5) (h6 : a6 = b6) (h7 : a7 = b7) :
    (⟨a0, a1, a2, a3, a4, a5, a6, a7⟩ : Args Ideal) = ⟨b0, b1, b2, b3, b4, b5, b6, b7⟩ := by
  subst h0 h1 h2 h3 h4 h5 h6 h7
  rfl

/-- The run ends with `out` of the arguments, and the arguments unchanged. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v197) = out ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7)⟩
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) :=
  (θ_run defs _ _).mono (fun _ h c => h c) (run m ρ)

end Cert.ReferenceSsdIdeal.Hand

end
-- ==== Proof.SsdPoint.lean ====
/-
What a point of the recurrence computes from its blocks, as the recurrence on plain numbers.
-/
module

public import proofs.«01_k».proof.Proof.SsdSpecIdeal
public import proofs.«01_k».proof.Proof.SsdPlain
public import Idealize.ShloMosaic.Lib.Pipeline.ValueKit

@[expose] public section

set_option maxRecDepth 16384

noncomputable section

namespace Cert.KernelSsdIdeal.Hand

open Cert.KernelSsdIdeal Cert.KernelSsdIdeal.Gen
open Idealize.ShloMosaic Idealize.ShloMosaic.TcCoe
open Cert.Ssd (Arr up conv xbc dt la acs cbm st pv yd yo gated res)

/-- The column of the convolution's input that a lane of the rows holds. -/
def col (g q : ℕ) : ℕ := if q < 512 then g * 512 + q else if q < 640 then 4096 + (g * 128 + (q - 512)) else 5120 + (g * 128 + (q - 640))

/-- The blocks and rows of batch `b`, chunk `c` and group `g`. -/
structure Fits (R : Arr) (b c g : ℕ) (I : Ins Ideal) (e : Vec Ideal S264x768 .f32) : Prop where
  z (l : Fin 256) (q : Fin 512) : I.z (ix3 0 l q) = R.M (b * 4352 + (c * 256 + l.val)) (4096 + (g * 512 + q.val))
  rows (i : Fin 264) (q : Fin 768) (h : 5 ≤ i.val) : e (ix2 i q) = up R b (c * 256 + i.val - 5) (col g q.val)
  dtc (l : Fin 256) (j : Fin 8) : I.dtc (ix4 0 0 l j) = R.D b (c * 256 + l.val) (g * 8 + j.val)
  dtr (l : Fin 256) (j : Fin 8) : I.dtr (ix3 0 j l) = R.D b (c * 256 + l.val) (g * 8 + j.val)
  cwx (k : Fin 4) (q : Fin 512) : I.cwx (ix2 k q) = R.cw k.val (g * 512 + q.val)
  cwb (k : Fin 4) (q : Fin 128) : I.cwb (ix2 k q) = R.cw k.val (4096 + (g * 128 + q.val))
  cwc (k : Fin 4) (q : Fin 128) : I.cwc (ix2 k q) = R.cw k.val (5120 + (g * 128 + q.val))
  cbx (q : Fin 512) : I.cbx (ix2 0 q) = R.cb (g * 512 + q.val)
  cbb (q : Fin 128) : I.cbb (ix2 0 q) = R.cb (4096 + (g * 128 + q.val))
  cbc (q : Fin 128) : I.cbc (ix2 0 q) = R.cb (5120 + (g * 128 + q.val))
  dbc (j : Fin 8) : I.dbc (ix3 0 0 j) = R.db (g * 8 + j.val)
  dbr (j : Fin 8) : I.dbr (ix3 0 j 0) = R.db (g * 8 + j.val)
  alc (j : Fin 8) : I.alc (ix3 0 0 j) = R.al (g * 8 + j.val)
  alr (j : Fin 8) : I.alr (ix3 0 j 0) = R.al (g * 8 + j.val)
  dsk (q : Fin 512) : I.dsk (ix2 0 q) = R.ds (g * 8 + q.val / 64)
  nw (q : Fin 512) : I.nw (ix2 0 q) = R.nw (g * 512 + q.val)

variable {R : Arr} {b c g : ℕ} {I : Ins Ideal} {e : Vec Ideal S264x768 .f32}

/-- Rows `5` to `8` on are the four rows of the convolution. -/
theorem Fits.row (hF : Fits R b c g I e) (w : ℕ) (l : Fin 256) (q : Fin 768) (hw : w < 4) (h : 5 + w + l.val < 264) :
    e (ix2 ⟨5 + w + l.val, h⟩ q) = up R b (w + (c * 256 + l.val)) (col g q.val) := by
  rw [hF.rows _ _ (by show 5 ≤ 5 + w + l.val; omega)]
  congr 1
  show c * 256 + (5 + w + l.val) - 5 = _
  omega

theorem xc_apply (hF : Fits R b c g I e) (l : Fin 256) (q : Fin 512) : xc I e (ix2 l q) = xbc R b (c * 256 + l.val) (g * 512 + q.val) := by
  pointwise [xc, k0_pay9]
  have hc : col g q.val = g * 512 + q.val := if_pos q.isLt
  have r0 := hF.row 0 l ⟨q.val, by omega⟩ (by omega) (by omega)
  have r1 := hF.row 1 l ⟨q.val, by omega⟩ (by omega) (by omega)
  have r2 := hF.row 2 l ⟨q.val, by omega⟩ (by omega) (by omega)
  have r3 := hF.row 3 l ⟨q.val, by omega⟩ (by omega) (by omega)
  simp only [hc, Nat.zero_add, Nat.add_zero] at r0 r1 r2 r3
  rw [r0, r1, r2, r3]
  simp only [hF.cwx, hF.cbx]
  exact congrArg (fun s => s * Ideal.logistic s) (Cert.Ssd.conv_bias_first R b (c * 256 + l.val) (g * 512 + q.val))

theorem bc_apply (hF : Fits R b c g I e) (l : Fin 256) (q : Fin 128) : bc I e (ix2 l q) = xbc R b (c * 256 + l.val) (4096 + (g * 128 + q.val)) := by
  pointwise [bc, k0_pay11, k0_pay10]
  have hc : col g (512 + q.val) = 4096 + (g * 128 + q.val) := by unfold col; rw [if_neg (by omega), if_pos (by omega), Nat.add_sub_cancel_left]
  have r0 := hF.row 0 l ⟨512 + q.val, by omega⟩ (by omega) (by omega)
  have r1 := hF.row 1 l ⟨512 + q.val, by omega⟩ (by omega) (by omega)
  have r2 := hF.row 2 l ⟨512 + q.val, by omega⟩ (by omega) (by omega)
  have r3 := hF.row 3 l ⟨512 + q.val, by omega⟩ (by omega) (by omega)
  simp only [hc, Nat.zero_add, Nat.add_zero] at r0 r1 r2 r3
  rw [r0, r1, r2, r3]
  simp only [hF.cwb, hF.cbb]
  exact congrArg (fun s => s * Ideal.logistic s) (Cert.Ssd.conv_bias_first R b (c * 256 + l.val) (4096 + (g * 128 + q.val)))

theorem cc_apply (hF : Fits R b c g I e) (l : Fin 256) (q : Fin 128) : cc I e (ix2 l q) = xbc R b (c * 256 + l.val) (5120 + (g * 128 + q.val)) := by
  pointwise [cc, k0_pay13, k0_pay12]
  have hc : col g (640 + q.val) = 5120 + (g * 128 + q.val) := by unfold col; rw [if_neg (by omega), if_neg (by omega), Nat.add_sub_cancel_left]
  have r0 := hF.row 0 l ⟨640 + q.val, by omega⟩ (by omega) (by omega)
  have r1 := hF.row 1 l ⟨640 + q.val, by omega⟩ (by omega) (by omega)
  have r2 := hF.row 2 l ⟨640 + q.val, by omega⟩ (by omega) (by omega)
  have r3 := hF.row 3 l ⟨640 + q.val, by omega⟩ (by omega) (by omega)
  simp only [hc, Nat.zero_add, Nat.add_zero] at r0 r1 r2 r3
  rw [r0, r1, r2, r3]
  simp only [hF.cwc, hF.cbc]
  exact congrArg (fun s => s * Ideal.logistic s) (Cert.Ssd.conv_bias_first R b (c * 256 + l.val) (5120 + (g * 128 + q.val)))

theorem dtC_apply (hF : Fits R b c g I e) (hc : c < 17) (l : Fin 256) (j : Fin 8) : dtC (BitVec.ofNat 32 c) I (ix2 l j) = dt R b (c * 256 + l.val) (g * 8 + j.val) := by
  pointwise [dtC, k0_pay14, k0_pay16, k0_pay17]
  simp only [hF.dtc, hF.dbc]
  exact Cert.Ssd.dt_first R b c l.val (g * 8 + j.val) hc l.isLt _ rfl

theorem dtR_apply (hF : Fits R b c g I e) (hc : c < 17) (l : Fin 256) (j : Fin 8) : dtR (BitVec.ofNat 32 c) I (ix2 j l) = dt R b (c * 256 + l.val) (g * 8 + j.val) := by
  pointwise [dtR, k0_pay15, k0_pay18]
  simp only [hF.dtr, hF.dbr]
  exact Cert.Ssd.dt_first R b c l.val (g * 8 + j.val) hc l.isLt _ rfl

/-- The decay's lane selects the lane's head. -/
theorem lane_head (q : Fin 512) : k0_pay67 (ix2 0 q) = BitVec.ofNat 32 (q.val / 64) := by
  revert q
  decide +kernel

/-- The new state, from the lane's decay. -/
theorem new_apply (S T : FVec Ideal S128x512 .f32) (d : FVec Ideal S8x1 .f32) (n : Fin 128) (q : Fin 512) :
    k0_pay72 S T (k0_pay69 d k0_pay67 k0_pay68) (k0_pay70 k0_pay67) (k0_pay71 d) (ix3 0 n q) = S (ix2 n q) * Ideal.exp (d (ix2 ⟨q.val / 64, by omega⟩ 0)) + T (ix2 n q) := by
  have hN := lane_head q
  generalize k0_pay67 = N at hN ⊢
  pointwise [k0_pay72, k0_pay69, k0_pay68, k0_pay70, k0_pay71]
  rw [hN]
  have key : ∀ h : Fin 8,
      Scalar.select (IntOp.cmpi CmpIPredicate.eq (BitVec.ofNat 32 h.val) 7#32) (Ideal.exp (d (ix2 7 0)))
        (Scalar.select (IntOp.cmpi CmpIPredicate.eq (BitVec.ofNat 32 h.val) 6#32) (Ideal.exp (d (ix2 6 0)))
        (Scalar.select (IntOp.cmpi CmpIPredicate.eq (BitVec.ofNat 32 h.val) 5#32) (Ideal.exp (d (ix2 5 0)))
        (Scalar.select (IntOp.cmpi CmpIPredicate.eq (BitVec.ofNat 32 h.val) 4#32) (Ideal.exp (d (ix2 4 0)))
        (Scalar.select (IntOp.cmpi CmpIPredicate.eq (BitVec.ofNat 32 h.val) 3#32) (Ideal.exp (d (ix2 3 0)))
        (Scalar.select (IntOp.cmpi CmpIPredicate.eq (BitVec.ofNat 32 h.val) 2#32) (Ideal.exp (d (ix2 2 0)))
        (Scalar.select (IntOp.cmpi CmpIPredicate.eq (BitVec.ofNat 32 h.val) 1#32) (Ideal.exp (d (ix2 1 0)))
        (Scalar.select (IntOp.cmpi CmpIPredicate.eq (BitVec.ofNat 32 h.val) 0#32) (Ideal.exp (d (ix2 0 0))) 0)))))))
      = Ideal.exp (d (ix2 h 0)) := by
    intro h; fin_cases h <;> rfl
  exact congrArg (fun s => S (ix2 n q) * s + T (ix2 n q)) (key ⟨q.val / 64, by omega⟩)

end Cert.KernelSsdIdeal.Hand

end
-- ==== Proof.SsdHeads.lean ====
/-
The heads of a point, one by one and together, as the recurrence on plain numbers.
-/
module

public import proofs.«01_k».proof.Proof.SsdSpecIdeal
public import proofs.«01_k».proof.Proof.SsdPoint
public import Idealize.ShloMosaic.Lib.Pipeline.ValueKit

@[expose] public section

set_option maxRecDepth 16384

noncomputable section

namespace Cert.KernelSsdIdeal.Hand

open Cert.KernelSsdIdeal Cert.KernelSsdIdeal.Gen
open Idealize.ShloMosaic Idealize.ShloMosaic.TcCoe
open Cert.Ssd (Arr up conv xbc dt la acs cbm st pv yd yo gated res)

/-- A column of the rows' running sums: three sums, of the parts of the log decays. -/
theorem sumsC (d : FVec Ideal S256x8 .f32) (v : Vec Ideal S1x1x8 .f32) (l : Fin 256) (j : Fin 8) (a : ℕ → EReal) (ha : ∀ s, a s ≠ ⊤)
    (hd : ∀ s : Fin 256, d (ix2 s j) * (-(Ideal.exp (v (ix3 0 0 j)))) = a s.val) :
    k0_pay23 d (k0_pay19 v) (ix2 l j) = ∑ s : Fin 256, if s.val ≤ l.val then a s.val else 0 := by
  pointwise [k0_pay23, k0_pay21, k0_pay19]
  have e : ∀ (s : Fin 256) (x y : EReal), Scalar.select (IntOp.cmpi .sge (BitVec.ofNat 32 l.val) (BitVec.ofNat 32 s.val)) x y = if s.val ≤ l.val then x else y :=
    fun s x y => Cert.Ssd.select_sge _ _ (by omega) (by omega) x y
  simp only [e, zero_sub, hd]
  exact Cert.Ssd.split_sum a (fun s => s ≤ l.val) ha

/-- The same of a row. -/
theorem sumsR (d : FVec Ideal S8x256 .f32) (v : Vec Ideal S1x8x1 .f32) (l : Fin 256) (j : Fin 8) (a : ℕ → EReal) (ha : ∀ s, a s ≠ ⊤)
    (hd : ∀ s : Fin 256, d (ix2 j s) * (-(Ideal.exp (v (ix3 0 j 0)))) = a s.val) :
    k0_pay29 (k0_pay22 (F := Ideal)) (k0_pay26 d v) (k0_pay27 d v) (k0_pay28 d v) (ix2 j l) = ∑ s : Fin 256, if s.val ≤ l.val then a s.val else 0 := by
  pointwise [k0_pay29, k0_pay22, k0_pay26, k0_pay27, k0_pay28, k0_pay24, k0_pay25, k0_pay20]
  have e : ∀ (s : Fin 256) (x y : EReal), Scalar.select (IntOp.cmpi .sle (BitVec.ofNat 32 s.val) (BitVec.ofNat 32 l.val)) x y = if s.val ≤ l.val then x else y :=
    fun s x y => Cert.Ssd.select_sle _ _ (by omega) (by omega) x y
  simp only [e, zero_sub, hd]
  exact Cert.Ssd.split_sum a (fun s => s ≤ l.val) ha

theorem wdec_at (d : FVec Ideal S8x256 .f32) (u : FVec Ideal S256x256 .bf16) (v w : FVec Ideal S8x256 .bf16) (z : FVec Ideal S8x256 .f32) (j : Fin 8) (l : Fin 256) :
    k0_pay31 d u v w z (ix2 j l) = d (ix2 j l) * Ideal.exp (k0_pay29 u v w z (ix2 j 255) - k0_pay29 u v w z (ix2 j l)) := by
  pointwise [k0_pay31, k0_pay30]
theorem aEnd_at (u : FVec Ideal S256x256 .bf16) (v w : FVec Ideal S8x256 .bf16) (z : FVec Ideal S8x256 .f32) (j : Fin 8) :
    k0_pay30 u v w z (ix2 j 0) = k0_pay29 u v w z (ix2 j 255) := by
  pointwise [k0_pay30]

variable (cm : FVec Ideal S256x128 .f32) (cb : FVec Ideal S256x256 .f32) (ac : FVec Ideal S256x8 .f32) (ar dr : FVec Ideal S8x256 .f32)

/-- One head's output, -/
theorem headY_at (x : FVec Ideal S256x128 .bf16) (s : FVec Ideal S128x128 .bf16) (j : Fin 8)
    (hc : S256x8.Slices ![0, j.val] S256x1) (hr : S8x256.Slices ![j.val, 0] S1x256) (l : Fin 256) (q : Fin 128) :
    headY cm cb ac ar dr x s j.val hc hr (ix2 l q)
      = (∑ k : Fin 256, if k.val ≤ l.val then cb (ix2 l k) * Ideal.exp (ac (ix2 l j) - ar (ix2 j k)) * dr (ix2 j k) * x (ix2 k q) else 0)
        + ∑ n : Fin 128, cm (ix2 l n) * Ideal.exp (ac (ix2 l j)) * s (ix2 n q) := by
  pointwise [headY, mix, seen, decay, k0_pay21]
  refine congrArg₂ (· + ·) (Finset.sum_congr rfl fun k _ => ?_) rfl
  simp only [Cert.Ssd.select_sge l.val k.val (by omega) (by omega)]
  by_cases h : k.val ≤ l.val
  · simp only [if_pos h]
  · simp only [if_neg h]

/-- and what it adds to the state. -/
theorem headS_at (bt : FVec Ideal S128x256 .f32) (wd : FVec Ideal S8x256 .f32) (x : FVec Ideal S256x128 .bf16) (j : Fin 8) (hr : S8x256.Slices ![j.val, 0] S1x256) (n : Fin 128) (q : Fin 128) :
    headS bt wd x j.val hr (ix2 n q) = ∑ k : Fin 256, bt (ix2 n k) * wd (ix2 j k) * x (ix2 k q) := by
  pointwise [headS]

/-- A slice of the lanes. -/
theorem lanesX (x : FVec Ideal S256x512 .bf16) (o : ℕ) (ho : o + 128 ≤ 512) (h : S256x512.Slices ![0, o] S256x128) (l : Fin 256) (q : Fin 128) :
    extractStridedSlice S256x128 ![0, o] x h (ix2 l q) = x (ix2 l ⟨o + q.val, by omega⟩) := by
  pointwise
theorem lanesS (s : FVec Ideal S128x512 .bf16) (o : ℕ) (ho : o + 128 ≤ 512) (h : S128x512.Slices ![0, o] S128x128) (n : Fin 128) (q : Fin 128) :
    extractStridedSlice S128x128 ![0, o] s h (ix2 n q) = s (ix2 n ⟨o + q.val, by omega⟩) := by
  pointwise

/-- The head of a lane, -/
abbrev headOf (q : Fin 512) : Fin 8 := ⟨q.val / 64, by omega⟩

/-- its output at a row and a lane, -/
def rowY (x : FVec Ideal S256x512 .bf16) (s : FVec Ideal S128x512 .bf16) (l : Fin 256) (q : Fin 512) : EReal :=
  (∑ k : Fin 256, if k.val ≤ l.val then cb (ix2 l k) * Ideal.exp (ac (ix2 l (headOf q)) - ar (ix2 (headOf q) k)) * dr (ix2 (headOf q) k) * x (ix2 k q) else 0)
    + ∑ n : Fin 128, cm (ix2 l n) * Ideal.exp (ac (ix2 l (headOf q))) * s (ix2 n q)

/-- and what it adds to the state there. -/
def rowS (bt : FVec Ideal S128x256 .f32) (wd : FVec Ideal S8x256 .f32) (x : FVec Ideal S256x512 .bf16) (n : Fin 128) (q : Fin 512) : EReal :=
  ∑ k : Fin 256, bt (ix2 n k) * wd (ix2 (headOf q) k) * x (ix2 k q)

/-- A pair of heads puts each lane's head's output out, -/
theorem pairY_at (x : FVec Ideal S256x512 .bf16) (s : FVec Ideal S128x512 .bf16) (i : Fin 4) (hx : S256x512.Slices ![0, 128 * i.val] S256x128) (hs : S128x512.Slices ![0, 128 * i.val] S128x128)
    (hc : S256x8.Slices ![0, 2 * i.val] S256x1) (hr : S8x256.Slices ![2 * i.val, 0] S1x256) (hc' : S256x8.Slices ![0, 2 * i.val + 1] S256x1) (hr' : S8x256.Slices ![2 * i.val + 1, 0] S1x256)
    (l : Fin 256) (r : Fin 128) (q : Fin 512) (hq : q.val = 128 * i.val + r.val) :
    Scalar.select (IntOp.cmpi .slt (BitVec.ofNat 32 r.val) 64#32)
      (headY cm cb ac ar dr (extractStridedSlice S256x128 ![0, 128 * i.val] x hx) (extractStridedSlice S128x128 ![0, 128 * i.val] s hs) (2 * i.val) hc hr (ix2 l r))
      (headY cm cb ac ar dr (extractStridedSlice S256x128 ![0, 128 * i.val] x hx) (extractStridedSlice S128x128 ![0, 128 * i.val] s hs) (2 * i.val + 1) hc' hr' (ix2 l r))
      = rowY cm cb ac ar dr x s l q := by
  rw [Cert.Ssd.select_slt _ _ (by omega) (by omega)]
  have hx' := lanesX x (128 * i.val) (by omega) hx
  have hs' := lanesS s (128 * i.val) (by omega) hs
  have eq : (⟨128 * i.val + r.val, by omega⟩ : Fin 512) = q := Fin.ext hq.symm
  by_cases h : r.val < 64
  · rw [if_pos h, headY_at cm cb ac ar dr _ _ ⟨2 * i.val, by omega⟩ hc hr]
    have ej : (⟨2 * i.val, by omega⟩ : Fin 8) = headOf q := Fin.ext (by show 2 * i.val = q.val / 64; omega)
    simp only [hx', hs', eq, ej]
    rfl
  · rw [if_neg h, headY_at cm cb ac ar dr _ _ ⟨2 * i.val + 1, by omega⟩ hc' hr']
    have ej : (⟨2 * i.val + 1, by omega⟩ : Fin 8) = headOf q := Fin.ext (by show 2 * i.val + 1 = q.val / 64; omega)
    simp only [hx', hs', eq, ej]
    rfl

/-- and adds it to the state. -/
theorem pairS_at (bt : FVec Ideal S128x256 .f32) (wd : FVec Ideal S8x256 .f32) (x : FVec Ideal S256x512 .bf16) (i : Fin 4) (hx : S256x512.Slices ![0, 128 * i.val] S256x128)
    (hr : S8x256.Slices ![2 * i.val, 0] S1x256) (hr' : S8x256.Slices ![2 * i.val + 1, 0] S1x256) (n : Fin 128) (r : Fin 128) (q : Fin 512) (hq : q.val = 128 * i.val + r.val) :
    Scalar.select (IntOp.cmpi .slt (BitVec.ofNat 32 r.val) 64#32)
      (headS bt wd (extractStridedSlice S256x128 ![0, 128 * i.val] x hx) (2 * i.val) hr (ix2 n r))
      (headS bt wd (extractStridedSlice S256x128 ![0, 128 * i.val] x hx) (2 * i.val + 1) hr' (ix2 n r))
      = rowS bt wd x n q := by
  rw [Cert.Ssd.select_slt _ _ (by omega) (by omega)]
  have hx' := lanesX x (128 * i.val) (by omega) hx
  have eq : (⟨128 * i.val + r.val, by omega⟩ : Fin 512) = q := Fin.ext hq.symm
  by_cases h : r.val < 64
  · rw [if_pos h, headS_at bt wd _ ⟨2 * i.val, by omega⟩ hr]
    have ej : (⟨2 * i.val, by omega⟩ : Fin 8) = headOf q := Fin.ext (by show 2 * i.val = q.val / 64; omega)
    simp only [hx', eq, ej]
    rfl
  · rw [if_neg h, headS_at bt wd _ ⟨2 * i.val + 1, by omega⟩ hr']
    have ej : (⟨2 * i.val + 1, by omega⟩ : Fin 8) = headOf q := Fin.ext (by show 2 * i.val + 1 = q.val / 64; omega)
    simp only [hx', eq, ej]
    rfl

/-- All heads' output. -/
theorem yAll_at (x : FVec Ideal S256x512 .bf16) (s : FVec Ideal S128x512 .bf16) (l : Fin 256) (q : Fin 512) :
    yAll cm cb ac ar dr x s (ix2 l q) = rowY cm cb ac ar dr x s l q := by
  pointwise [yAll, pairOut]
  split
  · exact pairY_at cm cb ac ar dr x s 0 _ _ _ _ _ _ l ⟨q.val, by omega⟩ q (by show q.val = 128 * 0 + q.val; omega)
  · split
    · exact pairY_at cm cb ac ar dr x s 1 _ _ _ _ _ _ l ⟨q.val - 128, by omega⟩ q (by show q.val = 128 * 1 + (q.val - 128); omega)
    · split
      · exact pairY_at cm cb ac ar dr x s 2 _ _ _ _ _ _ l ⟨q.val - 128 - 128, by omega⟩ q (by show q.val = 128 * 2 + (q.val - 128 - 128); omega)
      · exact pairY_at cm cb ac ar dr x s 3 _ _ _ _ _ _ l ⟨q.val - 128 - 128 - 128, by omega⟩ q (by show q.val = 128 * 3 + (q.val - 128 - 128 - 128); omega)

/-- What all heads add to the state. -/
theorem sAll_at (bt : FVec Ideal S128x256 .f32) (wd : FVec Ideal S8x256 .f32) (x : FVec Ideal S256x512 .bf16) (n : Fin 128) (q : Fin 512) :
    sAll bt wd x (ix2 n q) = rowS bt wd x n q := by
  pointwise [sAll, pairState]
  split
  · exact pairS_at bt wd x 0 _ _ _ n ⟨q.val, by omega⟩ q (by show q.val = 128 * 0 + q.val; omega)
  · split
    · exact pairS_at bt wd x 1 _ _ _ n ⟨q.val - 128, by omega⟩ q (by show q.val = 128 * 1 + (q.val - 128); omega)
    · split
      · exact pairS_at bt wd x 2 _ _ _ n ⟨q.val - 128 - 128, by omega⟩ q (by show q.val = 128 * 2 + (q.val - 128 - 128); omega)
      · exact pairS_at bt wd x 3 _ _ _ n ⟨q.val - 128 - 128 - 128, by omega⟩ q (by show q.val = 128 * 3 + (q.val - 128 - 128 - 128); omega)

end Cert.KernelSsdIdeal.Hand

end
-- ==== Proof.SsdBlocks.lean ====
/-
The blocks of a point, from the arguments.
-/
module

public import proofs.«01_k».proof.Proof.SsdSpecIdeal
public import proofs.«01_k».proof.Proof.SsdRunIdeal
public import proofs.«01_k».proof.Proof.SsdHeads
public import proofs.«01_k».proof.Proof.SsdRefValue
public import Idealize.ShloMosaic.Lib.Pipeline.ValueKit

@[expose] public section

set_option maxRecDepth 16384

noncomputable section

namespace Cert.KernelSsdIdeal.Hand

open Cert.KernelSsdIdeal Cert.KernelSsdIdeal.Gen
open Idealize.ShloMosaic Idealize.ShloMosaic.TcCoe
open Cert.Ssd (Arr up conv xbc dt la acs cbm st pv yd yo gated res)

variable (m : (ℓ : Loc nD τ sig) → Buf (Elt Ideal) ℓ)

/-- The arguments in the buffers. -/
def bufs (c : Dev nD) : Cert.ReferenceSsdIdeal.Hand.Args Ideal :=
  ⟨m ((c : Thread nD τ).loc main_arg0), m ((c : Thread nD τ).loc main_arg1), m ((c : Thread nD τ).loc main_arg2), m ((c : Thread nD τ).loc main_arg3),
    m ((c : Thread nD τ).loc main_arg4), m ((c : Thread nD τ).loc main_arg5), m ((c : Thread nD τ).loc main_arg6), m ((c : Thread nD τ).loc main_arg7)⟩

/-- The same, read at natural numbers. -/
abbrev plain (c : Dev nD) : Arr := Cert.ReferenceSsdIdeal.Hand.arr (bufs m c)

/-- The block indices of the rows' windows at every grid point, -/
theorem idxRows : ∀ t : Fin cfg0.N, win0_0.index t = ![t.val / 136, t.val / 8 % 17, t.val % 8 + 8] ∧ win0_1.index t = ![t.val / 136, t.val / 8 % 17, t.val % 8 + 16]
    ∧ win0_2.index t = ![t.val / 136, t.val / 8 % 17, t.val % 8 + 96] ∧ win0_3.index t = ![t.val / 136, t.val / 8 % 17, t.val % 8 + 104]
    ∧ win0_4.index t = ![t.val / 136, t.val % 8, t.val / 8 % 17, 0] ∧ win0_5.index t = ![t.val / 136, t.val % 8, t.val / 8 % 17] ∧ win0_18.index t = ![t.val / 136, t.val / 8 % 17, t.val % 8] :=
  (by decide +kernel : ∀ t : Fin grid0.N, win0_0.index t = ![t.val / 136, t.val / 8 % 17, t.val % 8 + 8] ∧ win0_1.index t = ![t.val / 136, t.val / 8 % 17, t.val % 8 + 16]
    ∧ win0_2.index t = ![t.val / 136, t.val / 8 % 17, t.val % 8 + 96] ∧ win0_3.index t = ![t.val / 136, t.val / 8 % 17, t.val % 8 + 104]
    ∧ win0_4.index t = ![t.val / 136, t.val % 8, t.val / 8 % 17, 0] ∧ win0_5.index t = ![t.val / 136, t.val % 8, t.val / 8 % 17] ∧ win0_18.index t = ![t.val / 136, t.val / 8 % 17, t.val % 8])

/-- and of the parameters' windows. -/
theorem idxPars : ∀ t : Fin cfg0.N, win0_6.index t = ![0, t.val % 8] ∧ win0_7.index t = ![0, t.val % 8] ∧ win0_8.index t = ![0, t.val % 8]
    ∧ win0_9.index t = ![0, t.val % 8] ∧ win0_10.index t = ![0, t.val % 8] ∧ win0_11.index t = ![0, t.val % 8]
    ∧ win0_12.index t = ![t.val % 8, 0, 0] ∧ win0_13.index t = ![t.val % 8, 0, 0] ∧ win0_14.index t = ![t.val % 8, 0, 0] ∧ win0_15.index t = ![t.val % 8, 0, 0]
    ∧ win0_16.index t = ![0, t.val % 8] ∧ win0_17.index t = ![0, t.val % 8] :=
  (by decide +kernel : ∀ t : Fin grid0.N, win0_6.index t = ![0, t.val % 8] ∧ win0_7.index t = ![0, t.val % 8] ∧ win0_8.index t = ![0, t.val % 8]
    ∧ win0_9.index t = ![0, t.val % 8] ∧ win0_10.index t = ![0, t.val % 8] ∧ win0_11.index t = ![0, t.val % 8]
    ∧ win0_12.index t = ![t.val % 8, 0, 0] ∧ win0_13.index t = ![t.val % 8, 0, 0] ∧ win0_14.index t = ![t.val % 8, 0, 0] ∧ win0_15.index t = ![t.val % 8, 0, 0]
    ∧ win0_16.index t = ![0, t.val % 8] ∧ win0_17.index t = ![0, t.val % 8])

/-! ## The arrays of the windows, at an index -/

open Cert.ReferenceSsdIdeal.Hand (a0_eq a1_eq a2_eq a3_eq a4_eq a5_eq a6_eq a7_eq)

theorem rows_at (c : Dev nD) (j : S2x4352x18432.Idx) : (V m c main_v0 : FVec Ideal S2x4352x18432 .bf16) j = (plain m c).M ((j 0).val * 4352 + (j 1).val) (j 2).val := by
  have h0 : (j 0).val < 2 := (j 0).isLt
  have h1 : (j 1).val < 4352 := (j 1).isLt
  refine Eq.trans ?_ (a0_eq (bufs m c) ⟨(j 0).val * 4352 + (j 1).val, by omega⟩ (j 2))
  entry_read
  pointwise
  rfl

theorem steps_at (c : Dev nD) (j : S2x8x4352x8.Idx) : (V m c main_v2 : FVec Ideal S2x8x4352x8 .f32) j = (plain m c).D (j 0).val (j 2).val ((j 1).val * 8 + (j 3).val) := by
  have h1 : (j 1).val < 8 := (j 1).isLt
  have h3 : (j 3).val < 8 := (j 3).isLt
  refine Eq.trans ?_ (a1_eq (bufs m c) (j 0) (j 2) ⟨(j 1).val * 8 + (j 3).val, by omega⟩)
  entry_read
  pointwise
  rfl

theorem stepsT_at (c : Dev nD) (j : S2x64x4352.Idx) : (V m c main_v3 : FVec Ideal S2x64x4352 .f32) j = (plain m c).D (j 0).val (j 2).val (j 1).val := by
  refine Eq.trans ?_ (a1_eq (bufs m c) (j 0) (j 2) (j 1))
  entry_read
  pointwise
  rfl

/-! ## The blocks of the rows -/

theorem blk_z (c : Dev nD) (t : Fin cfg0.N) (l : Fin 256) (q : Fin 512) :
    iblk m c 0 t (ix3 0 l q) = (plain m c).M (t.val / 136 * 4352 + (t.val / 8 % 17 * 256 + l.val)) (4096 + (t.val % 8 * 512 + q.val)) := by
  have a0 : ((((cfg0.win 0).blk t).view.emb (ix3 0 l q)) 0 : ℕ) = t.val / 136 := by blk_simp [idxRows t]; rfl
  have a1 : ((((cfg0.win 0).blk t).view.emb (ix3 0 l q)) 1 : ℕ) = t.val / 8 % 17 * 256 + l.val := by blk_simp [idxRows t]
  have a2 : ((((cfg0.win 0).blk t).view.emb (ix3 0 l q)) 2 : ℕ) = 4096 + (t.val % 8 * 512 + q.val) := by blk_simp [idxRows t]; omega
  exact (rows_at m c (((cfg0.win 0).blk t).view.emb (ix3 0 l q))).trans (by rw [a0, a1, a2])

theorem blk_dtc (c : Dev nD) (t : Fin cfg0.N) (l : Fin 256) (j : Fin 8) :
    iblk m c 4 t (ix4 0 0 l j) = (plain m c).D (t.val / 136) (t.val / 8 % 17 * 256 + l.val) (t.val % 8 * 8 + j.val) := by
  have a0 : ((((cfg0.win 4).blk t).view.emb (ix4 0 0 l j)) 0 : ℕ) = t.val / 136 := by blk_simp [idxRows t]; rfl
  have a1 : ((((cfg0.win 4).blk t).view.emb (ix4 0 0 l j)) 1 : ℕ) = t.val % 8 := by blk_simp [idxRows t]; rfl
  have a2 : ((((cfg0.win 4).blk t).view.emb (ix4 0 0 l j)) 2 : ℕ) = t.val / 8 % 17 * 256 + l.val := by blk_simp [idxRows t]
  have a3 : ((((cfg0.win 4).blk t).view.emb (ix4 0 0 l j)) 3 : ℕ) = j.val := by blk_simp [idxRows t]
  exact (steps_at m c (((cfg0.win 4).blk t).view.emb (ix4 0 0 l j))).trans (by rw [a0, a1, a2, a3])

theorem blk_x (c : Dev nD) (t : Fin cfg0.N) (l : Fin 256) (q : Fin 512) :
    iblk m c 1 t (ix3 0 l q) = (plain m c).M (t.val / 136 * 4352 + (t.val / 8 % 17 * 256 + l.val)) (8192 + (t.val % 8 * 512 + q.val)) := by
  have a0 : ((((cfg0.win 1).blk t).view.emb (ix3 0 l q)) 0 : ℕ) = t.val / 136 := by blk_simp [idxRows t]; rfl
  have a1 : ((((cfg0.win 1).blk t).view.emb (ix3 0 l q)) 1 : ℕ) = t.val / 8 % 17 * 256 + l.val := by blk_simp [idxRows t]
  have a2 : ((((cfg0.win 1).blk t).view.emb (ix3 0 l q)) 2 : ℕ) = 8192 + (t.val % 8 * 512 + q.val) := by blk_simp [idxRows t]; omega
  exact (rows_at m c (((cfg0.win 1).blk t).view.emb (ix3 0 l q))).trans (by rw [a0, a1, a2])

theorem blk_b (c : Dev nD) (t : Fin cfg0.N) (l : Fin 256) (q : Fin 128) :
    iblk m c 2 t (ix3 0 l q) = (plain m c).M (t.val / 136 * 4352 + (t.val / 8 % 17 * 256 + l.val)) (8192 + (4096 + (t.val % 8 * 128 + q.val))) := by
  have a0 : ((((cfg0.win 2).blk t).view.emb (ix3 0 l q)) 0 : ℕ) = t.val / 136 := by blk_simp [idxRows t]; rfl
  have a1 : ((((cfg0.win 2).blk t).view.emb (ix3 0 l q)) 1 : ℕ) = t.val / 8 % 17 * 256 + l.val := by blk_simp [idxRows t]
  have a2 : ((((cfg0.win 2).blk t).view.emb (ix3 0 l q)) 2 : ℕ) = 8192 + (4096 + (t.val % 8 * 128 + q.val)) := by blk_simp [idxRows t]; omega
  exact (rows_at m c (((cfg0.win 2).blk t).view.emb (ix3 0 l q))).trans (by rw [a0, a1, a2])

theorem blk_c (c : Dev nD) (t : Fin cfg0.N) (l : Fin 256) (q : Fin 128) :
    iblk m c 3 t (ix3 0 l q) = (plain m c).M (t.val / 136 * 4352 + (t.val / 8 % 17 * 256 + l.val)) (8192 + (5120 + (t.val % 8 * 128 + q.val))) := by
  have a0 : ((((cfg0.win 3).blk t).view.emb (ix3 0 l q)) 0 : ℕ) = t.val / 136 := by blk_simp [idxRows t]; rfl
  have a1 : ((((cfg0.win 3).blk t).view.emb (ix3 0 l q)) 1 : ℕ) = t.val / 8 % 17 * 256 + l.val := by blk_simp [idxRows t]
  have a2 : ((((cfg0.win 3).blk t).view.emb (ix3 0 l q)) 2 : ℕ) = 8192 + (5120 + (t.val % 8 * 128 + q.val)) := by blk_simp [idxRows t]; omega
  exact (rows_at m c (((cfg0.win 3).blk t).view.emb (ix3 0 l q))).trans (by rw [a0, a1, a2])

theorem blk_dtr (c : Dev nD) (t : Fin cfg0.N) (l : Fin 256) (j : Fin 8) :
    iblk m c 5 t (ix3 0 j l) = (plain m c).D (t.val / 136) (t.val / 8 % 17 * 256 + l.val) (t.val % 8 * 8 + j.val) := by
  have a0 : ((((cfg0.win 5).blk t).view.emb (ix3 0 j l)) 0 : ℕ) = t.val / 136 := by blk_simp [idxRows t]; rfl
  have a1 : ((((cfg0.win 5).blk t).view.emb (ix3 0 j l)) 1 : ℕ) = t.val % 8 * 8 + j.val := by blk_simp [idxRows t]
  have a2 : ((((cfg0.win 5).blk t).view.emb (ix3 0 j l)) 2 : ℕ) = t.val / 8 % 17 * 256 + l.val := by blk_simp [idxRows t]
  exact (stepsT_at m c (((cfg0.win 5).blk t).view.emb (ix3 0 j l))).trans (by rw [a0, a1, a2])

/-! ## The blocks of the parameters -/

theorem cwx_at (c : Dev nD) (j : S4x4096.Idx) : (V m c main_v4 : FVec Ideal S4x4096 .f32) j = (plain m c).cw (j 0).val (j 1).val := by
  have h1 : (j 1).val < 4096 := (j 1).isLt
  refine Eq.trans ?_ (a2_eq (bufs m c) (j 0) ⟨(j 1).val, by omega⟩)
  entry_read
  pointwise
  rfl

theorem cwb_at (c : Dev nD) (j : S4x1024.Idx) : (V m c main_v5 : FVec Ideal S4x1024 .f32) j = (plain m c).cw (j 0).val (4096 + (j 1).val) := by
  have h1 : (j 1).val < 1024 := (j 1).isLt
  refine Eq.trans ?_ (a2_eq (bufs m c) (j 0) ⟨4096 + (j 1).val, by omega⟩)
  entry_read
  pointwise
  rfl

theorem cwc_at (c : Dev nD) (j : S4x1024.Idx) : (V m c main_v6 : FVec Ideal S4x1024 .f32) j = (plain m c).cw (j 0).val (5120 + (j 1).val) := by
  have h1 : (j 1).val < 1024 := (j 1).isLt
  refine Eq.trans ?_ (a2_eq (bufs m c) (j 0) ⟨5120 + (j 1).val, by omega⟩)
  entry_read
  pointwise
  rfl

theorem cbx_at (c : Dev nD) (j : S1x4096.Idx) : (V m c main_v8 : FVec Ideal S1x4096 .f32) j = (plain m c).cb (j 1).val := by
  have h1 : (j 1).val < 4096 := (j 1).isLt
  refine Eq.trans ?_ (a3_eq (bufs m c) ⟨(j 1).val, by omega⟩)
  entry_read
  pointwise
  rfl

theorem cbb_at (c : Dev nD) (j : S1x1024.Idx) : (V m c main_v9 : FVec Ideal S1x1024 .f32) j = (plain m c).cb (4096 + (j 1).val) := by
  have h1 : (j 1).val < 1024 := (j 1).isLt
  refine Eq.trans ?_ (a3_eq (bufs m c) ⟨4096 + (j 1).val, by omega⟩)
  entry_read
  pointwise
  rfl

theorem cbc_at (c : Dev nD) (j : S1x1024.Idx) : (V m c main_v10 : FVec Ideal S1x1024 .f32) j = (plain m c).cb (5120 + (j 1).val) := by
  have h1 : (j 1).val < 1024 := (j 1).isLt
  refine Eq.trans ?_ (a3_eq (bufs m c) ⟨5120 + (j 1).val, by omega⟩)
  entry_read
  pointwise
  rfl

theorem dbc_at (c : Dev nD) (j : S8x1x8.Idx) : (V m c main_v11 : FVec Ideal S8x1x8 .f32) j = (plain m c).db ((j 0).val * 8 + (j 2).val) := by
  have h0 : (j 0).val < 8 := (j 0).isLt
  have h2 : (j 2).val < 8 := (j 2).isLt
  refine Eq.trans ?_ (a4_eq (bufs m c) ⟨(j 0).val * 8 + (j 2).val, by omega⟩)
  entry_read
  pointwise
  rfl

theorem dbr_at (c : Dev nD) (j : S8x8x1.Idx) : (V m c main_v12 : FVec Ideal S8x8x1 .f32) j = (plain m c).db ((j 0).val * 8 + (j 1).val) := by
  have h0 : (j 0).val < 8 := (j 0).isLt
  have h1 : (j 1).val < 8 := (j 1).isLt
  refine Eq.trans ?_ (a4_eq (bufs m c) ⟨(j 0).val * 8 + (j 1).val, by omega⟩)
  entry_read
  pointwise
  rfl

theorem alc_at (c : Dev nD) (j : S8x1x8.Idx) : (V m c main_v13 : FVec Ideal S8x1x8 .f32) j = (plain m c).al ((j 0).val * 8 + (j 2).val) := by
  have h0 : (j 0).val < 8 := (j 0).isLt
  have h2 : (j 2).val < 8 := (j 2).isLt
  refine Eq.trans ?_ (a5_eq (bufs m c) ⟨(j 0).val * 8 + (j 2).val, by omega⟩)
  entry_read
  pointwise
  rfl

theorem alr_at (c : Dev nD) (j : S8x8x1.Idx) : (V m c main_v14 : FVec Ideal S8x8x1 .f32) j = (plain m c).al ((j 0).val * 8 + (j 1).val) := by
  have h0 : (j 0).val < 8 := (j 0).isLt
  have h1 : (j 1).val < 8 := (j 1).isLt
  refine Eq.trans ?_ (a5_eq (bufs m c) ⟨(j 0).val * 8 + (j 1).val, by omega⟩)
  entry_read
  pointwise
  rfl

theorem dsk_at (c : Dev nD) (j : S1x4096.Idx) : (V m c main_v17 : FVec Ideal S1x4096 .f32) j = (plain m c).ds ((j 1).val / 64) := by
  have h1 : (j 1).val < 4096 := (j 1).isLt
  refine Eq.trans ?_ (a6_eq (bufs m c) ⟨(j 1).val / 64, by omega⟩)
  entry_read
  pointwise
  rfl

theorem nw_at (c : Dev nD) (j : S1x4096.Idx) : (V m c main_v18 : FVec Ideal S1x4096 .f32) j = (plain m c).nw (j 1).val := by
  have h1 : (j 1).val < 4096 := (j 1).isLt
  refine Eq.trans ?_ (a7_eq (bufs m c) ⟨(j 1).val, by omega⟩)
  entry_read
  pointwise
  rfl

theorem blk_cwx (c : Dev nD) (t : Fin cfg0.N) (k : Fin 4) (q : Fin 512) : iblk m c 6 t (ix2 k q) = (plain m c).cw k.val (t.val % 8 * 512 + q.val) := by
  have a0 : ((((cfg0.win 6).blk t).view.emb (ix2 k q)) 0 : ℕ) = k.val := by blk_simp [idxPars t]
  have a1 : ((((cfg0.win 6).blk t).view.emb (ix2 k q)) 1 : ℕ) = t.val % 8 * 512 + q.val := by blk_simp [idxPars t]
  exact (cwx_at m c (((cfg0.win 6).blk t).view.emb (ix2 k q))).trans (by rw [a0, a1])

theorem blk_cwb (c : Dev nD) (t : Fin cfg0.N) (k : Fin 4) (q : Fin 128) : iblk m c 7 t (ix2 k q) = (plain m c).cw k.val (4096 + (t.val % 8 * 128 + q.val)) := by
  have a0 : ((((cfg0.win 7).blk t).view.emb (ix2 k q)) 0 : ℕ) = k.val := by blk_simp [idxPars t]
  have a1 : ((((cfg0.win 7).blk t).view.emb (ix2 k q)) 1 : ℕ) = t.val % 8 * 128 + q.val := by blk_simp [idxPars t]
  exact (cwb_at m c (((cfg0.win 7).blk t).view.emb (ix2 k q))).trans (by rw [a0, a1])

theorem blk_cwc (c : Dev nD) (t : Fin cfg0.N) (k : Fin 4) (q : Fin 128) : iblk m c 8 t (ix2 k q) = (plain m c).cw k.val (5120 + (t.val % 8 * 128 + q.val)) := by
  have a0 : ((((cfg0.win 8).blk t).view.emb (ix2 k q)) 0 : ℕ) = k.val := by blk_simp [idxPars t]
  have a1 : ((((cfg0.win 8).blk t).view.emb (ix2 k q)) 1 : ℕ) = t.val % 8 * 128 + q.val := by blk_simp [idxPars t]
  exact (cwc_at m c (((cfg0.win 8).blk t).view.emb (ix2 k q))).trans (by rw [a0, a1])

theorem blk_cbx (c : Dev nD) (t : Fin cfg0.N) (q : Fin 512) : iblk m c 9 t (ix2 0 q) = (plain m c).cb (t.val % 8 * 512 + q.val) := by
  have a1 : ((((cfg0.win 9).blk t).view.emb (ix2 0 q)) 1 : ℕ) = t.val % 8 * 512 + q.val := by blk_simp [idxPars t]
  exact (cbx_at m c (((cfg0.win 9).blk t).view.emb (ix2 0 q))).trans (by rw [a1])

theorem blk_cbb (c : Dev nD) (t : Fin cfg0.N) (q : Fin 128) : iblk m c 10 t (ix2 0 q) = (plain m c).cb (4096 + (t.val % 8 * 128 + q.val)) := by
  have a1 : ((((cfg0.win 10).blk t).view.emb (ix2 0 q)) 1 : ℕ) = t.val % 8 * 128 + q.val := by blk_simp [idxPars t]
  exact (cbb_at m c (((cfg0.win 10).blk t).view.emb (ix2 0 q))).trans (by rw [a1])

theorem blk_cbc (c : Dev nD) (t : Fin cfg0.N) (q : Fin 128) : iblk m c 11 t (ix2 0 q) = (plain m c).cb (5120 + (t.val % 8 * 128 + q.val)) := by
  have a1 : ((((cfg0.win 11).blk t).view.emb (ix2 0 q)) 1 : ℕ) = t.val % 8 * 128 + q.val := by blk_simp [idxPars t]
  exact (cbc_at m c (((cfg0.win 11).blk t).view.emb (ix2 0 q))).trans (by rw [a1])

theorem blk_dbc (c : Dev nD) (t : Fin cfg0.N) (j : Fin 8) : iblk m c 12 t (ix3 0 0 j) = (plain m c).db (t.val % 8 * 8 + j.val) := by
  have a0 : ((((cfg0.win 12).blk t).view.emb (ix3 0 0 j)) 0 : ℕ) = t.val % 8 := by blk_simp [idxPars t]; rfl
  have a2 : ((((cfg0.win 12).blk t).view.emb (ix3 0 0 j)) 2 : ℕ) = j.val := by blk_simp [idxPars t]
  exact (dbc_at m c (((cfg0.win 12).blk t).view.emb (ix3 0 0 j))).trans (by rw [a0, a2])

theorem blk_dbr (c : Dev nD) (t : Fin cfg0.N) (j : Fin 8) : iblk m c 13 t (ix3 0 j 0) = (plain m c).db (t.val % 8 * 8 + j.val) := by
  have a0 : ((((cfg0.win 13).blk t).view.emb (ix3 0 j 0)) 0 : ℕ) = t.val % 8 := by blk_simp [idxPars t]; rfl
  have a1 : ((((cfg0.win 13).blk t).view.emb (ix3 0 j 0)) 1 : ℕ) = j.val := by blk_simp [idxPars t]
  exact (dbr_at m c (((cfg0.win 13).blk t).view.emb (ix3 0 j 0))).trans (by rw [a0, a1])

theorem blk_alc (c : Dev nD) (t : Fin cfg0.N) (j : Fin 8) : iblk m c 14 t (ix3 0 0 j) = (plain m c).al (t.val % 8 * 8 + j.val) := by
  have a0 : ((((cfg0.win 14).blk t).view.emb (ix3 0 0 j)) 0 : ℕ) = t.val % 8 := by blk_simp [idxPars t]; rfl
  have a2 : ((((cfg0.win 14).blk t).view.emb (ix3 0 0 j)) 2 : ℕ) = j.val := by blk_simp [idxPars t]
  exact (alc_at m c (((cfg0.win 14).blk t).view.emb (ix3 0 0 j))).trans (by rw [a0, a2])

theorem blk_alr (c : Dev nD) (t : Fin cfg0.N) (j : Fin 8) : iblk m c 15 t (ix3 0 j 0) = (plain m c).al (t.val % 8 * 8 + j.val) := by
  have a0 : ((((cfg0.win 15).blk t).view.emb (ix3 0 j 0)) 0 : ℕ) = t.val % 8 := by blk_simp [idxPars t]; rfl
  have a1 : ((((cfg0.win 15).blk t).view.emb (ix3 0 j 0)) 1 : ℕ) = j.val := by blk_simp [idxPars t]
  exact (alr_at m c (((cfg0.win 15).blk t).view.emb (ix3 0 j 0))).trans (by rw [a0, a1])

theorem blk_dsk (c : Dev nD) (t : Fin cfg0.N) (q : Fin 512) : iblk m c 16 t (ix2 0 q) = (plain m c).ds (t.val % 8 * 8 + q.val / 64) := by
  have a1 : ((((cfg0.win 16).blk t).view.emb (ix2 0 q)) 1 : ℕ) = t.val % 8 * 512 + q.val := by blk_simp [idxPars t]
  exact (dsk_at m c (((cfg0.win 16).blk t).view.emb (ix2 0 q))).trans (by rw [a1]; congr 1; omega)

theorem blk_nw (c : Dev nD) (t : Fin cfg0.N) (q : Fin 512) : iblk m c 17 t (ix2 0 q) = (plain m c).nw (t.val % 8 * 512 + q.val) := by
  have a1 : ((((cfg0.win 17).blk t).view.emb (ix2 0 q)) 1 : ℕ) = t.val % 8 * 512 + q.val := by blk_simp [idxPars t]
  exact (nw_at m c (((cfg0.win 17).blk t).view.emb (ix2 0 q))).trans (by rw [a1])

end Cert.KernelSsdIdeal.Hand

end
-- ==== Proof.SsdExt.lean ====
/-
The rows of a point: the carried ones and the chunk's own.
-/
module

public import proofs.«01_k».proof.Proof.SsdSpecIdeal
public import proofs.«01_k».proof.Proof.SsdBlocks
public import Idealize.ShloMosaic.Lib.Pipeline.ValueKit

@[expose] public section

set_option maxRecDepth 16384

noncomputable section

namespace Cert.KernelSsdIdeal.Hand

open Cert.KernelSsdIdeal Cert.KernelSsdIdeal.Gen
open Idealize.ShloMosaic Idealize.ShloMosaic.TcCoe
open Cert.Ssd (Arr up conv xbc dt la acs cbm st pv yd yo gated res)

/-- A rectangle that does not hold an index, -/
theorem canon_skip {s : Shape} {e : EltTy} (off sz : Fin s.rank → ℕ) (inb) (p : (Rect.unit (s := s) off sz inb).shape.Idx → Elt Ideal e) (L : List (View.Piece (Elt Ideal) s e)) (y : s.Idx)
    (a : Fin s.rank) (h : (y a).val < off a ∨ off a + sz a ≤ (y a).val) :
    View.canon ((⟨Rect.unit (s := s) off sz inb, p⟩ : View.Piece (Elt Ideal) s e) :: L) y = View.canon L y :=
  View.canon_cons_of_not_mem _ L fun hm => by
    have := (Rect.mem_set_unit (inb := inb).mp hm) a
    omega

/-- and one that does. -/
theorem canon_hit {s : Shape} {e : EltTy} (off sz : Fin s.rank → ℕ) (inb) (p : (Rect.unit (s := s) off sz inb).shape.Idx → Elt Ideal e) (L : List (View.Piece (Elt Ideal) s e)) (y : s.Idx)
    (x : (Rect.unit (s := s) off sz inb).shape.Idx) (h : ∀ a, (y a).val = off a + (x a).val) :
    View.canon ((⟨Rect.unit (s := s) off sz inb, p⟩ : View.Piece (Elt Ideal) s e) :: L) y = p x := by
  have hy : y = (Rect.unit (s := s) off sz inb).emb x := funext fun a => Fin.ext (by rw [Rect.emb_apply, Rect.off_unit, Rect.stride_unit, Nat.one_mul]; exact h a)
  rw [hy, View.canon_cons_emb]

variable (I : Ins Ideal) (cr : Vec Ideal S1x8x768 .f32)

/-- The chunk's own rows: the inputs, -/
theorem ext_x (i : Fin 264) (q : Fin 768) (l : Fin 256) (r : Fin 512) (hi : i.val = 8 + l.val) (hq : q.val = r.val) : ext I cr (ix2 i q) = I.x (ix3 0 l r) := by
  unfold ext
  rw [canon_skip _ _ _ _ _ _ 1 (.inl (by show q.val < 640; omega)), canon_skip _ _ _ _ _ _ 1 (.inl (by show q.val < 512; omega)),
    canon_hit _ _ _ _ _ _ (ix2 l r) (fun a => by fin_cases a; exacts [hi, hq.trans (Nat.zero_add _).symm])]
  pointwise [k0_pay5]

/-- the rows that write the state -/
theorem ext_b (i : Fin 264) (q : Fin 768) (l : Fin 256) (r : Fin 128) (hi : i.val = 8 + l.val) (hq : q.val = 512 + r.val) : ext I cr (ix2 i q) = I.b (ix3 0 l r) := by
  unfold ext
  rw [canon_skip _ _ _ _ _ _ 1 (.inl (by show q.val < 640; omega)),
    canon_hit _ _ _ _ _ _ (ix2 l r) (fun a => by fin_cases a; exacts [hi, hq])]
  pointwise [k0_pay6]

/-- and those that read it; -/
theorem ext_c (i : Fin 264) (q : Fin 768) (l : Fin 256) (r : Fin 128) (hi : i.val = 8 + l.val) (hq : q.val = 640 + r.val) : ext I cr (ix2 i q) = I.c (ix3 0 l r) := by
  unfold ext
  rw [canon_hit _ _ _ _ _ _ (ix2 l r) (fun a => by fin_cases a; exacts [hi, hq])]
  pointwise [k0_pay7]

/-- above them the carried rows. -/
theorem ext_carry (i : Fin 264) (q : Fin 768) (n : Fin 8) (hi : i.val = n.val) : ext I cr (ix2 i q) = cr (ix3 0 n q) := by
  unfold ext
  rw [canon_skip _ _ _ _ _ _ 0 (.inl (by show i.val < 8; omega)), canon_skip _ _ _ _ _ _ 0 (.inl (by show i.val < 8; omega)), canon_skip _ _ _ _ _ _ 0 (.inl (by show i.val < 8; omega)),
    canon_hit _ _ _ _ _ _ (ix2 n q) (fun a => by fin_cases a; exacts [hi.trans (Nat.zero_add _).symm, (Nat.zero_add _).symm])]
  pointwise [k0_pay4]

theorem zero_state (n : Fin 128) (q : Fin 512) : k0_pay2 (F := Ideal) (ix3 0 n q) = 0 := by
  pointwise [k0_pay2]
theorem zero_carry (n : Fin 8) (q : Fin 768) : k0_pay3 (F := Ideal) (ix3 0 n q) = 0 := by
  pointwise [k0_pay3]
theorem carry_at (e : Vec Ideal S264x768 .f32) (n : Fin 8) (q : Fin 768) : carryNew e (ix3 0 n q) = e (ix2 ⟨256 + n.val, by omega⟩ q) := by
  pointwise [carryNew, k0_pay8]

variable (m : (ℓ : Loc nD τ sig) → Buf (Elt Ideal) ℓ)

/-- A chunk's own rows are the convolution's input rows. -/
theorem own_rows (c : Dev nD) (t : Fin cfg0.N) (cr : Vec Ideal S1x8x768 .f32) (i : Fin 264) (q : Fin 768) (h : 8 ≤ i.val) :
    ext (ins m c t) cr (ix2 i q) = up (plain m c) (t.val / 136) (t.val / 8 % 17 * 256 + i.val - 5) (col (t.val % 8) q.val) := by
  unfold up
  have hi : i.val = 8 + (i.val - 8) := by omega
  have hr : t.val / 8 % 17 * 256 + i.val - 5 - 3 = t.val / 8 % 17 * 256 + (i.val - 8) := by omega
  rw [if_pos (by omega), hr]
  by_cases h1 : q.val < 512
  · rw [ext_x _ _ i q ⟨i.val - 8, by omega⟩ ⟨q.val, h1⟩ hi rfl]
    have hc : col (t.val % 8) q.val = t.val % 8 * 512 + q.val := if_pos h1
    rw [hc]
    exact blk_x m c t ⟨i.val - 8, by omega⟩ ⟨q.val, h1⟩
  · by_cases h2 : q.val < 640
    · rw [ext_b _ _ i q ⟨i.val - 8, by omega⟩ ⟨q.val - 512, by omega⟩ hi (by show q.val = 512 + (q.val - 512); omega)]
      have hc : col (t.val % 8) q.val = 4096 + (t.val % 8 * 128 + (q.val - 512)) := by unfold col; rw [if_neg h1, if_pos h2]
      rw [hc]
      exact blk_b m c t ⟨i.val - 8, by omega⟩ ⟨q.val - 512, by omega⟩
    · rw [ext_c _ _ i q ⟨i.val - 8, by omega⟩ ⟨q.val - 640, by omega⟩ hi (by show q.val = 640 + (q.val - 640); omega)]
      have hc : col (t.val % 8) q.val = 5120 + (t.val % 8 * 128 + (q.val - 640)) := by unfold col; rw [if_neg h1, if_neg h2]
      rw [hc]
      exact blk_c m c t ⟨i.val - 8, by omega⟩ ⟨q.val - 640, by omega⟩

/-- All rows of a point are. -/
theorem ext_rows (c : Dev nD) (t : Fin cfg0.N) (i : Fin 264) (q : Fin 768) (h : 5 ≤ i.val) :
    extAt m c t (ix2 i q) = up (plain m c) (t.val / 136) (t.val / 8 % 17 * 256 + i.val - 5) (col (t.val % 8) q.val) := by
  unfold extAt
  by_cases h8 : 8 ≤ i.val
  · exact own_rows m c t _ i q h8
  · rw [ext_carry _ _ i q ⟨i.val, by omega⟩ rfl]
    by_cases h0 : chunkOf t = 0
    · rw [h0, carryIn_zero, zero_carry]
      have h0' : t.val / 8 % 17 = 0 := h0
      unfold up
      rw [if_neg (by omega)]
    · obtain ⟨k, hk⟩ := Nat.exists_eq_succ_of_ne_zero h0
      have hk' : t.val / 8 % 17 = k + 1 := hk
      rw [hk, Nat.succ_eq_add_one, carryIn_succ, carry_at, own_rows m c (prev t) _ _ q (by show 8 ≤ 256 + i.val; omega)]
      have e0 : (prev t).val = t.val - 8 := rfl
      have e1 : (t.val - 8) / 136 = t.val / 136 := by omega
      have e2 : (t.val - 8) / 8 % 17 = k := by omega
      have e3 : (t.val - 8) % 8 = t.val % 8 := by omega
      rw [e0, e1, e2, e3, hk']
      congr 1
      show k * 256 + (256 + i.val) - 5 = _
      omega

set_option maxHeartbeats 4000000 in
/-- Every point's blocks and rows are those of its batch, chunk and group. -/
theorem fits (c : Dev nD) (t : Fin cfg0.N) : Fits (plain m c) (t.val / 136) (t.val / 8 % 17) (t.val % 8) (ins m c t) (extAt m c t) where
  z l q := by exact blk_z m c t l q
  rows i q h := by exact ext_rows m c t i q h
  dtc l j := by exact blk_dtc m c t l j
  dtr l j := by exact blk_dtr m c t l j
  cwx k q := by exact blk_cwx m c t k q
  cwb k q := by exact blk_cwb m c t k q
  cwc k q := by exact blk_cwc m c t k q
  cbx q := by exact blk_cbx m c t q
  cbb q := by exact blk_cbb m c t q
  cbc q := by exact blk_cbc m c t q
  dbc j := by exact blk_dbc m c t j
  dbr j := by exact blk_dbr m c t j
  alc j := by exact blk_alc m c t j
  alr j := by exact blk_alr m c t j
  dsk q := by exact blk_dsk m c t q
  nw q := by exact blk_nw m c t q

end Cert.KernelSsdIdeal.Hand

end
-- ==== Proof.SsdChunk.lean ====
/-
A chunk of the recurrence, as the recurrence on plain numbers: the state it leaves and the block of the result.
-/
module

public import proofs.«01_k».proof.Proof.SsdSpecIdeal
public import proofs.«01_k».proof.Proof.SsdHeads
public import Idealize.ShloMosaic.Lib.Pipeline.ValueKit

@[expose] public section

set_option maxRecDepth 16384

noncomputable section

namespace Cert.KernelSsdIdeal.Hand

open Cert.KernelSsdIdeal Cert.KernelSsdIdeal.Gen
open Idealize.ShloMosaic Idealize.ShloMosaic.TcCoe
open Cert.Ssd (Arr up conv xbc dt la acs cbm st pv yd yo gated res)

variable {R : Arr} {b c g : ℕ} {I : Ins Ideal} {e : Vec Ideal S264x768 .f32}

theorem ldRow (v : Vec Ideal S1x1x8 .f32) (j : Fin 8) : View.ld v rRow (ix3 0 0 j) = v (ix3 0 0 j) := by pointwise
theorem ldCol (v : Vec Ideal S1x8x1 .f32) (j : Fin 8) : View.ld v rCol (ix3 0 j 0) = v (ix3 0 j 0) := by pointwise
theorem ldX (v : Vec Ideal S1x256x512 .bf16) (l : Fin 256) (q : Fin 512) : View.ld v rX (ix3 0 l q) = v (ix3 0 l q) := by pointwise
theorem ld512 (v : Vec Ideal S1x512 .f32) (q : Fin 512) : View.ld v r512 (ix2 0 q) = v (ix2 0 q) := by pointwise

/-- The running sums, in columns, -/
theorem acsC_at (hF : Fits R b c g I e) (hc : c < 17) (l : Fin 256) (j : Fin 8) : acsC (BitVec.ofNat 32 c) I (ix2 l j) = acs R b c (g * 8 + j.val) l.val := by
  unfold acsC acs
  exact sumsC _ _ l j (fun s => la R b (c * 256 + s) (g * 8 + j.val)) (fun s => Cert.Ssd.la_ne_top R b _ _)
    (fun s => by rw [dtC_apply hF hc, ldRow, hF.alc]; rfl)

/-- in rows, -/
theorem acsR_at (hF : Fits R b c g I e) (hc : c < 17) (l : Fin 256) (j : Fin 8) : acsR (BitVec.ofNat 32 c) I (ix2 j l) = acs R b c (g * 8 + j.val) l.val := by
  unfold acsR acs
  exact sumsR _ _ l j (fun s => la R b (c * 256 + s) (g * 8 + j.val)) (fun s => Cert.Ssd.la_ne_top R b _ _)
    (fun s => by rw [dtR_apply hF hc, ldCol, hF.alr]; rfl)

/-- the last of them, -/
theorem aEnd_val (hF : Fits R b c g I e) (hc : c < 17) (j : Fin 8) : aEnd (BitVec.ofNat 32 c) I (ix2 j 0) = acs R b c (g * 8 + j.val) 255 :=
  (aEnd_at _ _ _ _ j).trans (acsR_at hF hc 255 j)

/-- and the decayed step sizes. -/
theorem wdec_val (hF : Fits R b c g I e) (hc : c < 17) (l : Fin 256) (j : Fin 8) :
    wdec (BitVec.ofNat 32 c) I (ix2 j l) = dt R b (c * 256 + l.val) (g * 8 + j.val) * Ideal.exp (acs R b c (g * 8 + j.val) 255 - acs R b c (g * 8 + j.val) l.val) := by
  have h := wdec_at (dtR (BitVec.ofNat 32 c) I) (k0_pay22 (F := Ideal)) (k0_pay26 (dtR (BitVec.ofNat 32 c) I) (View.ld I.alr rCol)) (k0_pay27 (dtR (BitVec.ofNat 32 c) I) (View.ld I.alr rCol)) (k0_pay28 (dtR (BitVec.ofNat 32 c) I) (View.ld I.alr rCol)) j l
  refine h.trans ?_
  rw [dtR_apply hF hc]
  exact congrArg₂ (fun x y => dt R b (c * 256 + l.val) (g * 8 + j.val) * Ideal.exp (x - y)) (acsR_at hF hc 255 j) (acsR_at hF hc l j)

theorem x34_at (x : FVec Ideal S256x512 .f32) (l : Fin 256) (q : Fin 512) : k0_pay34 x (ix2 l q) = x (ix2 l q) := by pointwise [k0_pay34]
theorem b33_at (x : FVec Ideal S256x128 .f32) (l : Fin 256) (q : Fin 128) : k0_pay33 x (ix2 q l) = x (ix2 l q) := by pointwise [k0_pay33]
theorem s36_at (s : Vec Ideal S1x128x512 .f32) (n : Fin 128) (q : Fin 512) : k0_pay36 s (ix2 n q) = s (ix3 0 n q) := by pointwise [k0_pay36, k0_pay35]
theorem s35_at (s : Vec Ideal S1x128x512 .f32) (n : Fin 128) (q : Fin 512) : k0_pay35 s (ix2 n q) = s (ix3 0 n q) := s36_at s n q
theorem m32_at (u v : FVec Ideal S256x128 .f32) (l k : Fin 256) : k0_pay32 u v (ix2 l k) = ∑ n : Fin 128, v (ix2 l n) * u (ix2 k n) := by pointwise [k0_pay32]

/-- What the chunk adds to the state, -/
theorem rowS_val (hF : Fits R b c g I e) (hc : c < 17) (n : Fin 128) (q : Fin 512) :
    rowS (k0_pay33 (bc I e)) (wdec (BitVec.ofNat 32 c) I) (k0_pay34 (xc I e)) n q = st R b c g q.val n.val := by
  unfold rowS st
  refine Finset.sum_congr rfl fun k _ => ?_
  rw [b33_at, x34_at, bc_apply hF, xc_apply hF, wdec_val hF hc]
  show _ * (_ * _) * _ = _
  ac_rfl

/-- the state it leaves, -/
theorem stateNew_val (hF : Fits R b c g I e) (hc : c < 17) (s : Vec Ideal S1x128x512 .f32) (hs : ∀ (n : Fin 128) (q : Fin 512), s (ix3 0 n q) = pv R b c g q.val n.val)
    (n : Fin 128) (q : Fin 512) : stateNew (BitVec.ofNat 32 c) I e s (ix3 0 n q) = pv R b (c + 1) g q.val n.val := by
  unfold stateNew
  rw [new_apply, s35_at, hs, sAll_at, rowS_val hF hc, aEnd_val hF hc]
  rfl

/-- and what it puts out, -/
theorem rowY_val (hF : Fits R b c g I e) (hc : c < 17) (s : Vec Ideal S1x128x512 .f32) (hs : ∀ (n : Fin 128) (q : Fin 512), s (ix3 0 n q) = pv R b c g q.val n.val)
    (l : Fin 256) (q : Fin 512) :
    rowY (cc I e) (k0_pay32 (bc I e) (cc I e)) (acsC (BitVec.ofNat 32 c) I) (acsR (BitVec.ofNat 32 c) I) (dtR (BitVec.ofNat 32 c) I) (k0_pay34 (xc I e)) (k0_pay36 s) l q
      = yd R b c g l.val q.val + yo R b c g l.val q.val := by
  unfold rowY yd yo
  have hm : ∀ k : Fin 256, k0_pay32 (bc I e) (cc I e) (ix2 l k) = cbm R b c g l.val k.val := fun k => by
    rw [m32_at]; unfold cbm
    exact Finset.sum_congr rfl fun n _ => by rw [bc_apply hF, cc_apply hF]
  refine congrArg₂ (· + ·) (Finset.sum_congr rfl fun k _ => ?_) (Finset.sum_congr rfl fun n _ => ?_)
  · by_cases h : k.val ≤ l.val
    · rw [if_pos h, if_pos h, hm, acsC_at hF hc, acsR_at hF hc, dtR_apply hF hc, x34_at, xc_apply hF]
      show _ * _ * _ * _ = _
      ac_rfl
    · rw [if_neg h, if_neg h, Ideal.exp_bot, mul_zero, mul_zero]
  · rw [cc_apply hF, acsC_at hF hc, s36_at, hs]
    exact mul_comm _ _

/-- A block's stored rows, from the gated sums. -/
theorem store_at (x y : FVec Ideal S256x512 .f32) (d : Vec Ideal S1x512 .f32) (z : Vec Ideal S1x256x512 .bf16) (w : Vec Ideal S1x512 .f32) (G : Fin 512 → EReal) (l : Fin 256)
    (hG : ∀ q, (y (ix2 l q) + x (ix2 l q) * d (ix2 0 q)) * (z (ix3 0 l q) * Ideal.logistic (z (ix3 0 l q))) = G q) (q : Fin 512) :
    k0_pay1 (k0_pay73 x y d z) (k0_pay74 w) (ix3 0 l q)
      = G q * Ideal.rsqrt (Ideal.div (∑ p : Fin 512, G p * G p) (Scalar.ofBits (F := Ideal) .f32 0x44000000#32) + Scalar.ofBits (F := Ideal) .f32 0x358637BD#32) * w (ix2 0 q) := by
  pointwise [k0_pay1, k0_pay73, k0_pay74]
  simp only [hG]

/-- the block of the result. -/
theorem outVal_val (hF : Fits R b c g I e) (hc : c < 17) (s : Vec Ideal S1x128x512 .f32) (hs : ∀ (n : Fin 128) (q : Fin 512), s (ix3 0 n q) = pv R b c g q.val n.val)
    (l : Fin 256) (q : Fin 512) : outVal (BitVec.ofNat 32 c) I e s (ix3 0 l q) = res R b c g l.val q.val := by
  unfold outVal res
  rw [store_at _ _ _ _ _ (fun p => gated R b c g l.val p.val) l (fun p => ?_) q, ld512, hF.nw]
  rw [yAll_at, rowY_val hF hc s hs, xc_apply hF, ld512, ldX, hF.z, hF.dsk]
  rfl

end Cert.KernelSsdIdeal.Hand

end
-- ==== Proof.SsdValue.lean ====
/-
The recurrence's result is the reference's.
-/
module

public import proofs.«01_k».proof.Proof.SsdSpecIdeal
public import proofs.«01_k».proof.Proof.SsdExt
public import proofs.«01_k».proof.Proof.SsdChunk
public import Idealize.ShloMosaic.Lib.Pipeline.ValueKit

@[expose] public section

set_option maxRecDepth 16384

noncomputable section

namespace Cert.KernelSsdIdeal.Hand

open Cert.KernelSsdIdeal Cert.KernelSsdIdeal.Gen
open Idealize.ShloMosaic Idealize.ShloMosaic.TcCoe
open Idealize.SL.Sem
open Cert.Ssd (Arr up conv xbc dt la acs cbm st pv yd yo gated res)

variable (m : (ℓ : Loc nD τ sig) → Buf (Elt Ideal) ℓ)

theorem chunk_no (t : Fin cfg0.N) : chunkNo (grid0.coords t) = BitVec.ofNat 32 (t.val / 8 % 17) := congrArg (BitVec.ofNat 32) (chunk_eq t)

/-- The state carried into a chunk is the recurrence's. -/
theorem state_val (c : Dev nD) (k : ℕ) : ∀ (t : Fin cfg0.N), chunkOf t = k → ∀ (n : Fin 128) (q : Fin 512),
    stateIn m c k t (ix3 0 n q) = pv (plain m c) (t.val / 136) k (t.val % 8) q.val n.val := by
  induction k with
  | zero => intro t _ n q; rw [stateIn_zero, zero_state]; rfl
  | succ k ih =>
    intro t ht n q
    have hk' : t.val / 8 % 17 = k + 1 := ht
    have e0 : (prev t).val = t.val - 8 := rfl
    have e1 : (prev t).val / 136 = t.val / 136 := by omega
    have e2 : (prev t).val / 8 % 17 = k := by omega
    have e3 : (prev t).val % 8 = t.val % 8 := by omega
    have hp : chunkOf (prev t) = k := e2
    have hF := fits m c (prev t)
    have hs := ih (prev t) hp
    unfold extAt at hF
    rw [e1, e2, e3, hp] at hF
    rw [e1, e3] at hs
    rw [stateIn_succ, chunk_no, e2]
    exact stateNew_val hF (by omega) _ hs n q

/-- The block of a point is the recurrence's result there. -/
theorem out_val (c : Dev nD) (t : Fin cfg0.N) (l : Fin 256) (q : Fin 512) :
    outAt m c t (ix3 0 l q) = res (plain m c) (t.val / 136) (t.val / 8 % 17) (t.val % 8) l.val q.val := by
  unfold outAt outNew
  rw [View.canon_cons_unit_lit _ _ _ (by decide), chunk_no]
  exact outVal_val (fits m c t) (Nat.mod_lt _ (by decide)) _ (state_val m c (chunkOf t) t rfl) l q

/-- The result array after the run is the reference's result. -/
theorem final18 (c : Dev nD) : (dats m 0 c).arrAt 18 (cfgs 0).N = Cert.ReferenceSsdIdeal.Hand.out (bufs m c) := by
  refine (dats m 0 c).arrAt_eq_of_covers 18 _ (by decide +kernel) fun t _ y => ?_
  have ht : t.val < 272 := t.isLt
  have hl : (y 1).val < 256 := (y 1).isLt
  have hq : (y 2).val < 512 := (y 2).isLt
  have h0 : (y 0).val < 1 := (y 0).isLt
  have hy : y = ix3 0 (y 1) (y 2) := funext fun a => by fin_cases a; exacts [Fin.ext (by show (y 0).val = 0; omega), rfl, rfl]
  have a0 : ((((cfg0.win 18).blk t).view.emb y) 0 : ℕ) = t.val / 136 := by blk_simp [idxRows t]
  have a1 : ((((cfg0.win 18).blk t).view.emb y) 1 : ℕ) = t.val / 8 % 17 * 256 + (y 1).val := by blk_simp [idxRows t]
  have a2 : ((((cfg0.win 18).blk t).view.emb y) 2 : ℕ) = t.val % 8 * 512 + (y 2).val := by blk_simp [idxRows t]
  have he : (((cfg0.win 18).blk t).view.emb y) = ix3 (⟨t.val / 136, by omega⟩ : Fin 2) (⟨t.val / 8 % 17 * 256 + (y 1).val, by omega⟩ : Fin 4352) (⟨t.val % 8 * 512 + (y 2).val, by omega⟩ : Fin 4096) :=
    funext fun a => by fin_cases a; exacts [Fin.ext a0, Fin.ext a1, Fin.ext a2]
  blk_simp
  rw [after0_18]
  refine Eq.trans ?_ ((Cert.ReferenceSsdIdeal.Hand.out_apply (bufs m c) ⟨t.val / 136, by omega⟩ ⟨t.val / 8 % 17, by omega⟩ (y 1) ⟨t.val % 8, by omega⟩ (y 2) (by show t.val / 8 % 17 * 256 + (y 1).val < 4352; omega) (by show t.val % 8 * 512 + (y 2).val < 4096; omega)).symm.trans (congrArg _ he.symm))
  rw [hy]
  exact out_val m c t (y 1) (y 2)

/-- The run ends with that result and the arguments unchanged. -/
theorem run_value (ρ : Dev nD → PrngReg) : θ_run defs (onTc (τ := τ) (main (F := Ideal))) ⟨m, fun _ => 0, ρ⟩ fun r => ∀ c : Dev nD,
    r.2.mem ((c : Thread nD τ).loc main_v19) = Cert.ReferenceSsdIdeal.Hand.out (bufs m c)
      ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6) ∧ r.2.mem ((c : Thread nD τ).loc main_arg7) = m ((c : Thread nD τ).loc main_arg7) :=
  θ_run_mono (θ_run_and (run_main m ρ) (frame m ρ)) fun r h c => ⟨((h.1 c).1 18).trans (final18 m c), h.2.1 c⟩

end Cert.KernelSsdIdeal.Hand

end
-- ==== Proof.MergeValue.lean ====
/-
The gated sum of the two branch projections.
-/
module

public import proofs.«01_k».proof.Proof.Gen.KernelMergeIdeal.Frame
public import proofs.«01_k».proof.Proof.Gen.ReferenceMergeIdeal.Run
public import Idealize.ShloMosaic.Lib.Pipeline.ValueKit
public import Idealize.ShloMosaic.Lib.Pointwise
public import Idealize.ShloMosaic.Lib.Claim

@[expose] public section

set_option maxRecDepth 16384

noncomputable section

namespace Cert.ReferenceMergeIdeal.Value

open Cert.ReferenceMergeIdeal Cert.ReferenceMergeIdeal.Gen Idealize.ShloMosaic Idealize.ShloMosaic.TcCoe Idealize.SL.Sem

/-- The reference's result as one term over its arguments. -/
def out (X0 : FVec Ideal S2x4096x2048 .bf16) (X1 : FVec Ideal S2x4352x4096 .bf16) (X2 : FVec Ideal S8704x18432 .bf16) (X3 : FVec Ideal S1x2048x2048 .f32) (X4 : FVec Ideal S1x4096x2048 .f32) : FVec Ideal S2x4096x2048 .bf16 :=
  truncf .bf16 (addf (mulf (extractStridedSlice S2x4096x2048 ![0, 0, 0] (Host.divf (broadcastInDim S2x4096x4096 ![] bcast_S_S2x4096x4096 (constant (F := Ideal) S_ .f32 0x3F800000#32)) (addf (broadcastInDim S2x4096x4096 ![] bcast_S_S2x4096x4096 (constant (F := Ideal) S_ .f32 0x3F800000#32)) (Host.exp (Host.negf (extractStridedSlice S2x4096x4096 ![0, 256, 14336] (shapeCast _ (extf .f32 X2 bitsLt_bf16_f32) shapeCasts_S8704x18432_S2x4352x18432) slices_S2x4352x18432_S2x4096x4096_0_256_14336))))) slices_S2x4096x4096_S2x4096x2048_0_0_0) (Host.dotGeneral dot_S2x4096x2048_S2048x2048_S2x4096x2048_2_0_01_1_n_n none (extf .f32 X0 bitsLt_bf16_f32) (shapeCast _ X3 shapeCasts_S1x2048x2048_S2048x2048))) (mulf (extractStridedSlice S2x4096x2048 ![0, 0, 2048] (Host.divf (broadcastInDim S2x4096x4096 ![] bcast_S_S2x4096x4096 (constant (F := Ideal) S_ .f32 0x3F800000#32)) (addf (broadcastInDim S2x4096x4096 ![] bcast_S_S2x4096x4096 (constant (F := Ideal) S_ .f32 0x3F800000#32)) (Host.exp (Host.negf (extractStridedSlice S2x4096x4096 ![0, 256, 14336] (shapeCast _ (extf .f32 X2 bitsLt_bf16_f32) shapeCasts_S8704x18432_S2x4352x18432) slices_S2x4352x18432_S2x4096x4096_0_256_14336))))) slices_S2x4096x4096_S2x4096x2048_0_0_2048) (Host.dotGeneral dot_S2x4096x4096_S4096x2048_S2x4096x2048_2_0_01_1_n_n none (extractStridedSlice S2x4096x4096 ![0, 256, 0] (extf .f32 X1 bitsLt_bf16_f32) slices_S2x4352x4096_S2x4096x4096_0_256_0) (shapeCast _ X4 shapeCasts_S1x4096x2048_S4096x2048)))) bitsLt_bf16_f32

end Cert.ReferenceMergeIdeal.Value

namespace Cert.KernelMergeIdeal.Value

open Cert.KernelMergeIdeal Cert.KernelMergeIdeal.Gen Idealize.ShloMosaic Idealize.ShloMosaic.TcCoe Idealize.SL.Sem
open Idealize.ShloMosaic.Pipeline (Dat)

variable (m : (ℓ : Loc nD τ sig) → Buf (Elt Ideal) ℓ)

/-- The block index of every window at every grid point. -/
theorem idx : ∀ t : Fin cfg0.N, win0_0.index t = ![t.val / 16 % 2, t.val % 16, 0] ∧ win0_1.index t = ![t.val / 16 % 2, t.val % 16 + 1, 0] ∧ win0_2.index t = ![t.val / 16 % 2, t.val % 16 + 1, t.val / 32 + 14] ∧ win0_3.index t = ![t.val / 16 % 2, t.val % 16 + 1, t.val / 32 + 16] ∧ win0_4.index t = ![0, t.val / 32] ∧ win0_5.index t = ![0, t.val / 32] ∧ win0_6.index t = ![t.val / 16 % 2, t.val % 16, t.val / 32] :=
  (by decide +kernel : ∀ t : Fin grid0.N, win0_0.index t = ![t.val / 16 % 2, t.val % 16, 0] ∧ win0_1.index t = ![t.val / 16 % 2, t.val % 16 + 1, 0] ∧ win0_2.index t = ![t.val / 16 % 2, t.val % 16 + 1, t.val / 32 + 14] ∧ win0_3.index t = ![t.val / 16 % 2, t.val % 16 + 1, t.val / 32 + 16] ∧ win0_4.index t = ![0, t.val / 32] ∧ win0_5.index t = ![0, t.val / 32] ∧ win0_6.index t = ![t.val / 16 % 2, t.val % 16, t.val / 32])

/-- The rows of the wide array, reshaped by batch, read at an index. -/
theorem gates (c : Dev nD) (j : S2x4352x18432.Idx) (h) :
    (V m c main_v4 : FVec Ideal S2x4352x18432 .bf16) j = m ((c : Thread nD τ).loc main_arg2) (ix2 ⟨(j 0).val * 4352 + (j 1).val, h⟩ (j 2)) := by
  entry_read
  pointwise

/-- The gate's block of window 2 at an index, as an entry of the launched array. -/
theorem blk2 (c : Dev nD) (t : Fin cfg0.N) (y : S1x256x1024.Idx) (h) (h') :
    iblk m c 2 t y = m ((c : Thread nD τ).loc main_arg2) (ix2 ⟨(((cfg0.win 6).blk t).view.emb y 0).val * 4352 + (256 + (((cfg0.win 6).blk t).view.emb y 1).val), h⟩ ⟨14336 + (((cfg0.win 6).blk t).view.emb y 2).val, h'⟩) := by
  have a0 : ((((cfg0.win 2).blk t).view.emb y) 0 : ℕ) = (((cfg0.win 6).blk t).view.emb y 0).val := by blk_simp [idx t]
  have a1 : ((((cfg0.win 2).blk t).view.emb y) 1 : ℕ) = 256 + (((cfg0.win 6).blk t).view.emb y 1).val := by blk_simp [idx t]; omega
  have a2 : ((((cfg0.win 2).blk t).view.emb y) 2 : ℕ) = 14336 + (((cfg0.win 6).blk t).view.emb y 2).val := by blk_simp [idx t]; omega
  refine (gates m c (((cfg0.win 2).blk t).view.emb y) (by rw [a0, a1]; exact h)).trans (congrArg _ ?_)
  simp only [a0, a1]
  exact congrArg _ (Fin.ext a2)

/-- The gate's block of window 3 at an index, as an entry of the launched array. -/
theorem blk3 (c : Dev nD) (t : Fin cfg0.N) (y : S1x256x1024.Idx) (h) (h') :
    iblk m c 3 t y = m ((c : Thread nD τ).loc main_arg2) (ix2 ⟨(((cfg0.win 6).blk t).view.emb y 0).val * 4352 + (256 + (((cfg0.win 6).blk t).view.emb y 1).val), h⟩ ⟨14336 + (2048 + (((cfg0.win 6).blk t).view.emb y 2).val), h'⟩) := by
  have a0 : ((((cfg0.win 3).blk t).view.emb y) 0 : ℕ) = (((cfg0.win 6).blk t).view.emb y 0).val := by blk_simp [idx t]
  have a1 : ((((cfg0.win 3).blk t).view.emb y) 1 : ℕ) = 256 + (((cfg0.win 6).blk t).view.emb y 1).val := by blk_simp [idx t]; omega
  have a2 : ((((cfg0.win 3).blk t).view.emb y) 2 : ℕ) = 14336 + (2048 + (((cfg0.win 6).blk t).view.emb y 2).val) := by blk_simp [idx t]; omega
  refine (gates m c (((cfg0.win 3).blk t).view.emb y) (by rw [a0, a1]; exact h)).trans (congrArg _ ?_)
  simp only [a0, a1]
  exact congrArg _ (Fin.ext a2)

/-- The attention rows of a block. -/
theorem blk0 (c : Dev nD) (t : Fin cfg0.N) (y : S1x256x1024.Idx) (x : Fin 2048) :
    iblk m c 0 t (ix3 0 (y 1) x) = m ((c : Thread nD τ).loc main_arg0) (ix3 (((cfg0.win 6).blk t).view.emb y 0) (((cfg0.win 6).blk t).view.emb y 1) x) := by
  blk_point [iblk, V, idx t]

/-- The recurrence's rows of a block lie one chunk further down. -/
theorem blk1 (c : Dev nD) (t : Fin cfg0.N) (y : S1x256x1024.Idx) (x : Fin 4096) (h) :
    iblk m c 1 t (ix3 0 (y 1) x) = m ((c : Thread nD τ).loc main_arg1) (ix3 (((cfg0.win 6).blk t).view.emb y 0) ⟨256 + (((cfg0.win 6).blk t).view.emb y 1).val, h⟩ x) := by
  blk_point [iblk, V, idx t]

/-- The attention branch's weights of a block of columns. -/
theorem blk4 (c : Dev nD) (t : Fin cfg0.N) (y : S1x256x1024.Idx) (x : Fin 2048) :
    iblk m c 4 t (ix2 x (y 2)) = m ((c : Thread nD τ).loc main_arg3) (ix3 0 x (((cfg0.win 6).blk t).view.emb y 2)) := by
  blk_point [iblk, V, idx t]

/-- The recurrent branch's weights of a block of columns. -/
theorem blk5 (c : Dev nD) (t : Fin cfg0.N) (y : S1x256x1024.Idx) (x : Fin 4096) :
    iblk m c 5 t (ix2 x (y 2)) = m ((c : Thread nD τ).loc main_arg4) (ix3 0 x (((cfg0.win 6).blk t).view.emb y 2)) := by
  blk_point [iblk, V, idx t]

/-- What the body stores at index `y` of a block is the reference's result at the place where that block lies. -/
theorem point6 (c : Dev nD) (t : Fin cfg0.N) (y) :
    k0_pay1 (iblk m c 0 t) (iblk m c 4 t) (iblk m c 1 t) (iblk m c 5 t) (iblk m c 2 t) (iblk m c 3 t) y = Cert.ReferenceMergeIdeal.Value.out (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  pointwise [k0_pay1, Cert.ReferenceMergeIdeal.Value.out]
  have h0 : (((cfg0.win 6).blk t).view.emb y 0).val < 2 := (((cfg0.win 6).blk t).view.emb y 0).isLt
  have h1 : (((cfg0.win 6).blk t).view.emb y 1).val < 4096 := (((cfg0.win 6).blk t).view.emb y 1).isLt
  have h2 : (((cfg0.win 6).blk t).view.emb y 2).val < 2048 := (((cfg0.win 6).blk t).view.emb y 2).isLt
  rw [blk2 m c t y (by omega) (by omega), blk3 m c t y (by omega) (by omega)]
  refine congrArg₂ _ (congrArg₂ _ rfl (Finset.sum_congr rfl fun x _ => ?_)) (congrArg₂ _ rfl (Finset.sum_congr rfl fun x _ => ?_))
  · exact congrArg₂ _ (blk0 m c t y x) (blk4 m c t y x)
  · exact congrArg₂ _ (blk1 m c t y x _) (blk5 m c t y x)

/-- The result array after the run is the reference's result. -/
theorem final6 (c : Dev nD) : (dats m 0 c).arrAt 6 (cfgs 0).N = Cert.ReferenceMergeIdeal.Value.out (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]; frame_out
  exact point6 m c t y

end Cert.KernelMergeIdeal.Value

end
-- ==== Proof.OutprojValue.lean ====
/-
The output projection with the residual sum, and the normalisation after it.
-/
module

public import proofs.«01_k».proof.Proof.Gen.KernelOutprojIdeal.Frame
public import proofs.«01_k».proof.Proof.Gen.ReferenceOutprojIdeal.Run
public import Idealize.ShloMosaic.Lib.Pipeline.ValueKit
public import Idealize.ShloMosaic.Lib.Pointwise
public import Idealize.ShloMosaic.Lib.Claim

@[expose] public section

set_option maxRecDepth 16384

noncomputable section

namespace Cert.ReferenceOutprojIdeal.Value

open Cert.ReferenceOutprojIdeal Cert.ReferenceOutprojIdeal.Gen Idealize.ShloMosaic Idealize.ShloMosaic.TcCoe Idealize.SL.Sem

/-- The reference's first result: residual plus projection. -/
def sumOut (X0 : FVec Ideal S2x4096x2048 .bf16) (X1 : FVec Ideal S2x4352x2048 .f32) (X2 : FVec Ideal S1x2048x2048 .f32) : FVec Ideal S2x4096x2048 .f32 :=
  addf (extractStridedSlice S2x4096x2048 ![0, 256, 0] X1 slices_S2x4352x2048_S2x4096x2048_0_256_0) (Host.dotGeneral dot_S2x4096x2048_S2048x2048_S2x4096x2048_2_0_01_1_n_n none (extf .f32 X0 bitsLt_bf16_f32) (shapeCast _ X2 shapeCasts_S1x2048x2048_S2048x2048))

/-- The reference's second result: the normalised sum. -/
def normOut (X0 : FVec Ideal S2x4096x2048 .bf16) (X1 : FVec Ideal S2x4352x2048 .f32) (X2 : FVec Ideal S1x2048x2048 .f32) (X3 : FVec Ideal S1x2048 .f32) : FVec Ideal S2x4096x2048 .bf16 :=
  truncf .bf16 (mulf (mulf (addf (extractStridedSlice S2x4096x2048 ![0, 256, 0] X1 slices_S2x4352x2048_S2x4096x2048_0_256_0) (Host.dotGeneral dot_S2x4096x2048_S2048x2048_S2x4096x2048_2_0_01_1_n_n none (extf .f32 X0 bitsLt_bf16_f32) (shapeCast _ X2 shapeCasts_S1x2048x2048_S2048x2048))) (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf (addf (extractStridedSlice S2x4096x2048 ![0, 256, 0] X1 slices_S2x4352x2048_S2x4096x2048_0_256_0) (Host.dotGeneral dot_S2x4096x2048_S2048x2048_S2x4096x2048_2_0_01_1_n_n none (extf .f32 X0 bitsLt_bf16_f32) (shapeCast _ X2 shapeCasts_S1x2048x2048_S2048x2048))) (addf (extractStridedSlice S2x4096x2048 ![0, 256, 0] X1 slices_S2x4352x2048_S2x4096x2048_0_256_0) (Host.dotGeneral dot_S2x4096x2048_S2048x2048_S2x4096x2048_2_0_01_1_n_n none (extf .f32 X0 bitsLt_bf16_f32) (shapeCast _ X2 shapeCasts_S1x2048x2048_S2048x2048)))) (constant (F := Ideal) S_ .f32 0x00000000#32) reducesTo_S2x4096x2048_S2x4096_d2 h_S_)) (broadcastInDim S2x4096x1 ![] bcast_S_S2x4096x1 (constant (F := Ideal) S_ .f32 0x45000000#32))) (broadcastInDim S2x4096x1 ![] bcast_S_S2x4096x1 (constant (F := Ideal) S_ .f32 0x358637BD#32)))))) (broadcastInDim S2x4096x2048 ![0, 1, 2] bcast_S1x1x2048_S2x4096x2048_0_1_2 (broadcastInDim S1x1x2048 ![2] bcast_S2048_S1x1x2048_2 (shapeCast _ X3 shapeCasts_S1x2048_S2048)))) bitsLt_bf16_f32

end Cert.ReferenceOutprojIdeal.Value

namespace Cert.KernelOutprojIdeal.Value

open Cert.KernelOutprojIdeal Cert.KernelOutprojIdeal.Gen Idealize.ShloMosaic Idealize.ShloMosaic.TcCoe Idealize.SL.Sem
open Idealize.ShloMosaic.Pipeline (Dat)

variable (m : (ℓ : Loc nD τ sig) → Buf (Elt Ideal) ℓ)

/-- The block index of every window at every grid point. -/
theorem idx : ∀ t : Fin cfg0.N, win0_0.index t = ![t.val / 16, t.val % 16, 0] ∧ win0_1.index t = ![t.val / 16, t.val % 16 + 1, 0] ∧ win0_2.index t = ![0, 0] ∧ win0_3.index t = ![0, 0] ∧ win0_4.index t = ![t.val / 16, t.val % 16, 0] ∧ win0_5.index t = ![t.val / 16, t.val % 16, 0] :=
  (by decide +kernel : ∀ t : Fin grid0.N, win0_0.index t = ![t.val / 16, t.val % 16, 0] ∧ win0_1.index t = ![t.val / 16, t.val % 16 + 1, 0] ∧ win0_2.index t = ![0, 0] ∧ win0_3.index t = ![0, 0] ∧ win0_4.index t = ![t.val / 16, t.val % 16, 0] ∧ win0_5.index t = ![t.val / 16, t.val % 16, 0])

/-- The stored sum at index `y` of a block is the reference's at the place of the block. -/
theorem point4 (c : Dev nD) (t : Fin cfg0.N) (y) :
    k0_pay2 (iblk m c 1 t) (iblk m c 0 t) (iblk m c 2 t) y = Cert.ReferenceOutprojIdeal.Value.sumOut (m ((c : Thread nD τ).loc main_arg0)) (m ((c : Thread nD τ).loc main_arg1)) (m ((c : Thread nD τ).loc main_arg2)) (((cfg0.win 4).blk t).view.emb y) := by
  pointwise [k0_pay2, k0_pay1, Cert.ReferenceOutprojIdeal.Value.sumOut]
  blk_point [iblk, V, idx t]

/-- The array of sums after the run is the reference's. -/
theorem final4 (c : Dev nD) : (dats m 0 c).arrAt 4 (cfgs 0).N = Cert.ReferenceOutprojIdeal.Value.sumOut (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact point4 m c t y

/-- The stored normalised row at index `y` of a block is the reference's at the place of the block. -/
theorem point5 (c : Dev nD) (t : Fin cfg0.N) (y) :
    k0_pay3 (iblk m c 1 t) (iblk m c 0 t) (iblk m c 2 t) (iblk m c 3 t) y = Cert.ReferenceOutprojIdeal.Value.normOut (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay3, k0_pay1, Cert.ReferenceOutprojIdeal.Value.normOut]
  blk_point [iblk, V, idx t]

/-- The array of normalised rows after the run is the reference's. -/
theorem final5 (c : Dev nD) : (dats m 0 c).arrAt 5 (cfgs 0).N = Cert.ReferenceOutprojIdeal.Value.normOut (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point5 m c t y

end Cert.KernelOutprojIdeal.Value

end
-- ==== Proof.FinalValue.lean ====
/-
The final normalisation: what the kernel stores in a block of rows is the reference's normalised sum at those rows.
-/
module

public import proofs.«01_k».proof.Proof.Gen.KernelFinalIdeal.Frame
public import proofs.«01_k».proof.Proof.Gen.ReferenceFinalIdeal.Run
public import Idealize.ShloMosaic.Lib.Pipeline.ValueKit
public import Idealize.ShloMosaic.Lib.Pointwise
public import Idealize.ShloMosaic.Lib.Claim

@[expose] public section

set_option maxRecDepth 16384

noncomputable section

namespace Cert.ReferenceFinalIdeal.Value

open Cert.ReferenceFinalIdeal Cert.ReferenceFinalIdeal.Gen Idealize.ShloMosaic Idealize.ShloMosaic.TcCoe Idealize.SL.Sem

/-- The reference's result as one term over its arguments. -/
def out (X0 : FVec Ideal S8192x2048 .f32) (X1 : FVec Ideal S2048x8192 .f32) (X2 : FVec Ideal S2048 .f32) : FVec Ideal S8192x2048 .f32 :=
  mulf (mulf (addf X0 (transpose S8192x2048 [1, 0] X1 transposes_S2048x8192_S8192x2048_1_0)) (broadcastInDim S8192x2048 ![0, 1] bcast_S8192x1_S8192x2048_0_1 (Host.rsqrt (addf (Host.divf (broadcastInDim S8192x1 ![0] bcast_S8192_S8192x1_0 (Host.reduceAdd (mulf (addf X0 (transpose S8192x2048 [1, 0] X1 transposes_S2048x8192_S8192x2048_1_0)) (addf X0 (transpose S8192x2048 [1, 0] X1 transposes_S2048x8192_S8192x2048_1_0))) (constant (F := Ideal) S_ .f32 0x00000000#32) reducesTo_S8192x2048_S8192_d1 h_S_)) (broadcastInDim S8192x1 ![] bcast_S_S8192x1 (constant (F := Ideal) S_ .f32 0x45000000#32))) (broadcastInDim S8192x1 ![] bcast_S_S8192x1 (constant (F := Ideal) S_ .f32 0x358637BD#32)))))) (broadcastInDim S8192x2048 ![0, 1] bcast_S1x2048_S8192x2048_0_1 (broadcastInDim S1x2048 ![1] bcast_S2048_S1x2048_1 X2))

end Cert.ReferenceFinalIdeal.Value

namespace Cert.KernelFinalIdeal.Value

open Cert.KernelFinalIdeal Cert.KernelFinalIdeal.Gen Idealize.ShloMosaic Idealize.ShloMosaic.TcCoe Idealize.SL.Sem
open Idealize.ShloMosaic.Pipeline (Dat)

variable (m : (ℓ : Loc nD τ sig) → Buf (Elt Ideal) ℓ)

/-- The block index of every window at every grid point. -/
theorem idx : ∀ t : Fin cfg0.N, win0_0.index t = ![t.val, 0] ∧ win0_1.index t = ![0, t.val] ∧ win0_2.index t = ![0, 0] ∧ win0_3.index t = ![t.val, 0] :=
  (by decide +kernel : ∀ t : Fin grid0.N, win0_0.index t = ![t.val, 0] ∧ win0_1.index t = ![0, t.val] ∧ win0_2.index t = ![0, 0] ∧ win0_3.index t = ![t.val, 0])

/-- What the body stores at index `y` of a block is the reference's result at the place where that block lies. -/
theorem point3 (c : Dev nD) (t : Fin cfg0.N) (y) :
    k0_pay1 (iblk m c 0 t) (iblk m c 1 t) (iblk m c 2 t) y = Cert.ReferenceFinalIdeal.Value.out (m ((c : Thread nD τ).loc main_arg0)) (m ((c : Thread nD τ).loc main_arg1)) (m ((c : Thread nD τ).loc main_arg2)) (((cfg0.win 3).blk t).view.emb y) := by
  pointwise [k0_pay1, k0_pay1, Cert.ReferenceFinalIdeal.Value.out]
  blk_point [iblk, V, idx t]

/-- The result array after the run is the reference's result. -/
theorem final3 (c : Dev nD) : (dats m 0 c).arrAt 3 (cfgs 0).N = Cert.ReferenceFinalIdeal.Value.out (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point3 m c t y

end Cert.KernelFinalIdeal.Value

end
-- ==== Proof.lean ====
module

public import proofs.«01_k».proof.Defs
public import proofs.«01_k».proof.Proof.Gen.KernelInproj
public import proofs.«01_k».proof.Proof.Gen.KernelInproj.Skeleton
public import proofs.«01_k».proof.Proof.Gen.KernelInproj.Launch
public import proofs.«01_k».proof.Proof.Gen.KernelInproj.Points
public import proofs.«01_k».proof.Proof.Gen.KernelInproj.Frame
public import proofs.«01_k».proof.Proof.Gen.KernelInprojIdeal
public import proofs.«01_k».proof.Proof.Gen.KernelInprojIdeal.Skeleton
public import proofs.«01_k».proof.Proof.Gen.KernelInprojIdeal.Launch
public import proofs.«01_k».proof.Proof.Gen.KernelInprojIdeal.Points
public import proofs.«01_k».proof.Proof.Gen.KernelInprojIdeal.Frame
public import proofs.«01_k».proof.Proof.Gen.ReferenceInprojIdeal
public import proofs.«01_k».proof.Proof.Gen.ReferenceInprojIdeal.Run
public import proofs.«01_k».proof.Proof.Gen.KernelSsd
public import proofs.«01_k».proof.Proof.Gen.KernelSsdIdeal
public import proofs.«01_k».proof.Proof.Gen.ReferenceSsdIdeal
public import proofs.«01_k».proof.Proof.Gen.KernelMerge
public import proofs.«01_k».proof.Proof.Gen.KernelMerge.Skeleton
public import proofs.«01_k».proof.Proof.Gen.KernelMerge.Launch
public import proofs.«01_k».proof.Proof.Gen.KernelMerge.Points
public import proofs.«01_k».proof.Proof.Gen.KernelMerge.Frame
public import proofs.«01_k».proof.Proof.Gen.KernelMergeIdeal
public import proofs.«01_k».proof.Proof.Gen.KernelMergeIdeal.Skeleton
public import proofs.«01_k».proof.Proof.Gen.KernelMergeIdeal.Launch
public import proofs.«01_k».proof.Proof.Gen.KernelMergeIdeal.Points
public import proofs.«01_k».proof.Proof.Gen.KernelMergeIdeal.Frame
public import proofs.«01_k».proof.Proof.Gen.ReferenceMergeIdeal
public import proofs.«01_k».proof.Proof.Gen.ReferenceMergeIdeal.Run
public import proofs.«01_k».proof.Proof.Gen.KernelOutproj
public import proofs.«01_k».proof.Proof.Gen.KernelOutproj.Skeleton
public import proofs.«01_k».proof.Proof.Gen.KernelOutproj.Launch
public import proofs.«01_k».proof.Proof.Gen.KernelOutproj.Points
public import proofs.«01_k».proof.Proof.Gen.KernelOutproj.Frame
public import proofs.«01_k».proof.Proof.Gen.KernelOutprojIdeal
public import proofs.«01_k».proof.Proof.Gen.KernelOutprojIdeal.Skeleton
public import proofs.«01_k».proof.Proof.Gen.KernelOutprojIdeal.Launch
public import proofs.«01_k».proof.Proof.Gen.KernelOutprojIdeal.Points
public import proofs.«01_k».proof.Proof.Gen.KernelOutprojIdeal.Frame
public import proofs.«01_k».proof.Proof.Gen.ReferenceOutprojIdeal
public import proofs.«01_k».proof.Proof.Gen.ReferenceOutprojIdeal.Run
public import proofs.«01_k».proof.Proof.Gen.KernelFinal
public import proofs.«01_k».proof.Proof.Gen.KernelFinal.Skeleton
public import proofs.«01_k».proof.Proof.Gen.KernelFinal.Launch
public import proofs.«01_k».proof.Proof.Gen.KernelFinal.Points
public import proofs.«01_k».proof.Proof.Gen.KernelFinal.Frame
public import proofs.«01_k».proof.Proof.Gen.KernelFinalIdeal
public import proofs.«01_k».proof.Proof.Gen.KernelFinalIdeal.Skeleton
public import proofs.«01_k».proof.Proof.Gen.KernelFinalIdeal.Launch
public import proofs.«01_k».proof.Proof.Gen.KernelFinalIdeal.Points
public import proofs.«01_k».proof.Proof.Gen.KernelFinalIdeal.Frame
public import proofs.«01_k».proof.Proof.Gen.ReferenceFinalIdeal
public import proofs.«01_k».proof.Proof.Gen.ReferenceFinalIdeal.Run
public import proofs.«01_k».proof.Proof.InprojRunBits
public import proofs.«01_k».proof.Proof.InprojRunIdeal
public import proofs.«01_k».proof.Proof.InprojValue
public import proofs.«01_k».proof.Proof.SsdRunBits
public import proofs.«01_k».proof.Proof.SsdRunIdeal
public import proofs.«01_k».proof.Proof.SsdRefResult
public import proofs.«01_k».proof.Proof.SsdValue
public import proofs.«01_k».proof.Proof.MergeValue
public import proofs.«01_k».proof.Proof.OutprojValue
public import proofs.«01_k».proof.Proof.FinalValue
public import Idealize.ShloMosaic.Lib.Claim
public import Idealize.ShloMosaic.Adequacy
public import Idealize.ShloMosaic.Init

@[expose] public section

noncomputable section

namespace Cert.Proof

open Idealize.ShloMosaic Idealize.SL.Sem Cert.KernelOutproj

/-- The input projection and its reference end with equal main columns and equal narrow columns. -/
theorem inproj : Cert.algebraic_KernelInprojIdeal_ReferenceInprojIdeal := by
  pair_intro
  · run_from Cert.KernelInprojIdeal.Hand.run_main m g
  · run_from Cert.ReferenceInprojIdeal.Value.run_named m' g'
    · exact (Cert.KernelInprojIdeal.Value.final4 m c).symm
    · exact (Cert.KernelInprojIdeal.Value.final5 m c).symm

/-- The recurrence and its reference end with equal results. -/
theorem ssd : Cert.algebraic_KernelSsdIdeal_ReferenceSsdIdeal := by
  intro m g m' g' _ hagree
  refine ⟨fun c => Cert.ReferenceSsdIdeal.Hand.out (Cert.KernelSsdIdeal.Hand.bufs m c), Cert.KernelSsdIdeal.Hand.run_value m g, ?_⟩
  refine θ_run_mono (Cert.ReferenceSsdIdeal.Hand.run_value m' g') fun r h c => ⟨(h c).1.trans (congrArg Cert.ReferenceSsdIdeal.Hand.out ?_), (h c).2⟩
  obtain ⟨h0, h1, h2, h3, h4, h5, h6, h7⟩ := hagree c
  exact Cert.ReferenceSsdIdeal.Hand.args_congr h0 h1 h2 h3 h4 h5 h6 h7

/-- The gated merge of the branches and its reference end with equal results. -/
theorem merge : Cert.algebraic_KernelMergeIdeal_ReferenceMergeIdeal := by
  pair_intro
  · run_from Cert.KernelMergeIdeal.Gen.run_main m g
  · run_from Cert.ReferenceMergeIdeal.Value.run m' g'
    exact (Cert.KernelMergeIdeal.Value.final6 m c).symm

/-- The output projection and its reference end with equal sums and equal normalised rows. -/
theorem outproj : Cert.algebraic_KernelOutprojIdeal_ReferenceOutprojIdeal := by
  pair_intro
  · run_from Cert.KernelOutprojIdeal.Gen.run_main m g
  · run_from Cert.ReferenceOutprojIdeal.Value.run m' g'
    · exact (Cert.KernelOutprojIdeal.Value.final4 m c).symm
    · exact (Cert.KernelOutprojIdeal.Value.final5 m c).symm

/-- The final normalisation and its reference end with equal results. -/
theorem final : Cert.algebraic_KernelFinalIdeal_ReferenceFinalIdeal := by
  pair_intro
  · run_from Cert.KernelFinalIdeal.Gen.run_main m g
  · run_from Cert.ReferenceFinalIdeal.Value.run m' g'
    exact (Cert.KernelFinalIdeal.Value.final3 m c).symm

theorem claim : Cert.Claim := ⟨Cert.KernelInproj.Gen.facts, Cert.KernelInprojIdeal.Gen.facts, Cert.ReferenceInprojIdeal.Gen.facts, Cert.KernelSsd.Gen.facts, Cert.KernelSsdIdeal.Gen.facts, Cert.ReferenceSsdIdeal.Gen.facts, Cert.KernelMerge.Gen.facts, Cert.KernelMergeIdeal.Gen.facts, Cert.ReferenceMergeIdeal.Gen.facts, Cert.KernelOutproj.Gen.facts, Cert.KernelOutprojIdeal.Gen.facts, Cert.ReferenceOutprojIdeal.Gen.facts, Cert.KernelFinal.Gen.facts, Cert.KernelFinalIdeal.Gen.facts, Cert.ReferenceFinalIdeal.Gen.facts,
  fun m ρ _ => Cert.KernelInproj.Hand.frame m ρ, fun m ρ _ => Cert.KernelInprojIdeal.Hand.frame m ρ, fun m ρ _ => by
    hlo_run
    · simp
    · funext g; rcases g with ⟨_, s⟩; cases s <;> rename_i s <;> exact s.elim0,
  fun m ρ _ => Cert.KernelSsd.Hand.frame m ρ, fun m ρ _ => Cert.KernelSsdIdeal.Hand.frame m ρ, fun m ρ _ => by
    hlo_run
    · simp
    · funext g; rcases g with ⟨_, s⟩; cases s <;> rename_i s <;> exact s.elim0,
  fun m ρ _ => Cert.KernelMerge.Gen.frame m ρ, fun m ρ _ => Cert.KernelMergeIdeal.Gen.frame m ρ, fun m ρ _ => by
    hlo_run
    · simp
    · funext g; rcases g with ⟨_, s⟩; cases s <;> rename_i s <;> exact s.elim0,
  fun m ρ _ => Cert.KernelOutproj.Gen.frame m ρ, fun m ρ _ => Cert.KernelOutprojIdeal.Gen.frame m ρ, fun m ρ _ => by
    hlo_run
    · simp
    · funext g; rcases g with ⟨_, s⟩; cases s <;> rename_i s <;> exact s.elim0,
  fun m ρ _ => Cert.KernelFinal.Gen.frame m ρ, fun m ρ _ => Cert.KernelFinalIdeal.Gen.frame m ρ, fun m ρ _ => by
    hlo_run
    · simp
    · funext g; rcases g with ⟨_, s⟩; cases s <;> rename_i s <;> exact s.elim0,
  trivial, inproj, trivial, ssd, trivial, merge, trivial, outproj, trivial, final⟩

end Cert.Proof

end
